-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v100_2)) (v1 : (c : Dev Cert.KernelIdeal.nD) → Buf (Elt Ideal) ((c.tc : Thread Cert.KernelIdeal.nD Cert.KernelIdeal.τ).loc Cert.KernelIdeal.main_v100_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100_2) = v0 c
          ∧ r.2.mem ((c.tc : Thread Cert.KernelIdeal.nD Cert.KernelIdeal.τ).loc Cert.KernelIdeal.main_v100_4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4112x512 : Shape := ⟨2, ![4112, 512]⟩
abbrev S4112x128 : Shape := ⟨2, ![4112, 128]⟩
abbrev S8 : Shape := ⟨1, ![8]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel
  bcast_S_S4112x128 : S_.BroadcastsInDim S4112x128 (![] : Fin 0 → Fin S4112x128.rank)
  reducesTo_S4112x128_S_d0_1 : S4112x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4112x512 .f32) (main_arg1 : FVec F S4112x128 .f32) (main_arg2 : FVec F S4112x128 .f32) (main_arg3 : FVec F S4112x512 .f32) (main_arg4 : FVec F S8 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_v4 : FVec F S4112x128 .f32 := Host.absf main_arg1
  let main_cst_0 : FVec F S_ .f32 := constant S_ .f32 0x7F800000#32
  let main_v5 : FVec F S4112x128 .f32 := broadcastInDim S4112x128 ![] bcast_S_S4112x128 main_cst_0
  let main_v6 : IVec S4112x128 1 := cmpf .olt main_v4 main_v5
  let main_c_1 : IVec S_ 1 := constantI S_ 1 1#1
  let main_v7 : IVec S_ 1 := (fun x v => Host.reduce IntOp.andi x v reducesTo_S4112x128_S_d0_1 h_S_) main_v6 main_c_1
  let main_v8 : IVec S_ 1 := andi main_v3 main_v7
  let main_v9 : FVec F S4112x512 .f32 := Host.absf main_arg3
  let main_cst_2 : FVec F S_ .f32 := constant S_ .f32 0x7F800000#32
  let main_v10 : FVec F S4112x512 .f32 := broadcastInDim S4112x512 ![] bcast_S_S4112x512 main_cst_2
  let main_v11 : IVec S4112x512 1 := cmpf .olt main_v9 main_v10
  let main_c_3 : IVec S_ 1 := constantI S_ 1 1#1
  let main_v12 : IVec S_ 1 := (fun x v => Host.reduce IntOp.andi x v reducesTo_S4112x512_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_finite2.lean ====
abbrev S4224x1024 : Shape := ⟨2, ![4224, 1024]⟩
abbrev S4x768x1024 : Shape := ⟨3, ![4, 768, 1024]⟩
abbrev S4224x3072 : Shape := ⟨2, ![4224, 3072]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4x768x1024 : S_.BroadcastsInDim S4x768x1024 (![] : Fin 0 → Fin S4x768x1024.rank)
  reducesTo_S4x768x1024_S_d0_1_2 : S4x768x1024.ReducesTo [0, 1, 2] S_
  bcast_S_S4224x3072 : S_.BroadcastsInDim S4224x3072 (![] : Fin 0 → Fin S4224x3072.rank)
  reducesTo_S4224x3072_S_d0_1 : S4224x3072.ReducesTo [0, 1] S_

variable [Facts]

def fn {F : FTy → Type} [FloatOps F] (main_arg0 : FVec F S4224x1024 .f32) (main_arg1 : FVec F S4x768x1024 .f32) (main_arg2 : FVec F S4224x3072 .f32) (main_arg3 : FVec F S4224x3072 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4x768x1024 .f32 := Host.absf main_arg1
  let main_cst_0 : FVec F S_ .f32 := constant S_ .f32 0x7F800000#32
  let main_v5 : FVec F S4x768x1024 .f32 := broadcastInDim S4x768x1024 ![] bcast_S_S4x768x1024 main_cst_0
  let main_v6 : IVec S4x768x1024 1 := cmpf .olt main_v4 main_v5
  let main_c_1 : IVec S_ 1 := constantI S_ 1 1#1
  let main_v7 : IVec S_ 1 := (fun x v => Host.reduce IntOp.andi x v reducesTo_S4x768x1024_S_d0_1_2 h_S_) main_v6 main_c_1
  let main_v8 : IVec S_ 1 := andi main_v3 main_v7
  let main_v9 : FVec F S4224x3072 .f32 := Host.absf main_arg3
  let main_cst_2 : FVec F S_ .f32 := constant S_ .f32 0x7F800000#32
  let main_v10 : FVec F S4224x3072 .f32 := broadcastInDim S4224x3072 ![] bcast_S_S4224x3072 main_cst_2
  let main_v11 : IVec S4224x3072 1 := cmpf .olt main_v9 main_v10
  let main_c_3 : IVec S_ 1 := constantI S_ 1 1#1
  let main_v12 : IVec S_ 1 := (fun x v => Host.reduce IntOp.andi x v reducesTo_S4224x3072_S_d0_1 h_S_) main_v11 main_c_3
  let main_v13 : IVec S_ 1 := andi main_v8 main_v12
  main_v13
-- ==== Kernel.lean ====
abbrev S4112x512 : Shape := ⟨2, ![4112, 512]⟩
abbrev S4112x128 : Shape := ⟨2, ![4112, 128]⟩
abbrev S8 : Shape := ⟨1, ![8]⟩
abbrev S4112 : Shape := ⟨1, ![4112]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S1x4112x1x8 : Shape := ⟨4, ![1, 4112, 1, 8]⟩
abbrev S1x4112x8x64 : Shape := ⟨4, ![1, 4112, 8, 64]⟩
abbrev S1x4112x8x8 : Shape := ⟨4, ![1, 4112, 8, 8]⟩
abbrev S1x4112x8x48 : Shape := ⟨4, ![1, 4112, 8, 48]⟩
abbrev S1x4112x2x64 : Shape := ⟨4, ![1, 4112, 2, 64]⟩
abbrev S1x4112x2x8 : Shape := ⟨4, ![1, 4112, 2, 8]⟩
abbrev S1x4112x2x48 : Shape := ⟨4, ![1, 4112, 2, 48]⟩
abbrev S4224x512 : Shape := ⟨2, ![4224, 512]⟩
abbrev S4224x128 : Shape := ⟨2, ![4224, 128]⟩
abbrev S4224 : Shape := ⟨1, ![4224]⟩
abbrev S4224x1 : Shape := ⟨2, ![4224, 1]⟩
abbrev S4224x8 : Shape := ⟨2, ![4224, 8]⟩
abbrev S4224x48 : Shape := ⟨2, ![4224, 48]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S1x4224x128 : Shape := ⟨3, ![1, 4224, 128]⟩
abbrev S3x4224x128 : Shape := ⟨3, ![3, 4224, 128]⟩
abbrev S128x128 : Shape := ⟨2, ![128, 128]⟩
abbrev S8x128 : Shape := ⟨2, ![8, 128]⟩
abbrev S128x512 : Shape := ⟨2, ![128, 512]⟩
abbrev S3x128x128 : Shape := ⟨3, ![3, 128, 128]⟩
abbrev S384x128 : Shape := ⟨2, ![384, 128]⟩
abbrev S128x384 : Shape := ⟨2, ![128, 384]⟩
abbrev S128x64 : Shape := ⟨2, ![128, 64]⟩
abbrev S384x64 : Shape := ⟨2, ![384, 64]⟩
abbrev S1 : Shape := ⟨1, ![1]⟩
abbrev S128 : Shape := ⟨1, ![128]⟩
abbrev S128x1 : Shape := ⟨2, ![128, 1]⟩
abbrev S1x128 : Shape := ⟨2, ![1, 128]⟩
abbrev S1x128x1 : Shape := ⟨3, ![1, 128, 1]⟩
abbrev S1x1x1 : Shape := ⟨3, ![1, 1, 1]⟩
abbrev S1x128x128 : Shape := ⟨3, ![1, 128, 128]⟩

abbrev nBuf : Space → Nat
  | .hbm => 131
  | .vmem => 35
  | .smem => 1
  | _ => 0

abbrev hbmTy0_0 (i : Nat) : BufTy := match i % 128 with
  | 0 => ⟨S4112x512, .f32⟩
  | 1 => ⟨S4112x128, .f32⟩
  | 2 => ⟨S4112x128, .f32⟩
  | 3 => ⟨S4112x512, .f32⟩
  | 4 => ⟨S8, .f32⟩
  | 5 => ⟨S4112, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4112x1, .f32⟩
  | 21 => ⟨S1x8, .f32⟩
  | 22 => ⟨S4112x8, .f32⟩
  | 23 => ⟨S4112x8, .f32⟩
  | 24 => ⟨S4112x8, .f32⟩
  | 25 => ⟨S4112x8, .f32⟩
  | 26 => ⟨S1x4112x1x8, .f32⟩
  | 27 => ⟨S4112x8, .f32⟩
  | 28 => ⟨S1x4112x1x8, .f32⟩
  | 29 => ⟨S1x4112x8x64, .f32⟩
  | 30 => ⟨S1x4112x8x8, .f32⟩
  | 31 => ⟨S1x4112x8x8, .f32⟩
  | 32 => ⟨S1x4112x8x48, .f32⟩
  | 33 => ⟨S1x4112x8x8, .f32⟩
  | 34 => ⟨S1x4112x8x8, .f32⟩
  | 35 => ⟨S1x4112x8x8, .f32⟩
  | 36 => ⟨S1x4112x8x8, .f32⟩
  | 37 => ⟨S1x4112x8x8, .f32⟩
  | 38 => ⟨S1x4112x8x8, .f32⟩
  | 39 => ⟨S1x4112x8x8, .f32⟩
  | 40 => ⟨S1x4112x8x8, .f32⟩
  | 41 => ⟨S1x4112x8x8, .f32⟩
  | 42 => ⟨S1x4112x8x8, .f32⟩
  | 43 => ⟨S1x4112x8x64, .f32⟩
  | 44 => ⟨S4112x512, .f32⟩
  | 45 => ⟨S1x4112x2x64, .f32⟩
  | 46 => ⟨S1x4112x2x8, .f32⟩
  | 47 => ⟨S1x4112x2x8, .f32⟩
  | 48 => ⟨S1x4112x2x48, .f32⟩
  | 49 => ⟨S1x4112x2x8, .f32⟩
  | 50 => ⟨S1x4112x2x8, .f32⟩
  | 51 => ⟨S1x4112x2x8, .f32⟩
  | 52 => ⟨S1x4112x2x8, .f32⟩
  | 53 => ⟨S1x4112x2x8, .f32⟩
  | 54 => ⟨S1x4112x2x8, .f32⟩
  | 55 => ⟨S1x4112x2x8, .f32⟩
  | 56 => ⟨S1x4112x2x8, .f32⟩
  | 57 => ⟨S1x4112x2x8, .f32⟩
  | 58 => ⟨S1x4112x2x8, .f32⟩
  | 59 => ⟨S1x4112x2x64, .f32⟩
  | 60 => ⟨S4112x128, .f32⟩
  | 61 => ⟨S_, .i32⟩
  | 62 => ⟨S_, .f32⟩
  | 63 => ⟨S4224x512, .f32⟩
  | 64 => ⟨S4224x512, .bf16⟩
  | 65 => ⟨S_, .i32⟩
  | 66 => ⟨S_, .f32⟩
  | 67 => ⟨S4224x128, .f32⟩
  | 68 => ⟨S4224x128, .bf16⟩
  | 69 => ⟨S_, .i32⟩
  | 70 => ⟨S_, .f32⟩
  | 71 => ⟨S4224x128, .f32⟩
  | 72 => ⟨S4224x128, .bf16⟩
  | 73 => ⟨S_, .i32⟩
  | 74 => ⟨S_, .f32⟩
  | 75 => ⟨S4224x512, .f32⟩
  | 76 => ⟨S4224x512, .bf16⟩
  | 77 => ⟨S4224, .f32⟩
  | 78 => ⟨S_, .f32⟩
  | 79 => ⟨S4224, .f32⟩
  | 80 => ⟨S4224, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S4224x1, .f32⟩
  | 96 => ⟨S1x8, .f32⟩
  | 97 => ⟨S4224x8, .f32⟩
  | 98 => ⟨S4224x8, .f32⟩
  | 99 => ⟨S4224x8, .f32⟩
  | 100 => ⟨S4224x8, .f32⟩
  | 101 => ⟨S4224x8, .f32⟩
  | 102 => ⟨S_, .f32⟩
  | 103 => ⟨S4224x48, .f32⟩
  | 104 => ⟨S_, .f32⟩
  | 105 => ⟨S4224x8, .f32⟩
  | 106 => ⟨S_, .f32⟩
  | 107 => ⟨S4224x48, .f32⟩
  | 108 => ⟨S4224x64, .f32⟩
  | 109 => ⟨S4224x8, .f32⟩
  | 110 => ⟨S4224x64, .f32⟩
  | 111 => ⟨S4224x64, .f32⟩
  | 112 => ⟨S1x4224x1x64, .f32⟩
  | 113 => ⟨S1x4224x2x64, .f32⟩
  | 114 => ⟨S4224x128, .f32⟩
  | 115 => ⟨S1x4224x1x64, .f32⟩
  | 116 => ⟨S1x4224x2x64, .f32⟩
  | 117 => ⟨S4224x128, .f32⟩
  | 118 => ⟨S1x4224x1x64, .f32⟩
  | 119 => ⟨S1x4224x2x64, .f32⟩
  | 120 => ⟨S4224x128, .f32⟩
  | 121 => ⟨S1x4224x128, .f32⟩
  | 122 => ⟨S1x4224x128, .f32⟩
  | 123 => ⟨S1x4224x128, .f32⟩
  | 124 => ⟨S3x4224x128, .f32⟩
  | 125 => ⟨S4224x512, .f32⟩
  | 126 => ⟨S4224x128, .f32⟩
  | 127 => ⟨S4224x128, .f32⟩
  | _ => ⟨S4112x512, .f32⟩

abbrev hbmTy0_1 (i : Nat) : BufTy := match i % 128 with
  | 0 => ⟨S128x128, .f32⟩
  | 1 => ⟨S128x128, .f32⟩
  | 2 => ⟨S8x128, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S3x128x128, .f32⟩
  | .local _ .vmem, ⟨15, _⟩ => ⟨S3x128x128, .f32⟩
  | .local _ .vmem, ⟨16, _⟩ => ⟨S3x128x128, .f32⟩
  | .local _ .vmem, ⟨17, _⟩ => ⟨S3x128x128, .f32⟩
  | .local _ .vmem, ⟨18, _⟩ => ⟨S3x128x128, .f32⟩
  | .local _ .vmem, ⟨19, _⟩ => ⟨S128x512, .f32⟩
  | .local _ .vmem, ⟨20, _⟩ => ⟨S128x512, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S8x128, .f32⟩
  | .local _ .vmem, ⟨28, _⟩ => ⟨S128x512, .f32⟩
  | .local _ .vmem, ⟨29, _⟩ => ⟨S384x128, .f32⟩
  | .local _ .vmem, ⟨30, _⟩ => ⟨S384x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .smem, ⟨0, _⟩ => ⟨S8, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c : Ref sig .tc := ⟨.hbm, 61, rfl⟩
abbrev main_call0_v0 : Ref sig .tc := ⟨.hbm, 62, rfl⟩
abbrev main_v52 : Ref sig .tc := ⟨.hbm, 63, rfl⟩
abbrev main_v53 : Ref sig .tc := ⟨.hbm, 64, rfl⟩
abbrev main_c_3 : Ref sig .tc := ⟨.hbm, 65, rfl⟩
abbrev main_call1_v0 : Ref sig .tc := ⟨.hbm, 66, rfl⟩
abbrev main_v54 : Ref sig .tc := ⟨.hbm, 67, rfl⟩
abbrev main_v55 : Ref sig .tc := ⟨.hbm, 68, rfl⟩
abbrev main_c_4 : Ref sig .tc := ⟨.hbm, 69, rfl⟩
abbrev main_call2_v0 : Ref sig .tc := ⟨.hbm, 70, rfl⟩
abbrev main_v56 : Ref sig .tc := ⟨.hbm, 71, rfl⟩
abbrev main_v57 : Ref sig .tc := ⟨.hbm, 72, rfl⟩
abbrev main_c_5 : Ref sig .tc := ⟨.hbm, 73, rfl⟩
abbrev main_call3_v0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100_0 : Ref sig .tc := ⟨.hbm, 125, rfl⟩
abbrev main_v100_1 : Ref sig .tc := ⟨.hbm, 126, rfl⟩
abbrev main_v100_2 : Ref sig .tc := ⟨.hbm, 127, rfl⟩
abbrev main_v100_3 : Ref sig .tc := ⟨.hbm, 128, rfl⟩
abbrev main_v100_4 : Ref sig .tc := ⟨.hbm, 129, rfl⟩
abbrev main_v100_5 : Ref sig .tc := ⟨.hbm, 130, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v3 : BitVec 1 := Scalar.cmpi .slt arg0 c33_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c33_i32_2 : BitVec 32 := 33#32
  let v6 : BitVec 1 := Scalar.cmpi .eq arg0 c33_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4112x512 : Shape := ⟨2, ![4112, 512]⟩
abbrev S4112x128 : Shape := ⟨2, ![4112, 128]⟩
abbrev S8 : Shape := ⟨1, ![8]⟩
abbrev S16x128 : Shape := ⟨2, ![16, 128]⟩
abbrev S4112 : Shape := ⟨1, ![4112]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S1x4112x1x8 : Shape := ⟨4, ![1, 4112, 1, 8]⟩
abbrev S1x4112x8x64 : Shape := ⟨4, ![1, 4112, 8, 64]⟩
abbrev S1x4112x8x8 : Shape := ⟨4, ![1, 4112, 8, 8]⟩
abbrev S1x4112x8x48 : Shape := ⟨4, ![1, 4112, 8, 48]⟩
abbrev S1x4112x2x64 : Shape := ⟨4, ![1, 4112, 2, 64]⟩
abbrev S1x4112x2x8 : Shape := ⟨4, ![1, 4112, 2, 8]⟩
abbrev S1x4112x2x48 : Shape := ⟨4, ![1, 4112, 2, 48]⟩
abbrev S1x16x2x64 : Shape := ⟨4, ![1, 16, 2, 64]⟩
abbrev S1x112x8x64 : Shape := ⟨4, ![1, 112, 8, 64]⟩
abbrev S1x4224x8x64 : Shape := ⟨4, ![1, 4224, 8, 64]⟩
abbrev S1x33x128x2x4x64 : Shape := ⟨6, ![1, 33, 128, 2, 4, 64]⟩
abbrev S1x112x2x64 : Shape := ⟨4, ![1, 112, 2, 64]⟩
abbrev S1x4224x2x64 : Shape := ⟨4, ![1, 4224, 2, 64]⟩
abbrev S1x33x128x2x64 : Shape := ⟨5, ![1, 33, 128, 2, 64]⟩
abbrev S1x1x128x2x64 : Shape := ⟨5, ![1, 1, 128, 2, 64]⟩
abbrev S1x32x128x2x64 : Shape := ⟨5, ![1, 32, 128, 2, 64]⟩
abbrev S1x33x256x2x64 : Shape := ⟨5, ![1, 33, 256, 2, 64]⟩
abbrev S4224 : Shape := ⟨1, ![4224]⟩
abbrev S33x128 : Shape := ⟨2, ![33, 128]⟩
abbrev S33x256 : Shape := ⟨2, ![33, 256]⟩
abbrev S33x128x1 : Shape := ⟨3, ![33, 128, 1]⟩
abbrev S33x1x256 : Shape := ⟨3, ![33, 1, 256]⟩
abbrev S33x128x256 : Shape := ⟨3, ![33, 128, 256]⟩
abbrev S16 : Shape := ⟨1, ![16]⟩
abbrev S1x1x16 : Shape := ⟨3, ![1, 1, 16]⟩
abbrev S33x128x16 : Shape := ⟨3, ![33, 128, 16]⟩
abbrev S1x33x2x256x128x4 : Shape := ⟨6, ![1, 33, 2, 256, 128, 4]⟩
abbrev S1x33x2x4x128x256 : Shape := ⟨6, ![1, 33, 2, 4, 128, 256]⟩
abbrev S1x2x16x33x128x4 : Shape := ⟨6, ![1, 2, 16, 33, 128, 4]⟩
abbrev S1x33x2x4x128x16 : Shape := ⟨6, ![1, 33, 2, 4, 128, 16]⟩
abbrev S1x33x1x1x128x256 : Shape := ⟨6, ![1, 33, 1, 1, 128, 256]⟩
abbrev S1x33x1x1x128x16 : Shape := ⟨6, ![1, 33, 1, 1, 128, 16]⟩
abbrev S2x4 : Shape := ⟨2, ![2, 4]⟩
abbrev S1x1x2x4x1x1 : Shape := ⟨6, ![1, 1, 2, 4, 1, 1]⟩
abbrev S1x33x2x4x128x1 : Shape := ⟨6, ![1, 33, 2, 4, 128, 1]⟩
abbrev S1x33x2x4x128x273 : Shape := ⟨6, ![1, 33, 2, 4, 128, 273]⟩
abbrev S1x33x2x4x128 : Shape := ⟨5, ![1, 33, 2, 4, 128]⟩
abbrev S1x33x2x64x4x128 : Shape := ⟨6, ![1, 33, 2, 64, 4, 128]⟩
abbrev S1x2x64x33x4x128 : Shape := ⟨6, ![1, 2, 64, 33, 4, 128]⟩
abbrev S1x4224x512 : Shape := ⟨3, ![1, 4224, 512]⟩
abbrev S1x4112x512 : Shape := ⟨3, ![1, 4112, 512]⟩
abbrev S1x2x64x16 : Shape := ⟨4, ![1, 2, 64, 16]⟩
abbrev S1x33x2x64x256 : Shape := ⟨5, ![1, 33, 2, 64, 256]⟩
abbrev S4224x128 : Shape := ⟨2, ![4224, 128]⟩
abbrev S128x128 : Shape := ⟨2, ![128, 128]⟩

abbrev nBuf : Space → Nat
  | .hbm => 202
  | .vmem => 0
  | .smem => 0
  | _ => 0

abbrev hbmTy0_0 (i : Nat) : BufTy := match i % 128 with
  | 0 => ⟨S4112x512, .f32⟩
  | 1 => ⟨S4112x128, .f32⟩
  | 2 => ⟨S4112x128, .f32⟩
  | 3 => ⟨S4112x512, .f32⟩
  | 4 => ⟨S8, .f32⟩
  | 5 => ⟨S16x128, .f32⟩
  | 6 => ⟨S4112, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4112x1, .f32⟩
  | 22 => ⟨S1x8, .f32⟩
  | 23 => ⟨S4112x8, .f32⟩
  | 24 => ⟨S4112x8, .f32⟩
  | 25 => ⟨S4112x8, .f32⟩
  | 26 => ⟨S4112x8, .f32⟩
  | 27 => ⟨S1x4112x1x8, .f32⟩
  | 28 => ⟨S4112x8, .f32⟩
  | 29 => ⟨S1x4112x1x8, .f32⟩
  | 30 => ⟨S1x4112x8x64, .f32⟩
  | 31 => ⟨S1x4112x8x8, .f32⟩
  | 32 => ⟨S1x4112x8x8, .f32⟩
  | 33 => ⟨S1x4112x8x48, .f32⟩
  | 34 => ⟨S1x4112x8x8, .f32⟩
  | 35 => ⟨S1x4112x8x8, .f32⟩
  | 36 => ⟨S1x4112x8x8, .f32⟩
  | 37 => ⟨S1x4112x8x8, .f32⟩
  | 38 => ⟨S1x4112x8x8, .f32⟩
  | 39 => ⟨S1x4112x8x8, .f32⟩
  | 40 => ⟨S1x4112x8x8, .f32⟩
  | 41 => ⟨S1x4112x8x8, .f32⟩
  | 42 => ⟨S1x4112x8x8, .f32⟩
  | 43 => ⟨S1x4112x8x8, .f32⟩
  | 44 => ⟨S1x4112x8x64, .f32⟩
  | 45 => ⟨S1x4112x2x64, .f32⟩
  | 46 => ⟨S1x4112x2x8, .f32⟩
  | 47 => ⟨S1x4112x2x8, .f32⟩
  | 48 => ⟨S1x4112x2x48, .f32⟩
  | 49 => ⟨S1x4112x2x8, .f32⟩
  | 50 => ⟨S1x4112x2x8, .f32⟩
  | 51 => ⟨S1x4112x2x8, .f32⟩
  | 52 => ⟨S1x4112x2x8, .f32⟩
  | 53 => ⟨S1x4112x2x8, .f32⟩
  | 54 => ⟨S1x4112x2x8, .f32⟩
  | 55 => ⟨S1x4112x2x8, .f32⟩
  | 56 => ⟨S1x4112x2x8, .f32⟩
  | 57 => ⟨S1x4112x2x8, .f32⟩
  | 58 => ⟨S1x4112x2x8, .f32⟩
  | 59 => ⟨S1x4112x2x64, .f32⟩
  | 60 => ⟨S1x4112x2x64, .f32⟩
  | 61 => ⟨S1x16x2x64, .f32⟩
  | 62 => ⟨S1x16x2x64, .f32⟩
  | 63 => ⟨S_, .f32⟩
  | 64 => ⟨S1x112x8x64, .f32⟩
  | 65 => ⟨S1x4224x8x64, .f32⟩
  | 66 => ⟨S1x33x128x2x4x64, .f32⟩
  | 67 => ⟨S_, .f32⟩
  | 68 => ⟨S1x112x2x64, .f32⟩
  | 69 => ⟨S1x4224x2x64, .f32⟩
  | 70 => ⟨S1x33x128x2x64, .f32⟩
  | 71 => ⟨S_, .f32⟩
  | 72 => ⟨S1x112x2x64, .f32⟩
  | 73 => ⟨S1x4224x2x64, .f32⟩
  | 74 => ⟨S_, .f32⟩
  | 75 => ⟨S1x112x2x64, .f32⟩
  | 76 => ⟨S1x33x128x2x64, .f32⟩
  | 77 => ⟨S1x1x128x2x64, .f32⟩
  | 78 => ⟨S_, .f32⟩
  | 79 => ⟨S1x1x128x2x64, .f32⟩
  | 80 => ⟨S1x32x128x2x64, .f32⟩
  | 81 => ⟨S1x33x128x2x64, .f32⟩
  | 82 => ⟨S1x1x128x2x64, .f32⟩
  | 83 => ⟨S_, .f32⟩
  | 84 => ⟨S1x1x128x2x64, .f32⟩
  | 85 => ⟨S1x32x128x2x64, .f32⟩
  | 86 => ⟨S1x33x128x2x64, .f32⟩
  | 87 => ⟨S_, .f32⟩
  | 88 => ⟨S1x1x128x2x64, .f32⟩
  | 89 => ⟨S1x33x256x2x64, .f32⟩
  | 90 => ⟨S1x33x256x2x64, .f32⟩
  | 91 => ⟨S4224, .i32⟩
  | 92 => ⟨S_, .i32⟩
  | 93 => ⟨S4224, .i32⟩
  | 94 => ⟨S4224, .i32⟩
  | 95 => ⟨S33x128, .i32⟩
  | 96 => ⟨S_, .i32⟩
  | 97 => ⟨S33x128, .i32⟩
  | 98 => ⟨S33x128, .i32⟩
  | 99 => ⟨S33x256, .i32⟩
  | 100 => ⟨S33x128x1, .i32⟩
  | 101 => ⟨S33x1x256, .i32⟩
  | 102 => ⟨S33x128x256, .i32⟩
  | 103 => ⟨S33x128x256, .i32⟩
  | 104 => ⟨S33x128x256, .i32⟩
  | 105 => ⟨S33x1x256, .i32⟩
  | 106 => ⟨S_, .i32⟩
  | 107 => ⟨S33x1x256, .i32⟩
  | 108 => ⟨S33x1x256, .i1⟩
  | 109 => ⟨S_, .i32⟩
  | 110 => ⟨S33x128x256, .i32⟩
  | 111 => ⟨S33x128x256, .i1⟩
  | 112 => ⟨S33x128x256, .i1⟩
  | 113 => ⟨S33x128x256, .i1⟩
  | 114 => ⟨S_, .i32⟩
  | 115 => ⟨S33x128x256, .i32⟩
  | 116 => ⟨S33x128x256, .i1⟩
  | 117 => ⟨S33x128x256, .i1⟩
  | 118 => ⟨S16, .i32⟩
  | 119 => ⟨S1x1x16, .i32⟩
  | 120 => ⟨S33x128x1, .i32⟩
  | 121 => ⟨S33x128x16, .i32⟩
  | 122 => ⟨S33x128x16, .i32⟩
  | 123 => ⟨S33x128x16, .i1⟩
  | 124 => ⟨S1x33x2x256x128x4, .f32⟩
  | 125 => ⟨S1x33x2x4x128x256, .f32⟩
  | 126 => ⟨S_, .f32⟩
  | 127 => ⟨S1x33x2x4x128x256, .f32⟩
  | _ => ⟨S4112x512, .f32⟩

abbrev hbmTy0_1 (i : Nat) : BufTy := match i % 128 with
  | 0 => ⟨S1x33x2x4x128x256, .f32⟩
  | 1 => ⟨S1x2x16x33x128x4, .f32⟩
  | 2 => ⟨S1x33x2x4x128x16, .f32⟩
  | 3 => ⟨S_, .f32⟩
  | 4 => ⟨S1x33x2x4x128x16, .f32⟩
  | 5 => ⟨S1x33x2x4x128x16, .f32⟩
  | 6 => ⟨S1x33x1x1x128x256, .i1⟩
  | 7 => ⟨S_, .f32⟩
  | 8 => ⟨S_, .f32⟩
  | 9 => ⟨S1x33x2x4x128x256, .i1⟩
  | 10 => ⟨S1x33x2x4x128x256, .f32⟩
  | 11 => ⟨S1x33x2x4x128x256, .f32⟩
  | 12 => ⟨S1x33x1x1x128x16, .i1⟩
  | 13 => ⟨S_, .f32⟩
  | 14 => ⟨S_, .f32⟩
  | 15 => ⟨S1x33x2x4x128x16, .i1⟩
  | 16 => ⟨S1x33x2x4x128x16, .f32⟩
  | 17 => ⟨S1x33x2x4x128x16, .f32⟩
  | 18 => ⟨S2x4, .f32⟩
  | 19 => ⟨S1x1x2x4x1x1, .f32⟩
  | 20 => ⟨S1x33x2x4x128x1, .f32⟩
  | 21 => ⟨S1x33x2x4x128x273, .f32⟩
  | 22 => ⟨S_, .f32⟩
  | 23 => ⟨S1x33x2x4x128, .f32⟩
  | 24 => ⟨S_, .f32⟩
  | 25 => ⟨S1x33x2x4x128, .f32⟩
  | 26 => ⟨S1x33x2x4x128, .f32⟩
  | 27 => ⟨S1x33x2x4x128x1, .f32⟩
  | 28 => ⟨S1x33x2x4x128x273, .f32⟩
  | 29 => ⟨S1x33x2x4x128x273, .f32⟩
  | 30 => ⟨S1x33x2x4x128x273, .f32⟩
  | 31 => ⟨S_, .f32⟩
  | 32 => ⟨S1x33x2x4x128, .f32⟩
  | 33 => ⟨S1x33x2x4x128x1, .f32⟩
  | 34 => ⟨S1x33x2x4x128x273, .f32⟩
  | 35 => ⟨S1x33x2x4x128x273, .f32⟩
  | 36 => ⟨S1x33x2x4x128x256, .f32⟩
  | 37 => ⟨S1x33x2x4x128x16, .f32⟩
  | 38 => ⟨S1x33x2x64x4x128, .f32⟩
  | 39 => ⟨S1x33x128x2x4x64, .f32⟩
  | 40 => ⟨S1x2x64x33x4x128, .f32⟩
  | 41 => ⟨S1x33x128x2x4x64, .f32⟩
  | 42 => ⟨S1x33x128x2x4x64, .f32⟩
  | 43 => ⟨S1x4224x512, .f32⟩
  | 44 => ⟨S1x4112x512, .f32⟩
  | 45 => ⟨S4112x512, .f32⟩
  | 46 => ⟨S1x4112x512, .f32⟩
  | 47 => ⟨S_, .f32⟩
  | 48 => ⟨S1x4224x512, .f32⟩
  | 49 => ⟨S1x33x128x2x4x64, .f32⟩
  | 50 => ⟨S1x2x64x33x4x128, .f32⟩
  | 51 => ⟨S1x2x64x16, .f32⟩
  | 52 => ⟨S1x16x2x64, .f32⟩
  | 53 => ⟨S1x33x2x64x4x128, .f32⟩
  | 54 => ⟨S1x33x2x64x256, .f32⟩
  | 55 => ⟨S1x33x256x2x64, .f32⟩
  | 56 => ⟨S1x33x128x2x64, .f32⟩
  | 57 => ⟨S1x33x128x2x64, .f32⟩
  | 58 => ⟨S1x1x128x2x64, .f32⟩
  | 59 => ⟨S1x32x128x2x64, .f32⟩
  | 60 => ⟨S_, .f32⟩
  | 61 => ⟨S1x33x128x2x64, .f32⟩
  | 62 => ⟨S1x33x128x2x64, .f32⟩
  | 63 => ⟨S1x4224x2x64, .f32⟩
  | 64 => ⟨S1x112x2x64, .f32⟩
  | 65 => ⟨S1x4112x2x64, .f32⟩
  | 66 => ⟨S16x128, .f32⟩
  | 67 => ⟨S4112x128, .f32⟩
  | 68 => ⟨S_, .i32⟩
  | 69 => ⟨S_, .f32⟩
  | 70 => ⟨S4224x128, .f32⟩
  | 71 => ⟨S_, .i32⟩
  | 72 => ⟨S_, .f32⟩
  | 73 => ⟨S128x128, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_3 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_11 : Ref sig .tc := ⟨.hbm, 106, rfl⟩
abbrev main_v88 : Ref sig .tc := ⟨.hbm, 107, rfl⟩
abbrev main_v89 : Ref sig .tc := ⟨.hbm, 108, rfl⟩
abbrev main_c_12 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_c_13 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_14 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_15 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_16 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_v112 : Ref sig .tc := ⟨.hbm, 139, rfl⟩
abbrev main_v113 : Ref sig .tc := ⟨.hbm, 140, rfl⟩
abbrev main_cst_17 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_18 : Ref sig .tc := ⟨.hbm, 150, rfl⟩
abbrev main_v119 : Ref sig .tc := ⟨.hbm, 151, rfl⟩
abbrev main_cst_19 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_20 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_21 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_22 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_c_23 : Ref sig .tc := ⟨.hbm, 196, rfl⟩
abbrev main_call2_v0 : Ref sig .tc := ⟨.hbm, 197, rfl⟩
abbrev main_v160 : Ref sig .tc := ⟨.hbm, 198, rfl⟩
abbrev main_c_24 : Ref sig .tc := ⟨.hbm, 199, rfl⟩
abbrev main_call3_v0 : Ref sig .tc := ⟨.hbm, 200, rfl⟩
abbrev main_v161 : Ref sig .tc := ⟨.hbm, 201, rfl⟩

abbrev nD : Nat := 1
abbrev τ : Topo := Topo.v7x

variable {F : FTy → Type} [FloatOps F]

def κ : String → Option EReal := fun
  | "mask" => some ⊥
  | _ => none
-- ==== Kernel2.lean ====
abbrev S4224x1024 : Shape := ⟨2, ![4224, 1024]⟩
abbrev S4x768x1024 : Shape := ⟨3, ![4, 768, 1024]⟩
abbrev S4224x3072 : Shape := ⟨2, ![4224, 3072]⟩
abbrev S384x1024 : Shape := ⟨2, ![384, 1024]⟩
abbrev S384x3072 : Shape := ⟨2, ![384, 3072]⟩
abbrev S1x768x1024 : Shape := ⟨3, ![1, 768, 1024]⟩
abbrev S768x1024 : Shape := ⟨2, ![768, 1024]⟩
abbrev S384x768 : Shape := ⟨2, ![384, 768]⟩

abbrev nBuf : Space → Nat
  | .hbm => 10
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S4x768x1024, .f32⟩
  | .hbm, ⟨2, _⟩ => ⟨S4224x3072, .f32⟩
  | .hbm, ⟨3, _⟩ => ⟨S4224x3072, .f32⟩
  | .hbm, ⟨4, _⟩ => ⟨S4224x1024, .bf16⟩
  | .hbm, ⟨5, _⟩ => ⟨S4x768x1024, .bf16⟩
  | .hbm, ⟨6, _⟩ => ⟨S4224x3072, .bf16⟩
  | .hbm, ⟨7, _⟩ => ⟨S4224x3072, .bf16⟩
  | .hbm, ⟨8, _⟩ => ⟨S4224x3072, .bf16⟩
  | .hbm, ⟨9, _⟩ => ⟨S4224x3072, .bf16⟩
  | .local _ .vmem, ⟨0, _⟩ => ⟨S384x1024, .bf16⟩
  | .local _ .vmem, ⟨1, _⟩ => ⟨S384x1024, .bf16⟩
  | .local _ .vmem, ⟨2, _⟩ => ⟨S4x768x1024, .bf16⟩
  | .local _ .vmem, ⟨3, _⟩ => ⟨S384x3072, .bf16⟩
  | .local _ .vmem, ⟨4, _⟩ => ⟨S384x3072, .bf16⟩
  | .local _ .vmem, ⟨5, _⟩ => ⟨S384x3072, .bf16⟩
  | .local _ .vmem, ⟨6, _⟩ => ⟨S384x3072, .bf16⟩
  | .local _ .vmem, ⟨7, _⟩ => ⟨S384x3072, .bf16⟩
  | .local _ .vmem, ⟨8, _⟩ => ⟨S384x3072, .bf16⟩
  | .local _ .vmem, ⟨9, _⟩ => ⟨S384x3072, .bf16⟩
  | .local _ .vmem, ⟨10, _⟩ => ⟨S384x3072, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4224x1024 : Shape := ⟨2, ![4224, 1024]⟩
abbrev S4x768x1024 : Shape := ⟨3, ![4, 768, 1024]⟩
abbrev S4224x3072 : Shape := ⟨2, ![4224, 3072]⟩
abbrev S_ : Shape := ⟨0, ![]⟩
abbrev S3072x1024 : Shape := ⟨2, ![3072, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4x768x1024, .f32⟩
  | .hbm, ⟨2, _⟩ => ⟨S4224x3072, .f32⟩
  | .hbm, ⟨3, _⟩ => ⟨S4224x3072, .f32⟩
  | .hbm, ⟨4, _⟩ => ⟨S4224x3072, .f32⟩
  | .hbm, ⟨5, _⟩ => ⟨S4224x3072, .f32⟩
  | .hbm, ⟨6, _⟩ => ⟨S_, .f32⟩
  | .hbm, ⟨7, _⟩ => ⟨S4224x3072, .f32⟩
  | .hbm, ⟨8, _⟩ => ⟨S4224x3072, .f32⟩
  | .hbm, ⟨9, _⟩ => ⟨S_, .f32⟩
  | .hbm, ⟨10, _⟩ => ⟨S4224x3072, .f32⟩
  | .hbm, ⟨11, _⟩ => ⟨S4224x3072, .f32⟩
  | .hbm, ⟨12, _⟩ => ⟨S_, .f32⟩
  | .hbm, ⟨13, _⟩ => ⟨S4224x3072, .f32⟩
  | .hbm, ⟨14, _⟩ => ⟨S4224x3072, .f32⟩
  | .hbm, ⟨15, _⟩ => ⟨S4224x3072, .f32⟩
  | .hbm, ⟨16, _⟩ => ⟨S4224x3072, .f32⟩
  | .hbm, ⟨17, _⟩ => ⟨S4224x3072, .f32⟩
  | .hbm, ⟨18, _⟩ => ⟨S3072x1024, .f32⟩
  | .hbm, ⟨19, _⟩ => ⟨S4224x1024, .f32⟩
  | .hbm, ⟨20, _⟩ => ⟨S_, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S4224x3072, .f32⟩
  | .hbm, ⟨27, _⟩ => ⟨S4224x3072, .f32⟩
  | .hbm, ⟨28, _⟩ => ⟨S4224x3072, .f32⟩
  | .hbm, ⟨29, _⟩ => ⟨S4224x3072, .f32⟩
  | .hbm, ⟨30, _⟩ => ⟨S4224x3072, .f32⟩
  | .hbm, ⟨31, _⟩ => ⟨S4224x3072, .f32⟩
  | .hbm, ⟨32, _⟩ => ⟨S4224x3072, .f32⟩
  | .hbm, ⟨33, _⟩ => ⟨S4224x3072, .bf16⟩
  | .hbm, ⟨34, _⟩ => ⟨S4224x3072, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel3.lean ====
abbrev S4224x3072 : Shape := ⟨2, ![4224, 3072]⟩
abbrev S4224x1024 : Shape := ⟨2, ![4224, 1024]⟩
abbrev S4x704x1024 : Shape := ⟨3, ![4, 704, 1024]⟩
abbrev S4x352x1024 : Shape := ⟨3, ![4, 352, 1024]⟩
abbrev S1408x768 : Shape := ⟨2, ![1408, 768]⟩
abbrev S1408x1024 : Shape := ⟨2, ![1408, 1024]⟩
abbrev S1x704x1024 : Shape := ⟨3, ![1, 704, 1024]⟩
abbrev S1x352x1024 : Shape := ⟨3, ![1, 352, 1024]⟩
abbrev S768x1024 : Shape := ⟨2, ![768, 1024]⟩
abbrev S704x1024 : Shape := ⟨2, ![704, 1024]⟩
abbrev S352x1024 : Shape := ⟨2, ![352, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x3072, .f32⟩
  | .hbm, ⟨1, _⟩ => ⟨S4224x1024, .f32⟩
  | .hbm, ⟨2, _⟩ => ⟨S4224x3072, .bf16⟩
  | .hbm, ⟨3, _⟩ => ⟨S4224x1024, .bf16⟩
  | .hbm, ⟨4, _⟩ => ⟨S4x704x1024, .f32⟩
  | .hbm, ⟨5, _⟩ => ⟨S4x352x1024, .bf16⟩
  | .local _ .vmem, ⟨0, _⟩ => ⟨S1408x768, .bf16⟩
  | .local _ .vmem, ⟨1, _⟩ => ⟨S1408x768, .bf16⟩
  | .local _ .vmem, ⟨2, _⟩ => ⟨S1408x1024, .bf16⟩
  | .local _ .vmem, ⟨3, _⟩ => ⟨S1408x1024, .bf16⟩
  | .local _ .vmem, ⟨4, _⟩ => ⟨S1x704x1024, .f32⟩
  | .local _ .vmem, ⟨5, _⟩ => ⟨S1x704x1024, .f32⟩
  | .local _ .vmem, ⟨6, _⟩ => ⟨S1x352x1024, .bf16⟩
  | .local _ .vmem, ⟨7, _⟩ => ⟨S1x352x1024, .bf16⟩
  | .local _ .vmem, ⟨8, _⟩ => ⟨S768x1024, .f32⟩
  | _, _ => ⟨S4224x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4224x3072 : Shape := ⟨2, ![4224, 3072]⟩
abbrev S4224x1024 : Shape := ⟨2, ![4224, 1024]⟩
abbrev S_ : Shape := ⟨0, ![]⟩
abbrev S3072x1024 : Shape := ⟨2, ![3072, 1024]⟩
abbrev S1024x3072 : Shape := ⟨2, ![1024, 3072]⟩
abbrev S4x768x1024 : Shape := ⟨3, ![4, 768, 1024]⟩
abbrev S4x704x1024 : Shape := ⟨3, ![4, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4224x3072, .f32⟩
  | .hbm, ⟨1, _⟩ => ⟨S4224x1024, .f32⟩
  | .hbm, ⟨2, _⟩ => ⟨S_, .f32⟩
  | .hbm, ⟨3, _⟩ => ⟨S3072x1024, .f32⟩
  | .hbm, ⟨4, _⟩ => ⟨S4224x1024, .f32⟩
  | .hbm, ⟨5, _⟩ => ⟨S_, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S1024x3072, .f32⟩
  | .hbm, ⟨12, _⟩ => ⟨S3072x1024, .f32⟩
  | .hbm, ⟨13, _⟩ => ⟨S4x768x1024, .f32⟩
  | .hbm, ⟨14, _⟩ => ⟨S4x704x1024, .f32⟩
  | _, _ => ⟨S4224x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4224x3072 : Shape := ⟨2, ![4224, 3072]⟩
abbrev S4224x1024 : Shape := ⟨2, ![4224, 1024]⟩
abbrev S1024 : Shape := ⟨1, ![1024]⟩
abbrev S4x768x1024 : Shape := ⟨3, ![4, 768, 1024]⟩
abbrev S3072x1024 : Shape := ⟨2, ![3072, 1024]⟩
abbrev S1x1024 : Shape := ⟨2, ![1, 1024]⟩
abbrev S384x3072 : Shape := ⟨2, ![384, 3072]⟩
abbrev S384x1024 : Shape := ⟨2, ![384, 1024]⟩
abbrev S384 : Shape := ⟨1, ![384]⟩
abbrev S384x1 : Shape := ⟨2, ![384, 1]⟩

abbrev nBuf : Space → Nat
  | .hbm => 17
  | .vmem => 16
  | .smem => 0
  | _ => 0

abbrev bufTy : (tb : Table) → Fin (tcTables nBuf tb) → BufTy
  | .hbm, ⟨0, _⟩ => ⟨S4224x3072, .f32⟩
  | .hbm, ⟨1, _⟩ => ⟨S4224x3072, .f32⟩
  | .hbm, ⟨2, _⟩ => ⟨S4224x1024, .f32⟩
  | .hbm, ⟨3, _⟩ => ⟨S4224x1024, .f32⟩
  | .hbm, ⟨4, _⟩ => ⟨S1024, .f32⟩
  | .hbm, ⟨5, _⟩ => ⟨S4x768x1024, .f32⟩
  | .hbm, ⟨6, _⟩ => ⟨S4x768x1024, .f32⟩
  | .hbm, ⟨7, _⟩ => ⟨S4224x3072, .bf16⟩
  | .hbm, ⟨8, _⟩ => ⟨S4224x3072, .bf16⟩
  | .hbm, ⟨9, _⟩ => ⟨S4x768x1024, .bf16⟩
  | .hbm, ⟨10, _⟩ => ⟨S4x768x1024, .bf16⟩
  | .hbm, ⟨11, _⟩ => ⟨S3072x1024, .bf16⟩
  | .hbm, ⟨12, _⟩ => ⟨S3072x1024, .bf16⟩
  | .hbm, ⟨13, _⟩ => ⟨S1x1024, .f32⟩
  | .hbm, ⟨14, _⟩ => ⟨S4224x1024, .f32⟩
  | .hbm, ⟨15, _⟩ => ⟨S1x1024, .f32⟩
  | .hbm, ⟨16, _⟩ => ⟨S4224x1024, .bf16⟩
  | .local _ .vmem, ⟨0, _⟩ => ⟨S384x3072, .bf16⟩
  | .local _ .vmem, ⟨1, _⟩ => ⟨S384x3072, .bf16⟩
  | .local _ .vmem, ⟨2, _⟩ => ⟨S3072x1024, .bf16⟩
  | .local _ .vmem, ⟨3, _⟩ => ⟨S384x3072, .bf16⟩
  | .local _ .vmem, ⟨4, _⟩ => ⟨S384x3072, .bf16⟩
  | .local _ .vmem, ⟨5, _⟩ => ⟨S3072x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | .local _ .vmem, ⟨11, _⟩ => ⟨S384x1024, .f32⟩
  | .local _ .vmem, ⟨12, _⟩ => ⟨S384x1024, .f32⟩
  | .local _ .vmem, ⟨13, _⟩ => ⟨S1x1024, .f32⟩
  | .local _ .vmem, ⟨14, _⟩ => ⟨S384x1024, .bf16⟩
  | .local _ .vmem, ⟨15, _⟩ => ⟨S384x1024, .bf16⟩
  | _, _ => ⟨S4224x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4224x3072 : Shape := ⟨2, ![4224, 3072]⟩
abbrev S4224x1024 : Shape := ⟨2, ![4224, 1024]⟩
abbrev S1024 : Shape := ⟨1, ![1024]⟩
abbrev S4x768x1024 : Shape := ⟨3, ![4, 768, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S3072x1024 : Shape := ⟨2, ![3072, 1024]⟩
abbrev S1024x3072 : Shape := ⟨2, ![1024, 3072]⟩

abbrev nBuf : Space → Nat
  | .hbm => 63
  | .vmem => 0
  | .smem => 0
  | _ => 0

abbrev bufTy : (tb : Table) → Fin (tcTables nBuf tb) → BufTy
  | .hbm, ⟨0, _⟩ => ⟨S4224x3072, .f32⟩
  | .hbm, ⟨1, _⟩ => ⟨S4224x3072, .f32⟩
  | .hbm, ⟨2, _⟩ => ⟨S4224x1024, .f32⟩
  | .hbm, ⟨3, _⟩ => ⟨S4224x1024, .f32⟩
  | .hbm, ⟨4, _⟩ => ⟨S1024, .f32⟩
  | .hbm, ⟨5, _⟩ => ⟨S4x768x1024, .f32⟩
  | .hbm, ⟨6, _⟩ => ⟨S4x768x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S3072x1024, .f32⟩
  | .hbm, ⟨28, _⟩ => ⟨S1024x3072, .f32⟩
  | .hbm, ⟨29, _⟩ => ⟨S4224x3072, .f32⟩
  | .hbm, ⟨30, _⟩ => ⟨S3072x1024, .f32⟩
  | .hbm, ⟨31, _⟩ => ⟨S1024x3072, .f32⟩
  | .hbm, ⟨32, _⟩ => ⟨S4224x3072, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S1024, .f32⟩
  | .hbm, ⟨44, _⟩ => ⟨S4224x1024, .f32⟩
  | .hbm, ⟨45, _⟩ => ⟨S_, .f32⟩
  | .hbm, ⟨46, _⟩ => ⟨S4224, .f32⟩
  | .hbm, ⟨47, _⟩ => ⟨S4224x1, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1, .f32⟩
  | .hbm, ⟨52, _⟩ => ⟨S_, .f32⟩
  | .hbm, ⟨53, _⟩ => ⟨S4224x1, .f32⟩
  | .hbm, ⟨54, _⟩ => ⟨S4224x1, .f32⟩
  | .hbm, ⟨55, _⟩ => ⟨S_, .f32⟩
  | .hbm, ⟨56, _⟩ => ⟨S4224, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .f32⟩
  | .hbm, ⟨62, _⟩ => ⟨S1x1024, .f32⟩
  | _, _ => ⟨S4224x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S4224x1024 : Shape := ⟨2, ![4224, 1024]⟩
abbrev S4224x3072 : Shape := ⟨2, ![4224, 3072]⟩
abbrev S4x704x1024 : Shape := ⟨3, ![4, 704, 1024]⟩
abbrev S4x352x1024 : Shape := ⟨3, ![4, 352, 1024]⟩
abbrev S1408x1024 : Shape := ⟨2, ![1408, 1024]⟩
abbrev S1408x768 : Shape := ⟨2, ![1408, 768]⟩
abbrev S1x704x1024 : Shape := ⟨3, ![1, 704, 1024]⟩
abbrev S1x352x1024 : Shape := ⟨3, ![1, 352, 1024]⟩
abbrev S768x1024 : Shape := ⟨2, ![768, 1024]⟩
abbrev S704x1024 : Shape := ⟨2, ![704, 1024]⟩
abbrev S352x1024 : Shape := ⟨2, ![352, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4224x1024, .f32⟩
  | .hbm, ⟨1, _⟩ => ⟨S4224x3072, .f32⟩
  | .hbm, ⟨2, _⟩ => ⟨S4224x3072, .f32⟩
  | .hbm, ⟨3, _⟩ => ⟨S4224x1024, .bf16⟩
  | .hbm, ⟨4, _⟩ => ⟨S4224x3072, .bf16⟩
  | .hbm, ⟨5, _⟩ => ⟨S4224x3072, .bf16⟩
  | .hbm, ⟨6, _⟩ => ⟨S4x704x1024, .f32⟩
  | .hbm, ⟨7, _⟩ => ⟨S4x704x1024, .f32⟩
  | .hbm, ⟨8, _⟩ => ⟨S4x352x1024, .bf16⟩
  | .hbm, ⟨9, _⟩ => ⟨S4x352x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x768, .bf16⟩
  | .local _ .vmem, ⟨3, _⟩ => ⟨S1408x768, .bf16⟩
  | .local _ .vmem, ⟨4, _⟩ => ⟨S1408x768, .bf16⟩
  | .local _ .vmem, ⟨5, _⟩ => ⟨S1408x768, .bf16⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | .local _ .vmem, ⟨10, _⟩ => ⟨S1x352x1024, .bf16⟩
  | .local _ .vmem, ⟨11, _⟩ => ⟨S1x352x1024, .bf16⟩
  | .local _ .vmem, ⟨12, _⟩ => ⟨S1x352x1024, .bf16⟩
  | .local _ .vmem, ⟨13, _⟩ => ⟨S1x352x1024, .bf16⟩
  | .local _ .vmem, ⟨14, _⟩ => ⟨S768x1024, .f32⟩
  | .local _ .vmem, ⟨15, _⟩ => ⟨S768x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4224x1024 : Shape := ⟨2, ![4224, 1024]⟩
abbrev S4224x3072 : Shape := ⟨2, ![4224, 3072]⟩
abbrev S_ : Shape := ⟨0, ![]⟩
abbrev S3072x1024 : Shape := ⟨2, ![3072, 1024]⟩
abbrev S1024x3072 : Shape := ⟨2, ![1024, 3072]⟩
abbrev S4x768x1024 : Shape := ⟨3, ![4, 768, 1024]⟩
abbrev S4x704x1024 : Shape := ⟨3, ![4, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x3072, .f32⟩
  | .hbm, ⟨2, _⟩ => ⟨S4224x3072, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S4224x3072, .f32⟩
  | .hbm, ⟨7, _⟩ => ⟨S1024x3072, .f32⟩
  | .hbm, ⟨8, _⟩ => ⟨S4224x3072, .f32⟩
  | .hbm, ⟨9, _⟩ => ⟨S3072x1024, .f32⟩
  | .hbm, ⟨10, _⟩ => ⟨S1024x3072, .f32⟩
  | .hbm, ⟨11, _⟩ => ⟨S3072x1024, .f32⟩
  | .hbm, ⟨12, _⟩ => ⟨S3072x1024, .f32⟩
  | .hbm, ⟨13, _⟩ => ⟨S1024x3072, .f32⟩
  | .hbm, ⟨14, _⟩ => ⟨S3072x1024, .f32⟩
  | .hbm, ⟨15, _⟩ => ⟨S4x768x1024, .f32⟩
  | .hbm, ⟨16, _⟩ => ⟨S4x704x1024, .f32⟩
  | .hbm, ⟨17, _⟩ => ⟨S4x768x1024, .f32⟩
  | .hbm, ⟨18, _⟩ => ⟨S4x704x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S4224x1024 : Shape := ⟨2, ![4224, 1024]⟩
abbrev S4x768x1024 : Shape := ⟨3, ![4, 768, 1024]⟩
abbrev S4224x3072 : Shape := ⟨2, ![4224, 3072]⟩
abbrev S384x1024 : Shape := ⟨2, ![384, 1024]⟩
abbrev S384x3072 : Shape := ⟨2, ![384, 3072]⟩
abbrev S1x768x1024 : Shape := ⟨3, ![1, 768, 1024]⟩
abbrev S768x1024 : Shape := ⟨2, ![768, 1024]⟩
abbrev S384x768 : Shape := ⟨2, ![384, 768]⟩

abbrev nBuf : Space → Nat
  | .hbm => 9
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4x768x1024, .f32⟩
  | .hbm, ⟨2, _⟩ => ⟨S4x768x1024, .f32⟩
  | .hbm, ⟨3, _⟩ => ⟨S4224x1024, .bf16⟩
  | .hbm, ⟨4, _⟩ => ⟨S4x768x1024, .bf16⟩
  | .hbm, ⟨5, _⟩ => ⟨S4x768x1024, .bf16⟩
  | .hbm, ⟨6, _⟩ => ⟨S4224x3072, .bf16⟩
  | .hbm, ⟨7, _⟩ => ⟨S4224x3072, .bf16⟩
  | .hbm, ⟨8, _⟩ => ⟨S4224x3072, .bf16⟩
  | .local _ .vmem, ⟨0, _⟩ => ⟨S384x1024, .bf16⟩
  | .local _ .vmem, ⟨1, _⟩ => ⟨S384x1024, .bf16⟩
  | .local _ .vmem, ⟨2, _⟩ => ⟨S4x768x1024, .bf16⟩
  | .local _ .vmem, ⟨3, _⟩ => ⟨S4x768x1024, .bf16⟩
  | .local _ .vmem, ⟨4, _⟩ => ⟨S384x3072, .bf16⟩
  | .local _ .vmem, ⟨5, _⟩ => ⟨S384x3072, .bf16⟩
  | .local _ .vmem, ⟨6, _⟩ => ⟨S384x3072, .bf16⟩
  | .local _ .vmem, ⟨7, _⟩ => ⟨S384x3072, .bf16⟩
  | .local _ .vmem, ⟨8, _⟩ => ⟨S384x3072, .bf16⟩
  | .local _ .vmem, ⟨9, _⟩ => ⟨S384x3072, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4224x1024 : Shape := ⟨2, ![4224, 1024]⟩
abbrev S4x768x1024 : Shape := ⟨3, ![4, 768, 1024]⟩
abbrev S3072x1024 : Shape := ⟨2, ![3072, 1024]⟩
abbrev S1024x3072 : Shape := ⟨2, ![1024, 3072]⟩
abbrev S4224x3072 : Shape := ⟨2, ![4224, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4x768x1024, .f32⟩
  | .hbm, ⟨2, _⟩ => ⟨S4x768x1024, .f32⟩
  | .hbm, ⟨3, _⟩ => ⟨S3072x1024, .f32⟩
  | .hbm, ⟨4, _⟩ => ⟨S1024x3072, .f32⟩
  | .hbm, ⟨5, _⟩ => ⟨S4224x3072, .f32⟩
  | .hbm, ⟨6, _⟩ => ⟨S3072x1024, .f32⟩
  | .hbm, ⟨7, _⟩ => ⟨S1024x3072, .f32⟩
  | .hbm, ⟨8, _⟩ => ⟨S4224x3072, .f32⟩
  | .hbm, ⟨9, _⟩ => ⟨S4224x3072, .bf16⟩
  | .hbm, ⟨10, _⟩ => ⟨S4224x3072, .bf16⟩
  | .hbm, ⟨11, _⟩ => ⟨S4224x3072, .f32⟩
  | .hbm, ⟨12, _⟩ => ⟨S4224x3072, .f32⟩
  | .hbm, ⟨13, _⟩ => ⟨S_, .f32⟩
  | .hbm, ⟨14, _⟩ => ⟨S4224x3072, .f32⟩
  | .hbm, ⟨15, _⟩ => ⟨S4224x3072, .f32⟩
  | .hbm, ⟨16, _⟩ => ⟨S_, .f32⟩
  | .hbm, ⟨17, _⟩ => ⟨S4224x3072, .f32⟩
  | .hbm, ⟨18, _⟩ => ⟨S4224x3072, .f32⟩
  | .hbm, ⟨19, _⟩ => ⟨S4224x3072, .f32⟩
  | .hbm, ⟨20, _⟩ => ⟨S4224x3072, .f32⟩
  | .hbm, ⟨21, _⟩ => ⟨S4224x3072, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel7.lean ====
abbrev S4224x3072 : Shape := ⟨2, ![4224, 3072]⟩
abbrev S4x768x1024 : Shape := ⟨3, ![4, 768, 1024]⟩
abbrev S4224x1024 : Shape := ⟨2, ![4224, 1024]⟩
abbrev S1024 : Shape := ⟨1, ![1024]⟩
abbrev S1x1024 : Shape := ⟨2, ![1, 1024]⟩
abbrev S3072x1024 : Shape := ⟨2, ![3072, 1024]⟩
abbrev S384x3072 : Shape := ⟨2, ![384, 3072]⟩
abbrev S384x1024 : Shape := ⟨2, ![384, 1024]⟩
abbrev S384 : Shape := ⟨1, ![384]⟩
abbrev S384x1 : Shape := ⟨2, ![384, 1]⟩

abbrev nBuf : Space → Nat
  | .hbm => 10
  | .vmem => 10
  | .smem => 0
  | _ => 0

abbrev bufTy : (tb : Table) → Fin (tcTables nBuf tb) → BufTy
  | .hbm, ⟨0, _⟩ => ⟨S4224x3072, .f32⟩
  | .hbm, ⟨1, _⟩ => ⟨S4x768x1024, .f32⟩
  | .hbm, ⟨2, _⟩ => ⟨S4224x1024, .f32⟩
  | .hbm, ⟨3, _⟩ => ⟨S1024, .f32⟩
  | .hbm, ⟨4, _⟩ => ⟨S4224x3072, .bf16⟩
  | .hbm, ⟨5, _⟩ => ⟨S4x768x1024, .bf16⟩
  | .hbm, ⟨6, _⟩ => ⟨S1x1024, .f32⟩
  | .hbm, ⟨7, _⟩ => ⟨S3072x1024, .bf16⟩
  | .hbm, ⟨8, _⟩ => ⟨S4224x1024, .f32⟩
  | .hbm, ⟨9, _⟩ => ⟨S4224x1024, .bf16⟩
  | .local _ .vmem, ⟨0, _⟩ => ⟨S384x3072, .bf16⟩
  | .local _ .vmem, ⟨1, _⟩ => ⟨S384x3072, .bf16⟩
  | .local _ .vmem, ⟨2, _⟩ => ⟨S3072x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4224x3072 : Shape := ⟨2, ![4224, 3072]⟩
abbrev S4x768x1024 : Shape := ⟨3, ![4, 768, 1024]⟩
abbrev S4224x1024 : Shape := ⟨2, ![4224, 1024]⟩
abbrev S1024 : Shape := ⟨1, ![1024]⟩
abbrev S3072x1024 : Shape := ⟨2, ![3072, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4224x3072, .f32⟩
  | .hbm, ⟨1, _⟩ => ⟨S4x768x1024, .f32⟩
  | .hbm, ⟨2, _⟩ => ⟨S4224x1024, .f32⟩
  | .hbm, ⟨3, _⟩ => ⟨S1024, .f32⟩
  | .hbm, ⟨4, _⟩ => ⟨S3072x1024, .f32⟩
  | .hbm, ⟨5, _⟩ => ⟨S4224x1024, .f32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S4224x1024, .f32⟩
  | .hbm, ⟨25, _⟩ => ⟨S4224x1024, .f32⟩
  | .hbm, ⟨26, _⟩ => ⟨S4224x1024, .bf16⟩
  | _, _ => ⟨S4224x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Points.lean ====
/- The points of the kernel's grid: which of its conditionals a point takes, where an output is left alone, and the
   memrefs that the body is handed there. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's conditional 0. -/
abbrev cond0_0 (i : grid0.Coords) : Prop := k0_cond1 i = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, k0_cond1, e0]
    word_cmp
   : ∀ t : Fin grid0.N, cond0_0 (grid0.coords t) ↔ t.val % 34 = 0)

/-- The condition of the body's conditional 1. -/
abbrev cond0_1 (i : grid0.Coords) : Prop := k0_cond2 i = 1#1
/-- It holds at the points before point 33 — decided over the grid. -/
theorem hcond0_1 : ∀ t : Fin cfg0.N, cond0_1 (grid0.coords t) ↔ t.val < 33 :=
  (by decide +kernel : ∀ t : Fin grid0.N, cond0_1 (grid0.coords t) ↔ t.val < 33)

/-- The condition of the body's conditional 2. -/
abbrev cond0_2 (i : grid0.Coords) : Prop := k0_cond3 i = 1#1
/-- It holds at the last point only — by arithmetic of the point. -/
theorem hcond0_2 : ∀ t : Fin cfg0.N, cond0_2 (grid0.coords t) ↔ t.val % 34 = 33 :=
  (fun t => by
    have ht : t.val < 34 := Nat.lt_of_lt_of_eq t.isLt N_0
    have e0 : (grid0.coords t 0).val = t.val / 1 % 34 := Pipeline.Grid.coords_val t 0 (by decide) rfl
    simp only [cond0_2, k0_cond3, e0]
    word_cmp
   : ∀ t : Fin grid0.N, cond0_2 (grid0.coords t) ↔ t.val % 34 = 33)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
/-- Whether output 12's buffer holds nothing that the body stored since it was last written back: a bit for every point. -/
def freshTab0_12 : ℕ → Bool
  | 0 => true
  | n + 1 => (0x2ffffffff : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- Case A stores into output 12. -/
theorem liveAt0_12_A : ∀ t : Fin cfg0.N, cond0_0 (grid0.coords t) → cond0_1 (grid0.coords t) → ¬cond0_2 (grid0.coords t) → cfg0.idle 12 (grid0.coords t) = false := by decide +kernel
/-- Case B stores into output 12. -/
theorem liveAt0_12_B : ∀ t : Fin cfg0.N, ¬cond0_0 (grid0.coords t) → cond0_1 (grid0.coords t) → ¬cond0_2 (grid0.coords t) → cfg0.idle 12 (grid0.coords t) = false := by decide +kernel
/-- The last point stores nothing into output 12, -/
theorem idleAt0_12_C : ∀ t : Fin cfg0.N, ¬cond0_0 (grid0.coords t) → ¬cond0_1 (grid0.coords t) → cond0_2 (grid0.coords t) → cfg0.idle 12 (grid0.coords t) = true := by decide +kernel
/-- and writes it back. -/
theorem flushAt0_12_C : ∀ t : Fin cfg0.N, ¬cond0_0 (grid0.coords t) → ¬cond0_1 (grid0.coords t) → cond0_2 (grid0.coords t) → (cfg0.win 12).flush t = true := by decide +kernel
/-- In case C output 12's buffer holds something that was stored before. -/
theorem notFresh0_12_C : ∀ t : Fin cfg0.N, ¬cond0_0 (grid0.coords t) → ¬cond0_1 (grid0.coords t) → cond0_2 (grid0.coords t) → cfg0.fresh 12 t.val = false := by
  intro t; rw [fresh0_12_eq t]; revert t; decide +kernel
/-- Case A stores into output 13. -/
theorem liveAt0_13_A : ∀ t : Fin cfg0.N, cond0_0 (grid0.coords t) → cond0_1 (grid0.coords t) → ¬cond0_2 (grid0.coords t) → cfg0.idle 13 (grid0.coords t) = false := by decide +kernel
/-- Case B stores into output 13. -/
theorem liveAt0_13_B : ∀ t : Fin cfg0.N, ¬cond0_0 (grid0.coords t) → cond0_1 (grid0.coords t) → ¬cond0_2 (grid0.coords t) → cfg0.idle 13 (grid0.coords t) = false := by decide +kernel
/-- Case C stores into output 13. -/
theorem liveAt0_13_C : ∀ t : Fin cfg0.N, ¬cond0_0 (grid0.coords t) → ¬cond0_1 (grid0.coords t) → cond0_2 (grid0.coords t) → cfg0.idle 13 (grid0.coords t) = false := by decide +kernel
/-- Case A stores into output 14. -/
theorem liveAt0_14_A : ∀ t : Fin cfg0.N, cond0_0 (grid0.coords t) → cond0_1 (grid0.coords t) → ¬cond0_2 (grid0.coords t) → cfg0.idle 14 (grid0.coords t) = false := by decide +kernel
/-- Case B stores into output 14. -/
theorem liveAt0_14_B : ∀ t : Fin cfg0.N, ¬cond0_0 (grid0.coords t) → cond0_1 (grid0.coords t) → ¬cond0_2 (grid0.coords t) → cfg0.idle 14 (grid0.coords t) = false := by decide +kernel
/-- Case C stores into output 14. -/
theorem liveAt0_14_C : ∀ t : Fin cfg0.N, ¬cond0_0 (grid0.coords t) → ¬cond0_1 (grid0.coords t) → cond0_2 (grid0.coords t) → cfg0.idle 14 (grid0.coords t) = false := by decide +kernel
/-- Output 15 in case A. -/
theorem idleAt0_15_A : ∀ t : Fin cfg0.N, cond0_0 (grid0.coords t) → cond0_1 (grid0.coords t) → ¬cond0_2 (grid0.coords t) → cfg0.idle 15 (grid0.coords t) = true := by decide +kernel
/-- Output 15 in case A. -/
theorem noFlush0_15_A : ∀ t : Fin cfg0.N, cond0_0 (grid0.coords t) → cond0_1 (grid0.coords t) → ¬cond0_2 (grid0.coords t) → (cfg0.win 15).flush t = false := by decide +kernel
/-- Output 15 in case B. -/
theorem idleAt0_15_B : ∀ t : Fin cfg0.N, ¬cond0_0 (grid0.coords t) → cond0_1 (grid0.coords t) → ¬cond0_2 (grid0.coords t) → cfg0.idle 15 (grid0.coords t) = true := by decide +kernel
/-- Output 15 in case B. -/
theorem noFlush0_15_B : ∀ t : Fin cfg0.N, ¬cond0_0 (grid0.coords t) → cond0_1 (grid0.coords t) → ¬cond0_2 (grid0.coords t) → (cfg0.win 15).flush t = false := by decide +kernel
/-- Case C stores into output 15. -/
theorem liveAt0_15_C : ∀ t : Fin cfg0.N, ¬cond0_0 (grid0.coords t) → ¬cond0_1 (grid0.coords t) → cond0_2 (grid0.coords t) → cfg0.idle 15 (grid0.coords t) = false := by decide +kernel
/-- Output 16 in case A. -/
theorem idleAt0_16_A : ∀ t : Fin cfg0.N, cond0_0 (grid0.coords t) → cond0_1 (grid0.coords t) → ¬cond0_2 (grid0.coords t) → cfg0.idle 16 (grid0.coords t) = true := by decide +kernel
/-- Output 16 in case A. -/
theorem noFlush0_16_A : ∀ t : Fin cfg0.N, cond0_0 (grid0.coords t) → cond0_1 (grid0.coords t) → ¬cond0_2 (grid0.coords t) → (cfg0.win 16).flush t = false := by decide +kernel
/-- Output 16 in case B. -/
theorem idleAt0_16_B : ∀ t : Fin cfg0.N, ¬cond0_0 (grid0.coords t) → cond0_1 (grid0.coords t) → ¬cond0_2 (grid0.coords t) → cfg0.idle 16 (grid0.coords t) = true := by decide +kernel
/-- Output 16 in case B. -/
theorem noFlush0_16_B : ∀ t : Fin cfg0.N, ¬cond0_0 (grid0.coords t) → cond0_1 (grid0.coords t) → ¬cond0_2 (grid0.coords t) → (cfg0.win 16).flush t = false := by decide +kernel
/-- Case C stores into output 16. -/
theorem liveAt0_16_C : ∀ t : Fin cfg0.N, ¬cond0_0 (grid0.coords t) → ¬cond0_1 (grid0.coords t) → cond0_2 (grid0.coords t) → cfg0.idle 16 (grid0.coords t) = false := by decide +kernel
/-- Whether output 17's buffer holds nothing that the body stored since it was last written back: a bit for every point. -/
def freshTab0_17 : ℕ → Bool
  | 0 => true
  | n + 1 => (0x200000000 : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
/-- Case A stores into output 17. -/
theorem liveAt0_17_A : ∀ t : Fin cfg0.N, cond0_0 (grid0.coords t) → cond0_1 (grid0.coords t) → ¬cond0_2 (grid0.coords t) → cfg0.idle 17 (grid0.coords t) = false := by decide +kernel
/-- Case B stores into output 17. -/
theorem liveAt0_17_B : ∀ t : Fin cfg0.N, ¬cond0_0 (grid0.coords t) → cond0_1 (grid0.coords t) → ¬cond0_2 (grid0.coords t) → cfg0.idle 17 (grid0.coords t) = false := by decide +kernel
/-- In case B output 17's buffer holds something that was stored before. -/
theorem notFresh0_17_B : ∀ t : Fin cfg0.N, ¬cond0_0 (grid0.coords t) → cond0_1 (grid0.coords t) → ¬cond0_2 (grid0.coords t) → cfg0.fresh 17 t.val = false := by
  intro t; rw [fresh0_17_eq t]; revert t; decide +kernel
/-- The last point stores nothing into output 17, -/
theorem idleAt0_17_C : ∀ t : Fin cfg0.N, ¬cond0_0 (grid0.coords t) → ¬cond0_1 (grid0.coords t) → cond0_2 (grid0.coords t) → cfg0.idle 17 (grid0.coords t) = true := by decide +kernel
/-- and writes it back. -/
theorem flushAt0_17_C : ∀ t : Fin cfg0.N, ¬cond0_0 (grid0.coords t) → ¬cond0_1 (grid0.coords t) → cond0_2 (grid0.coords t) → (cfg0.win 17).flush t = true := by decide +kernel
/-- In case C output 17's buffer holds something that was stored before. -/
theorem notFresh0_17_C : ∀ t : Fin cfg0.N, ¬cond0_0 (grid0.coords t) → ¬cond0_1 (grid0.coords t) → cond0_2 (grid0.coords t) → cfg0.fresh 17 t.val = false := by
  intro t; rw [fresh0_17_eq t]; revert t; decide +kernel

/-! ## The memrefs the body is handed -/

/-- A staging buffer of output window 12, through which what it holds is read. -/
abbrev VO0_12 : View sig .tc .vmem S128x512 .f32 := (Memref.whole cc0_stg12_0 : Memref sig .tc .vmem S128x512 .f32).view
/-- A staging buffer of output window 13, through which what it holds is read. -/
abbrev VO0_13 : View sig .tc .vmem S128x128 .f32 := (Memref.whole cc0_stg13_0 : Memref sig .tc .vmem S128x128 .f32).view
/-- A staging buffer of output window 14, through which what it holds is read. -/
abbrev VO0_14 : View sig .tc .vmem S128x128 .f32 := (Memref.whole cc0_stg14_0 : Memref sig .tc .vmem S128x128 .f32).view
/-- A staging buffer of output window 15, through which what it holds is read. -/
abbrev VO0_15 : View sig .tc .vmem S128x128 .f32 := (Memref.whole cc0_stg15_0 : Memref sig .tc .vmem S128x128 .f32).view
/-- A staging buffer of output window 16, through which what it holds is read. -/
abbrev VO0_16 : View sig .tc .vmem S128x128 .f32 := (Memref.whole cc0_stg16_0 : Memref sig .tc .vmem S128x128 .f32).view
/-- A staging buffer of output window 17, through which what it holds is read. -/
abbrev VO0_17 : View sig .tc .vmem S8x128 .f32 := (Memref.whole cc0_stg17_0 : Memref sig .tc .vmem S8x128 .f32).view
/-- Each window's current staging memref at point `t`, and that it is whole. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x128 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S128x512 .f32 := Memref.whole cc0_scratch0
abbrev scM0_1 : Memref sig .tc .vmem S384x128 .f32 := Memref.whole cc0_scratch1
abbrev scM0_2 : Memref sig .tc .vmem S384x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .f32 := Memref.whole cc0_scratch6
abbrev VS0_3 : View sig .tc .vmem S128x128 .f32 := scM0_3.view
abbrev VS0_4 : View sig .tc .vmem S128x128 .f32 := scM0_4.view
abbrev VS0_5 : View sig .tc .vmem S128x128 .f32 := scM0_5.view
abbrev VS0_6 : View sig .tc .vmem S128x128 .f32 := scM0_6.view

/-- What the region owns besides the windows: the scratch buffers at any contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.RunA.lean ====
/- The kernel's body at the first point. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point, on whole staging memrefs: what it stores into every output and every scratch buffer, as pieces (the
    last first), with the proof that the body runs and leaves those pieces. -/
noncomputable def kernelRun0_A (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S3x128x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S128x512 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128 .f32) (harg18 : arg18.IsWhole) (arg19 : Memref sig .tc .vmem S128x512 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (hc0 : cond0_0 i) (hc1 : cond0_1 i) (hc2 : ¬cond0_2 i)
    (x0 : Vec F S8 .f32) (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x128 .bf16) (x8 : Vec F S128x128 .bf16) (x9 : Vec F S3x128x128 .f32) (x10 : Vec F S3x128x128 .f32) (x11 : Vec F S3x128x128 .f32) :
    Σ' (L12 : List (View.Piece (Elt F) S128x512 .f32)), Σ' (L13 : List (View.Piece (Elt F) S128x128 .f32)), Σ' (L14 : List (View.Piece (Elt F) S128x128 .f32)), Σ' (L15 : List (View.Piece (Elt F) S128x128 .f32)), Σ' (L16 : List (View.Piece (Elt F) S128x128 .f32)), Σ' (L17 : List (View.Piece (Elt F) S8x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LT0 : List (View.Piece (Elt F) S128x512 .f32)), Σ' (LT1 : List (View.Piece (Elt F) S384x128 .f32)), { LT2 : List (View.Piece (Elt F) S384x128 .f32) //
      ∀ (xi15 : Vec F S128x128 .f32) (xi16 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi15 ∗ owns (c : Thread nD τ) arg17 fullShare xi16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xi15 ∗ owns (c : Thread nD τ) arg17 fullShare xi16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LS5) ∗ (∃ f, arg25.view.loc (c : Thread nD τ) ↦[arg25.view.set]{fullShare} arg25.view.writes (Elt F) f LS6)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, [], [], ?_, ?_, ?_, ?_, ?_, ?_, ?_, ?_, fun xi15 xi16 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hf15; obtain rfl := harg17.eq_unread hf16
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.RunB.lean ====
/- The kernel's body at a point between the first and the last. -/
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point between the first and the last, on whole staging memrefs: what it stores into every output and every scratch buffer, as pieces (the
    last first), with the proof that the body runs and leaves those pieces. -/
noncomputable def kernelRun0_B (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S3x128x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S128x512 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128 .f32) (harg18 : arg18.IsWhole) (arg19 : Memref sig .tc .vmem S128x512 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (hc0 : ¬cond0_0 i) (hc1 : cond0_1 i) (hc2 : ¬cond0_2 i)
    (x0 : Vec F S8 .f32) (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x128 .bf16) (x8 : Vec F S128x128 .bf16) (x9 : Vec F S3x128x128 .f32) (x10 : Vec F S3x128x128 .f32) (x11 : Vec F S3x128x128 .f32) (xo17 : Vec F S8x128 .f32) (xs3 : Vec F S128x128 .f32) (xs4 : Vec F S128x128 .f32) (xs5 : Vec F S128x128 .f32) (xs6 : Vec F S128x128 .f32) :
    Σ' (L12 : List (View.Piece (Elt F) S128x512 .f32)), Σ' (L13 : List (View.Piece (Elt F) S128x128 .f32)), Σ' (L14 : List (View.Piece (Elt F) S128x128 .f32)), Σ' (L15 : List (View.Piece (Elt F) S128x128 .f32)), Σ' (L16 : List (View.Piece (Elt F) S128x128 .f32)), Σ' (L17 : List (View.Piece (Elt F) S8x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LT0 : List (View.Piece (Elt F) S128x512 .f32)), Σ' (LT1 : List (View.Piece (Elt F) S384x128 .f32)), { LT2 : List (View.Piece (Elt F) S384x128 .f32) //
      ∀ (xi15 : Vec F S128x128 .f32) (xi16 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xi15 ∗ owns (c : Thread nD τ) arg17 fullShare xi16 ∗ owns (c : Thread nD τ) arg18 fullShare xo17 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs3 ∗ owns (c : Thread nD τ) arg23 fullShare xs4 ∗ owns (c : Thread nD τ) arg24 fullShare xs5 ∗ owns (c : Thread nD τ) arg25 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xi15 ∗ owns (c : Thread nD τ) arg17 fullShare xi16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LS5) ∗ (∃ f, arg25.view.loc (c : Thread nD τ) ↦[arg25.view.set]{fullShare} arg25.view.writes (Elt F) f LS6)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, [], [], ?_, ?_, ?_, ?_, ?_, ?_, ?_, ?_, fun xi15 xi16 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hf15; obtain rfl := harg17.eq_unread hf16; obtain rfl := harg18.eq_unread hf17; obtain rfl := harg22.eq_unread hfs3; obtain rfl := harg23.eq_unread hfs4; obtain rfl := harg24.eq_unread hfs5; obtain rfl := harg25.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.RunC.lean ====
/- The kernel's body at the last point. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at the last point, on whole staging memrefs: what it stores into every output and every scratch buffer, as pieces (the
    last first), with the proof that the body runs and leaves those pieces. -/
noncomputable def kernelRun0_C (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S3x128x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S128x512 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128 .f32) (harg18 : arg18.IsWhole) (arg19 : Memref sig .tc .vmem S128x512 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (hc0 : ¬cond0_0 i) (hc1 : ¬cond0_1 i) (hc2 : cond0_2 i)
    (x0 : Vec F S8 .f32) (x1 : Vec F S128x512 .bf16) (x2 : Vec F S128x512 .bf16) (x3 : Vec F S128x128 .bf16) (x4 : Vec F S128x128 .bf16) (x5 : Vec F S128x128 .bf16) (x6 : Vec F S128x128 .bf16) (x7 : Vec F S128x128 .bf16) (x8 : Vec F S128x128 .bf16) (x9 : Vec F S3x128x128 .f32) (x10 : Vec F S3x128x128 .f32) (x11 : Vec F S3x128x128 .f32) (xo12 : Vec F S128x512 .f32) (xo17 : Vec F S8x128 .f32) (xs3 : Vec F S128x128 .f32) (xs4 : Vec F S128x128 .f32) (xs5 : Vec F S128x128 .f32) (xs6 : Vec F S128x128 .f32) :
    Σ' (L12 : List (View.Piece (Elt F) S128x512 .f32)), Σ' (L13 : List (View.Piece (Elt F) S128x128 .f32)), Σ' (L14 : List (View.Piece (Elt F) S128x128 .f32)), Σ' (L15 : List (View.Piece (Elt F) S128x128 .f32)), Σ' (L16 : List (View.Piece (Elt F) S128x128 .f32)), Σ' (L17 : List (View.Piece (Elt F) S8x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LT0 : List (View.Piece (Elt F) S128x512 .f32)), Σ' (LT1 : List (View.Piece (Elt F) S384x128 .f32)), { LT2 : List (View.Piece (Elt F) S384x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs3 ∗ owns (c : Thread nD τ) arg23 fullShare xs4 ∗ owns (c : Thread nD τ) arg24 fullShare xs5 ∗ owns (c : Thread nD τ) arg25 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xo17 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs3 ∗ owns (c : Thread nD τ) arg23 fullShare xs4 ∗ owns (c : Thread nD τ) arg24 fullShare xs5 ∗ owns (c : Thread nD τ) arg25 fullShare xs6) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], ?_, ?_, ?_, ?_, [], [], [], [], [], [], [], [], fun E K => ?run⟩
  case run =>
    simp only [cc0_attn_bwd_eq_skeleton]; unfold cc0_attn_bwd_skel
    simp only [k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hf17; obtain rfl := harg22.eq_unread hfs3; obtain rfl := harg23.eq_unread hfs4; obtain rfl := harg24.eq_unread hfs5; obtain rfl := harg25.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg18.read_unread _
      iexact H17
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg22.read_unread _
      iexact HS3
    isplitl [HS4]
    · iexists _; isplitr; · ipureintro; exact harg23.read_unread _
      iexact HS4
    isplitl [HS5]
    · iexists _; isplitr; · ipureintro; exact harg24.read_unread _
      iexact HS5
    iexists _; isplitr; · ipureintro; exact harg25.read_unread _
    iexact HS6

end Cert.KernelIdeal.Gen

end
-- ==== Proof.Body.lean ====
/- The frame of the attention's backward kernel: what its buffers hold after every point of the grid, and that every fair
   execution terminates with every array at what the points wrote back. -/
module

public import proofs.«01_k».proof.Proof.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs and the carried scratch hold after every point -/

/-- What the output buffers and the scratch carried from point to point hold after a point. -/
structure Outs (F : FTy → Type) where
  o12 : Vec F S128x512 .f32
  o13 : Vec F S128x128 .f32
  o14 : Vec F S128x128 .f32
  o15 : Vec F S128x128 .f32
  o16 : Vec F S128x128 .f32
  o17 : Vec F S8x128 .f32
  s3 : Vec F S128x128 .f32
  s4 : Vec F S128x128 .f32
  s5 : Vec F S128x128 .f32
  s6 : Vec F S128x128 .f32

variable (c : Dev nD) (t : Fin cfg0.N)

/-- The body's run at a point of case A, from the blocks. -/
abbrev runA (h0 : t.val % 34 = 0) (h1 : t.val < 33) (h2 : ¬t.val % 34 = 33) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- In case A the pieces stored into `o12` cover it. -/
theorem coverA_o12 (h0 : t.val % 34 = 0) (h1 : t.val < 33) (h2 : ¬t.val % 34 = 33) (y : S128x512.Idx) :
    ∃ pc ∈ (runA m c t h0 h1 h2).1, y ∈ pc.1.set :=
  View.cover_of_tiledL (runA m c t h0 h1 h2).1 S128x512.size (by sl_kernel_rfl) y

/-- In case A the pieces stored into `o13` cover it. -/
theorem coverA_o13 (h0 : t.val % 34 = 0) (h1 : t.val < 33) (h2 : ¬t.val % 34 = 33) (y : S128x128.Idx) :
    ∃ pc ∈ (runA m c t h0 h1 h2).2.1, y ∈ pc.1.set :=
  View.cover_of_tiledL (runA m c t h0 h1 h2).2.1 S128x128.size (by sl_kernel_rfl) y

/-- In case A the pieces stored into `o14` cover it. -/
theorem coverA_o14 (h0 : t.val % 34 = 0) (h1 : t.val < 33) (h2 : ¬t.val % 34 = 33) (y : S128x128.Idx) :
    ∃ pc ∈ (runA m c t h0 h1 h2).2.2.1, y ∈ pc.1.set :=
  View.cover_of_tiledL (runA m c t h0 h1 h2).2.2.1 S128x128.size (by sl_kernel_rfl) y

/-- In case A the pieces stored into `o17` cover it. -/
theorem coverA_o17 (h0 : t.val % 34 = 0) (h1 : t.val < 33) (h2 : ¬t.val % 34 = 33) (y : S8x128.Idx) :
    ∃ pc ∈ (runA m c t h0 h1 h2).2.2.2.2.2.1, y ∈ pc.1.set :=
  View.cover_of_tiledBy (runA m c t h0 h1 h2).2.2.2.2.2.1 ![1, 128] (by sl_kernel_rfl) y

/-- In case A the pieces stored into `s3` cover it. -/
theorem coverA_s3 (h0 : t.val % 34 = 0) (h1 : t.val < 33) (h2 : ¬t.val % 34 = 33) (y : S128x128.Idx) :
    ∃ pc ∈ (runA m c t h0 h1 h2).2.2.2.2.2.2.1, y ∈ pc.1.set :=
  View.cover_of_tiledL (runA m c t h0 h1 h2).2.2.2.2.2.2.1 S128x128.size (by sl_kernel_rfl) y

/-- In case A the pieces stored into `s4` cover it. -/
theorem coverA_s4 (h0 : t.val % 34 = 0) (h1 : t.val < 33) (h2 : ¬t.val % 34 = 33) (y : S128x128.Idx) :
    ∃ pc ∈ (runA m c t h0 h1 h2).2.2.2.2.2.2.2.1, y ∈ pc.1.set :=
  View.cover_of_tiledL (runA m c t h0 h1 h2).2.2.2.2.2.2.2.1 S128x128.size (by sl_kernel_rfl) y

/-- In case A the pieces stored into `s5` cover it. -/
theorem coverA_s5 (h0 : t.val % 34 = 0) (h1 : t.val < 33) (h2 : ¬t.val % 34 = 33) (y : S128x128.Idx) :
    ∃ pc ∈ (runA m c t h0 h1 h2).2.2.2.2.2.2.2.2.1, y ∈ pc.1.set :=
  View.cover_of_tiledL (runA m c t h0 h1 h2).2.2.2.2.2.2.2.2.1 S128x128.size (by sl_kernel_rfl) y

/-- In case A the pieces stored into `s6` cover it. -/
theorem coverA_s6 (h0 : t.val % 34 = 0) (h1 : t.val < 33) (h2 : ¬t.val % 34 = 33) (y : S128x128.Idx) :
    ∃ pc ∈ (runA m c t h0 h1 h2).2.2.2.2.2.2.2.2.2.1, y ∈ pc.1.set :=
  View.cover_of_tiledL (runA m c t h0 h1 h2).2.2.2.2.2.2.2.2.2.1 S128x128.size (by sl_kernel_rfl) y

/-- What case A leaves. -/
def stepA (h0 : t.val % 34 = 0) (h1 : t.val < 33) (h2 : ¬t.val % 34 = 33) : Outs F where
  o12 := VO0_12.read (Elt F) (VO0_12.writes (Elt F) VO0_12.junk (runA m c t h0 h1 h2).1)
  o13 := VO0_13.read (Elt F) (VO0_13.writes (Elt F) VO0_13.junk (runA m c t h0 h1 h2).2.1)
  o14 := VO0_14.read (Elt F) (VO0_14.writes (Elt F) VO0_14.junk (runA m c t h0 h1 h2).2.2.1)
  o15 := VO0_15.read (Elt F) (VO0_15.writes (Elt F) VO0_15.junk (runA m c t h0 h1 h2).2.2.2.1)
  o16 := VO0_16.read (Elt F) (VO0_16.writes (Elt F) VO0_16.junk (runA m c t h0 h1 h2).2.2.2.2.1)
  o17 := VO0_17.read (Elt F) (VO0_17.writes (Elt F) VO0_17.junk (runA m c t h0 h1 h2).2.2.2.2.2.1)
  s3 := VS0_3.read (Elt F) (VS0_3.writes (Elt F) VS0_3.junk (runA m c t h0 h1 h2).2.2.2.2.2.2.1)
  s4 := VS0_4.read (Elt F) (VS0_4.writes (Elt F) VS0_4.junk (runA m c t h0 h1 h2).2.2.2.2.2.2.2.1)
  s5 := VS0_5.read (Elt F) (VS0_5.writes (Elt F) VS0_5.junk (runA m c t h0 h1 h2).2.2.2.2.2.2.2.2.1)
  s6 := VS0_6.read (Elt F) (VS0_6.writes (Elt F) VS0_6.junk (runA m c t h0 h1 h2).2.2.2.2.2.2.2.2.2.1)

/-- The body's run at a point of case B, from the blocks and what the point before left. -/
abbrev runB (h0 : ¬t.val % 34 = 0) (h1 : t.val < 33) (h2 : ¬t.val % 34 = 33) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.o17 p.s3 p.s4 p.s5 p.s6

/-- In case B the pieces stored into `o12` cover it. -/
theorem coverB_o12 (h0 : ¬t.val % 34 = 0) (h1 : t.val < 33) (h2 : ¬t.val % 34 = 33) (p : Outs F) (y : S128x512.Idx) :
    ∃ pc ∈ (runB m c t h0 h1 h2 p).1, y ∈ pc.1.set :=
  View.cover_of_tiledL (runB m c t h0 h1 h2 p).1 S128x512.size (by sl_kernel_rfl) y

/-- In case B the pieces stored into `o13` cover it. -/
theorem coverB_o13 (h0 : ¬t.val % 34 = 0) (h1 : t.val < 33) (h2 : ¬t.val % 34 = 33) (p : Outs F) (y : S128x128.Idx) :
    ∃ pc ∈ (runB m c t h0 h1 h2 p).2.1, y ∈ pc.1.set :=
  View.cover_of_tiledL (runB m c t h0 h1 h2 p).2.1 S128x128.size (by sl_kernel_rfl) y

/-- In case B the pieces stored into `o14` cover it. -/
theorem coverB_o14 (h0 : ¬t.val % 34 = 0) (h1 : t.val < 33) (h2 : ¬t.val % 34 = 33) (p : Outs F) (y : S128x128.Idx) :
    ∃ pc ∈ (runB m c t h0 h1 h2 p).2.2.1, y ∈ pc.1.set :=
  View.cover_of_tiledL (runB m c t h0 h1 h2 p).2.2.1 S128x128.size (by sl_kernel_rfl) y

/-- In case B the pieces stored into `o17` cover it. -/
theorem coverB_o17 (h0 : ¬t.val % 34 = 0) (h1 : t.val < 33) (h2 : ¬t.val % 34 = 33) (p : Outs F) (y : S8x128.Idx) :
    ∃ pc ∈ (runB m c t h0 h1 h2 p).2.2.2.2.2.1, y ∈ pc.1.set :=
  View.cover_of_tiledL (runB m c t h0 h1 h2 p).2.2.2.2.2.1 S1x128.size (by sl_kernel_rfl) y

/-- In case B the pieces stored into `s3` cover it. -/
theorem coverB_s3 (h0 : ¬t.val % 34 = 0) (h1 : t.val < 33) (h2 : ¬t.val % 34 = 33) (p : Outs F) (y : S128x128.Idx) :
    ∃ pc ∈ (runB m c t h0 h1 h2 p).2.2.2.2.2.2.1, y ∈ pc.1.set :=
  View.cover_of_tiledL (runB m c t h0 h1 h2 p).2.2.2.2.2.2.1 S128x128.size (by sl_kernel_rfl) y

/-- In case B the pieces stored into `s4` cover it. -/
theorem coverB_s4 (h0 : ¬t.val % 34 = 0) (h1 : t.val < 33) (h2 : ¬t.val % 34 = 33) (p : Outs F) (y : S128x128.Idx) :
    ∃ pc ∈ (runB m c t h0 h1 h2 p).2.2.2.2.2.2.2.1, y ∈ pc.1.set :=
  View.cover_of_tiledL (runB m c t h0 h1 h2 p).2.2.2.2.2.2.2.1 S128x128.size (by sl_kernel_rfl) y

/-- In case B the pieces stored into `s5` cover it. -/
theorem coverB_s5 (h0 : ¬t.val % 34 = 0) (h1 : t.val < 33) (h2 : ¬t.val % 34 = 33) (p : Outs F) (y : S128x128.Idx) :
    ∃ pc ∈ (runB m c t h0 h1 h2 p).2.2.2.2.2.2.2.2.1, y ∈ pc.1.set :=
  View.cover_of_tiledL (runB m c t h0 h1 h2 p).2.2.2.2.2.2.2.2.1 S128x128.size (by sl_kernel_rfl) y

/-- In case B the pieces stored into `s6` cover it. -/
theorem coverB_s6 (h0 : ¬t.val % 34 = 0) (h1 : t.val < 33) (h2 : ¬t.val % 34 = 33) (p : Outs F) (y : S128x128.Idx) :
    ∃ pc ∈ (runB m c t h0 h1 h2 p).2.2.2.2.2.2.2.2.2.1, y ∈ pc.1.set :=
  View.cover_of_tiledL (runB m c t h0 h1 h2 p).2.2.2.2.2.2.2.2.2.1 S128x128.size (by sl_kernel_rfl) y

/-- What case B leaves. -/
def stepB (h0 : ¬t.val % 34 = 0) (h1 : t.val < 33) (h2 : ¬t.val % 34 = 33) (p : Outs F) : Outs F where
  o12 := VO0_12.read (Elt F) (VO0_12.writes (Elt F) VO0_12.junk (runB m c t h0 h1 h2 p).1)
  o13 := VO0_13.read (Elt F) (VO0_13.writes (Elt F) VO0_13.junk (runB m c t h0 h1 h2 p).2.1)
  o14 := VO0_14.read (Elt F) (VO0_14.writes (Elt F) VO0_14.junk (runB m c t h0 h1 h2 p).2.2.1)
  o15 := VO0_15.read (Elt F) (VO0_15.writes (Elt F) VO0_15.junk (runB m c t h0 h1 h2 p).2.2.2.1)
  o16 := VO0_16.read (Elt F) (VO0_16.writes (Elt F) VO0_16.junk (runB m c t h0 h1 h2 p).2.2.2.2.1)
  o17 := VO0_17.read (Elt F) (VO0_17.writes (Elt F) VO0_17.junk (runB m c t h0 h1 h2 p).2.2.2.2.2.1)
  s3 := VS0_3.read (Elt F) (VS0_3.writes (Elt F) VS0_3.junk (runB m c t h0 h1 h2 p).2.2.2.2.2.2.1)
  s4 := VS0_4.read (Elt F) (VS0_4.writes (Elt F) VS0_4.junk (runB m c t h0 h1 h2 p).2.2.2.2.2.2.2.1)
  s5 := VS0_5.read (Elt F) (VS0_5.writes (Elt F) VS0_5.junk (runB m c t h0 h1 h2 p).2.2.2.2.2.2.2.2.1)
  s6 := VS0_6.read (Elt F) (VS0_6.writes (Elt F) VS0_6.junk (runB m c t h0 h1 h2 p).2.2.2.2.2.2.2.2.2.1)

/-- The body's run at a point of case C, from the blocks and what the point before left. -/
abbrev runC (h0 : ¬t.val % 34 = 0) (h1 : ¬t.val < 33) (h2 : t.val % 34 = 33) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.o12 p.o17 p.s3 p.s4 p.s5 p.s6

/-- In case C the pieces stored into `o13` cover it. -/
theorem coverC_o13 (h0 : ¬t.val % 34 = 0) (h1 : ¬t.val < 33) (h2 : t.val % 34 = 33) (p : Outs F) (y : S128x128.Idx) :
    ∃ pc ∈ (runC m c t h0 h1 h2 p).2.1, y ∈ pc.1.set :=
  View.cover_of_tiledL (runC m c t h0 h1 h2 p).2.1 S128x128.size (by sl_kernel_rfl) y

/-- In case C the pieces stored into `o14` cover it. -/
theorem coverC_o14 (h0 : ¬t.val % 34 = 0) (h1 : ¬t.val < 33) (h2 : t.val % 34 = 33) (p : Outs F) (y : S128x128.Idx) :
    ∃ pc ∈ (runC m c t h0 h1 h2 p).2.2.1, y ∈ pc.1.set :=
  View.cover_of_tiledL (runC m c t h0 h1 h2 p).2.2.1 S128x128.size (by sl_kernel_rfl) y

/-- In case C the pieces stored into `o15` cover it. -/
theorem coverC_o15 (h0 : ¬t.val % 34 = 0) (h1 : ¬t.val < 33) (h2 : t.val % 34 = 33) (p : Outs F) (y : S128x128.Idx) :
    ∃ pc ∈ (runC m c t h0 h1 h2 p).2.2.2.1, y ∈ pc.1.set :=
  View.cover_of_tiledL (runC m c t h0 h1 h2 p).2.2.2.1 S128x128.size (by sl_kernel_rfl) y

/-- In case C the pieces stored into `o16` cover it. -/
theorem coverC_o16 (h0 : ¬t.val % 34 = 0) (h1 : ¬t.val < 33) (h2 : t.val % 34 = 33) (p : Outs F) (y : S128x128.Idx) :
    ∃ pc ∈ (runC m c t h0 h1 h2 p).2.2.2.2.1, y ∈ pc.1.set :=
  View.cover_of_tiledL (runC m c t h0 h1 h2 p).2.2.2.2.1 S128x128.size (by sl_kernel_rfl) y

/-- What case C leaves. -/
def stepC (h0 : ¬t.val % 34 = 0) (h1 : ¬t.val < 33) (h2 : t.val % 34 = 33) (p : Outs F) : Outs F where
  o12 := p.o12
  o13 := VO0_13.read (Elt F) (VO0_13.writes (Elt F) VO0_13.junk (runC m c t h0 h1 h2 p).2.1)
  o14 := VO0_14.read (Elt F) (VO0_14.writes (Elt F) VO0_14.junk (runC m c t h0 h1 h2 p).2.2.1)
  o15 := VO0_15.read (Elt F) (VO0_15.writes (Elt F) VO0_15.junk (runC m c t h0 h1 h2 p).2.2.2.1)
  o16 := VO0_16.read (Elt F) (VO0_16.writes (Elt F) VO0_16.junk (runC m c t h0 h1 h2 p).2.2.2.2.1)
  o17 := p.o17
  s3 := p.s3
  s4 := p.s4
  s5 := p.s5
  s6 := p.s6

omit t in
/-- The step of point `n + 1`, by its place in the grid, from what the point before left. -/
def stepAt (n : ℕ) (hn : n + 1 < cfg0.N) (p : Outs F) : Outs F :=
  have hN : n + 1 < 34 := lt_of_lt_of_eq hn (show cfg0.N = 34 from N_0)
  if h1 : n + 1 < 33 then
    stepB m c ⟨n + 1, hn⟩ (by show ¬((n + 1) % 34 = 0); omega) h1 (by show ¬((n + 1) % 34 = 33); omega) p
  else
    stepC m c ⟨n + 1, hn⟩ (by show ¬((n + 1) % 34 = 0); omega) h1 (by show (n + 1) % 34 = 33; omega) p

omit t in
/-- What the buffers hold after point `n`: the case of the point, from what the point before left. -/
def outsAt0 : (n : ℕ) → n < cfg0.N → Outs F
  | 0, hn => stepA m c ⟨0, hn⟩ (Nat.zero_mod _) (by show 0 < 33; decide) (by show ¬(0 % 34 = 33); omega)
  | n + 1, hn => stepAt m c n hn (outsAt0 n (Nat.lt_of_succ_lt hn))

/-- The point before. -/
abbrev prevAt : Outs F := outsAt0 m c (t.val - 1) (Nat.lt_of_le_of_lt (Nat.sub_le _ _) t.isLt)

theorem outsAt0_A (h0 : t.val % 34 = 0) (h1 : t.val < 33) (h2 : ¬t.val % 34 = 33) : outsAt0 m c t.val t.isLt = stepA m c t h0 h1 h2 := by
  obtain ⟨n, hn⟩ := t
  have hN : n < 34 := lt_of_lt_of_eq hn (show cfg0.N = 34 from N_0)
  cases n with
  | zero => rfl
  | succ n => exfalso; dsimp only at h0; omega

omit t in
theorem outsAt0_succ_lt (n : ℕ) (hn : n + 1 < cfg0.N) (h0 : ¬(n + 1) % 34 = 0) (h1 : n + 1 < 33) (h2 : ¬(n + 1) % 34 = 33) :
    outsAt0 m c (n + 1) hn = stepB m c ⟨n + 1, hn⟩ h0 h1 h2 (outsAt0 m c n (Nat.lt_of_succ_lt hn)) := by
  show stepAt m c n hn _ = _
  unfold stepAt; exact dif_pos h1

omit t in
theorem outsAt0_succ_ge (n : ℕ) (hn : n + 1 < cfg0.N) (h0 : ¬(n + 1) % 34 = 0) (h1 : ¬n + 1 < 33) (h2 : (n + 1) % 34 = 33) :
    outsAt0 m c (n + 1) hn = stepC m c ⟨n + 1, hn⟩ h0 h1 h2 (outsAt0 m c n (Nat.lt_of_succ_lt hn)) := by
  show stepAt m c n hn _ = _
  unfold stepAt; exact dif_neg h1

theorem outsAt0_B (h0 : ¬t.val % 34 = 0) (h1 : t.val < 33) (h2 : ¬t.val % 34 = 33) : outsAt0 m c t.val t.isLt = stepB m c t h0 h1 h2 (prevAt m c t) := by
  obtain ⟨n, hn⟩ := t
  cases n with
  | zero => exact absurd (Nat.zero_mod _) h0
  | succ n => exact outsAt0_succ_lt m c n hn h0 h1 h2

theorem outsAt0_C (h0 : ¬t.val % 34 = 0) (h1 : ¬t.val < 33) (h2 : t.val % 34 = 33) : outsAt0 m c t.val t.isLt = stepC m c t h0 h1 h2 (prevAt m c t) := by
  obtain ⟨n, hn⟩ := t
  cases n with
  | zero => exact absurd (Nat.zero_mod _) h0
  | succ n => exact outsAt0_succ_ge m c n hn h0 h1 h2

omit t

/-- What the kernel holds before point `n` besides the windows: before the first point every scratch buffer at anything;
    afterwards the carried scratch at what the point before left, the other scratch at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6)) ∗ (∃ r, prngReg c r)) := by
  cases n with
  | zero => exact absurd rfl hz
  | succ n => rfl

/-! ## The pipeline's proof data -/

/-- The data of the pipeline: the arrays as it finds them; after a point every input's buffer at its block and the outputs' at
    `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).o12
    | ⟨13, _⟩ => (outsAt0 m c t.val t.isLt).o13
    | ⟨14, _⟩ => (outsAt0 m c t.val t.isLt).o14
    | ⟨15, _⟩ => (outsAt0 m c t.val t.isLt).o15
    | ⟨16, _⟩ => (outsAt0 m c t.val t.isLt).o16
    | ⟨17, _⟩ => (outsAt0 m c t.val t.isLt).o17
    | ⟨_ + 18, h⟩ => absurd h (Nat.not_lt.2 (Nat.le_add_left _ _))
  Φ t := PhiS m c t.val (Nat.le_of_lt_succ t.isLt)
  q w := Pipeline.shareOf spec0 w
  owed _ := 0

/-- The arrays as the region finds them. -/
theorem A_eq (c : Dev nD) (w : Fin cfg0.W) : (dats m 0 c).A w = V m c (Pipeline.arrRef spec0 w) := by
  dsimp only [dats]

/-- The invariant where a point begins. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).o12 := by dsimp only [dats]
theorem after0_13 (c : Dev nD) (t : Fin cfg0.N) : (dats m 0 c).after 13 t = (outsAt0 m c t.val t.isLt).o13 := by dsimp only [dats]
theorem after0_14 (c : Dev nD) (t : Fin cfg0.N) : (dats m 0 c).after 14 t = (outsAt0 m c t.val t.isLt).o14 := by dsimp only [dats]
theorem after0_15 (c : Dev nD) (t : Fin cfg0.N) : (dats m 0 c).after 15 t = (outsAt0 m c t.val t.isLt).o15 := by dsimp only [dats]
theorem after0_16 (c : Dev nD) (t : Fin cfg0.N) : (dats m 0 c).after 16 t = (outsAt0 m c t.val t.isLt).o16 := by dsimp only [dats]
theorem after0_17 (c : Dev nD) (t : Fin cfg0.N) : (dats m 0 c).after 17 t = (outsAt0 m c t.val t.isLt).o17 := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Where nothing is stored into output 12 it holds what the point before left. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 34 := lt_of_lt_of_eq t.isLt (show cfg0.N = 34 from N_0)
  rw [after0_12, after0_12]
  by_cases h0 : t.val % 34 = 0
  · by_cases h1 : t.val < 33
    · by_cases h2 : t.val % 34 = 33
      · exfalso; omega
      · rw [liveAt0_12_A t ((hcond0_0 t).mpr h0) ((hcond0_1 t).mpr h1) (fun h => h2 ((hcond0_2 t).mp h))] at hi
        exact absurd hi Bool.false_ne_true
    · exfalso; omega
  · by_cases h1 : t.val < 33
    · by_cases h2 : t.val % 34 = 33
      · exfalso; omega
      · rw [liveAt0_12_B t (fun h => h0 ((hcond0_0 t).mp h)) ((hcond0_1 t).mpr h1) (fun h => h2 ((hcond0_2 t).mp h))] at hi
        exact absurd hi Bool.false_ne_true
    · by_cases h2 : t.val % 34 = 33
      · rw [outsAt0_C m c t h0 h1 h2]; rfl
      · exfalso; omega

/-- Where nothing is stored into output 17 it holds what the point before left. -/
theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 34 := lt_of_lt_of_eq t.isLt (show cfg0.N = 34 from N_0)
  rw [after0_17, after0_17]
  by_cases h0 : t.val % 34 = 0
  · by_cases h1 : t.val < 33
    · by_cases h2 : t.val % 34 = 33
      · exfalso; omega
      · rw [liveAt0_17_A t ((hcond0_0 t).mpr h0) ((hcond0_1 t).mpr h1) (fun h => h2 ((hcond0_2 t).mp h))] at hi
        exact absurd hi Bool.false_ne_true
    · exfalso; omega
  · by_cases h1 : t.val < 33
    · by_cases h2 : t.val % 34 = 33
      · exfalso; omega
      · rw [liveAt0_17_B t (fun h => h0 ((hcond0_0 t).mp h)) ((hcond0_1 t).mpr h1) (fun h => h2 ((hcond0_2 t).mp h))] at hi
        exact absurd hi Bool.false_ne_true
    · by_cases h2 : t.val % 34 = 33
      · rw [outsAt0_C m c t h0 h1 h2]; rfl
      · exfalso; omega
/-- At a point of case B output 17's buffer holds what the point before left. -/
theorem before0_17_B (c : Dev nD) (t : Fin cfg0.N) (h0 : ¬t.val % 34 = 0) (h1 : t.val < 33) (h2 : ¬t.val % 34 = 33) (d) :
    (dats m 0 c).before 17 t d = (prevAt m c t).o17 := by
  rw [Dat.before_out_traj _ 17 rfl (fun _ _ => rfl) (hcarry0_17 m c) t.val t rfl d,
    if_neg (by rw [notFresh0_17_B t (fun h => h0 ((hcond0_0 t).mp h)) ((hcond0_1 t).mpr h1) (fun h => h2 ((hcond0_2 t).mp h))]; exact Bool.false_ne_true)]
  dsimp only [dats]
/-- At a point of case C output 12's buffer holds what the point before left. -/
theorem before0_12_C (c : Dev nD) (t : Fin cfg0.N) (h0 : ¬t.val % 34 = 0) (h1 : ¬t.val < 33) (h2 : t.val % 34 = 33) (d) :
    (dats m 0 c).before 12 t d = (prevAt m c t).o12 := by
  rw [Dat.before_out_traj _ 12 rfl (fun _ _ => rfl) (hcarry0_12 m c) t.val t rfl d,
    if_neg (by rw [notFresh0_12_C t (fun h => h0 ((hcond0_0 t).mp h)) (fun h => h1 ((hcond0_1 t).mp h)) ((hcond0_2 t).mpr h2)]; exact Bool.false_ne_true)]
  dsimp only [dats]
/-- At a point of case C output 17's buffer holds what the point before left. -/
theorem before0_17_C (c : Dev nD) (t : Fin cfg0.N) (h0 : ¬t.val % 34 = 0) (h1 : ¬t.val < 33) (h2 : t.val % 34 = 33) (d) :
    (dats m 0 c).before 17 t d = (prevAt m c t).o17 := by
  rw [Dat.before_out_traj _ 17 rfl (fun _ _ => rfl) (hcarry0_17 m c) t.val t rfl d,
    if_neg (by rw [notFresh0_17_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

theorem leaves0_0 (c : Dev nD) (t : Fin cfg0.N) : (dats m 0 c).leavesExact 0 t = owns (c : Thread nD τ) (ms0_0 t) fullShare (iblk m c 0 t) := by
  unfold Dat.leavesExact; rw [liveAt0_0 t]; dsimp only; rw [after0_0]

theorem leaves0_1 (c : Dev nD) (t : Fin cfg0.N) : (dats m 0 c).leavesExact 1 t = owns (c : Thread nD τ) (ms0_1 t) fullShare (iblk m c 1 t) := by
  unfold Dat.leavesExact; rw [liveAt0_1 t]; dsimp only; rw [after0_1]

theorem leaves0_2 (c : Dev nD) (t : Fin cfg0.N) : (dats m 0 c).leavesExact 2 t = owns (c : Thread nD τ) (ms0_2 t) fullShare (iblk m c 2 t) := by
  unfold Dat.leavesExact; rw [liveAt0_2 t]; dsimp only; rw [after0_2]

theorem leaves0_3 (c : Dev nD) (t : Fin cfg0.N) : (dats m 0 c).leavesExact 3 t = owns (c : Thread nD τ) (ms0_3 t) fullShare (iblk m c 3 t) := by
  unfold Dat.leavesExact; rw [liveAt0_3 t]; dsimp only; rw [after0_3]

theorem leaves0_4 (c : Dev nD) (t : Fin cfg0.N) : (dats m 0 c).leavesExact 4 t = owns (c : Thread nD τ) (ms0_4 t) fullShare (iblk m c 4 t) := by
  unfold Dat.leavesExact; rw [liveAt0_4 t]; dsimp only; rw [after0_4]

theorem leaves0_5 (c : Dev nD) (t : Fin cfg0.N) : (dats m 0 c).leavesExact 5 t = owns (c : Thread nD τ) (ms0_5 t) fullShare (iblk m c 5 t) := by
  unfold Dat.leavesExact; rw [liveAt0_5 t]; dsimp only; rw [after0_5]

theorem leaves0_6 (c : Dev nD) (t : Fin cfg0.N) : (dats m 0 c).leavesExact 6 t = owns (c : Thread nD τ) (ms0_6 t) fullShare (iblk m c 6 t) := by
  unfold Dat.leavesExact; rw [liveAt0_6 t]; dsimp only; rw [after0_6]

theorem leaves0_7 (c : Dev nD) (t : Fin cfg0.N) : (dats m 0 c).leavesExact 7 t = owns (c : Thread nD τ) (ms0_7 t) fullShare (iblk m c 7 t) := by
  unfold Dat.leavesExact; rw [liveAt0_7 t]; dsimp only; rw [after0_7]

theorem leaves0_8 (c : Dev nD) (t : Fin cfg0.N) : (dats m 0 c).leavesExact 8 t = owns (c : Thread nD τ) (ms0_8 t) fullShare (iblk m c 8 t) := by
  unfold Dat.leavesExact; rw [liveAt0_8 t]; dsimp only; rw [after0_8]

theorem leaves0_9 (c : Dev nD) (t : Fin cfg0.N) : (dats m 0 c).leavesExact 9 t = owns (c : Thread nD τ) (ms0_9 t) fullShare (iblk m c 9 t) := by
  unfold Dat.leavesExact; rw [liveAt0_9 t]; dsimp only; rw [after0_9]

theorem leaves0_10 (c : Dev nD) (t : Fin cfg0.N) : (dats m 0 c).leavesExact 10 t = owns (c : Thread nD τ) (ms0_10 t) fullShare (iblk m c 10 t) := by
  unfold Dat.leavesExact; rw [liveAt0_10 t]; dsimp only; rw [after0_10]

theorem leaves0_11 (c : Dev nD) (t : Fin cfg0.N) : (dats m 0 c).leavesExact 11 t = owns (c : Thread nD τ) (ms0_11 t) fullShare (iblk m c 11 t) := by
  unfold Dat.leavesExact; rw [liveAt0_11 t]; dsimp only; rw [after0_11]

set_option maxHeartbeats 28800000 in
/-- The body at the first point. -/
theorem sound_A (c : Dev nD) (t : Fin cfg0.N) (h0 : t.val % 34 = 0) (h1 : t.val < 33) (h2 : ¬t.val % 34 = 33) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0]
  rw [leaves0_1]
  rw [leaves0_2]
  rw [leaves0_3]
  rw [leaves0_4]
  rw [leaves0_5]
  rw [leaves0_6]
  rw [leaves0_7]
  rw [leaves0_8]
  rw [leaves0_9]
  rw [leaves0_10]
  rw [leaves0_11]
  rw [show (dats m 0 c).leavesExact 12 t = owns (c : Thread nD τ) (ms0_12 t) fullShare ((dats m 0 c).after 12 t) from by
    unfold Dat.leavesExact; rw [liveAt0_12_A t ((hcond0_0 t).mpr h0) ((hcond0_1 t).mpr h1) (fun h => h2 ((hcond0_2 t).mp h))], after0_12]
  rw [show (dats m 0 c).leavesExact 13 t = owns (c : Thread nD τ) (ms0_13 t) fullShare ((dats m 0 c).after 13 t) from by
    unfold Dat.leavesExact; rw [liveAt0_13_A t ((hcond0_0 t).mpr h0) ((hcond0_1 t).mpr h1) (fun h => h2 ((hcond0_2 t).mp h))], after0_13]
  rw [show (dats m 0 c).leavesExact 14 t = owns (c : Thread nD τ) (ms0_14 t) fullShare ((dats m 0 c).after 14 t) from by
    unfold Dat.leavesExact; rw [liveAt0_14_A t ((hcond0_0 t).mpr h0) ((hcond0_1 t).mpr h1) (fun h => h2 ((hcond0_2 t).mp h))], after0_14]
  rw [Dat.leavesExact_idle (dats m 0 c) 15 t (idleAt0_15_A t ((hcond0_0 t).mpr h0) ((hcond0_1 t).mpr h1) (fun h => h2 ((hcond0_2 t).mp h))) (noFlush0_15_A t ((hcond0_0 t).mpr h0) ((hcond0_1 t).mpr h1) (fun h => h2 ((hcond0_2 t).mp h)))]
  rw [Dat.leavesExact_idle (dats m 0 c) 16 t (idleAt0_16_A t ((hcond0_0 t).mpr h0) ((hcond0_1 t).mpr h1) (fun h => h2 ((hcond0_2 t).mp h))) (noFlush0_16_A t ((hcond0_0 t).mpr h0) ((hcond0_1 t).mpr h1) (fun h => h2 ((hcond0_2 t).mp h)))]
  rw [show (dats m 0 c).leavesExact 17 t = owns (c : Thread nD τ) (ms0_17 t) fullShare ((dats m 0 c).after 17 t) from by
    unfold Dat.leavesExact; rw [liveAt0_17_A t ((hcond0_0 t).mpr h0) ((hcond0_1 t).mpr h1) (fun h => h2 ((hcond0_2 t).mp h))], after0_17]
  rw [PhiS_castSucc m c t, PhiS_zero m c _ _ hz, PhiA0_eq]
  rw [outsAt0_A m c t h0 h1 h2]
  unfold stepA; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA m c t h0 h1 h2).2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%e12, H12⟩, ⟨%e13, H13⟩, ⟨%e14, H14⟩, H15, H16, ⟨%e17, H17⟩, ⟨%fT0, HS0⟩, ⟨%fT1, HS1⟩, ⟨%fT2, HS2⟩, ⟨%es3, HS3⟩, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact View.read_writes_of_cover _ _ _ _ _ (coverA_s3 m c t h0 h1 h2)
      isplitl [HS4]
      · unfold owns; iexists _; isplitr
        swap; · iexact HS4
        ipureintro; exact View.read_writes_of_cover _ _ _ _ _ (coverA_s4 m c t h0 h1 h2)
      isplitl [HS5]
      · unfold owns; iexists _; isplitr
        swap; · iexact HS5
        ipureintro; exact View.read_writes_of_cover _ _ _ _ _ (coverA_s5 m c t h0 h1 h2)
      unfold owns; iexists _; isplitr
      swap; · iexact HS6
      ipureintro; exact View.read_writes_of_cover _ _ _ _ _ (coverA_s6 m c t h0 h1 h2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverA_o12 m c t h0 h1 h2)
  isplitl [H13]
  · unfold owns; iexists _; isplitr
    swap; · iexact H13
    ipureintro; exact View.read_writes_of_cover _ _ _ _ _ (coverA_o13 m c t h0 h1 h2)
  isplitl [H14]
  · unfold owns; iexists _; isplitr
    swap; · iexact H14
    ipureintro; exact View.read_writes_of_cover _ _ _ _ _ (coverA_o14 m c t h0 h1 h2)
  isplitl [H15]; · iexists _; iexact H15
  isplitl [H16]; · iexists _; iexact H16
  unfold owns; iexists _; isplitr
  swap; · iexact H17
  ipureintro; exact View.read_writes_of_cover _ _ _ _ _ (coverA_o17 m c t h0 h1 h2)

set_option maxHeartbeats 28800000 in
/-- The body at a point between. -/
theorem sound_B (c : Dev nD) (t : Fin cfg0.N) (h0 : ¬t.val % 34 = 0) (h1 : t.val < 33) (h2 : ¬t.val % 34 = 33) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0]
  rw [leaves0_1]
  rw [leaves0_2]
  rw [leaves0_3]
  rw [leaves0_4]
  rw [leaves0_5]
  rw [leaves0_6]
  rw [leaves0_7]
  rw [leaves0_8]
  rw [leaves0_9]
  rw [leaves0_10]
  rw [leaves0_11]
  rw [show (dats m 0 c).leavesExact 12 t = owns (c : Thread nD τ) (ms0_12 t) fullShare ((dats m 0 c).after 12 t) from by
    unfold Dat.leavesExact; rw [liveAt0_12_B t (fun h => h0 ((hcond0_0 t).mp h)) ((hcond0_1 t).mpr h1) (fun h => h2 ((hcond0_2 t).mp h))], after0_12]
  rw [show (dats m 0 c).leavesExact 13 t = owns (c : Thread nD τ) (ms0_13 t) fullShare ((dats m 0 c).after 13 t) from by
    unfold Dat.leavesExact; rw [liveAt0_13_B t (fun h => h0 ((hcond0_0 t).mp h)) ((hcond0_1 t).mpr h1) (fun h => h2 ((hcond0_2 t).mp h))], after0_13]
  rw [show (dats m 0 c).leavesExact 14 t = owns (c : Thread nD τ) (ms0_14 t) fullShare ((dats m 0 c).after 14 t) from by
    unfold Dat.leavesExact; rw [liveAt0_14_B t (fun h => h0 ((hcond0_0 t).mp h)) ((hcond0_1 t).mpr h1) (fun h => h2 ((hcond0_2 t).mp h))], after0_14]
  rw [Dat.leavesExact_idle (dats m 0 c) 15 t (idleAt0_15_B t (fun h => h0 ((hcond0_0 t).mp h)) ((hcond0_1 t).mpr h1) (fun h => h2 ((hcond0_2 t).mp h))) (noFlush0_15_B t (fun h => h0 ((hcond0_0 t).mp h)) ((hcond0_1 t).mpr h1) (fun h => h2 ((hcond0_2 t).mp h)))]
  rw [Dat.leavesExact_idle (dats m 0 c) 16 t (idleAt0_16_B t (fun h => h0 ((hcond0_0 t).mp h)) ((hcond0_1 t).mpr h1) (fun h => h2 ((hcond0_2 t).mp h))) (noFlush0_16_B t (fun h => h0 ((hcond0_0 t).mp h)) ((hcond0_1 t).mpr h1) (fun h => h2 ((hcond0_2 t).mp h)))]
  rw [show (dats m 0 c).leavesExact 17 t = owns (c : Thread nD τ) (ms0_17 t) fullShare ((dats m 0 c).after 17 t) from by
    unfold Dat.leavesExact; rw [liveAt0_17_B t (fun h => h0 ((hcond0_0 t).mp h)) ((hcond0_1 t).mpr h1) (fun h => h2 ((hcond0_2 t).mp h))], after0_17]
  rw [PhiS_castSucc m c t, PhiS_pos m c _ _ hz]
  rw [outsAt0_B m c t h0 h1 h2]
  simp only [before0_17_B m c t h0 h1 h2]
  unfold stepB; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB m c t h0 h1 h2 (prevAt m c t)).2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%e12, H12⟩, ⟨%e13, H13⟩, ⟨%e14, H14⟩, H15, H16, ⟨%e17, H17⟩, ⟨%fT0, HS0⟩, ⟨%fT1, HS1⟩, ⟨%fT2, HS2⟩, ⟨%es3, HS3⟩, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact View.read_writes_of_cover _ _ _ _ _ (coverB_s3 m c t h0 h1 h2 (prevAt m c t))
      isplitl [HS4]
      · unfold owns; iexists _; isplitr
        swap; · iexact HS4
        ipureintro; exact View.read_writes_of_cover _ _ _ _ _ (coverB_s4 m c t h0 h1 h2 (prevAt m c t))
      isplitl [HS5]
      · unfold owns; iexists _; isplitr
        swap; · iexact HS5
        ipureintro; exact View.read_writes_of_cover _ _ _ _ _ (coverB_s5 m c t h0 h1 h2 (prevAt m c t))
      unfold owns; iexists _; isplitr
      swap; · iexact HS6
      ipureintro; exact View.read_writes_of_cover _ _ _ _ _ (coverB_s6 m c t h0 h1 h2 (prevAt m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverB_o12 m c t h0 h1 h2 (prevAt m c t))
  isplitl [H13]
  · unfold owns; iexists _; isplitr
    swap; · iexact H13
    ipureintro; exact View.read_writes_of_cover _ _ _ _ _ (coverB_o13 m c t h0 h1 h2 (prevAt m c t))
  isplitl [H14]
  · unfold owns; iexists _; isplitr
    swap; · iexact H14
    ipureintro; exact View.read_writes_of_cover _ _ _ _ _ (coverB_o14 m c t h0 h1 h2 (prevAt m c t))
  isplitl [H15]; · iexists _; iexact H15
  isplitl [H16]; · iexists _; iexact H16
  unfold owns; iexists _; isplitr
  swap; · iexact H17
  ipureintro; exact View.read_writes_of_cover _ _ _ _ _ (coverB_o17 m c t h0 h1 h2 (prevAt m c t))

set_option maxHeartbeats 28800000 in
/-- The body at the last point. -/
theorem sound_C (c : Dev nD) (t : Fin cfg0.N) (h0 : ¬t.val % 34 = 0) (h1 : ¬t.val < 33) (h2 : t.val % 34 = 33) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0]
  rw [leaves0_1]
  rw [leaves0_2]
  rw [leaves0_3]
  rw [leaves0_4]
  rw [leaves0_5]
  rw [leaves0_6]
  rw [leaves0_7]
  rw [leaves0_8]
  rw [leaves0_9]
  rw [leaves0_10]
  rw [leaves0_11]
  rw [show (dats m 0 c).leavesExact 12 t = owns (c : Thread nD τ) (ms0_12 t) fullShare ((dats m 0 c).after 12 t) from by
    unfold Dat.leavesExact; rw [idleAt0_12_C t (fun h => h0 ((hcond0_0 t).mp h)) (fun h => h1 ((hcond0_1 t).mp h)) ((hcond0_2 t).mpr h2), flushAt0_12_C t (fun h => h0 ((hcond0_0 t).mp h)) (fun h => h1 ((hcond0_1 t).mp h)) ((hcond0_2 t).mpr h2)], after0_12]
  rw [show (dats m 0 c).leavesExact 13 t = owns (c : Thread nD τ) (ms0_13 t) fullShare ((dats m 0 c).after 13 t) from by
    unfold Dat.leavesExact; rw [liveAt0_13_C t (fun h => h0 ((hcond0_0 t).mp h)) (fun h => h1 ((hcond0_1 t).mp h)) ((hcond0_2 t).mpr h2)], after0_13]
  rw [show (dats m 0 c).leavesExact 14 t = owns (c : Thread nD τ) (ms0_14 t) fullShare ((dats m 0 c).after 14 t) from by
    unfold Dat.leavesExact; rw [liveAt0_14_C t (fun h => h0 ((hcond0_0 t).mp h)) (fun h => h1 ((hcond0_1 t).mp h)) ((hcond0_2 t).mpr h2)], after0_14]
  rw [show (dats m 0 c).leavesExact 15 t = owns (c : Thread nD τ) (ms0_15 t) fullShare ((dats m 0 c).after 15 t) from by
    unfold Dat.leavesExact; rw [liveAt0_15_C t (fun h => h0 ((hcond0_0 t).mp h)) (fun h => h1 ((hcond0_1 t).mp h)) ((hcond0_2 t).mpr h2)], after0_15]
  rw [show (dats m 0 c).leavesExact 16 t = owns (c : Thread nD τ) (ms0_16 t) fullShare ((dats m 0 c).after 16 t) from by
    unfold Dat.leavesExact; rw [liveAt0_16_C t (fun h => h0 ((hcond0_0 t).mp h)) (fun h => h1 ((hcond0_1 t).mp h)) ((hcond0_2 t).mpr h2)], after0_16]
  rw [show (dats m 0 c).leavesExact 17 t = owns (c : Thread nD τ) (ms0_17 t) fullShare ((dats m 0 c).after 17 t) from by
    unfold Dat.leavesExact; rw [idleAt0_17_C t (fun h => h0 ((hcond0_0 t).mp h)) (fun h => h1 ((hcond0_1 t).mp h)) ((hcond0_2 t).mpr h2), flushAt0_17_C t (fun h => h0 ((hcond0_0 t).mp h)) (fun h => h1 ((hcond0_1 t).mp h)) ((hcond0_2 t).mpr h2)], after0_17]
  rw [PhiS_castSucc m c t, PhiS_pos m c _ _ hz]
  rw [outsAt0_C m c t h0 h1 h2]
  simp only [before0_12_C m c t h0 h1 h2, before0_17_C m c t h0 h1 h2]
  unfold stepC; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC m c t h0 h1 h2 (prevAt m c t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, ⟨%e13, H13⟩, ⟨%e14, H14⟩, ⟨%e15, H15⟩, ⟨%e16, H16⟩, H17, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (coverC_o13 m c t h0 h1 h2 (prevAt m c t))
  isplitl [H14]
  · unfold owns; iexists _; isplitr
    swap; · iexact H14
    ipureintro; exact View.read_writes_of_cover _ _ _ _ _ (coverC_o14 m c t h0 h1 h2 (prevAt m c t))
  isplitl [H15]
  · unfold owns; iexists _; isplitr
    swap; · iexact H15
    ipureintro; exact View.read_writes_of_cover _ _ _ _ _ (coverC_o15 m c t h0 h1 h2 (prevAt m c t))
  isplitl [H16]
  · unfold owns; iexists _; isplitr
    swap; · iexact H16
    ipureintro; exact View.read_writes_of_cover _ _ _ _ _ (coverC_o16 m c t h0 h1 h2 (prevAt m c t))
  iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  by_cases h0 : t.val % 34 = 0
  · exact sound_A m c t h0 (by omega) (by omega) (by omega)
  · by_cases h1 : t.val < 33
    · exact sound_B m c t h0 h1 (by omega) (by omega)
    · exact sound_C m c t h0 h1 (by omega) (by omega)

/-- The body that the table holds for point `t`. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexact HS2
    isplitl [HS3]
    · iexists _; iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 34 := N_0; omega)

/-! ## The run and the frame -/

set_option backward.isDefEq.respectTransparency.types false in
/-- The run of the whole program, and every counter at zero where it ends. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every fair execution terminates, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Spec.lean ====
/- One head's tile of the attention's gradient over the reals, and the few facts about extended reals that bring
   both programs to it. -/
module

public import Idealize.ShloMosaic.PureOps.Ideal

@[expose] public section

noncomputable section

namespace Cert.Attn

open Idealize.ShloMosaic
open scoped BigOperators

/-- The data of one block of 128 queries of one head against the columns `ι` of its keys: the queries, the keys, the
    values, the cotangent of the output, which columns a query may see, and the sink's logit. -/
structure Tile (ι : Type) where
  q : Fin 128 → Fin 64 → ℝ
  k : ι → Fin 64 → ℝ
  v : ι → Fin 64 → ℝ
  o : Fin 128 → Fin 64 → ℝ
  b : Fin 128 → ι → Bool
  x : ℝ

namespace Tile

variable {ι : Type} [Fintype ι] (T : Tile ι)

/-- The scaled score of query `r` and column `j`. -/
def s (r : Fin 128) (j : ι) : ℝ := (∑ d, T.q r d * T.k j d) * (1 / 8)
/-- The weight of a column: the exponential of its score, and zero where it is masked. -/
def w (r : Fin 128) (j : ι) : ℝ := if T.b r j then Real.exp (T.s r j) else 0
/-- The sum of the weights, the sink's included. -/
def z (r : Fin 128) : ℝ := ∑ j, T.w r j + Real.exp T.x
/-- The probability of a column. -/
def p (r : Fin 128) (j : ι) : ℝ := T.w r j / T.z r
/-- The probability of the sink. -/
def ps (r : Fin 128) : ℝ := Real.exp T.x / T.z r
/-- The gradient of a probability. -/
def dp (r : Fin 128) (j : ι) : ℝ := ∑ d, T.o r d * T.v j d
/-- The mean of those gradients under the probabilities. -/
def dl (r : Fin 128) : ℝ := ∑ j, T.p r j * T.dp r j
/-- The gradient of a score. -/
def ds (r : Fin 128) (j : ι) : ℝ := T.p r j * (T.dp r j - T.dl r)
/-- The gradient of a query. -/
def dq (r : Fin 128) (d : Fin 64) : ℝ := (∑ j, T.ds r j * T.k j d) * (1 / 8)
/-- The gradient of a key, from this tile. -/
def dk (j : ι) (d : Fin 64) : ℝ := (∑ r, T.ds r j * T.q r d) * (1 / 8)
/-- The gradient of a value, from this tile. -/
def dv (j : ι) (d : Fin 64) : ℝ := ∑ r, T.p r j * T.o r d
/-- The gradient of the sink's logit with its sign reversed, from this tile. -/
def dx : ℝ := ∑ r, T.ps r * T.dl r

theorem w_nonneg (r : Fin 128) (j : ι) : 0 ≤ T.w r j := by
  unfold w; split
  · exact (Real.exp_pos _).le
  · exact le_rfl

theorem z_pos (r : Fin 128) : 0 < T.z r := by
  have h : 0 ≤ ∑ j, T.w r j := Finset.sum_nonneg fun j _ => T.w_nonneg r j
  have := Real.exp_pos T.x
  unfold z; linarith

/-- A tile whose columns are chosen by `e` among another's. -/
def comap {κ : Type} (e : κ → ι) : Tile κ where
  q := T.q
  k j := T.k (e j)
  v j := T.v (e j)
  o := T.o
  b r j := T.b r (e j)
  x := T.x

section Comap
variable {κ : Type} [Fintype κ] (e : κ → ι) (he : Function.Injective e)
  (hb : ∀ r j, j ∉ Set.range e → T.b r j = false)
include he hb

theorem sum_comap (f : ι → ℝ) (r : Fin 128) (hf : ∀ j, T.b r j = false → f j = 0) : ∑ j, f (e j) = ∑ j, f j :=
  Fintype.sum_of_injective e he _ _ (fun j hj => hf j (hb r j hj)) fun _ => rfl

theorem z_comap (r : Fin 128) : (T.comap e).z r = T.z r :=
  congrArg (· + Real.exp T.x) (T.sum_comap e he hb (T.w r) r fun j h => by unfold w; simp [h])

theorem p_comap (r : Fin 128) (j : κ) : (T.comap e).p r j = T.p r (e j) := by
  show (T.comap e).w r j / (T.comap e).z r = _
  rw [T.z_comap e he hb]; rfl

theorem dl_comap (r : Fin 128) : (T.comap e).dl r = T.dl r := by
  have h : ∀ j, (T.comap e).p r j * (T.comap e).dp r j = T.p r (e j) * T.dp r (e j) := fun j => by
    rw [T.p_comap e he hb]; rfl
  show ∑ j, (T.comap e).p r j * (T.comap e).dp r j = _
  rw [Finset.sum_congr rfl fun j _ => h j]
  exact T.sum_comap e he hb (fun j => T.p r j * T.dp r j) r fun j h => by unfold p w; simp [h]

end Comap

/-- A value no query may see has no gradient. -/
theorem dv_masked (j : ι) (d : Fin 64) (h : ∀ r, T.b r j = false) : T.dv j d = 0 := by
  unfold dv p w; simp [h]

end Tile

/-! ### Extended reals -/

theorem coe_sum {α : Type} [Fintype α] (f : α → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm

theorem sum_eq_coe {α : Type} [Fintype α] (f : α → EReal) (g : α → ℝ) (h : ∀ i, f i = (g i : EReal)) :
    ∑ i, f i = ((∑ i, g i : ℝ) : EReal) := by
  rw [← coe_sum]; exact Finset.sum_congr rfl fun i _ => h i

theorem dot_eq_coe {α : Type} [Fintype α] (f g : α → EReal) (f' g' : α → ℝ) (hf : ∀ i, f i = (f' i : EReal))
    (hg : ∀ i, g i = (g' i : EReal)) : ∑ i, f i * g i = ((∑ i, f' i * g' i : ℝ) : EReal) :=
  sum_eq_coe _ _ fun i => by rw [hf, hg, EReal.coe_mul]

theorem ofBits_eighth : Ideal.ofBits .f32 0x3E000000#32 = ((1 / 8 : ℝ) : EReal) := by
  simp [Ideal.ofBits, Ideal.ieee]
  rw [← EReal.coe_mul]; norm_num
theorem ofBits_neg_inf : Ideal.ofBits .f32 0xFF800000#32 = ⊥ := by
  simp [Ideal.ofBits, Ideal.ieee]

/-- The greatest of finitely many extended reals none of which is `⊤`, started at `⊥`, is not `⊤`. -/
theorem fold_max_ne_top {α : Type} (s : Finset α) (f : α → EReal) (h : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a
    · exact ih

/-- With a real beside them the greatest is a real. -/
theorem max_fold_real {α : Type} (s : Finset α) (f : α → EReal) (h : ∀ i, f i ≠ ⊤) (x : ℝ) :
    ∃ μ : ℝ, max (s.fold max ⊥ f) (x : EReal) = (μ : EReal) := by
  refine ⟨(max (s.fold max ⊥ f) (x : EReal)).toReal, (EReal.coe_toReal ?_ ?_).symm⟩
  · rcases max_choice (s.fold max ⊥ f) (x : EReal) with e | e <;> rw [e]
    · exact fold_max_ne_top s f h
    · exact EReal.coe_ne_top x
  · intro e
    have := le_max_right (s.fold max ⊥ f) (x : EReal)
    rw [e] at this
    exact EReal.coe_ne_bot x (le_bot_iff.mp this)

/-- The exponential of a masked score less the row's maximum: the weight times a factor of the row. -/
theorem exp_masked (b : Bool) (σ μ : ℝ) :
    Ideal.exp ((if b then (σ : EReal) else ⊥) - (μ : EReal)) = (((if b then Real.exp σ else 0) * Real.exp (-μ) : ℝ) : EReal) := by
  cases b
  · simp [EReal.bot_sub]
  · simp only [if_true]
    rw [← EReal.coe_sub, Ideal.exp_coe, sub_eq_add_neg, Real.exp_add]

theorem exp_real (σ μ : ℝ) : Ideal.exp ((σ : EReal) - (μ : EReal)) = ((Real.exp σ * Real.exp (-μ) : ℝ) : EReal) := by
  rw [← EReal.coe_sub, Ideal.exp_coe, sub_eq_add_neg, Real.exp_add]

theorem div_real (a b : ℝ) (h : b ≠ 0) : Ideal.div (a : EReal) (b : EReal) = ((a / b : ℝ) : EReal) := by
  rw [Ideal.div_coe h, ← EReal.coe_mul, mul_one_div]

theorem one_div_real (b : ℝ) (h : b ≠ 0) : Ideal.div 1 (b : EReal) = ((1 / b : ℝ) : EReal) := by
  rw [← EReal.coe_one, div_real _ _ h]

/-! ### The attention's inputs, and its tiles -/

/-- Which of the 384 columns of block `b`'s keys its query `r` may see: of the block before and the block itself, those
    at most 127 positions behind that are no first keys; of the first block, the first keys that are not ahead. Rows are
    counted from the 112 rows of padding in front on. -/
def mask (b r j : ℕ) : Bool :=
  decide ((j < 256 ∧ 256 ≤ 128 * b + j ∧ r < j ∧ j ≤ r + 128) ∨ (368 ≤ j ∧ j ≤ 128 * b + r + 256))

/-- The row of the keys that column `j` of block `b` is. -/
def krow (b j : ℕ) : ℕ := if j < 128 then 128 * (b - 1) + j else if j < 256 then 128 * b + (j - 128) else j - 256

/-- The attention's inputs as reals, by row (the padding's included), head and column: the queries and the keys after the
    rotation, the output's cotangent, and the sinks. -/
structure Inp where
  q : ℕ → ℕ → ℕ → ℝ
  k : ℕ → ℕ → ℕ → ℝ
  o : ℕ → ℕ → ℕ → ℝ
  x : ℕ → ℝ

namespace Inp
variable (I : Inp)

/-- Head `h`'s tile of block `b`. The values have no part in their own gradient. -/
def tile (b h : ℕ) : Tile (Fin 384) where
  q r d := I.q (128 * b + r) h d
  k j d := I.k (krow b j) (h / 4) d
  v _ _ := 0
  o r d := I.o (128 * b + r) h d
  b r j := mask b r j
  x := I.x h

/-- The gradient of the values of head `g` of the keys, from block `b`: of its four heads of queries together. -/
def dv (b g : ℕ) (j : Fin 384) (d : Fin 64) : ℝ := ∑ h : Fin 4, (I.tile b (4 * g + h)).dv j d

theorem dv_masked (b g : ℕ) (j : Fin 384) (d : Fin 64) (h : ∀ r : Fin 128, mask b r j = false) : I.dv b g j d = 0 :=
  Finset.sum_eq_zero fun h' _ => (I.tile b (4 * g + h')).dv_masked j d h

/-- The same by the column of both heads together. -/
def dvc (b j c : ℕ) : ℝ :=
  if h : j < 384 then I.dv b (c / 64) ⟨j, h⟩ ⟨c % 64, Nat.mod_lt _ (by decide)⟩ else 0

/-- The gradient of the values of block `n`: from the block itself, and from the block after it. -/
def dvb (n i c : ℕ) : ℝ := I.dvc n (128 + i) c + if n + 1 < 33 then I.dvc (n + 1) i c else 0

/-- The gradient of the first block's values as first keys, from all blocks. -/
def dvm (i c : ℕ) : ℝ := ∑ b ∈ Finset.range 33, I.dvc b (256 + i) c

end Inp

end Cert.Attn
-- ==== Proof.Tile.lean ====
/- What one head's part of the kernel's body computes, over the extended reals with real operands. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Val

open Idealize.ShloMosaic Cert.KernelIdeal Cert.KernelIdeal.Gen Cert.Attn
open scoped BigOperators

section Defs
variable {F : FTy → Type} [FloatOps F] [Named F]

/-- The cotangent of the output against the values. -/
def hDp (V : FVec F S384x64 .bf16) (D : Vec F S128x64 .bf16) : FVec F S128x384 .f32 :=
  matmul dot_S128x64_S384x64_S128x384_1_1_0_0_n_n none (k0_pay16 D) V (constant S128x384 .f32 0x00000000#32)
/-- The mean of the probabilities' gradients. -/
def hDl (M : IVec S128x384 1) (K V : FVec F S384x64 .bf16) (Q D : Vec F S128x64 .bf16) (x : Elt F .f32) : FVec F S128 .f32 :=
  multiReduction .add [1] S128 (mulf (k0_pay22 M K Q x) (hDp V D)) 0x00000000#32 reduces_S128x384_S128 (.inl rfl) rfl
/-- The gradient of the head's queries. -/
def hDq (M : IVec S128x384 1) (K V : FVec F S384x64 .bf16) (Q D : Vec F S128x64 .bf16) (x : Elt F .f32) : FVec F S128x64 .f32 :=
  k0_pay29 K (k0_pay22 M K Q x) (hDp V D) (hDl M K V Q D x)
/-- The gradient of the keys, added to `A`. -/
def hDk (A : FVec F S384x64 .f32) (M : IVec S128x384 1) (K V : FVec F S384x64 .bf16) (Q D : Vec F S128x64 .bf16) (x : Elt F .f32) :
    FVec F S384x64 .f32 :=
  k0_pay30 A (k0_pay15 Q) (k0_pay22 M K Q x) (hDp V D) (hDl M K V Q D x)
/-- The gradient of the values, added to `A`. -/
def hDv (A : FVec F S384x64 .f32) (M : IVec S128x384 1) (K : FVec F S384x64 .bf16) (Q D : Vec F S128x64 .bf16) (x : Elt F .f32) :
    FVec F S384x64 .f32 :=
  k0_pay31 A (k0_pay16 D) (k0_pay22 M K Q x)
/-- The gradient of the sink's logit, added to the row `o`. -/
def hDx (o : Vec F S1x128 .f32) (M : IVec S128x384 1) (K V : FVec F S384x64 .bf16) (Q D : Vec F S128x64 .bf16) (x : Elt F .f32) :
    FVec F S1x128 .f32 :=
  k0_pay28 (k0_pay23 M K Q x) (hDl M K V Q D x) o
end Defs

/-- A tile of reals is what the vectors of one head hold. -/
structure Holds (T : Tile (Fin 384)) (M : IVec S128x384 1) (K V : FVec Ideal S384x64 .bf16) (Q D : Vec Ideal S128x64 .bf16)
    (x : Elt Ideal .f32) : Prop where
  q : ∀ (r : Fin 128) (d : Fin 64), Q (ix2 r d) = (T.q r d : EReal)
  k : ∀ (j : Fin 384) (d : Fin 64), K (ix2 j d) = (T.k j d : EReal)
  v : ∀ (j : Fin 384) (d : Fin 64), V (ix2 j d) = (T.v j d : EReal)
  o : ∀ (r : Fin 128) (d : Fin 64), D (ix2 r d) = (T.o r d : EReal)
  b : ∀ (r : Fin 128) (j : Fin 384), M (ix2 r j) = if T.b r j then 1#1 else 0#1
  x : x = (T.x : EReal)

namespace Holds
variable {T : Tile (Fin 384)} {M : IVec S128x384 1} {K V : FVec Ideal S384x64 .bf16} {Q D : Vec Ideal S128x64 .bf16}
  {x : Elt Ideal .f32} (H : Holds T M K V Q D x)
include H

theorem score (r : Fin 128) (j : Fin 384) :
    k0_pay17 M K Q (ix2 r j) = if T.b r j then (T.s r j : EReal) else ⊥ := by
  pointwise [k0_pay17, k0_pay15]
  rw [dot_eq_coe _ _ _ _ (H.q r) (H.k j), ofBits_eighth, H.b]
  cases T.b r j
  · rfl
  · show ((_ : ℝ) : EReal) * _ = _
    rw [← EReal.coe_mul]; rfl

theorem rowmax (r : Fin 128) : ∃ μ : ℝ, ∀ j : Fin 1, k0_pay18 M K Q x (ix2 r j) = (μ : EReal) := by
  obtain ⟨μ, hμ⟩ := max_fold_real Finset.univ (fun j : Fin 384 => k0_pay17 (F := Ideal) M K Q (ix2 r j)) (fun j => by
    rw [H.score]; split
    · exact EReal.coe_ne_top _
    · exact bot_ne_top) T.x
  refine ⟨μ, fun j => ?_⟩
  pointwise [k0_pay18]
  rw [ofBits_neg_inf, H.x]; exact hμ

theorem parts (r : Fin 128) : ∃ c : ℝ, 0 < c ∧ (∀ j, k0_pay19 M K Q x (ix2 r j) = ((T.w r j * c : ℝ) : EReal))
    ∧ (∀ j : Fin 1, k0_pay20 M K Q x (ix2 r j) = ((Real.exp T.x * c : ℝ) : EReal))
    ∧ (∀ j : Fin 1, k0_pay21 M K Q x (ix2 r j) = ((1 / (T.z r * c) : ℝ) : EReal)) := by
  obtain ⟨μ, hμ⟩ := H.rowmax r
  have h19 : ∀ j, k0_pay19 M K Q x (ix2 r j) = ((T.w r j * Real.exp (-μ) : ℝ) : EReal) := fun j => by
    pointwise [k0_pay19]
    rw [H.score, hμ, exp_masked]; rfl
  have h20 : ∀ j : Fin 1, k0_pay20 M K Q x (ix2 r j) = ((Real.exp T.x * Real.exp (-μ) : ℝ) : EReal) := fun j => by
    pointwise [k0_pay20]
    rw [hμ, H.x, exp_real]
  refine ⟨Real.exp (-μ), Real.exp_pos _, h19, h20, fun j => ?_⟩
  pointwise [k0_pay21]
  rw [sum_eq_coe _ _ h19, h20, ← EReal.coe_add, ← Finset.sum_mul, ← add_mul]
  exact one_div_real _ (mul_pos (T.z_pos r) (Real.exp_pos _)).ne'

/-- The probabilities. -/
theorem prob (r : Fin 128) (j : Fin 384) : k0_pay22 M K Q x (ix2 r j) = (T.p r j : EReal) := by
  obtain ⟨c, hc, h19, -, h21⟩ := H.parts r
  pointwise [k0_pay22]
  rw [h19, h21, ← EReal.coe_mul]
  congr 1
  unfold Tile.p
  have := (T.z_pos r).ne'
  field_simp

/-- The sink's probability. -/
theorem sinkProb (r : Fin 128) (j : Fin 1) : k0_pay23 M K Q x (ix2 r j) = (T.ps r : EReal) := by
  obtain ⟨c, hc, -, h20, h21⟩ := H.parts r
  pointwise [k0_pay23]
  rw [h20, h21, ← EReal.coe_mul]
  congr 1
  unfold Tile.ps
  have := (T.z_pos r).ne'
  field_simp

theorem dprob (r : Fin 128) (j : Fin 384) : hDp V D (ix2 r j) = (T.dp r j : EReal) := by
  pointwise [hDp, k0_pay16]
  exact dot_eq_coe _ _ _ _ (H.o r) (H.v j)

theorem delta (r : Fin 128) : hDl M K V Q D x (ix1 r) = (T.dl r : EReal) := by
  pointwise [hDl]
  exact dot_eq_coe _ _ _ _ (H.prob r) (H.dprob r)

theorem dscore (r : Fin 128) (j : Fin 384) :
    k0_pay27 (k0_pay22 M K Q x) (hDp V D) (hDl M K V Q D x) (ix2 r j) = (T.ds r j : EReal) := by
  pointwise [k0_pay27, k0_pay26]
  rw [H.prob, H.dprob, H.delta, ← EReal.coe_sub, ← EReal.coe_mul]; rfl

/-- The gradient of the queries. -/
theorem dq (r : Fin 128) (d : Fin 64) : hDq M K V Q D x (ix2 r d) = (T.dq r d : EReal) := by
  pointwise [hDq, k0_pay29]
  rw [dot_eq_coe _ _ _ _ (H.dscore r) (fun j => H.k j d), ofBits_eighth, ← EReal.coe_mul]; rfl

/-- The gradient of the keys, with what was there before. -/
theorem dk (A : FVec Ideal S384x64 .f32) (j : Fin 384) (d : Fin 64) :
    hDk A M K V Q D x (ix2 j d) = A (ix2 j d) + (T.dk j d : EReal) := by
  pointwise [hDk, k0_pay30, k0_pay15]
  rw [dot_eq_coe _ _ _ _ (fun r => H.dscore r j) (fun r => H.q r d), ofBits_eighth, ← EReal.coe_mul]; rfl

/-- The gradient of the values, with what was there before. -/
theorem dv (A : FVec Ideal S384x64 .f32) (j : Fin 384) (d : Fin 64) :
    hDv A M K Q D x (ix2 j d) = A (ix2 j d) + (T.dv j d : EReal) := by
  pointwise [hDv, k0_pay31, k0_pay16]
  rw [dot_eq_coe _ _ _ _ (fun r => H.prob r j) (fun r => H.o r d)]; rfl

/-- The gradient of the sink's logit, with what was there before. -/
theorem dx (o : Vec Ideal S1x128 .f32) (i : Fin 1) (l : Fin 128) :
    hDx o M K V Q D x (ix2 i l) = o (ix2 i l) + ((-T.dx : ℝ) : EReal) := by
  pointwise [hDx, k0_pay28, k0_pay26]
  rw [sum_eq_coe _ (fun r => T.ps r * T.dl r) fun r => by
    rw [Fin.sum_univ_one, H.sinkProb, H.delta, EReal.coe_mul], EReal.coe_neg, zero_sub]
  rfl

end Holds

end Cert.KernelIdeal.Val
-- ==== Proof.Step.lean ====
/- What the body leaves after a point of the grid, from the blocks the point is given and what the point before left:
   the gradient of the values. -/
module

public import proofs.«01_k».proof.Proof.Body
public import proofs.«01_k».proof.Proof.Tile
public import Idealize.ShloMosaic.Lib.Pipeline.ValueKit

@[expose] public section

set_option maxRecDepth 16384
set_option maxHeartbeats 2000000

noncomputable section

namespace Cert.KernelIdeal.Val

open Idealize.ShloMosaic Idealize.ShloMosaic.TcCoe Idealize.SL.Sem Cert.KernelIdeal Cert.KernelIdeal.Gen Cert.Attn
open Idealize.ShloMosaic.Pipeline (Dat)

/-- The blocks one point of the grid is given that the gradient of the values depends on, and its mask. -/
structure Pt where
  x0 : Vec Ideal S8 .f32
  x1 : Vec Ideal S128x512 .bf16
  x2 : Vec Ideal S128x512 .bf16
  x3 : Vec Ideal S128x128 .bf16
  x4 : Vec Ideal S128x128 .bf16
  x5 : Vec Ideal S128x128 .bf16
  M : IVec S128x384 1

theorem inbQ (h : Fin 8) : ∀ a, (![0, 64 * h.val] : Fin 2 → ℕ) a + S128x64.size a ≤ S128x512.size a := by
  revert h; decide
theorem inbK (g : Fin 2) : ∀ a, (![0, 64 * g.val] : Fin 2 → ℕ) a + S128x64.size a ≤ S128x128.size a := by
  revert g; decide
theorem inbX (h : Fin 8) : ∀ a, (![h.val] : Fin 1 → ℕ) a + S1.size a ≤ S8.size a := by
  revert h; decide

/-- The head of the keys a head of the queries looks at. -/
def kv (h : Fin 8) : Fin 2 := ⟨h.val / 4, by omega⟩

/-- The columns of one head of the keys or values. -/
def ldK (x : Vec Ideal S128x128 .bf16) (g : Fin 2) : Vec Ideal S128x64 .bf16 :=
  View.ld x (Rect.unit ![0, 64 * g.val] S128x64.size (inbK g))
/-- The columns of one head of the queries. -/
def ldQ (x : Vec Ideal S128x512 .bf16) (h : Fin 8) : Vec Ideal S128x64 .bf16 :=
  View.ld x (Rect.unit ![0, 64 * h.val] S128x64.size (inbQ h))
/-- The logit of one head's sink. -/
def ldX (x : Vec Ideal S8 .f32) (h : Fin 8) : Elt Ideal .f32 :=
  View.ld x (Rect.unit ![h.val] S1.size (inbX h)) (Shape.Idx.first Nat.one_pos)

namespace Pt
variable (P : Pt)

/-- The keys of the three blocks a head sees, one under the other. -/
def K (g : Fin 2) : FVec Ideal S384x64 .bf16 := k0_pay11 (ldK P.x3 g) (ldK P.x4 g) (ldK P.x5 g)
/-- The gradient of a head's values, added to `A`. -/
def dv (A : FVec Ideal S384x64 .f32) (h : Fin 8) : FVec Ideal S384x64 .f32 :=
  hDv A P.M (P.K (kv h)) (ldQ P.x1 h) (ldQ P.x2 h) (ldX P.x0 h)
/-- The gradient of the first head of the values: its four heads of queries one after the other. -/
def DV0 : FVec Ideal S384x64 .f32 := P.dv (P.dv (P.dv (P.dv k0_pay14 0) 1) 2) 3
/-- The same of the second. -/
def DV1 : FVec Ideal S384x64 .f32 := P.dv (P.dv (P.dv (P.dv k0_pay87 4) 5) 6) 7
/-- The gradients of the values of both heads, side by side. -/
def DV : Vec Ideal S384x128 .f32 := View.canon [⟨Rect.unit ![0, 64] S384x64.size inb_S384x128_S384x64_0_64, P.DV1⟩,
  ⟨Rect.unit ![0, 0] S384x64.size inb_S384x128_S384x64_0_0, P.DV0⟩]
end Pt

/-- Rows 0 to 127, 128 to 255 and 256 to 383 of a stack of three blocks. -/
def part0 (x : Vec Ideal S384x128 .f32) : Vec Ideal S128x128 .f32 :=
  View.ld x (Rect.unit ![0, 0] S128x128.size inb_S384x128_S128x128_0_0)
def part1 (x : Vec Ideal S384x128 .f32) : Vec Ideal S128x128 .f32 :=
  View.ld x (Rect.unit ![128, 0] S128x128.size inb_S384x128_S128x128_128_0)
def part2 (x : Vec Ideal S384x128 .f32) : Vec Ideal S128x128 .f32 :=
  View.ld x (Rect.unit ![256, 0] S128x128.size inb_S384x128_S128x128_256_0)

/-! ### Loads and stores of a whole buffer -/

theorem canS (w : Vec Ideal S128x128 .f32) (L : List (View.Piece (Elt Ideal) S128x128 .f32)) :
    View.canon ((⟨Rect.unit ![0, 0] S128x128.size inb_S128x128_S128x128_0_0, w⟩ : View.Piece (Elt Ideal) S128x128 .f32) :: L) = w :=
  View.canon_cons_unit_lit' (S := S128x128) (off := ![0, 0]) inb_S128x128_S128x128_0_0 w L (by intro a; fin_cases a <;> rfl)

theorem lodS (w : Vec Ideal S128x128 .f32) :
    View.ld w (Rect.unit ![0, 0] S128x128.size inb_S128x128_S128x128_0_0) = w := View.ld_unit_lit' (S := S128x128) (off := ![0, 0]) inb_S128x128_S128x128_0_0 w (by intro a; fin_cases a <;> rfl)

/-! ### The gradient of the values, one head after the other -/

section Fold
variable (A : FVec Ideal S384x64 .f32) (M : IVec S128x384 1) (K : FVec Ideal S384x64 .bf16) (Q D : Vec Ideal S128x64 .bf16)
  (x : Elt Ideal .f32) (a b d : Vec Ideal S128x64 .bf16)
theorem fold0 : k0_pay31 A (k0_pay16 D) (k0_pay22 M K Q x) = hDv A M K Q D x := rfl
theorem fold1 : k0_pay48 A (k0_pay33 D) (k0_pay40 M x (k0_pay34 K Q)) = hDv A M K Q D x := rfl
theorem fold2 : k0_pay65 A (k0_pay50 D) (k0_pay56 M K Q x) = hDv A M K Q D x := rfl
theorem fold3 : k0_pay83 A (k0_pay67 D) (k0_pay75 M x (k0_pay68 K Q) k0_pay69) = hDv A M K Q D x := by
  refine Eq.trans (b := shapeCast S384x64 (hDv A M K Q D x) rfl) rfl (shapeCast_self _ _)
theorem fold4 : k0_pay102 A (k0_pay89 D) (k0_pay95 M K (k0_pay88 Q) x) = hDv A M K Q D x := rfl
theorem fold5 : k0_pay118 A (k0_pay104 D) (k0_pay107 M K Q x) (k0_pay110 M K Q x) = hDv A M K Q D x := rfl
theorem fold6 : k0_pay133 A (k0_pay120 D) (k0_pay126 M K (k0_pay119 Q) x) = hDv A M K Q D x := rfl
theorem fold7 : k0_pay148 A (k0_pay135 D) (k0_pay141 M K Q x) = hDv A M K Q D x := rfl
theorem fold8 : k0_pay150 A = A := shapeCast_self _ _
end Fold

section Heads

variable (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S3x128x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S128x512 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128 .f32) (harg18 : arg18.IsWhole) (arg19 : Memref sig .tc .vmem S128x512 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole)
  (x0 : Vec Ideal S8 .f32) (x1 : Vec Ideal S128x512 .bf16) (x2 : Vec Ideal S128x512 .bf16) (x3 : Vec Ideal S128x128 .bf16) (x4 : Vec Ideal S128x128 .bf16) (x5 : Vec Ideal S128x128 .bf16) (x6 : Vec Ideal S128x128 .bf16) (x7 : Vec Ideal S128x128 .bf16) (x8 : Vec Ideal S128x128 .bf16) (x9 : Vec Ideal S3x128x128 .f32) (x10 : Vec Ideal S3x128x128 .f32) (x11 : Vec Ideal S3x128x128 .f32)

/-- A point's blocks and mask, from its coordinates. -/
def ptOf (i : grid0.Coords) (x0 : Vec Ideal S8 .f32) (x1 x2 : Vec Ideal S128x512 .bf16) (x3 x4 x5 : Vec Ideal S128x128 .bf16) : Pt :=
  ⟨x0, x1, x2, x3, x4, x5, k0_pay10 (BitVec.ofNat 32 (i 0).val)⟩

local notation "P" => ptOf i x0 x1 x2 x3 x4 x5

theorem A_r_12 : kernelRun0_A.sl.r_12 (F := Ideal) c i arg1 harg1 arg2 harg2 arg3 harg3 arg4 harg4 arg5 harg5 arg6 harg6 x0 x1 x2 x3 x4 x5 = (P).dv k0_pay14 0 := by
  simp only [kernelRun0_A.sl.r_12, kernelRun0_A.sl.r_5, kernelRun0_A.sl.r_6, kernelRun0_A.sl.r, kernelRun0_A.sl.r_1, kernelRun0_A.sl.r_2, View.readAt_eq_ld, Memref.IsWhole.read_unread]
  exact fold0 _ _ _ _ _ _
theorem A_r_21 : kernelRun0_A.sl.r_21 (F := Ideal) c i arg1 harg1 arg2 harg2 arg3 harg3 arg4 harg4 arg5 harg5 arg6 harg6 x0 x1 x2 x3 x4 x5 = (P).dv ((P).dv k0_pay14 0) 1 := by
  simp only [kernelRun0_A.sl.r_21, A_r_12, kernelRun0_A.sl.r_14, kernelRun0_A.sl.r_16, kernelRun0_A.sl.r_15, kernelRun0_A.sl.r, kernelRun0_A.sl.r_1, kernelRun0_A.sl.r_10, View.readAt_eq_ld, Memref.IsWhole.read_unread]
  exact fold1 _ _ _ _ _ _
theorem A_r_31 : kernelRun0_A.sl.r_31 (F := Ideal) c i arg1 harg1 arg2 harg2 arg3 harg3 arg4 harg4 arg5 harg5 arg6 harg6 x0 x1 x2 x3 x4 x5 = (P).dv ((P).dv ((P).dv k0_pay14 0) 1) 2 := by
  simp only [kernelRun0_A.sl.r_31, A_r_21, kernelRun0_A.sl.r_23, kernelRun0_A.sl.r_24, kernelRun0_A.sl.r, kernelRun0_A.sl.r_1, kernelRun0_A.sl.r_19, View.readAt_eq_ld, Memref.IsWhole.read_unread]
  exact fold2 _ _ _ _ _ _
theorem A_r_48 : kernelRun0_A.sl.r_48 (F := Ideal) c i arg1 harg1 arg2 harg2 arg3 harg3 arg4 harg4 arg5 harg5 arg6 harg6 x0 x1 x2 x3 x4 x5 = (P).dv k0_pay87 4 := by
  simp only [kernelRun0_A.sl.r_48, kernelRun0_A.sl.r_42, kernelRun0_A.sl.r_43, kernelRun0_A.sl.r, kernelRun0_A.sl.r_38, kernelRun0_A.sl.r_40, kernelRun0_A.sl.r_41, View.readAt_eq_ld, Memref.IsWhole.read_unread]
  exact fold4 _ _ _ _ _ _
theorem A_r_56 : kernelRun0_A.sl.r_56 (F := Ideal) c i arg1 harg1 arg2 harg2 arg3 harg3 arg4 harg4 arg5 harg5 arg6 harg6 x0 x1 x2 x3 x4 x5 = (P).dv ((P).dv k0_pay87 4) 5 := by
  simp only [kernelRun0_A.sl.r_56, A_r_48, kernelRun0_A.sl.r_50, kernelRun0_A.sl.r_51, kernelRun0_A.sl.r_54, kernelRun0_A.sl.r, kernelRun0_A.sl.r_38, kernelRun0_A.sl.r_46, View.readAt_eq_ld, Memref.IsWhole.read_unread]
  exact fold5 _ _ _ _ _ _
theorem A_r_64 : kernelRun0_A.sl.r_64 (F := Ideal) c i arg1 harg1 arg2 harg2 arg3 harg3 arg4 harg4 arg5 harg5 arg6 harg6 x0 x1 x2 x3 x4 x5 = (P).dv ((P).dv ((P).dv k0_pay87 4) 5) 6 := by
  simp only [kernelRun0_A.sl.r_64, A_r_56, kernelRun0_A.sl.r_58, kernelRun0_A.sl.r_60, kernelRun0_A.sl.r, kernelRun0_A.sl.r_38, kernelRun0_A.sl.r_57, kernelRun0_A.sl.r_59, View.readAt_eq_ld, Memref.IsWhole.read_unread]
  exact fold6 _ _ _ _ _ _
theorem A_r_69 : kernelRun0_A.sl.r_69 (F := Ideal) c i arg1 harg1 arg2 harg2 arg3 harg3 arg4 harg4 arg5 harg5 arg6 harg6 x0 x1 x2 x3 x4 x5 = (P).DV1 := by
  simp only [kernelRun0_A.sl.r_69, A_r_64, kernelRun0_A.sl.r_66, kernelRun0_A.sl.r_67, kernelRun0_A.sl.r, kernelRun0_A.sl.r_38, kernelRun0_A.sl.r_62, View.readAt_eq_ld, Memref.IsWhole.read_unread]
  exact fold7 _ _ _ _ _ _
/-- What is stored as the gradient of the values at the first point. -/
theorem A_HS2_2 : View.canon (kernelRun0_A.sl.HS2_2 (F := Ideal) c i arg1 harg1 arg2 harg2 arg3 harg3 arg4 harg4 arg5 harg5 arg6 harg6 x0 x1 x2 x3 x4 x5) = (P).DV := by
  simp only [kernelRun0_A.sl.HS2_2, A_r_31, A_r_69, kernelRun0_A.sl.r_33, kernelRun0_A.sl.r_35, kernelRun0_A.sl.r, kernelRun0_A.sl.r_34, kernelRun0_A.sl.r_1, kernelRun0_A.sl.r_29, View.readAt_eq_ld, Memref.IsWhole.read_unread]
  rw [fold8, fold3]
  rfl

theorem B_r_12 : kernelRun0_B.sl.r_12 (F := Ideal) c i arg1 harg1 arg2 harg2 arg3 harg3 arg4 harg4 arg5 harg5 arg6 harg6 x0 x1 x2 x3 x4 x5 = (P).dv k0_pay14 0 := by
  simp only [kernelRun0_B.sl.r_12, kernelRun0_B.sl.r_5, kernelRun0_B.sl.r_6, kernelRun0_B.sl.r, kernelRun0_B.sl.r_1, kernelRun0_B.sl.r_2, View.readAt_eq_ld, Memref.IsWhole.read_unread]
  exact fold0 _ _ _ _ _ _
theorem B_r_21 : kernelRun0_B.sl.r_21 (F := Ideal) c i arg1 harg1 arg2 harg2 arg3 harg3 arg4 harg4 arg5 harg5 arg6 harg6 x0 x1 x2 x3 x4 x5 = (P).dv ((P).dv k0_pay14 0) 1 := by
  simp only [kernelRun0_B.sl.r_21, B_r_12, kernelRun0_B.sl.r_14, kernelRun0_B.sl.r_16, kernelRun0_B.sl.r_15, kernelRun0_B.sl.r, kernelRun0_B.sl.r_1, kernelRun0_B.sl.r_10, View.readAt_eq_ld, Memref.IsWhole.read_unread]
  exact fold1 _ _ _ _ _ _
theorem B_r_31 : kernelRun0_B.sl.r_31 (F := Ideal) c i arg1 harg1 arg2 harg2 arg3 harg3 arg4 harg4 arg5 harg5 arg6 harg6 x0 x1 x2 x3 x4 x5 = (P).dv ((P).dv ((P).dv k0_pay14 0) 1) 2 := by
  simp only [kernelRun0_B.sl.r_31, B_r_21, kernelRun0_B.sl.r_23, kernelRun0_B.sl.r_24, kernelRun0_B.sl.r, kernelRun0_B.sl.r_1, kernelRun0_B.sl.r_19, View.readAt_eq_ld, Memref.IsWhole.read_unread]
  exact fold2 _ _ _ _ _ _
theorem B_r_48 : kernelRun0_B.sl.r_48 (F := Ideal) c i arg1 harg1 arg2 harg2 arg3 harg3 arg4 harg4 arg5 harg5 arg6 harg6 x0 x1 x2 x3 x4 x5 = (P).dv k0_pay87 4 := by
  simp only [kernelRun0_B.sl.r_48, kernelRun0_B.sl.r_42, kernelRun0_B.sl.r_43, kernelRun0_B.sl.r, kernelRun0_B.sl.r_38, kernelRun0_B.sl.r_40, kernelRun0_B.sl.r_41, View.readAt_eq_ld, Memref.IsWhole.read_unread]
  exact fold4 _ _ _ _ _ _
theorem B_r_56 : kernelRun0_B.sl.r_56 (F := Ideal) c i arg1 harg1 arg2 harg2 arg3 harg3 arg4 harg4 arg5 harg5 arg6 harg6 x0 x1 x2 x3 x4 x5 = (P).dv ((P).dv k0_pay87 4) 5 := by
  simp only [kernelRun0_B.sl.r_56, B_r_48, kernelRun0_B.sl.r_50, kernelRun0_B.sl.r_51, kernelRun0_B.sl.r_54, kernelRun0_B.sl.r, kernelRun0_B.sl.r_38, kernelRun0_B.sl.r_46, View.readAt_eq_ld, Memref.IsWhole.read_unread]
  exact fold5 _ _ _ _ _ _
theorem B_r_64 : kernelRun0_B.sl.r_64 (F := Ideal) c i arg1 harg1 arg2 harg2 arg3 harg3 arg4 harg4 arg5 harg5 arg6 harg6 x0 x1 x2 x3 x4 x5 = (P).dv ((P).dv ((P).dv k0_pay87 4) 5) 6 := by
  simp only [kernelRun0_B.sl.r_64, B_r_56, kernelRun0_B.sl.r_58, kernelRun0_B.sl.r_60, kernelRun0_B.sl.r, kernelRun0_B.sl.r_38, kernelRun0_B.sl.r_57, kernelRun0_B.sl.r_59, View.readAt_eq_ld, Memref.IsWhole.read_unread]
  exact fold6 _ _ _ _ _ _
theorem B_r_69 : kernelRun0_B.sl.r_69 (F := Ideal) c i arg1 harg1 arg2 harg2 arg3 harg3 arg4 harg4 arg5 harg5 arg6 harg6 x0 x1 x2 x3 x4 x5 = (P).DV1 := by
  simp only [kernelRun0_B.sl.r_69, B_r_64, kernelRun0_B.sl.r_66, kernelRun0_B.sl.r_67, kernelRun0_B.sl.r, kernelRun0_B.sl.r_38, kernelRun0_B.sl.r_62, View.readAt_eq_ld, Memref.IsWhole.read_unread]
  exact fold7 _ _ _ _ _ _
/-- What is stored as the gradient of the values at a later point. -/
theorem B_HS2_2 : View.canon (kernelRun0_B.sl.HS2_2 (F := Ideal) c i arg1 harg1 arg2 harg2 arg3 harg3 arg4 harg4 arg5 harg5 arg6 harg6 x0 x1 x2 x3 x4 x5) = (P).DV := by
  simp only [kernelRun0_B.sl.HS2_2, B_r_31, B_r_69, kernelRun0_B.sl.r_33, kernelRun0_B.sl.r_35, kernelRun0_B.sl.r, kernelRun0_B.sl.r_34, kernelRun0_B.sl.r_1, kernelRun0_B.sl.r_29, View.readAt_eq_ld, Memref.IsWhole.read_unread]
  rw [fold8, fold3]
  rfl

end Heads

variable (m : (ℓ : Loc nD τ sig) → Buf (Elt Ideal) ℓ) (c : Dev nD) (t : Fin cfg0.N)

/-- The blocks of point `t`. -/
def pt : Pt := ptOf (grid0.coords t) (iblk m c 0 t) (iblk m c 1 t) (iblk m c 2 t) (iblk m c 3 t) (iblk m c 4 t) (iblk m c 5 t)

/-- After the first point: this block's own part of its values' gradient. -/
theorem A_s4 (h0 : t.val % 34 = 0) (h1 : t.val < 33) (h2 : ¬t.val % 34 = 33) :
    (stepA m c t h0 h1 h2).s4 = k0_pay6 (part1 (pt m c t).DV) := by
  refine Eq.trans (b := View.canon [⟨Rect.unit ![0, 0] S128x128.size inb_S128x128_S128x128_0_0, k0_pay6 (part1 (pt m c t).DV)⟩, ⟨Rect.unit ![0, 0] S128x128.size inb_S128x128_S128x128_0_0, k0_pay2 (F := Ideal)⟩]) ?_ (by repeat (first | rw [canS] | rw [lodS]))
  unfold stepA
  dsimp only
  rw [View.read_writes_junk_eq_canon]
  delta runA kernelRun0_A
  dsimp only
  simp only [kernelRun0_A.sl.v641, kernelRun0_A.sl.HS4_1, A_HS2_2, View.readAt_eq_ld, View.readCov_eq_canon', Memref.IsWhole.read_unread]
  rfl

/-- After the first point: the gradient of the meta tokens' values so far. -/
theorem A_s6 (h0 : t.val % 34 = 0) (h1 : t.val < 33) (h2 : ¬t.val % 34 = 33) :
    (stepA m c t h0 h1 h2).s6 = k0_pay8 (k0_pay4 (F := Ideal)) (part2 (pt m c t).DV) := by
  refine Eq.trans (b := View.canon [⟨Rect.unit ![0, 0] S128x128.size inb_S128x128_S128x128_0_0, k0_pay8 (View.ld (View.canon [⟨Rect.unit ![0, 0] S128x128.size inb_S128x128_S128x128_0_0, k0_pay4 (F := Ideal)⟩]) (Rect.unit ![0, 0] S128x128.size inb_S128x128_S128x128_0_0)) (part2 (pt m c t).DV)⟩, ⟨Rect.unit ![0, 0] S128x128.size inb_S128x128_S128x128_0_0, k0_pay4 (F := Ideal)⟩]) ?_ (by repeat (first | rw [canS] | rw [lodS]))
  unfold stepA
  dsimp only
  rw [View.read_writes_junk_eq_canon]
  delta runA kernelRun0_A
  dsimp only
  simp only [kernelRun0_A.sl.v652, kernelRun0_A.sl.v651, kernelRun0_A.sl.HS6_1, A_HS2_2, View.readAt_eq_ld, View.readCov_eq_canon', Memref.IsWhole.read_unread]
  rfl

/-- After a later point: the gradient of the block before's values. -/
theorem B_o14 (h0 : ¬t.val % 34 = 0) (h1 : t.val < 33) (h2 : ¬t.val % 34 = 33) (p : Outs Ideal) :
    (stepB m c t h0 h1 h2 p).o14 = k0_pay160 p.s4 (part0 (pt m c t).DV) := by
  refine Eq.trans (b := View.canon [⟨Rect.unit ![0, 0] S128x128.size inb_S128x128_S128x128_0_0, k0_pay160 (View.ld p.s4 (Rect.unit ![0, 0] S128x128.size inb_S128x128_S128x128_0_0)) (part0 (pt m c t).DV)⟩]) ?_ (by repeat (first | rw [canS] | rw [lodS]))
  unfold stepB
  dsimp only
  rw [View.read_writes_junk_eq_canon]
  delta runB kernelRun0_B
  dsimp only
  simp only [kernelRun0_B.sl.v634, B_HS2_2, View.readAt_eq_ld, View.readCov_eq_canon', Memref.IsWhole.read_unread]
  erw [Memref.IsWhole.read_unread]; rfl

/-- After a later point: this block's own part of its values' gradient. -/
theorem B_s4 (h0 : ¬t.val % 34 = 0) (h1 : t.val < 33) (h2 : ¬t.val % 34 = 33) (p : Outs Ideal) :
    (stepB m c t h0 h1 h2 p).s4 = k0_pay6 (part1 (pt m c t).DV) := by
  refine Eq.trans (b := View.canon [⟨Rect.unit ![0, 0] S128x128.size inb_S128x128_S128x128_0_0, k0_pay6 (part1 (pt m c t).DV)⟩]) ?_ (by repeat (first | rw [canS] | rw [lodS]))
  unfold stepB
  dsimp only
  rw [View.read_writes_junk_eq_canon]
  delta runB kernelRun0_B
  dsimp only
  simp only [kernelRun0_B.sl.v641, B_HS2_2, View.readAt_eq_ld, View.readCov_eq_canon', Memref.IsWhole.read_unread]
  rfl

/-- After a later point: the gradient of the meta tokens' values so far. -/
theorem B_s6 (h0 : ¬t.val % 34 = 0) (h1 : t.val < 33) (h2 : ¬t.val % 34 = 33) (p : Outs Ideal) :
    (stepB m c t h0 h1 h2 p).s6 = k0_pay8 p.s6 (part2 (pt m c t).DV) := by
  refine Eq.trans (b := View.canon [⟨Rect.unit ![0, 0] S128x128.size inb_S128x128_S128x128_0_0, k0_pay8 (View.ld p.s6 (Rect.unit ![0, 0] S128x128.size inb_S128x128_S128x128_0_0)) (part2 (pt m c t).DV)⟩]) ?_ (by repeat (first | rw [canS] | rw [lodS]))
  unfold stepB
  dsimp only
  rw [View.read_writes_junk_eq_canon]
  delta runB kernelRun0_B
  dsimp only
  simp only [kernelRun0_B.sl.v652, B_HS2_2, View.readAt_eq_ld, View.readCov_eq_canon', Memref.IsWhole.read_unread]
  erw [Memref.IsWhole.read_unread]; rfl

/-- After the last point: the gradient of the block before's values. -/
theorem C_o14 (h0 : ¬t.val % 34 = 0) (h1 : ¬t.val < 33) (h2 : t.val % 34 = 33) (p : Outs Ideal) :
    (stepC m c t h0 h1 h2 p).o14 = p.s4 := by
  refine Eq.trans (b := View.canon [⟨Rect.unit ![0, 0] S128x128.size inb_S128x128_S128x128_0_0, (View.ld p.s4 (Rect.unit ![0, 0] S128x128.size inb_S128x128_S128x128_0_0))⟩]) ?_ (by repeat (first | rw [canS] | rw [lodS]))
  unfold stepC
  dsimp only
  rw [View.read_writes_junk_eq_canon]
  delta runC kernelRun0_C
  dsimp only
  simp only [kernelRun0_C.sl.r, View.readAt_eq_ld, View.readCov_eq_canon', Memref.IsWhole.read_unread]
  try erw [Memref.IsWhole.read_unread]

/-- After the last point: the gradient of the meta tokens' values. -/
theorem C_o16 (h0 : ¬t.val % 34 = 0) (h1 : ¬t.val < 33) (h2 : t.val % 34 = 33) (p : Outs Ideal) :
    (stepC m c t h0 h1 h2 p).o16 = p.s6 := by
  refine Eq.trans (b := View.canon [⟨Rect.unit ![0, 0] S128x128.size inb_S128x128_S128x128_0_0, (View.ld p.s6 (Rect.unit ![0, 0] S128x128.size inb_S128x128_S128x128_0_0))⟩]) ?_ (by repeat (first | rw [canS] | rw [lodS]))
  unfold stepC
  dsimp only
  rw [View.read_writes_junk_eq_canon]
  delta runC kernelRun0_C
  dsimp only
  simp only [kernelRun0_C.sl.r, View.readAt_eq_ld, View.readCov_eq_canon', Memref.IsWhole.read_unread]
  try erw [Memref.IsWhole.read_unread]

end Cert.KernelIdeal.Val

end
-- ==== Proof.Acc.lean ====
/- The gradient of the values that the kernel's body leaves, as reals: after each point, and added up over the points. -/
module

public import proofs.«01_k».proof.Proof.Step

@[expose] public section

set_option maxRecDepth 16384

noncomputable section

namespace Cert.KernelIdeal.Val

open Idealize.ShloMosaic Idealize.ShloMosaic.TcCoe Cert.KernelIdeal Cert.KernelIdeal.Gen Cert.Attn
open scoped BigOperators

/-- The blocks of a point hold block `b` of the attention's inputs: the queries, the cotangent, the keys of the block
    before, of the block and of the first block, the sinks and the mask. -/
structure Ok (I : Inp) (b : ℕ) (P : Pt) : Prop where
  q : ∀ (r : Fin 128) (c : Fin 512), P.x1 (ix2 r c) = (I.q (128 * b + r) (c / 64) (c % 64) : EReal)
  o : ∀ (r : Fin 128) (c : Fin 512), P.x2 (ix2 r c) = (I.o (128 * b + r) (c / 64) (c % 64) : EReal)
  k3 : ∀ (r c : Fin 128), P.x3 (ix2 r c) = (I.k (128 * (b - 1) + r) (c / 64) (c % 64) : EReal)
  k4 : ∀ (r c : Fin 128), P.x4 (ix2 r c) = (I.k (128 * b + r) (c / 64) (c % 64) : EReal)
  k5 : ∀ (r c : Fin 128), P.x5 (ix2 r c) = (I.k r (c / 64) (c % 64) : EReal)
  x : ∀ h : Fin 8, P.x0 (ix1 h) = (I.x h : EReal)
  b : ∀ (r : Fin 128) (j : Fin 384), P.M (ix2 r j) = if mask b r j then 1#1 else 0#1

theorem ldQ_at (x : Vec Ideal S128x512 .bf16) (h : Fin 8) (r : Fin 128) (d : Fin 64) :
    ldQ x h (ix2 r d) = x (ix2 r ⟨64 * h + d, by omega⟩) := by
  unfold ldQ
  exact congrArg x (by funext a; match a with | ⟨0, _⟩ => exact Fin.ext (by simp) | ⟨1, _⟩ => exact Fin.ext (by simp))
theorem ldK_at (x : Vec Ideal S128x128 .bf16) (h : Fin 2) (r : Fin 128) (d : Fin 64) :
    ldK x h (ix2 r d) = x (ix2 r ⟨64 * h + d, by omega⟩) := by
  unfold ldK
  exact congrArg x (by funext a; match a with | ⟨0, _⟩ => exact Fin.ext (by simp) | ⟨1, _⟩ => exact Fin.ext (by simp))
theorem ldX_at (x : Vec Ideal S8 .f32) (h : Fin 8) : ldX x h = x (ix1 h) := by
  unfold ldX
  exact congrArg x (by funext a; match a with | ⟨0, _⟩ => exact Fin.ext (by simp [Shape.Idx.first]))

namespace Ok
variable {I : Inp} {b : ℕ} {P : Pt} (H : Ok I b P)
include H

/-- One head's vectors hold that head's tile. -/
theorem holds (h : Fin 8) : Holds (I.tile b h) P.M (P.K (kv h)) (fun _ => (0 : EReal)) (ldQ P.x1 h) (ldQ P.x2 h) (ldX P.x0 h) where
  q r d := by
    rw [ldQ_at, H.q]
    exact congrArg₂ (fun a e => ((I.q (128 * b + r) a e : ℝ) : EReal)) (by show (64 * h.val + d.val) / 64 = h.val; omega)
      (by show (64 * h.val + d.val) % 64 = d.val; omega)
  o r d := by
    rw [ldQ_at, H.o]
    exact congrArg₂ (fun a e => ((I.o (128 * b + r) a e : ℝ) : EReal)) (by show (64 * h.val + d.val) / 64 = h.val; omega)
      (by show (64 * h.val + d.val) % 64 = d.val; omega)
  k j d := by
    have e1 : (64 * (kv h).val + d.val) / 64 = h.val / 4 := by show (64 * (h.val / 4) + d.val) / 64 = _; omega
    have e2 : (64 * (kv h).val + d.val) % 64 = d.val := by omega
    unfold Pt.K
    pointwise [k0_pay11]
    show _ = ((I.k (krow b j) (h / 4) d : ℝ) : EReal)
    unfold krow
    split
    · rw [ldK_at, H.k3]
      dsimp only
      rw [e1, e2]
    · split
      · rw [ldK_at, H.k4]
        dsimp only
        rw [e1, e2, if_pos (by omega)]
      · rw [ldK_at, H.k5]
        dsimp only
        rw [e1, e2, if_neg (by omega), Nat.sub_sub]
  v _ _ := rfl
  b := H.b
  x := by rw [ldX_at, H.x]; rfl

theorem dv_add (A : FVec Ideal S384x64 .f32) (h : Fin 8) (j : Fin 384) (d : Fin 64) :
    P.dv A h (ix2 j d) = A (ix2 j d) + ((I.tile b h).dv j d : EReal) := (H.holds h).dv A j d

theorem DV0 (j : Fin 384) (d : Fin 64) : P.DV0 (ix2 j d) = (I.dv b 0 j d : EReal) := by
  unfold Pt.DV0
  rw [H.dv_add, H.dv_add, H.dv_add, H.dv_add]
  have z : k0_pay14 (F := Ideal) (ix2 j d) = ((0 : ℝ) : EReal) := by pointwise [k0_pay14]; rfl
  rw [z, ← EReal.coe_add, ← EReal.coe_add, ← EReal.coe_add, ← EReal.coe_add, zero_add]
  unfold Inp.dv
  rw [Fin.sum_univ_four]; rfl
theorem DV1 (j : Fin 384) (d : Fin 64) : P.DV1 (ix2 j d) = (I.dv b 1 j d : EReal) := by
  unfold Pt.DV1
  rw [H.dv_add, H.dv_add, H.dv_add, H.dv_add]
  have z : k0_pay87 (F := Ideal) (ix2 j d) = ((0 : ℝ) : EReal) := by pointwise [k0_pay87]; rfl
  rw [z, ← EReal.coe_add, ← EReal.coe_add, ← EReal.coe_add, ← EReal.coe_add, zero_add]
  unfold Inp.dv
  rw [Fin.sum_univ_four]; rfl

/-- The gradient of the values from this point, by row of the three blocks and by column. -/
theorem DV (j : Fin 384) (c : Fin 128) : P.DV (ix2 j c) = (I.dvc b j c : EReal) := by
  unfold Pt.DV Inp.dvc
  rw [dif_pos j.isLt]
  canon_tiles x h
  · obtain ⟨a, e, rfl⟩ : ∃ (a : Fin 384) (e : Fin 64), x = ix2 a e := ⟨x 0, x 1, eq_ix2 x⟩
    replace h0 : j.val = a.val := h0
    replace h1 : c.val = 64 + e.val := h1
    obtain rfl := Fin.ext h0
    rw [H.DV1]
    have e1 : c.val / 64 = 1 := by omega
    rw [e1]
    exact congrArg (fun d => ((I.dv b 1 j d : ℝ) : EReal)) (Fin.ext (by show e.val = c.val % 64; omega))
  · obtain ⟨a, e, rfl⟩ : ∃ (a : Fin 384) (e : Fin 64), x = ix2 a e := ⟨x 0, x 1, eq_ix2 x⟩
    replace h0 : j.val = a.val := h0
    replace h1 : c.val = e.val := h1
    obtain rfl := Fin.ext h0
    rw [H.DV0]
    have e1 : c.val / 64 = 0 := by omega
    rw [e1]
    exact congrArg (fun d => ((I.dv b 0 j d : ℝ) : EReal)) (Fin.ext (by show e.val = c.val % 64; omega))

theorem part0 (i c : Fin 128) : part0 P.DV (ix2 i c) = (I.dvc b i c : EReal) :=
  (View.ld_unit_apply_of _ _ _ _ _ (ix2 ⟨i, by omega⟩ c) (by intro a; match a with | ⟨0, _⟩ => simp | ⟨1, _⟩ => simp)).trans (H.DV _ _)
theorem part1 (i c : Fin 128) : part1 P.DV (ix2 i c) = (I.dvc b (128 + i) c : EReal) :=
  (View.ld_unit_apply_of _ _ _ _ _ (ix2 ⟨128 + i, by omega⟩ c) (by intro a; match a with | ⟨0, _⟩ => simp | ⟨1, _⟩ => simp)).trans (H.DV _ _)
theorem part2 (i c : Fin 128) : part2 P.DV (ix2 i c) = (I.dvc b (256 + i) c : EReal) :=
  (View.ld_unit_apply_of _ _ _ _ _ (ix2 ⟨256 + i, by omega⟩ c) (by intro a; match a with | ⟨0, _⟩ => simp | ⟨1, _⟩ => simp)).trans (H.DV _ _)
end Ok

theorem pay8_at (a b : Vec Ideal S128x128 .f32) (i j : Fin 128) : k0_pay8 a b (ix2 i j) = a (ix2 i j) + b (ix2 i j) := by
  pointwise [k0_pay8]
theorem pay4_at (i j : Fin 128) : k0_pay4 (F := Ideal) (ix2 i j) = 0 := by
  pointwise [k0_pay4]

variable (m : (ℓ : Loc nD τ sig) → Buf (Elt Ideal) ℓ) (c : Dev nD) (I : Inp)

/-- The points before the last hold the blocks of the inputs `I`. -/
def Points : Prop := ∀ t : Fin cfg0.N, t.val < 33 → Ok I t.val (pt m c t)

variable {m c I} (H : Points m c I)
include H

/-- After a point before the last, this block's own part of its values' gradient is kept. -/
theorem s4_at (t : Fin cfg0.N) (ht : t.val < 33) (i j : Fin 128) :
    (outsAt0 m c t.val t.isLt).s4 (ix2 i j) = (I.dvc t.val (128 + i) j : EReal) := by
  have e : ∀ x : Vec Ideal S128x128 .f32, k0_pay6 x = x := fun x => shapeCast_self _ _
  by_cases h0 : t.val = 0
  · rw [outsAt0_A m c t (by omega) ht (by omega), A_s4, e, (H t ht).part1]
  · rw [outsAt0_B m c t (by omega) ht (by omega), B_s4, e, (H t ht).part1]

/-- After a point before the last, the gradient of the first block's values so far. -/
theorem s6_at (n : ℕ) (hn : n < cfg0.N) (h : n < 33) (i j : Fin 128) :
    (outsAt0 m c n hn).s6 (ix2 i j) = ((∑ b ∈ Finset.range (n + 1), I.dvc b (256 + i) j : ℝ) : EReal) := by
  induction n with
  | zero =>
    rw [show outsAt0 m c 0 hn = _ from outsAt0_A m c ⟨0, hn⟩ (Nat.zero_mod _) h (by show ¬0 % 34 = 33; omega), A_s6, pay8_at,
      pay4_at, (H ⟨0, hn⟩ h).part2, Finset.sum_range_one, zero_add]
  | succ n ih =>
    rw [outsAt0_succ_lt m c n hn (by omega) h (by omega), B_s6]
    rw [pay8_at]
    rw [(H ⟨n + 1, hn⟩ h).part2, ih (by omega) (by omega), Finset.sum_range_succ _ (n + 1), EReal.coe_add]

/-- What a point after the first stores as the gradient of the values of the block before. -/
theorem o14_at (n : ℕ) (hn : n + 1 < cfg0.N) (i j : Fin 128) :
    (outsAt0 m c (n + 1) hn).o14 (ix2 i j) = (I.dvb n i j : EReal) := by
  have hN : n + 1 < 34 := lt_of_lt_of_eq hn (show cfg0.N = 34 from N_0)
  unfold Inp.dvb
  by_cases h : n + 1 < 33
  · rw [outsAt0_succ_lt m c n hn (by omega) h (by omega), B_o14, if_pos h]
    pointwise [k0_pay160]
    rw [(H ⟨n + 1, hn⟩ h).part0, s4_at H ⟨n, by omega⟩ (by show n < 33; omega), EReal.coe_add]
  · rw [outsAt0_succ_ge m c n hn (by omega) h (by omega), C_o14, if_neg h, add_zero]
    exact s4_at H ⟨n, by omega⟩ (by show n < 33; omega) i j

/-- What the last point stores as the gradient of the first block's values. -/
theorem o16_at (hn : 33 < cfg0.N) (i j : Fin 128) :
    (outsAt0 m c 33 hn).o16 (ix2 i j) = (I.dvm i j : EReal) := by
  rw [outsAt0_succ_ge m c 32 hn (by omega) (by omega) (by omega), C_o16]
  exact s6_at H 32 (by omega) (by omega) i j

end Cert.KernelIdeal.Val

end
-- ==== Proof.Arr.lean ====
/- The two result arrays of the kernel after the run, and what its points are given, over the arrays it reads. -/
module

public import proofs.«01_k».proof.Proof.Acc

@[expose] public section

set_option maxRecDepth 16384

noncomputable section

namespace Cert.KernelIdeal.Val

open Idealize.ShloMosaic Idealize.ShloMosaic.TcCoe Idealize.SL.Sem Cert.KernelIdeal Cert.KernelIdeal.Gen Cert.Attn
open Idealize.ShloMosaic.Pipeline (Dat)
open scoped BigOperators

/-- The blocks the windows stand at: the previous, the present and the first block of the keys, and for the gradient
    of the values the block before. -/
theorem idx : ∀ t : Fin cfg0.N, (win0_0.index t = ![0] ∧ win0_1.index t = ![min t.val 32, 0] ∧ win0_2.index t = ![min t.val 32, 0])
    ∧ (win0_3.index t = ![min (t.val - 1) 32, 0] ∧ win0_4.index t = ![min t.val 32, 0] ∧ win0_5.index t = ![0, 0])
    ∧ win0_14.index t = ![t.val - 1, 0] ∧ win0_16.index t = ![0, 0] ∧ (grid0.coords t 0).val = t.val :=
  (by decide +kernel : ∀ t : Fin grid0.N, _)

theorem flush14 : ∀ t : Fin cfg0.N, (cfg0.win 14).flush t = true → t.val ≠ 0 :=
  (by decide +kernel : ∀ t : Fin grid0.N, (cfg0.win 14).flush t = true → t.val ≠ 0)

variable {m : (ℓ : Loc nD τ sig) → Buf (Elt Ideal) ℓ} {c : Dev nD} {I : Inp} (H : Points m c I)

/-- The gradient of the values, by row and column. -/
def outDv (I : Inp) : FVec Ideal S4224x128 .f32 := fun y => (I.dvb ((y 0).val / 128) ((y 0).val % 128) (y 1).val : EReal)
/-- The gradient of the first block's values. -/
def outDvm (I : Inp) : FVec Ideal S128x128 .f32 := fun y => (I.dvm (y 0).val (y 1).val : EReal)

include H

theorem final14 : (dats m 0 c).arrAt 14 (cfgs 0).N = outDv I := by
  refine (dats m 0 c).arrAt_eq_of_covers 14 (outDv I) (by decide +kernel) fun t hf y => ?_
  have h0 := flush14 t hf
  blk_simp
  rw [after0_14]
  obtain ⟨n, hn⟩ := t
  cases n with
  | zero => exact absurd rfl h0
  | succ n =>
    obtain ⟨a, e, rfl⟩ : ∃ (a e : Fin 128), y = ix2 a e := ⟨y 0, y 1, eq_ix2 y⟩
    refine (o14_at H n hn a e).trans ?_
    unfold outDv
    blk_simp [(idx ⟨n + 1, hn⟩).2.2.1]
    have e1 : (n + 1 - 1) * 128 + a.val = 128 * n + a.val := by omega
    have e2 : (128 * n + a.val) / 128 = n := by omega
    have e3 : (128 * n + a.val) % 128 = a.val := by omega
    rw [e1, e2, e3]

theorem final16 : (dats m 0 c).arrAt 16 (cfgs 0).N = outDvm I := by
  refine (dats m 0 c).arrAt_eq_of_covers 16 (outDvm I) (by decide +kernel) fun t hf y => ?_
  have h0 : t.val % 34 = 33 := (flush0_16 t).mp hf
  blk_simp
  rw [after0_16]
  obtain ⟨a, e, rfl⟩ : ∃ (a e : Fin 128), y = ix2 a e := ⟨y 0, y 1, eq_ix2 y⟩
  have h : (outsAt0 m c t.val t.isLt).o16 (ix2 a e) = (I.dvm a e : EReal) := by
    obtain ⟨n, hn⟩ := t
    have hN : n < 34 := lt_of_lt_of_eq hn (show cfg0.N = 34 from N_0)
    obtain rfl : n = 33 := by replace h0 : n % 34 = 33 := h0; omega
    exact o16_at H hn a e
  refine h.trans ?_
  unfold outDvm
  blk_simp [(idx t).2.2.2.1]

end Cert.KernelIdeal.Val

end
-- ==== Proof.RefOps.lean ====
module
public import proofs.«01_k».proof.Proof.Gen.ReferenceIdeal
public import Idealize.ShloMosaic.Lib.Pointwise
public import Idealize.ShloMosaic.Lib.Pipeline.Value
@[expose] public section
set_option maxRecDepth 16384
noncomputable section
/-! The reference program, one definition for each of its operations over the arguments it reaches. -/

namespace Cert.ReferenceIdeal.Read
open Cert.ReferenceIdeal Cert.ReferenceIdeal.Gen Idealize.ShloMosaic Idealize.ShloMosaic.TcCoe Idealize.SL.Sem Idealize.ShloMosaic.StableHlo
variable {F : FTy → Type} [FloatOps F]
def val_main_v0 (x2 : (⟨S4112x128, .f32⟩ : BufTy).Contents (Elt F)) : (⟨S16x128, .f32⟩ : BufTy).Contents (Elt F) :=
  extractStridedSlice S16x128 ![0, 0] (x2) slices_S4112x128_S16x128_0_0

def val_main_v1 : (⟨S4112, .f32⟩ : BufTy).Contents (Elt F) :=
  sitofp .f32 (iotaInDim S4112 32 0)

def val_main_v2 : (⟨S8, .f32⟩ : BufTy).Contents (Elt F) :=
  sitofp .f32 (iotaInDim S8 32 0)

def val_main_cst : (⟨S_, .f32⟩ : BufTy).Contents (Elt F) :=
  constant S_ .f32 0x40000000#32

def val_main_v3 : (⟨S8, .f32⟩ : BufTy).Contents (Elt F) :=
  broadcastInDim S8 ![] bcast_S_S8 (val_main_cst (F := F))

def val_main_v4 : (⟨S8, .f32⟩ : BufTy).Contents (Elt F) :=
  mulf (val_main_v3 (F := F)) (val_main_v2 (F := F))

def val_main_cst_0 : (⟨S_, .f32⟩ : BufTy).Contents (Elt F) :=
  constant S_ .f32 0x00000000#32

def val_main_v5 : (⟨S8, .f32⟩ : BufTy).Contents (Elt F) :=
  broadcastInDim S8 ![] bcast_S_S8 (val_main_cst_0 (F := F))

def val_main_v6 : (⟨S8, .f32⟩ : BufTy).Contents (Elt F) :=
  addf (val_main_v5 (F := F)) (val_main_v4 (F := F))

def val_main_v7 : (⟨S8, .f32⟩ : BufTy).Contents (Elt F) :=
  Host.negf (val_main_v6 (F := F))

def val_main_cst_1 : (⟨S_, .f32⟩ : BufTy).Contents (Elt F) :=
  constant S_ .f32 0x41800000#32

def val_main_v8 : (⟨S8, .f32⟩ : BufTy).Contents (Elt F) :=
  broadcastInDim S8 ![] bcast_S_S8 (val_main_cst_1 (F := F))

def val_main_v9 : (⟨S8, .f32⟩ : BufTy).Contents (Elt F) :=
  Host.divf (val_main_v7 (F := F)) (val_main_v8 (F := F))

def val_main_cst_2 : (⟨S_, .f32⟩ : BufTy).Contents (Elt F) :=
  constant S_ .f32 0x48F42400#32

def val_main_v10 : (⟨S8, .f32⟩ : BufTy).Contents (Elt F) :=
  broadcastInDim S8 ![] bcast_S_S8 (val_main_cst_2 (F := F))

def val_main_v11 : (⟨S8, .f32⟩ : BufTy).Contents (Elt F) :=
  Host.powf (val_main_v10 (F := F)) (val_main_v9 (F := F))

def val_main_v12 : (⟨S4112x1, .f32⟩ : BufTy).Contents (Elt F) :=
  broadcastInDim S4112x1 ![0] bcast_S4112_S4112x1_0 (val_main_v1 (F := F))

def val_main_v13 : (⟨S1x8, .f32⟩ : BufTy).Contents (Elt F) :=
  broadcastInDim S1x8 ![1] bcast_S8_S1x8_1 (val_main_v11 (F := F))

def val_main_v14 : (⟨S4112x8, .f32⟩ : BufTy).Contents (Elt F) :=
  broadcastInDim S4112x8 ![0, 1] bcast_S4112x1_S4112x8_0_1 (val_main_v12 (F := F))

def val_main_v15 : (⟨S4112x8, .f32⟩ : BufTy).Contents (Elt F) :=
  broadcastInDim S4112x8 ![0, 1] bcast_S1x8_S4112x8_0_1 (val_main_v13 (F := F))

def val_main_v16 : (⟨S4112x8, .f32⟩ : BufTy).Contents (Elt F) :=
  mulf (val_main_v14 (F := F)) (val_main_v15 (F := F))

def val_main_v17 : (⟨S4112x8, .f32⟩ : BufTy).Contents (Elt F) :=
  Host.cos (val_main_v16 (F := F))

def val_main_v18 : (⟨S1x4112x1x8, .f32⟩ : BufTy).Contents (Elt F) :=
  broadcastInDim S1x4112x1x8 ![1, 3] bcast_S4112x8_S1x4112x1x8_1_3 (val_main_v17 (F := F))

def val_main_v19 : (⟨S4112x8, .f32⟩ : BufTy).Contents (Elt F) :=
  Host.sin (val_main_v16 (F := F))

def val_main_v20 : (⟨S1x4112x1x8, .f32⟩ : BufTy).Contents (Elt F) :=
  broadcastInDim S1x4112x1x8 ![1, 3] bcast_S4112x8_S1x4112x1x8_1_3 (val_main_v19 (F := F))

def val_main_v21 (x0 : (⟨S4112x512, .f32⟩ : BufTy).Contents (Elt F)) : (⟨S1x4112x8x64, .f32⟩ : BufTy).Contents (Elt F) :=
  shapeCast _ (x0) shapeCasts_S4112x512_S1x4112x8x64

def val_main_v22 (x0 : (⟨S4112x512, .f32⟩ : BufTy).Contents (Elt F)) : (⟨S1x4112x8x8, .f32⟩ : BufTy).Contents (Elt F) :=
  extractStridedSlice S1x4112x8x8 ![0, 0, 0, 0] (val_main_v21 (F := F) x0) slices_S1x4112x8x64_S1x4112x8x8_0_0_0_0

def val_main_v23 (x0 : (⟨S4112x512, .f32⟩ : BufTy).Contents (Elt F)) : (⟨S1x4112x8x8, .f32⟩ : BufTy).Contents (Elt F) :=
  extractStridedSlice S1x4112x8x8 ![0, 0, 0, 8] (val_main_v21 (F := F) x0) slices_S1x4112x8x64_S1x4112x8x8_0_0_0_8

def val_main_v24 (x0 : (⟨S4112x512, .f32⟩ : BufTy).Contents (Elt F)) : (⟨S1x4112x8x48, .f32⟩ : BufTy).Contents (Elt F) :=
  extractStridedSlice S1x4112x8x48 ![0, 0, 0, 16] (val_main_v21 (F := F) x0) slices_S1x4112x8x64_S1x4112x8x48_0_0_0_16

def val_main_v25 : (⟨S1x4112x8x8, .f32⟩ : BufTy).Contents (Elt F) :=
  broadcastInDim S1x4112x8x8 ![0, 1, 2, 3] bcast_S1x4112x1x8_S1x4112x8x8_0_1_2_3 (val_main_v18 (F := F))

def val_main_v26 (x0 : (⟨S4112x512, .f32⟩ : BufTy).Contents (Elt F)) : (⟨S1x4112x8x8, .f32⟩ : BufTy).Contents (Elt F) :=
  mulf (val_main_v22 (F := F) x0) (val_main_v25 (F := F))

def val_main_v27 : (⟨S1x4112x8x8, .f32⟩ : BufTy).Contents (Elt F) :=
  broadcastInDim S1x4112x8x8 ![0, 1, 2, 3] bcast_S1x4112x1x8_S1x4112x8x8_0_1_2_3 (val_main_v20 (F := F))

def val_main_v28 (x0 : (⟨S4112x512, .f32⟩ : BufTy).Contents (Elt F)) : (⟨S1x4112x8x8, .f32⟩ : BufTy).Contents (Elt F) :=
  mulf (val_main_v23 (F := F) x0) (val_main_v27 (F := F))

def val_main_v29 (x0 : (⟨S4112x512, .f32⟩ : BufTy).Contents (Elt F)) : (⟨S1x4112x8x8, .f32⟩ : BufTy).Contents (Elt F) :=
  subf (val_main_v26 (F := F) x0) (val_main_v28 (F := F) x0)

def val_main_v30 : (⟨S1x4112x8x8, .f32⟩ : BufTy).Contents (Elt F) :=
  broadcastInDim S1x4112x8x8 ![0, 1, 2, 3] bcast_S1x4112x1x8_S1x4112x8x8_0_1_2_3 (val_main_v18 (F := F))

def val_main_v31 (x0 : (⟨S4112x512, .f32⟩ : BufTy).Contents (Elt F)) : (⟨S1x4112x8x8, .f32⟩ : BufTy).Contents (Elt F) :=
  mulf (val_main_v23 (F := F) x0) (val_main_v30 (F := F))

def val_main_v32 : (⟨S1x4112x8x8, .f32⟩ : BufTy).Contents (Elt F) :=
  broadcastInDim S1x4112x8x8 ![0, 1, 2, 3] bcast_S1x4112x1x8_S1x4112x8x8_0_1_2_3 (val_main_v20 (F := F))

def val_main_v33 (x0 : (⟨S4112x512, .f32⟩ : BufTy).Contents (Elt F)) : (⟨S1x4112x8x8, .f32⟩ : BufTy).Contents (Elt F) :=
  mulf (val_main_v22 (F := F) x0) (val_main_v32 (F := F))

def val_main_v34 (x0 : (⟨S4112x512, .f32⟩ : BufTy).Contents (Elt F)) : (⟨S1x4112x8x8, .f32⟩ : BufTy).Contents (Elt F) :=
  addf (val_main_v31 (F := F) x0) (val_main_v33 (F := F) x0)

def val_main_v35 (x0 : (⟨S4112x512, .f32⟩ : BufTy).Contents (Elt F)) : (⟨S1x4112x8x64, .f32⟩ : BufTy).Contents (Elt F) :=
  (concatenate S1x4112x8x64 3 [⟨S1x4112x8x8, ((val_main_v29 (F := F) x0) : (⟨S1x4112x8x8, .f32⟩ : BufTy).Contents (Elt F))⟩, ⟨S1x4112x8x8, ((val_main_v34 (F := F) x0) : (⟨S1x4112x8x8, .f32⟩ : BufTy).Contents (Elt F))⟩, ⟨S1x4112x8x48, ((val_main_v24 (F := F) x0) : (⟨S1x4112x8x48, .f32⟩ : BufTy).Contents (Elt F))⟩] concatenates_S1x4112x8x8_S1x4112x8x8_S1x4112x8x48_S1x4112x8x64_d3 : (⟨S1x4112x8x64, .f32⟩ : BufTy).Contents (Elt F))

def val_main_v36 (x1 : (⟨S4112x128, .f32⟩ : BufTy).Contents (Elt F)) : (⟨S1x4112x2x64, .f32⟩ : BufTy).Contents (Elt F) :=
  shapeCast _ (x1) shapeCasts_S4112x128_S1x4112x2x64

def val_main_v37 (x1 : (⟨S4112x128, .f32⟩ : BufTy).Contents (Elt F)) : (⟨S1x4112x2x8, .f32⟩ : BufTy).Contents (Elt F) :=
  extractStridedSlice S1x4112x2x8 ![0, 0, 0, 0] (val_main_v36 (F := F) x1) slices_S1x4112x2x64_S1x4112x2x8_0_0_0_0

def val_main_v38 (x1 : (⟨S4112x128, .f32⟩ : BufTy).Contents (Elt F)) : (⟨S1x4112x2x8, .f32⟩ : BufTy).Contents (Elt F) :=
  extractStridedSlice S1x4112x2x8 ![0, 0, 0, 8] (val_main_v36 (F := F) x1) slices_S1x4112x2x64_S1x4112x2x8_0_0_0_8

def val_main_v39 (x1 : (⟨S4112x128, .f32⟩ : BufTy).Contents (Elt F)) : (⟨S1x4112x2x48, .f32⟩ : BufTy).Contents (Elt F) :=
  extractStridedSlice S1x4112x2x48 ![0, 0, 0, 16] (val_main_v36 (F := F) x1) slices_S1x4112x2x64_S1x4112x2x48_0_0_0_16

def val_main_v40 : (⟨S1x4112x2x8, .f32⟩ : BufTy).Contents (Elt F) :=
  broadcastInDim S1x4112x2x8 ![0, 1, 2, 3] bcast_S1x4112x1x8_S1x4112x2x8_0_1_2_3 (val_main_v18 (F := F))

def val_main_v41 (x1 : (⟨S4112x128, .f32⟩ : BufTy).Contents (Elt F)) : (⟨S1x4112x2x8, .f32⟩ : BufTy).Contents (Elt F) :=
  mulf (val_main_v37 (F := F) x1) (val_main_v40 (F := F))

def val_main_v42 : (⟨S1x4112x2x8, .f32⟩ : BufTy).Contents (Elt F) :=
  broadcastInDim S1x4112x2x8 ![0, 1, 2, 3] bcast_S1x4112x1x8_S1x4112x2x8_0_1_2_3 (val_main_v20 (F := F))

def val_main_v43 (x1 : (⟨S4112x128, .f32⟩ : BufTy).Contents (Elt F)) : (⟨S1x4112x2x8, .f32⟩ : BufTy).Contents (Elt F) :=
  mulf (val_main_v38 (F := F) x1) (val_main_v42 (F := F))

def val_main_v44 (x1 : (⟨S4112x128, .f32⟩ : BufTy).Contents (Elt F)) : (⟨S1x4112x2x8, .f32⟩ : BufTy).Contents (Elt F) :=
  subf (val_main_v41 (F := F) x1) (val_main_v43 (F := F) x1)

def val_main_v45 : (⟨S1x4112x2x8, .f32⟩ : BufTy).Contents (Elt F) :=
  broadcastInDim S1x4112x2x8 ![0, 1, 2, 3] bcast_S1x4112x1x8_S1x4112x2x8_0_1_2_3 (val_main_v18 (F := F))

def val_main_v46 (x1 : (⟨S4112x128, .f32⟩ : BufTy).Contents (Elt F)) : (⟨S1x4112x2x8, .f32⟩ : BufTy).Contents (Elt F) :=
  mulf (val_main_v38 (F := F) x1) (val_main_v45 (F := F))

def val_main_v47 : (⟨S1x4112x2x8, .f32⟩ : BufTy).Contents (Elt F) :=
  broadcastInDim S1x4112x2x8 ![0, 1, 2, 3] bcast_S1x4112x1x8_S1x4112x2x8_0_1_2_3 (val_main_v20 (F := F))

def val_main_v48 (x1 : (⟨S4112x128, .f32⟩ : BufTy).Contents (Elt F)) : (⟨S1x4112x2x8, .f32⟩ : BufTy).Contents (Elt F) :=
  mulf (val_main_v37 (F := F) x1) (val_main_v47 (F := F))

def val_main_v49 (x1 : (⟨S4112x128, .f32⟩ : BufTy).Contents (Elt F)) : (⟨S1x4112x2x8, .f32⟩ : BufTy).Contents (Elt F) :=
  addf (val_main_v46 (F := F) x1) (val_main_v48 (F := F) x1)

def val_main_v50 (x1 : (⟨S4112x128, .f32⟩ : BufTy).Contents (Elt F)) : (⟨S1x4112x2x64, .f32⟩ : BufTy).Contents (Elt F) :=
  (concatenate S1x4112x2x64 3 [⟨S1x4112x2x8, ((val_main_v44 (F := F) x1) : (⟨S1x4112x2x8, .f32⟩ : BufTy).Contents (Elt F))⟩, ⟨S1x4112x2x8, ((val_main_v49 (F := F) x1) : (⟨S1x4112x2x8, .f32⟩ : BufTy).Contents (Elt F))⟩, ⟨S1x4112x2x48, ((val_main_v39 (F := F) x1) : (⟨S1x4112x2x48, .f32⟩ : BufTy).Contents (Elt F))⟩] concatenates_S1x4112x2x8_S1x4112x2x8_S1x4112x2x48_S1x4112x2x64_d3 : (⟨S1x4112x2x64, .f32⟩ : BufTy).Contents (Elt F))

def val_main_v51 (x2 : (⟨S4112x128, .f32⟩ : BufTy).Contents (Elt F)) : (⟨S1x4112x2x64, .f32⟩ : BufTy).Contents (Elt F) :=
  shapeCast _ (x2) shapeCasts_S4112x128_S1x4112x2x64

def val_main_v52 (x2 : (⟨S4112x128, .f32⟩ : BufTy).Contents (Elt F)) : (⟨S1x16x2x64, .f32⟩ : BufTy).Contents (Elt F) :=
  shapeCast _ (val_main_v0 (F := F) x2) shapeCasts_S16x128_S1x16x2x64

def val_main_v53 (x1 : (⟨S4112x128, .f32⟩ : BufTy).Contents (Elt F)) : (⟨S1x16x2x64, .f32⟩ : BufTy).Contents (Elt F) :=
  extractStridedSlice S1x16x2x64 ![0, 0, 0, 0] (val_main_v50 (F := F) x1) slices_S1x4112x2x64_S1x16x2x64_0_0_0_0

def val_main_cst_3 : (⟨S_, .f32⟩ : BufTy).Contents (Elt F) :=
  constant S_ .f32 0x00000000#32

def val_main_v54 : (⟨S1x112x8x64, .f32⟩ : BufTy).Contents (Elt F) :=
  broadcastInDim S1x112x8x64 ![] bcast_S_S1x112x8x64 (val_main_cst_3 (F := F))

def val_main_v55 (x0 : (⟨S4112x512, .f32⟩ : BufTy).Contents (Elt F)) : (⟨S1x4224x8x64, .f32⟩ : BufTy).Contents (Elt F) :=
  concatenate S1x4224x8x64 1 [⟨S1x112x8x64, (val_main_v54 (F := F))⟩, ⟨S1x4112x8x64, (val_main_v35 (F := F) x0)⟩] concatenates_S1x112x8x64_S1x4112x8x64_S1x4224x8x64_d1

def val_main_v56 (x0 : (⟨S4112x512, .f32⟩ : BufTy).Contents (Elt F)) : (⟨S1x33x128x2x4x64, .f32⟩ : BufTy).Contents (Elt F) :=
  shapeCast _ (val_main_v55 (F := F) x0) shapeCasts_S1x4224x8x64_S1x33x128x2x4x64

def val_main_cst_4 : (⟨S_, .f32⟩ : BufTy).Contents (Elt F) :=
  constant S_ .f32 0x00000000#32

def val_main_v57 : (⟨S1x112x2x64, .f32⟩ : BufTy).Contents (Elt F) :=
  broadcastInDim S1x112x2x64 ![] bcast_S_S1x112x2x64 (val_main_cst_4 (F := F))

def val_main_v58 (x1 : (⟨S4112x128, .f32⟩ : BufTy).Contents (Elt F)) : (⟨S1x4224x2x64, .f32⟩ : BufTy).Contents (Elt F) :=
  concatenate S1x4224x2x64 1 [⟨S1x112x2x64, (val_main_v57 (F := F))⟩, ⟨S1x4112x2x64, (val_main_v50 (F := F) x1)⟩] concatenates_S1x112x2x64_S1x4112x2x64_S1x4224x2x64_d1

def val_main_v59 (x1 : (⟨S4112x128, .f32⟩ : BufTy).Contents (Elt F)) : (⟨S1x33x128x2x64, .f32⟩ : BufTy).Contents (Elt F) :=
  shapeCast _ (val_main_v58 (F := F) x1) shapeCasts_S1x4224x2x64_S1x33x128x2x64

def val_main_cst_5 : (⟨S_, .f32⟩ : BufTy).Contents (Elt F) :=
  constant S_ .f32 0x00000000#32

def val_main_v60 : (⟨S1x112x2x64, .f32⟩ : BufTy).Contents (Elt F) :=
  broadcastInDim S1x112x2x64 ![] bcast_S_S1x112x2x64 (val_main_cst_5 (F := F))

def val_main_v61 (x2 : (⟨S4112x128, .f32⟩ : BufTy).Contents (Elt F)) : (⟨S1x4224x2x64, .f32⟩ : BufTy).Contents (Elt F) :=
  concatenate S1x4224x2x64 1 [⟨S1x112x2x64, (val_main_v60 (F := F))⟩, ⟨S1x4112x2x64, (val_main_v51 (F := F) x2)⟩] concatenates_S1x112x2x64_S1x4112x2x64_S1x4224x2x64_d1

def val_main_cst_6 : (⟨S_, .f32⟩ : BufTy).Contents (Elt F) :=
  constant S_ .f32 0x00000000#32

def val_main_v62 : (⟨S1x112x2x64, .f32⟩ : BufTy).Contents (Elt F) :=
  broadcastInDim S1x112x2x64 ![] bcast_S_S1x112x2x64 (val_main_cst_6 (F := F))

def val_main_v63 (x2 : (⟨S4112x128, .f32⟩ : BufTy).Contents (Elt F)) : (⟨S1x33x128x2x64, .f32⟩ : BufTy).Contents (Elt F) :=
  shapeCast _ (val_main_v61 (F := F) x2) shapeCasts_S1x4224x2x64_S1x33x128x2x64

def val_main_v64 (x1 : (⟨S4112x128, .f32⟩ : BufTy).Contents (Elt F)) : (⟨S1x1x128x2x64, .f32⟩ : BufTy).Contents (Elt F) :=
  extractStridedSlice S1x1x128x2x64 ![0, 0, 0, 0, 0] (val_main_v59 (F := F) x1) slices_S1x33x128x2x64_S1x1x128x2x64_0_0_0_0_0

def val_main_cst_7 : (⟨S_, .f32⟩ : BufTy).Contents (Elt F) :=
  constant S_ .f32 0x00000000#32

def val_main_v65 : (⟨S1x1x128x2x64, .f32⟩ : BufTy).Contents (Elt F) :=
  broadcastInDim S1x1x128x2x64 ![] bcast_S_S1x1x128x2x64 (val_main_cst_7 (F := F))

def val_main_v66 (x1 : (⟨S4112x128, .f32⟩ : BufTy).Contents (Elt F)) : (⟨S1x32x128x2x64, .f32⟩ : BufTy).Contents (Elt F) :=
  extractStridedSlice S1x32x128x2x64 ![0, 0, 0, 0, 0] (val_main_v59 (F := F) x1) slices_S1x33x128x2x64_S1x32x128x2x64_0_0_0_0_0

def val_main_v67 (x1 : (⟨S4112x128, .f32⟩ : BufTy).Contents (Elt F)) : (⟨S1x33x128x2x64, .f32⟩ : BufTy).Contents (Elt F) :=
  concatenate S1x33x128x2x64 1 [⟨S1x1x128x2x64, (val_main_v65 (F := F))⟩, ⟨S1x32x128x2x64, (val_main_v66 (F := F) x1)⟩] concatenates_S1x1x128x2x64_S1x32x128x2x64_S1x33x128x2x64_d1

def val_main_v68 (x2 : (⟨S4112x128, .f32⟩ : BufTy).Contents (Elt F)) : (⟨S1x1x128x2x64, .f32⟩ : BufTy).Contents (Elt F) :=
  extractStridedSlice S1x1x128x2x64 ![0, 0, 0, 0, 0] (val_main_v63 (F := F) x2) slices_S1x33x128x2x64_S1x1x128x2x64_0_0_0_0_0

def val_main_cst_8 : (⟨S_, .f32⟩ : BufTy).Contents (Elt F) :=
  constant S_ .f32 0x00000000#32

def val_main_v69 : (⟨S1x1x128x2x64, .f32⟩ : BufTy).Contents (Elt F) :=
  broadcastInDim S1x1x128x2x64 ![] bcast_S_S1x1x128x2x64 (val_main_cst_8 (F := F))

def val_main_v70 (x2 : (⟨S4112x128, .f32⟩ : BufTy).Contents (Elt F)) : (⟨S1x32x128x2x64, .f32⟩ : BufTy).Contents (Elt F) :=
  extractStridedSlice S1x32x128x2x64 ![0, 0, 0, 0, 0] (val_main_v63 (F := F) x2) slices_S1x33x128x2x64_S1x32x128x2x64_0_0_0_0_0

def val_main_v71 (x2 : (⟨S4112x128, .f32⟩ : BufTy).Contents (Elt F)) : (⟨S1x33x128x2x64, .f32⟩ : BufTy).Contents (Elt F) :=
  concatenate S1x33x128x2x64 1 [⟨S1x1x128x2x64, (val_main_v69 (F := F))⟩, ⟨S1x32x128x2x64, (val_main_v70 (F := F) x2)⟩] concatenates_S1x1x128x2x64_S1x32x128x2x64_S1x33x128x2x64_d1

def val_main_cst_9 : (⟨S_, .f32⟩ : BufTy).Contents (Elt F) :=
  constant S_ .f32 0x00000000#32

def val_main_v72 : (⟨S1x1x128x2x64, .f32⟩ : BufTy).Contents (Elt F) :=
  broadcastInDim S1x1x128x2x64 ![] bcast_S_S1x1x128x2x64 (val_main_cst_9 (F := F))

def val_main_v73 (x1 : (⟨S4112x128, .f32⟩ : BufTy).Contents (Elt F)) : (⟨S1x33x256x2x64, .f32⟩ : BufTy).Contents (Elt F) :=
  concatenate S1x33x256x2x64 2 [⟨S1x33x128x2x64, (val_main_v67 (F := F) x1)⟩, ⟨S1x33x128x2x64, (val_main_v59 (F := F) x1)⟩] concatenates_S1x33x128x2x64_S1x33x128x2x64_S1x33x256x2x64_d2

def val_main_v74 (x2 : (⟨S4112x128, .f32⟩ : BufTy).Contents (Elt F)) : (⟨S1x33x256x2x64, .f32⟩ : BufTy).Contents (Elt F) :=
  concatenate S1x33x256x2x64 2 [⟨S1x33x128x2x64, (val_main_v71 (F := F) x2)⟩, ⟨S1x33x128x2x64, (val_main_v63 (F := F) x2)⟩] concatenates_S1x33x128x2x64_S1x33x128x2x64_S1x33x256x2x64_d2

def val_main_v75 : (⟨S4224, .i32⟩ : BufTy).Contents (Elt F) :=
  iotaInDim S4224 32 0

def val_main_c : (⟨S_, .i32⟩ : BufTy).Contents (Elt F) :=
  constantI S_ 32 112#32

def val_main_v76 : (⟨S4224, .i32⟩ : BufTy).Contents (Elt F) :=
  broadcastInDim S4224 ![] bcast_S_S4224 (val_main_c (F := F))

def val_main_v77 : (⟨S4224, .i32⟩ : BufTy).Contents (Elt F) :=
  subi (val_main_v75 (F := F)) (val_main_v76 (F := F))

def val_main_v78 : (⟨S33x128, .i32⟩ : BufTy).Contents (Elt F) :=
  shapeCast _ (val_main_v77 (F := F)) shapeCasts_S4224_S33x128

def val_main_c_10 : (⟨S_, .i32⟩ : BufTy).Contents (Elt F) :=
  constantI S_ 32 128#32

def val_main_v79 : (⟨S33x128, .i32⟩ : BufTy).Contents (Elt F) :=
  broadcastInDim S33x128 ![] bcast_S_S33x128 (val_main_c_10 (F := F))

def val_main_v80 : (⟨S33x128, .i32⟩ : BufTy).Contents (Elt F) :=
  subi (val_main_v78 (F := F)) (val_main_v79 (F := F))

def val_main_v81 : (⟨S33x256, .i32⟩ : BufTy).Contents (Elt F) :=
  concatenate S33x256 1 [⟨S33x128, (val_main_v80 (F := F))⟩, ⟨S33x128, (val_main_v78 (F := F))⟩] concatenates_S33x128_S33x128_S33x256_d1

def val_main_v82 : (⟨S33x128x1, .i32⟩ : BufTy).Contents (Elt F) :=
  broadcastInDim S33x128x1 ![0, 1] bcast_S33x128_S33x128x1_0_1 (val_main_v78 (F := F))

def val_main_v83 : (⟨S33x1x256, .i32⟩ : BufTy).Contents (Elt F) :=
  broadcastInDim S33x1x256 ![0, 2] bcast_S33x256_S33x1x256_0_2 (val_main_v81 (F := F))

def val_main_v84 : (⟨S33x128x256, .i32⟩ : BufTy).Contents (Elt F) :=
  broadcastInDim S33x128x256 ![0, 1, 2] bcast_S33x128x1_S33x128x256_0_1_2 (val_main_v82 (F := F))

def val_main_v85 : (⟨S33x128x256, .i32⟩ : BufTy).Contents (Elt F) :=
  broadcastInDim S33x128x256 ![0, 1, 2] bcast_S33x1x256_S33x128x256_0_1_2 (val_main_v83 (F := F))

def val_main_v86 : (⟨S33x128x256, .i32⟩ : BufTy).Contents (Elt F) :=
  subi (val_main_v84 (F := F)) (val_main_v85 (F := F))

def val_main_v87 : (⟨S33x1x256, .i32⟩ : BufTy).Contents (Elt F) :=
  broadcastInDim S33x1x256 ![0, 2] bcast_S33x256_S33x1x256_0_2 (val_main_v81 (F := F))

def val_main_c_11 : (⟨S_, .i32⟩ : BufTy).Contents (Elt F) :=
  constantI S_ 32 16#32

def val_main_v88 : (⟨S33x1x256, .i32⟩ : BufTy).Contents (Elt F) :=
  broadcastInDim S33x1x256 ![] bcast_S_S33x1x256 (val_main_c_11 (F := F))

def val_main_v89 : (⟨S33x1x256, .i1⟩ : BufTy).Contents (Elt F) :=
  cmpi .sge (val_main_v87 (F := F)) (val_main_v88 (F := F))

def val_main_c_12 : (⟨S_, .i32⟩ : BufTy).Contents (Elt F) :=
  constantI S_ 32 0#32

def val_main_v90 : (⟨S33x128x256, .i32⟩ : BufTy).Contents (Elt F) :=
  broadcastInDim S33x128x256 ![] bcast_S_S33x128x256 (val_main_c_12 (F := F))

def val_main_v91 : (⟨S33x128x256, .i1⟩ : BufTy).Contents (Elt F) :=
  cmpi .sge (val_main_v86 (F := F)) (val_main_v90 (F := F))

def val_main_v92 : (⟨S33x128x256, .i1⟩ : BufTy).Contents (Elt F) :=
  broadcastInDim S33x128x256 ![0, 1, 2] bcast_S33x1x256_S33x128x256_0_1_2 (val_main_v89 (F := F))

def val_main_v93 : (⟨S33x128x256, .i1⟩ : BufTy).Contents (Elt F) :=
  andi (val_main_v92 (F := F)) (val_main_v91 (F := F))

def val_main_c_13 : (⟨S_, .i32⟩ : BufTy).Contents (Elt F) :=
  constantI S_ 32 128#32

def val_main_v94 : (⟨S33x128x256, .i32⟩ : BufTy).Contents (Elt F) :=
  broadcastInDim S33x128x256 ![] bcast_S_S33x128x256 (val_main_c_13 (F := F))

def val_main_v95 : (⟨S33x128x256, .i1⟩ : BufTy).Contents (Elt F) :=
  cmpi .slt (val_main_v86 (F := F)) (val_main_v94 (F := F))

def val_main_v96 : (⟨S33x128x256, .i1⟩ : BufTy).Contents (Elt F) :=
  andi (val_main_v93 (F := F)) (val_main_v95 (F := F))

def val_main_v97 : (⟨S16, .i32⟩ : BufTy).Contents (Elt F) :=
  iotaInDim S16 32 0

def val_main_v98 : (⟨S1x1x16, .i32⟩ : BufTy).Contents (Elt F) :=
  broadcastInDim S1x1x16 ![2] bcast_S16_S1x1x16_2 (val_main_v97 (F := F))

def val_main_v99 : (⟨S33x128x1, .i32⟩ : BufTy).Contents (Elt F) :=
  broadcastInDim S33x128x1 ![0, 1] bcast_S33x128_S33x128x1_0_1 (val_main_v78 (F := F))

def val_main_v100 : (⟨S33x128x16, .i32⟩ : BufTy).Contents (Elt F) :=
  broadcastInDim S33x128x16 ![0, 1, 2] bcast_S1x1x16_S33x128x16_0_1_2 (val_main_v98 (F := F))

def val_main_v101 : (⟨S33x128x16, .i32⟩ : BufTy).Contents (Elt F) :=
  broadcastInDim S33x128x16 ![0, 1, 2] bcast_S33x128x1_S33x128x16_0_1_2 (val_main_v99 (F := F))

def val_main_v102 : (⟨S33x128x16, .i1⟩ : BufTy).Contents (Elt F) :=
  cmpi .sle (val_main_v100 (F := F)) (val_main_v101 (F := F))

def val_main_v103 (x0 : (⟨S4112x512, .f32⟩ : BufTy).Contents (Elt F)) (x1 : (⟨S4112x128, .f32⟩ : BufTy).Contents (Elt F)) : (⟨S1x33x2x256x128x4, .f32⟩ : BufTy).Contents (Elt F) :=
  Host.dotGeneral dot_S1x33x256x2x64_S1x33x128x2x4x64_S1x33x2x256x128x4_4_5_2_24_013_013 none (val_main_v73 (F := F) x1) (val_main_v56 (F := F) x0)

def val_main_v104 (x0 : (⟨S4112x512, .f32⟩ : BufTy).Contents (Elt F)) (x1 : (⟨S4112x128, .f32⟩ : BufTy).Contents (Elt F)) : (⟨S1x33x2x4x128x256, .f32⟩ : BufTy).Contents (Elt F) :=
  transpose S1x33x2x4x128x256 [0, 1, 2, 5, 4, 3] (val_main_v103 (F := F) x0 x1) transposes_S1x33x2x256x128x4_S1x33x2x4x128x256_0_1_2_5_4_3

def val_main_cst_14 : (⟨S_, .f32⟩ : BufTy).Contents (Elt F) :=
  constant S_ .f32 0x3E000000#32

def val_main_v105 : (⟨S1x33x2x4x128x256, .f32⟩ : BufTy).Contents (Elt F) :=
  broadcastInDim S1x33x2x4x128x256 ![] bcast_S_S1x33x2x4x128x256 (val_main_cst_14 (F := F))

def val_main_v106 (x0 : (⟨S4112x512, .f32⟩ : BufTy).Contents (Elt F)) (x1 : (⟨S4112x128, .f32⟩ : BufTy).Contents (Elt F)) : (⟨S1x33x2x4x128x256, .f32⟩ : BufTy).Contents (Elt F) :=
  mulf (val_main_v104 (F := F) x0 x1) (val_main_v105 (F := F))

def val_main_v107 (x0 : (⟨S4112x512, .f32⟩ : BufTy).Contents (Elt F)) (x1 : (⟨S4112x128, .f32⟩ : BufTy).Contents (Elt F)) : (⟨S1x2x16x33x128x4, .f32⟩ : BufTy).Contents (Elt F) :=
  Host.dotGeneral dot_S1x16x2x64_S1x33x128x2x4x64_S1x2x16x33x128x4_3_5_1_124_02_03 none (val_main_v53 (F := F) x1) (val_main_v56 (F := F) x0)

def val_main_v108 (x0 : (⟨S4112x512, .f32⟩ : BufTy).Contents (Elt F)) (x1 : (⟨S4112x128, .f32⟩ : BufTy).Contents (Elt F)) : (⟨S1x33x2x4x128x16, .f32⟩ : BufTy).Contents (Elt F) :=
  transpose S1x33x2x4x128x16 [0, 3, 1, 5, 4, 2] (val_main_v107 (F := F) x0 x1) transposes_S1x2x16x33x128x4_S1x33x2x4x128x16_0_3_1_5_4_2

def val_main_cst_15 : (⟨S_, .f32⟩ : BufTy).Contents (Elt F) :=
  constant S_ .f32 0x3E000000#32

def val_main_v109 : (⟨S1x33x2x4x128x16, .f32⟩ : BufTy).Contents (Elt F) :=
  broadcastInDim S1x33x2x4x128x16 ![] bcast_S_S1x33x2x4x128x16 (val_main_cst_15 (F := F))

def val_main_v110 (x0 : (⟨S4112x512, .f32⟩ : BufTy).Contents (Elt F)) (x1 : (⟨S4112x128, .f32⟩ : BufTy).Contents (Elt F)) : (⟨S1x33x2x4x128x16, .f32⟩ : BufTy).Contents (Elt F) :=
  mulf (val_main_v108 (F := F) x0 x1) (val_main_v109 (F := F))

def val_main_v111 : (⟨S1x33x1x1x128x256, .i1⟩ : BufTy).Contents (Elt F) :=
  broadcastInDim S1x33x1x1x128x256 ![1, 4, 5] bcast_S33x128x256_S1x33x1x1x128x256_1_4_5 (val_main_v96 (F := F))

def val_main_cst_16 : (⟨S_, .f32⟩ : BufTy).Contents (Elt F) :=
  constant S_ .f32 0xFF800000#32

def val_main_call0_v0 : (⟨S_, .f32⟩ : BufTy).Contents (Elt F) :=
  id (val_main_cst_16 (F := F))

def val_main_call0_v1 : (⟨S1x33x2x4x128x256, .i1⟩ : BufTy).Contents (Elt F) :=
  broadcastInDim S1x33x2x4x128x256 ![0, 1, 2, 3, 4, 5] bcast_S1x33x1x1x128x256_S1x33x2x4x128x256_0_1_2_3_4_5 (val_main_v111 (F := F))

def val_main_call0_v2 : (⟨S1x33x2x4x128x256, .f32⟩ : BufTy).Contents (Elt F) :=
  broadcastInDim S1x33x2x4x128x256 ![] bcast_S_S1x33x2x4x128x256 (val_main_call0_v0 (F := F))

def val_main_v112 (x0 : (⟨S4112x512, .f32⟩ : BufTy).Contents (Elt F)) (x1 : (⟨S4112x128, .f32⟩ : BufTy).Contents (Elt F)) : (⟨S1x33x2x4x128x256, .f32⟩ : BufTy).Contents (Elt F) :=
  select (val_main_call0_v1 (F := F)) (val_main_v106 (F := F) x0 x1) (val_main_call0_v2 (F := F))

def val_main_v113 : (⟨S1x33x1x1x128x16, .i1⟩ : BufTy).Contents (Elt F) :=
  broadcastInDim S1x33x1x1x128x16 ![1, 4, 5] bcast_S33x128x16_S1x33x1x1x128x16_1_4_5 (val_main_v102 (F := F))

def val_main_cst_17 : (⟨S_, .f32⟩ : BufTy).Contents (Elt F) :=
  constant S_ .f32 0xFF800000#32

def val_main_call1_v0 : (⟨S_, .f32⟩ : BufTy).Contents (Elt F) :=
  id (val_main_cst_17 (F := F))

def val_main_call1_v1 : (⟨S1x33x2x4x128x16, .i1⟩ : BufTy).Contents (Elt F) :=
  broadcastInDim S1x33x2x4x128x16 ![0, 1, 2, 3, 4, 5] bcast_S1x33x1x1x128x16_S1x33x2x4x128x16_0_1_2_3_4_5 (val_main_v113 (F := F))

def val_main_call1_v2 : (⟨S1x33x2x4x128x16, .f32⟩ : BufTy).Contents (Elt F) :=
  broadcastInDim S1x33x2x4x128x16 ![] bcast_S_S1x33x2x4x128x16 (val_main_call1_v0 (F := F))

def val_main_v114 (x0 : (⟨S4112x512, .f32⟩ : BufTy).Contents (Elt F)) (x1 : (⟨S4112x128, .f32⟩ : BufTy).Contents (Elt F)) : (⟨S1x33x2x4x128x16, .f32⟩ : BufTy).Contents (Elt F) :=
  select (val_main_call1_v1 (F := F)) (val_main_v110 (F := F) x0 x1) (val_main_call1_v2 (F := F))

def val_main_v115 (x4 : (⟨S8, .f32⟩ : BufTy).Contents (Elt F)) : (⟨S2x4, .f32⟩ : BufTy).Contents (Elt F) :=
  shapeCast _ (x4) shapeCasts_S8_S2x4

def val_main_v116 (x4 : (⟨S8, .f32⟩ : BufTy).Contents (Elt F)) : (⟨S1x1x2x4x1x1, .f32⟩ : BufTy).Contents (Elt F) :=
  broadcastInDim S1x1x2x4x1x1 ![2, 3] bcast_S2x4_S1x1x2x4x1x1_2_3 (val_main_v115 (F := F) x4)

def val_main_v117 (x4 : (⟨S8, .f32⟩ : BufTy).Contents (Elt F)) : (⟨S1x33x2x4x128x1, .f32⟩ : BufTy).Contents (Elt F) :=
  broadcastInDim S1x33x2x4x128x1 ![0, 1, 2, 3, 4, 5] bcast_S1x1x2x4x1x1_S1x33x2x4x128x1_0_1_2_3_4_5 (val_main_v116 (F := F) x4)

def val_main_v118 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  (concatenate S1x33x2x4x128x273 5 [⟨S1x33x2x4x128x256, ((val_main_v112 (F := F) x0 x1) : (⟨S1x33x2x4x128x256, .f32⟩ : BufTy).Contents (Elt F))⟩, ⟨S1x33x2x4x128x16, ((val_main_v114 (F := F) x0 x1) : (⟨S1x33x2x4x128x16, .f32⟩ : BufTy).Contents (Elt F))⟩, ⟨S1x33x2x4x128x1, ((val_main_v117 (F := F) x4) : (⟨S1x33x2x4x128x1, .f32⟩ : BufTy).Contents (Elt F))⟩] concatenates_S1x33x2x4x128x256_S1x33x2x4x128x16_S1x33x2x4x128x1_S1x33x2x4x128x273_d5 : (⟨S1x33x2x4x128x273, .f32⟩ : BufTy).Contents (Elt F))

def val_main_cst_18 : (⟨S_, .f32⟩ : BufTy).Contents (Elt F) :=
  constant S_ .f32 0xFF800000#32

def val_main_v119 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128, .f32⟩ : BufTy).Contents (Elt F) :=
  Host.reduce FloatOps.maximumf (val_main_v118 (F := F) x0 x1 x4) (val_main_cst_18 (F := F)) reducesTo_S1x33x2x4x128x273_S1x33x2x4x128_d5 h_S_

def val_main_cst_19 : (⟨S_, .f32⟩ : BufTy).Contents (Elt F) :=
  constant S_ .f32 0xFF800000#32

def val_main_v120 : (⟨S1x33x2x4x128, .f32⟩ : BufTy).Contents (Elt F) :=
  broadcastInDim S1x33x2x4x128 ![] bcast_S_S1x33x2x4x128 (val_main_cst_19 (F := F))

def val_main_v121 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128, .f32⟩ : BufTy).Contents (Elt F) :=
  maximumf (val_main_v120 (F := F)) (val_main_v119 (F := F) x0 x1 x4)

def val_main_v122 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x1, .f32⟩ : BufTy).Contents (Elt F) :=
  broadcastInDim S1x33x2x4x128x1 ![0, 1, 2, 3, 4] bcast_S1x33x2x4x128_S1x33x2x4x128x1_0_1_2_3_4 (val_main_v121 (F := F) x0 x1 x4)

def val_main_v123 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  broadcastInDim S1x33x2x4x128x273 ![0, 1, 2, 3, 4, 5] bcast_S1x33x2x4x128x1_S1x33x2x4x128x273_0_1_2_3_4_5 (val_main_v122 (F := F) x0 x1 x4)

def val_main_v124 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  subf (val_main_v118 (F := F) x0 x1 x4) (val_main_v123 (F := F) x0 x1 x4)

def val_main_v125 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  Host.exp (val_main_v124 (F := F) x0 x1 x4)

def val_main_cst_20 : (⟨S_, .f32⟩ : BufTy).Contents (Elt F) :=
  constant S_ .f32 0x00000000#32

def val_main_v126 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128, .f32⟩ : BufTy).Contents (Elt F) :=
  Host.reduceAdd (val_main_v125 (F := F) x0 x1 x4) (val_main_cst_20 (F := F)) reducesTo_S1x33x2x4x128x273_S1x33x2x4x128_d5 h_S_

def val_main_v127 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x1, .f32⟩ : BufTy).Contents (Elt F) :=
  broadcastInDim S1x33x2x4x128x1 ![0, 1, 2, 3, 4] bcast_S1x33x2x4x128_S1x33x2x4x128x1_0_1_2_3_4 (val_main_v126 (F := F) x0 x1 x4)

def val_main_v128 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  broadcastInDim S1x33x2x4x128x273 ![0, 1, 2, 3, 4, 5] bcast_S1x33x2x4x128x1_S1x33x2x4x128x273_0_1_2_3_4_5 (val_main_v127 (F := F) x0 x1 x4)

def val_main_v129 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x273, .f32⟩ : BufTy).Contents (Elt F) :=
  Host.divf (val_main_v125 (F := F) x0 x1 x4) (val_main_v128 (F := F) x0 x1 x4)

def val_main_v130 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x256, .f32⟩ : BufTy).Contents (Elt F) :=
  extractStridedSlice S1x33x2x4x128x256 ![0, 0, 0, 0, 0, 0] (val_main_v129 (F := F) x0 x1 x4) slices_S1x33x2x4x128x273_S1x33x2x4x128x256_0_0_0_0_0_0

def val_main_v131 (x0 : (⟨S4112x512, .f32⟩ : BufTy).Contents (Elt F)) (x1 : (⟨S4112x128, .f32⟩ : BufTy).Contents (Elt F)) (x4 : (⟨S8, .f32⟩ : BufTy).Contents (Elt F)) : (⟨S1x33x2x4x128x16, .f32⟩ : BufTy).Contents (Elt F) :=
  extractStridedSlice S1x33x2x4x128x16 ![0, 0, 0, 0, 0, 256] (val_main_v129 (F := F) x0 x1 x4) slices_S1x33x2x4x128x273_S1x33x2x4x128x16_0_0_0_0_0_256

def val_main_v132 (x0 : (⟨S4112x512, .f32⟩ : BufTy).Contents (Elt F)) (x1 x2 : (⟨S4112x128, .f32⟩ : BufTy).Contents (Elt F)) (x4 : (⟨S8, .f32⟩ : BufTy).Contents (Elt F)) : (⟨S1x33x2x64x4x128, .f32⟩ : BufTy).Contents (Elt F) :=
  Host.dotGeneral dot_S1x33x256x2x64_S1x33x2x4x128x256_S1x33x2x64x4x128_2_5_4_34_013_012 none (val_main_v74 (F := F) x2) (val_main_v130 (F := F) x0 x1 x4)

def val_main_v133 (x0 : (⟨S4112x512, .f32⟩ : BufTy).Contents (Elt F)) (x1 x2 : (⟨S4112x128, .f32⟩ : BufTy).Contents (Elt F)) (x4 : (⟨S8, .f32⟩ : BufTy).Contents (Elt F)) : (⟨S1x33x128x2x4x64, .f32⟩ : BufTy).Contents (Elt F) :=
  transpose S1x33x128x2x4x64 [0, 1, 5, 2, 4, 3] (val_main_v132 (F := F) x0 x1 x2 x4) transposes_S1x33x2x64x4x128_S1x33x128x2x4x64_0_1_5_2_4_3

def val_main_v134 (x0 : (⟨S4112x512, .f32⟩ : BufTy).Contents (Elt F)) (x1 x2 : (⟨S4112x128, .f32⟩ : BufTy).Contents (Elt F)) (x4 : (⟨S8, .f32⟩ : BufTy).Contents (Elt F)) : (⟨S1x2x64x33x4x128, .f32⟩ : BufTy).Contents (Elt F) :=
  Host.dotGeneral dot_S1x16x2x64_S1x33x2x4x128x16_S1x2x64x33x4x128_1_5_3_134_02_02 none (val_main_v52 (F := F) x2) (val_main_v131 (F := F) x0 x1 x4)

def val_main_v135 (x0 : (⟨S4112x512, .f32⟩ : BufTy).Contents (Elt F)) (x1 x2 : (⟨S4112x128, .f32⟩ : BufTy).Contents (Elt F)) (x4 : (⟨S8, .f32⟩ : BufTy).Contents (Elt F)) : (⟨S1x33x128x2x4x64, .f32⟩ : BufTy).Contents (Elt F) :=
  transpose S1x33x128x2x4x64 [0, 3, 5, 1, 4, 2] (val_main_v134 (F := F) x0 x1 x2 x4) transposes_S1x2x64x33x4x128_S1x33x128x2x4x64_0_3_5_1_4_2

def val_main_v136 (x0 : (⟨S4112x512, .f32⟩ : BufTy).Contents (Elt F)) (x1 x2 : (⟨S4112x128, .f32⟩ : BufTy).Contents (Elt F)) (x4 : (⟨S8, .f32⟩ : BufTy).Contents (Elt F)) : (⟨S1x33x128x2x4x64, .f32⟩ : BufTy).Contents (Elt F) :=
  addf (val_main_v133 (F := F) x0 x1 x2 x4) (val_main_v135 (F := F) x0 x1 x2 x4)

def val_main_v137 (x0 : (⟨S4112x512, .f32⟩ : BufTy).Contents (Elt F)) (x1 x2 : (⟨S4112x128, .f32⟩ : BufTy).Contents (Elt F)) (x4 : (⟨S8, .f32⟩ : BufTy).Contents (Elt F)) : (⟨S1x4224x512, .f32⟩ : BufTy).Contents (Elt F) :=
  shapeCast _ (val_main_v136 (F := F) x0 x1 x2 x4) shapeCasts_S1x33x128x2x4x64_S1x4224x512

def val_main_v138 (x0 : (⟨S4112x512, .f32⟩ : BufTy).Contents (Elt F)) (x1 x2 : (⟨S4112x128, .f32⟩ : BufTy).Contents (Elt F)) (x4 : (⟨S8, .f32⟩ : BufTy).Contents (Elt F)) : (⟨S1x4112x512, .f32⟩ : BufTy).Contents (Elt F) :=
  extractStridedSlice S1x4112x512 ![0, 112, 0] (val_main_v137 (F := F) x0 x1 x2 x4) slices_S1x4224x512_S1x4112x512_0_112_0

def val_main_v139 (x0 : (⟨S4112x512, .f32⟩ : BufTy).Contents (Elt F)) (x1 x2 : (⟨S4112x128, .f32⟩ : BufTy).Contents (Elt F)) (x4 : (⟨S8, .f32⟩ : BufTy).Contents (Elt F)) : (⟨S4112x512, .f32⟩ : BufTy).Contents (Elt F) :=
  shapeCast _ (val_main_v138 (F := F) x0 x1 x2 x4) shapeCasts_S1x4112x512_S4112x512

def val_main_v140 (x3 : (⟨S4112x512, .f32⟩ : BufTy).Contents (Elt F)) : (⟨S1x4112x512, .f32⟩ : BufTy).Contents (Elt F) :=
  broadcastInDim S1x4112x512 ![1, 2] bcast_S4112x512_S1x4112x512_1_2 (x3)

def val_main_cst_21 : (⟨S_, .f32⟩ : BufTy).Contents (Elt F) :=
  constant S_ .f32 0x00000000#32

def val_main_v141 (x3 : (⟨S4112x512, .f32⟩ : BufTy).Contents (Elt F)) : (⟨S1x4224x512, .f32⟩ : BufTy).Contents (Elt F) :=
  pad S1x4224x512 ![0, 112, 0] ![0, 0, 0] ![0, 0, 0] (val_main_v140 (F := F) x3) (val_main_cst_21 (F := F)) pads_S1x4112x512_S1x4224x512_000_11200_000 h_S_

def val_main_v142 (x3 : (⟨S4112x512, .f32⟩ : BufTy).Contents (Elt F)) : (⟨S1x33x128x2x4x64, .f32⟩ : BufTy).Contents (Elt F) :=
  shapeCast _ (val_main_v141 (F := F) x3) shapeCasts_S1x4224x512_S1x33x128x2x4x64

def val_main_v143 (x3 : (⟨S4112x512, .f32⟩ : BufTy).Contents (Elt F)) : (⟨S1x2x64x33x4x128, .f32⟩ : BufTy).Contents (Elt F) :=
  transpose S1x2x64x33x4x128 [0, 3, 5, 1, 4, 2] (val_main_v142 (F := F) x3) transposes_S1x33x128x2x4x64_S1x2x64x33x4x128_0_3_5_1_4_2

def val_main_v144 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x2x64x16, .f32⟩ : BufTy).Contents (Elt F) :=
  Host.dotGeneral dot_S1x2x64x33x4x128_S1x33x2x4x128x16_S1x2x64x16_345_134_2_5_01_02 none (val_main_v143 (F := F) x3) (val_main_v131 (F := F) x0 x1 x4)

def val_main_v145 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x16x2x64, .f32⟩ : BufTy).Contents (Elt F) :=
  transpose S1x16x2x64 [0, 3, 1, 2] (val_main_v144 (F := F) x0 x1 x3 x4) transposes_S1x2x64x16_S1x16x2x64_0_3_1_2

def val_main_v146 (x3 : (⟨S4112x512, .f32⟩ : BufTy).Contents (Elt F)) : (⟨S1x33x2x64x4x128, .f32⟩ : BufTy).Contents (Elt F) :=
  transpose S1x33x2x64x4x128 [0, 1, 3, 5, 4, 2] (val_main_v142 (F := F) x3) transposes_S1x33x128x2x4x64_S1x33x2x64x4x128_0_1_3_5_4_2

def val_main_v147 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x2x64x256, .f32⟩ : BufTy).Contents (Elt F) :=
  Host.dotGeneral dot_S1x33x2x64x4x128_S1x33x2x4x128x256_S1x33x2x64x256_45_34_3_5_012_012 none (val_main_v146 (F := F) x3) (val_main_v130 (F := F) x0 x1 x4)

def val_main_v148 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x256x2x64, .f32⟩ : BufTy).Contents (Elt F) :=
  transpose S1x33x256x2x64 [0, 1, 4, 2, 3] (val_main_v147 (F := F) x0 x1 x3 x4) transposes_S1x33x2x64x256_S1x33x256x2x64_0_1_4_2_3

def val_main_v149 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x128x2x64, .f32⟩ : BufTy).Contents (Elt F) :=
  extractStridedSlice S1x33x128x2x64 ![0, 0, 0, 0, 0] (val_main_v148 (F := F) x0 x1 x3 x4) slices_S1x33x256x2x64_S1x33x128x2x64_0_0_0_0_0

def val_main_v150 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x128x2x64, .f32⟩ : BufTy).Contents (Elt F) :=
  extractStridedSlice S1x33x128x2x64 ![0, 0, 128, 0, 0] (val_main_v148 (F := F) x0 x1 x3 x4) slices_S1x33x256x2x64_S1x33x128x2x64_0_0_128_0_0

def val_main_v151 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x1x128x2x64, .f32⟩ : BufTy).Contents (Elt F) :=
  extractStridedSlice S1x1x128x2x64 ![0, 0, 0, 0, 0] (val_main_v149 (F := F) x0 x1 x3 x4) slices_S1x33x128x2x64_S1x1x128x2x64_0_0_0_0_0

def val_main_v152 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x32x128x2x64, .f32⟩ : BufTy).Contents (Elt F) :=
  extractStridedSlice S1x32x128x2x64 ![0, 1, 0, 0, 0] (val_main_v149 (F := F) x0 x1 x3 x4) slices_S1x33x128x2x64_S1x32x128x2x64_0_1_0_0_0

def val_main_cst_22 : (⟨S_, .f32⟩ : BufTy).Contents (Elt F) :=
  constant S_ .f32 0x00000000#32

def val_main_v153 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x128x2x64, .f32⟩ : BufTy).Contents (Elt F) :=
  pad S1x33x128x2x64 ![0, 0, 0, 0, 0] ![0, 1, 0, 0, 0] ![0, 0, 0, 0, 0] (val_main_v152 (F := F) x0 x1 x3 x4) (val_main_cst_22 (F := F)) pads_S1x32x128x2x64_S1x33x128x2x64_000_010_000_000_000 h_S_

def val_main_v154 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x33x128x2x64, .f32⟩ : BufTy).Contents (Elt F) :=
  addf (val_main_v150 (F := F) x0 x1 x3 x4) (val_main_v153 (F := F) x0 x1 x3 x4)

def val_main_v155 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x4224x2x64, .f32⟩ : BufTy).Contents (Elt F) :=
  shapeCast _ (val_main_v154 (F := F) x0 x1 x3 x4) shapeCasts_S1x33x128x2x64_S1x4224x2x64

def val_main_v156 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x112x2x64, .f32⟩ : BufTy).Contents (Elt F) :=
  extractStridedSlice S1x112x2x64 ![0, 0, 0, 0] (val_main_v155 (F := F) x0 x1 x3 x4) slices_S1x4224x2x64_S1x112x2x64_0_0_0_0

def val_main_v157 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S1x4112x2x64, .f32⟩ : BufTy).Contents (Elt F) :=
  extractStridedSlice S1x4112x2x64 ![0, 112, 0, 0] (val_main_v155 (F := F) x0 x1 x3 x4) slices_S1x4224x2x64_S1x4112x2x64_0_112_0_0

def val_main_v158 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S16x128, .f32⟩ : BufTy).Contents (Elt F) :=
  shapeCast _ (val_main_v145 (F := F) x0 x1 x3 x4) shapeCasts_S1x16x2x64_S16x128

def val_main_v159 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S4112x128, .f32⟩ : BufTy).Contents (Elt F) :=
  shapeCast _ (val_main_v157 (F := F) x0 x1 x3 x4) shapeCasts_S1x4112x2x64_S4112x128

def val_main_c_23 : (⟨S_, .i32⟩ : BufTy).Contents (Elt F) :=
  constantI S_ 32 0#32

def val_main_call2_v0 : (⟨S_, .f32⟩ : BufTy).Contents (Elt F) :=
  sitofp .f32 (val_main_c_23 (F := F))

def val_main_v160 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S4224x128, .f32⟩ : BufTy).Contents (Elt F) :=
  pad S4224x128 ![112, 0] ![0, 0] ![0, 0] (val_main_v159 (F := F) x0 x1 x3 x4) (val_main_call2_v0 (F := F)) pads_S4112x128_S4224x128_11200_000 h_S_

def val_main_c_24 : (⟨S_, .i32⟩ : BufTy).Contents (Elt F) :=
  constantI S_ 32 0#32

def val_main_call3_v0 : (⟨S_, .f32⟩ : BufTy).Contents (Elt F) :=
  sitofp .f32 (val_main_c_24 (F := F))

def val_main_v161 (x0 : (⟨S4112x512, .f32⟩ : BufTy).Contents (Elt F)) (x1 : (⟨S4112x128, .f32⟩ : BufTy).Contents (Elt F)) (x3 : (⟨S4112x512, .f32⟩ : BufTy).Contents (Elt F)) (x4 : (⟨S8, .f32⟩ : BufTy).Contents (Elt F)) : (⟨S128x128, .f32⟩ : BufTy).Contents (Elt F) :=
  pad S128x128 ![112, 0] ![0, 0] ![0, 0] (val_main_v158 (F := F) x0 x1 x3 x4) (val_main_call3_v0 (F := F)) pads_S16x128_S128x128_11200_000 h_S_

end Cert.ReferenceIdeal.Read
-- ==== Proof.Inputs.lean ====
/- The attention's inputs as real numbers, from the arguments of the program. -/
module

public import proofs.«01_k».proof.Proof.Spec
public import proofs.«01_k».proof.Proof.RefOps

@[expose] public section

set_option maxRecDepth 16384

noncomputable section

namespace Cert.Attn

open Idealize.ShloMosaic Idealize.ShloMosaic.TcCoe Cert.ReferenceIdeal
open Cert.ReferenceIdeal.Read (val_main_v35 val_main_v50)

/-- The inputs of the attention, by row of the padded arrays, from the program's arguments. -/
def inp (x0 : FVec Ideal S4112x512 .f32) (x1 : FVec Ideal S4112x128 .f32) (x3 : FVec Ideal S4112x512 .f32)
    (x4 : FVec Ideal S8 .f32) : Inp where
  q R h d := if H : 112 ≤ R ∧ R < 4224 ∧ h < 8 ∧ d < 64
    then (val_main_v35 (F := Ideal) x0 (ix4 (0 : Fin 1) (⟨R - 112, by omega⟩ : Fin 4112) (⟨h, H.2.2.1⟩ : Fin 8) (⟨d, H.2.2.2⟩ : Fin 64))).toReal else 0
  k R h d := if H : 112 ≤ R ∧ R < 4224 ∧ h < 2 ∧ d < 64
    then (val_main_v50 (F := Ideal) x1 (ix4 (0 : Fin 1) (⟨R - 112, by omega⟩ : Fin 4112) (⟨h, H.2.2.1⟩ : Fin 2) (⟨d, H.2.2.2⟩ : Fin 64))).toReal else 0
  o R h d := if H : 112 ≤ R ∧ R < 4224 ∧ h < 8 ∧ d < 64
    then (x3 (ix2 (⟨R - 112, by omega⟩ : Fin 4112) (⟨64 * h + d, by omega⟩ : Fin 512))).toReal else 0
  x h := if H : h < 8 then (x4 (ix1 (⟨h, H⟩ : Fin 8))).toReal else 0

/-- The rotated queries and keys, the cotangent and the sinks are real numbers. -/
structure Reals (x0 : FVec Ideal S4112x512 .f32) (x1 : FVec Ideal S4112x128 .f32) (x3 : FVec Ideal S4112x512 .f32)
    (x4 : FVec Ideal S8 .f32) : Prop where
  q : ∀ y, ((val_main_v35 (F := Ideal) x0 y).toReal : EReal) = val_main_v35 (F := Ideal) x0 y
  k : ∀ y, ((val_main_v50 (F := Ideal) x1 y).toReal : EReal) = val_main_v50 (F := Ideal) x1 y
  o : ∀ y, ((x3 y).toReal : EReal) = x3 y
  x : ∀ y, ((x4 y).toReal : EReal) = x4 y

theorem zero_real : (FloatOps.sitofp .f32 0#32 : Ideal .f32) = ((0 : ℝ) : EReal) := by
  show (((0#32 : BitVec 32).toInt : ℝ) : EReal) = _
  simp

end Cert.Attn

end
-- ==== Proof.Words.lean ====
/- Words of 32 bits as the integers they stand for, and truth values as words of one bit. -/
module

public import Idealize.ShloMosaic.Lib.Pointwise

@[expose] public section

namespace Cert.Attn

open Idealize.ShloMosaic

/-- A proposition as a word of one bit. -/
def bit (p : Prop) [Decidable p] : BitVec 1 := if p then 1#1 else 0#1

variable {p q : Prop} [Decidable p] [Decidable q] {a b : ℤ}

theorem bit_congr (h : p ↔ q) : bit p = bit q := by unfold bit; simp only [h]
theorem andi_bit : IntOp.andi (bit p) (bit q) = bit (p ∧ q) := by
  unfold bit; by_cases p <;> by_cases q <;> simp_all [IntOp.andi]
theorem ori_bit : IntOp.ori (bit p) (bit q) = bit (p ∨ q) := by
  unfold bit; by_cases p <;> by_cases q <;> simp_all [IntOp.ori]
theorem select_bit {α : Type} (x y : α) : Scalar.select (bit p) x y = if p then x else y := by
  unfold bit; by_cases p <;> simp_all [Scalar.select]

theorem subi_int : IntOp.subi (BitVec.ofInt 32 a) (BitVec.ofInt 32 b) = BitVec.ofInt 32 (a - b) := by
  rw [Int.sub_eq_add_neg, BitVec.ofInt_add, BitVec.ofInt_neg, ← BitVec.sub_eq_add_neg]; rfl
theorem addi_int : IntOp.addi (BitVec.ofInt 32 a) (BitVec.ofInt 32 b) = BitVec.ofInt 32 (a + b) := (BitVec.ofInt_add ..).symm
theorem muli_int : IntOp.muli (BitVec.ofInt 32 a) (BitVec.ofInt 32 b) = BitVec.ofInt 32 (a * b) := (BitVec.ofInt_mul ..).symm
theorem nat_int (n : ℕ) : BitVec.ofNat 32 n = BitVec.ofInt 32 (n : ℤ) := (BitVec.ofInt_natCast ..).symm

/-- An integer a signed word of 32 bits can hold. -/
def Fits (a : ℤ) : Prop := -2147483648 ≤ a ∧ a < 2147483648

theorem toInt_int (h : Fits a) : (BitVec.ofInt 32 a).toInt = a := by
  unfold Fits at h
  rw [BitVec.toInt_ofInt, Int.bmod_eq_of_le] <;> norm_num <;> omega

theorem sge_int (ha : Fits a) (hb : Fits b) : IntOp.cmpi .sge (BitVec.ofInt 32 a) (BitVec.ofInt 32 b) = bit (b ≤ a) := by
  unfold bit
  by_cases h : b ≤ a <;> simp [IntOp.cmpi, BitVec.sle, toInt_int ha, toInt_int hb, h]
theorem sle_int (ha : Fits a) (hb : Fits b) : IntOp.cmpi .sle (BitVec.ofInt 32 a) (BitVec.ofInt 32 b) = bit (a ≤ b) := by
  unfold bit
  by_cases h : a ≤ b <;> simp [IntOp.cmpi, BitVec.sle, toInt_int ha, toInt_int hb, h]
theorem slt_int (ha : Fits a) (hb : Fits b) : IntOp.cmpi .slt (BitVec.ofInt 32 a) (BitVec.ofInt 32 b) = bit (a < b) := by
  unfold bit
  by_cases h : a < b <;> simp [IntOp.cmpi, BitVec.slt, toInt_int ha, toInt_int hb, h]

end Cert.Attn
-- ==== Proof.Entry.lean ====
/- The arrays the kernel is given, over the program's arguments: the reference's own rotated queries and keys, padded in
   front, and the padded cotangent. -/
module

public import proofs.«01_k».proof.Proof.Arr
public import proofs.«01_k».proof.Proof.Inputs
public import Idealize.ShloMosaic.Lib.Claim
public import proofs.«01_k».proof.Proof.Words

@[expose] public section

set_option maxRecDepth 16384

noncomputable section

namespace Cert.KernelIdeal.Val

open Idealize.ShloMosaic Idealize.ShloMosaic.TcCoe Idealize.SL.Sem Cert.KernelIdeal Cert.KernelIdeal.Gen Cert.Attn
open Cert.ReferenceIdeal.Read (val_main_v35 val_main_v50)

variable (m : (ℓ : Loc nD τ sig) → Buf (Elt Ideal) ℓ) (c : Dev nD)

/-- Rows of 512 columns, padded in front by 112 rows of zeros. -/
def padQ (x : FVec Ideal S4112x512 .f32) : FVec Ideal S4224x512 .bf16 :=
  truncf .bf16 (pad S4224x512 ![112, 0] ![0, 0] ![0, 0] x
    (sitofp .f32 (constantI S_ 32 0#32)) pads_S4112x512_S4224x512_11200_000 h_S_) bitsLt_bf16_f32

/-- Rows of 128 columns, padded in front by 112 rows of zeros. -/
def padK (x : FVec Ideal S4112x128 .f32) : FVec Ideal S4224x128 .bf16 :=
  truncf .bf16 (pad S4224x128 ![112, 0] ![0, 0] ![0, 0] x
    (sitofp .f32 (constantI S_ 32 0#32)) pads_S4112x128_S4224x128_11200_000 h_S_) bitsLt_bf16_f32

set_option maxHeartbeats 2000000 in
/-- The cotangent's window is cut from the padded cotangent. -/
theorem V_o : V m c main_v59 = padQ (m ((c : Thread nD τ).loc main_arg3)) := by
  entry_read; rfl

set_option maxHeartbeats 2000000 in
/-- The queries' window is cut from the padded rotated queries. -/
theorem V_q : V m c main_v53 = padQ (shapeCast S4112x512
    (val_main_v35 (F := Ideal) (m ((c : Thread nD τ).loc main_arg0))) shapeCasts_S1x4112x8x64_S4112x512) := by
  entry_read; rfl

set_option maxHeartbeats 2000000 in
/-- The keys' windows are cut from the padded rotated keys. -/
theorem V_k : V m c main_v55 = padK (shapeCast S4112x128
    (val_main_v50 (F := Ideal) (m ((c : Thread nD τ).loc main_arg1))) shapeCasts_S1x4112x2x64_S4112x128) := by
  entry_read; rfl

variable {x0 : FVec Ideal S4112x512 .f32} {x1 : FVec Ideal S4112x128 .f32} {x3 : FVec Ideal S4112x512 .f32} {x4 : FVec Ideal S8 .f32}

theorem padQ_q (H : Reals x0 x1 x3 x4) (R : Fin 4224) (e : Fin 512) :
    padQ (shapeCast S4112x512 (val_main_v35 (F := Ideal) x0) shapeCasts_S1x4112x8x64_S4112x512) (ix2 R e)
      = ((inp x0 x1 x3 x4).q R (e / 64) (e % 64) : EReal) := by
  pointwise [padQ]
  unfold inp
  dsimp only
  split
  · rename_i h
    rw [dif_pos (by omega), H.q]
  · rw [dif_neg (by omega)]
    exact zero_real

theorem padK_k (H : Reals x0 x1 x3 x4) (R : Fin 4224) (e : Fin 128) :
    padK (shapeCast S4112x128 (val_main_v50 (F := Ideal) x1) shapeCasts_S1x4112x2x64_S4112x128) (ix2 R e)
      = ((inp x0 x1 x3 x4).k R (e / 64) (e % 64) : EReal) := by
  pointwise [padK]
  unfold inp
  dsimp only
  split
  · rename_i h
    rw [dif_pos (by omega), H.k]
  · rw [dif_neg (by omega)]
    exact zero_real

theorem padQ_o (H : Reals x0 x1 x3 x4) (R : Fin 4224) (e : Fin 512) :
    padQ x3 (ix2 R e) = ((inp x0 x1 x3 x4).o R (e / 64) (e % 64) : EReal) := by
  pointwise [padQ]
  unfold inp
  dsimp only
  split
  · rename_i h
    rw [dif_pos (by omega), H.o]
    exact congrArg x3 (congrArg (ix2 _) (Fin.ext (by show e.val = 64 * (e.val / 64) + e.val % 64; omega)))
  · rw [dif_neg (by omega)]
    exact zero_real

theorem mask_at (b : ℕ) (hb : b < 33) (r : Fin 128) (j : Fin 384) :
    k0_pay10 (BitVec.ofNat 32 b) (ix2 r j) = if mask b r j then 1#1 else 0#1 := by
  pointwise [k0_pay10]
  simp only [nat_int, Scalar.muli, Scalar.subi, subi_int, addi_int, muli_int]
  rw [slt_int, sge_int, sge_int, slt_int, sge_int, sle_int]
  · simp only [andi_bit, ori_bit]
    unfold mask
    simp only [decide_eq_true_eq]
    exact bit_congr (by omega)
  all_goals (unfold Fits; omega)

theorem q_at (t : Fin cfg0.N) (ht : t.val < 33) (r : Fin 128) (e : Fin 512) :
    iblk m c 1 t (ix2 r e) = (V m c main_v53 : FVec Ideal S4224x512 .bf16) (ix2 (⟨128 * t + r, by omega⟩ : Fin 4224) e) := by
  blk_simp [iblk]
  blk_ext [idx t]
  trace_state

theorem o_at (t : Fin cfg0.N) (ht : t.val < 33) (r : Fin 128) (e : Fin 512) :
    iblk m c 2 t (ix2 r e) = (V m c main_v59 : FVec Ideal S4224x512 .bf16) (ix2 (⟨128 * t + r, by omega⟩ : Fin 4224) e) := by
  blk_simp [iblk]
  blk_ext [idx t]
theorem k3_at (t : Fin cfg0.N) (ht : t.val < 33) (r e : Fin 128) :
    iblk m c 3 t (ix2 r e) = (V m c main_v55 : FVec Ideal S4224x128 .bf16) (ix2 (⟨128 * (t - 1) + r, by omega⟩ : Fin 4224) e) := by
  blk_simp [iblk]
  blk_ext [idx t]
theorem k4_at (t : Fin cfg0.N) (ht : t.val < 33) (r e : Fin 128) :
    iblk m c 4 t (ix2 r e) = (V m c main_v55 : FVec Ideal S4224x128 .bf16) (ix2 (⟨128 * t + r, by omega⟩ : Fin 4224) e) := by
  blk_simp [iblk]
  blk_ext [idx t]
theorem k5_at (t : Fin cfg0.N) (r e : Fin 128) :
    iblk m c 5 t (ix2 r e) = (V m c main_v55 : FVec Ideal S4224x128 .bf16) (ix2 (⟨r, by omega⟩ : Fin 4224) e) := by
  blk_simp [iblk]
  blk_ext [idx t]
theorem x_at (t : Fin cfg0.N) (h : Fin 8) :
    iblk m c 0 t (ix1 h) = (V m c main_arg4 : FVec Ideal S8 .f32) (ix1 h) := by
  blk_simp [iblk]
  blk_ext [idx t]

/-- The arguments that the attention's gradient reads. -/
abbrev a0 : FVec Ideal S4112x512 .f32 := m ((c : Thread nD τ).loc main_arg0)
abbrev a1 : FVec Ideal S4112x128 .f32 := m ((c : Thread nD τ).loc main_arg1)
abbrev a3 : FVec Ideal S4112x512 .f32 := m ((c : Thread nD τ).loc main_arg3)
abbrev a4 : FVec Ideal S8 .f32 := m ((c : Thread nD τ).loc main_arg4)

section Points
variable (H : Reals (a0 m c) (a1 m c) (a3 m c) (a4 m c)) (t : Fin cfg0.N)
local notation "𝓘" => inp (a0 m c) (a1 m c) (a3 m c) (a4 m c)
include H

theorem x1_at (ht : t.val < 33) (r : Fin 128) (e : Fin 512) : iblk m c 1 t (ix2 r e) = ((𝓘).q (128 * t.val + r) (e / 64) (e % 64) : EReal) := by
  rw [q_at m c t ht, V_q]; exact padQ_q H _ e
theorem x2_at (ht : t.val < 33) (r : Fin 128) (e : Fin 512) : iblk m c 2 t (ix2 r e) = ((𝓘).o (128 * t.val + r) (e / 64) (e % 64) : EReal) := by
  rw [o_at m c t ht, V_o]; exact padQ_o H _ e
theorem x3_at (ht : t.val < 33) (r e : Fin 128) : iblk m c 3 t (ix2 r e) = ((𝓘).k (128 * (t.val - 1) + r) (e / 64) (e % 64) : EReal) := by
  rw [k3_at m c t ht, V_k]; exact padK_k H _ e
theorem x4_at (ht : t.val < 33) (r e : Fin 128) : iblk m c 4 t (ix2 r e) = ((𝓘).k (128 * t.val + r) (e / 64) (e % 64) : EReal) := by
  rw [k4_at m c t ht, V_k]; exact padK_k H _ e
theorem x5_at (r e : Fin 128) : iblk m c 5 t (ix2 r e) = ((𝓘).k r (e / 64) (e % 64) : EReal) := by
  rw [k5_at m c t, V_k]; exact padK_k H _ e
theorem x0_at (h : Fin 8) : iblk m c 0 t (ix1 h) = ((𝓘).x h : EReal) := by
  rw [x_at m c t, V_main_arg4]
  show _ = ((if H : h.val < 8 then ((a4 m c) (ix1 (⟨h, H⟩ : Fin 8))).toReal else 0 : ℝ) : EReal)
  rw [dif_pos h.isLt, H.x]
omit H in
theorem M_at (ht : t.val < 33) (r : Fin 128) (j : Fin 384) : (pt m c t).M (ix2 r j) = if mask t r j then 1#1 else 0#1 := by
  show k0_pay10 (BitVec.ofNat 32 (grid0.coords t 0).val) (ix2 r j) = _
  rw [(idx t).2.2.2.2]
  exact mask_at t.val ht r j

set_option maxHeartbeats 4000000 in
theorem ok (ht : t.val < 33) : Ok 𝓘 t.val (pt m c t) where
  q := x1_at m c H t ht
  o := x2_at m c H t ht
  k3 := x3_at m c H t ht
  k4 := x4_at m c H t ht
  k5 := x5_at m c H t
  x := x0_at m c H t
  b := M_at m c t ht

/-- Every point of the grid that is a block of the queries is given that block of the attention's inputs. -/
theorem points : Points m c 𝓘 := fun t ht => ok m c H t ht
end Points

end Cert.KernelIdeal.Val

end
-- ==== Proof.RefRun.lean ====
module

public import proofs.«01_k».proof.Proof.Gen.ReferenceIdeal
public import proofs.«01_k».proof.Proof.RefOps
public import Idealize.ShloMosaic.Lib.StableHlo.Run
public import Idealize.ShloMosaic.Lib.Pipeline.Frame

@[expose] public section

set_option Elab.async false
set_option maxRecDepth 8192

noncomputable section

/-! The run of the reference program. Its operations are cut into short lines; after each line, every buffer a later
    operation reads is shown to hold the value that the operation's own definition names, over the arguments. -/

namespace Cert.ReferenceIdeal.Run

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The joining of the pieces that `main_v35` holds. -/
def fn_main_v35 : (main_v29 : Ref sig .tc).ty.Contents (Elt F) → (main_v34 : Ref sig .tc).ty.Contents (Elt F) → (main_v24 : Ref sig .tc).ty.Contents (Elt F) → (main_v35 : Ref sig .tc).ty.Contents (Elt F) :=
  (fun u0 u1 u2 => (concatenate S1x4112x8x64 3 [⟨S1x4112x8x8, (u0 : (⟨S1x4112x8x8, .f32⟩ : BufTy).Contents (Elt F))⟩, ⟨S1x4112x8x8, (u1 : (⟨S1x4112x8x8, .f32⟩ : BufTy).Contents (Elt F))⟩, ⟨S1x4112x8x48, (u2 : (⟨S1x4112x8x48, .f32⟩ : BufTy).Contents (Elt F))⟩] concatenates_S1x4112x8x8_S1x4112x8x8_S1x4112x8x48_S1x4112x8x64_d3 : (⟨S1x4112x8x64, .f32⟩ : BufTy).Contents (Elt F)))

/-- The joining of the pieces that `main_v50` holds. -/
def fn_main_v50 : (main_v44 : Ref sig .tc).ty.Contents (Elt F) → (main_v49 : Ref sig .tc).ty.Contents (Elt F) → (main_v39 : Ref sig .tc).ty.Contents (Elt F) → (main_v50 : Ref sig .tc).ty.Contents (Elt F) :=
  (fun u0 u1 u2 => (concatenate S1x4112x2x64 3 [⟨S1x4112x2x8, (u0 : (⟨S1x4112x2x8, .f32⟩ : BufTy).Contents (Elt F))⟩, ⟨S1x4112x2x8, (u1 : (⟨S1x4112x2x8, .f32⟩ : BufTy).Contents (Elt F))⟩, ⟨S1x4112x2x48, (u2 : (⟨S1x4112x2x48, .f32⟩ : BufTy).Contents (Elt F))⟩] concatenates_S1x4112x2x8_S1x4112x2x8_S1x4112x2x48_S1x4112x2x64_d3 : (⟨S1x4112x2x64, .f32⟩ : BufTy).Contents (Elt F)))

/-- The joining of the pieces that `main_v55` holds. -/
def fn_main_v55 : (⟨S1x112x8x64, .f32⟩ : BufTy).Contents (Elt F) → (⟨S1x4112x8x64, .f32⟩ : BufTy).Contents (Elt F) → (⟨S1x4224x8x64, .f32⟩ : BufTy).Contents (Elt F) :=
  (fun a b => concatenate S1x4224x8x64 1 [⟨S1x112x8x64, a⟩, ⟨S1x4112x8x64, b⟩] concatenates_S1x112x8x64_S1x4112x8x64_S1x4224x8x64_d1)

/-- The joining of the pieces that `main_v58` holds. -/
def fn_main_v58 : (⟨S1x112x2x64, .f32⟩ : BufTy).Contents (Elt F) → (⟨S1x4112x2x64, .f32⟩ : BufTy).Contents (Elt F) → (⟨S1x4224x2x64, .f32⟩ : BufTy).Contents (Elt F) :=
  (fun a b => concatenate S1x4224x2x64 1 [⟨S1x112x2x64, a⟩, ⟨S1x4112x2x64, b⟩] concatenates_S1x112x2x64_S1x4112x2x64_S1x4224x2x64_d1)

/-- The joining of the pieces that `main_v61` holds. -/
def fn_main_v61 : (⟨S1x112x2x64, .f32⟩ : BufTy).Contents (Elt F) → (⟨S1x4112x2x64, .f32⟩ : BufTy).Contents (Elt F) → (⟨S1x4224x2x64, .f32⟩ : BufTy).Contents (Elt F) :=
  (fun a b => concatenate S1x4224x2x64 1 [⟨S1x112x2x64, a⟩, ⟨S1x4112x2x64, b⟩] concatenates_S1x112x2x64_S1x4112x2x64_S1x4224x2x64_d1)

/-- The joining of the pieces that `main_v67` holds. -/
def fn_main_v67 : (⟨S1x1x128x2x64, .f32⟩ : BufTy).Contents (Elt F) → (⟨S1x32x128x2x64, .f32⟩ : BufTy).Contents (Elt F) → (⟨S1x33x128x2x64, .f32⟩ : BufTy).Contents (Elt F) :=
  (fun a b => concatenate S1x33x128x2x64 1 [⟨S1x1x128x2x64, a⟩, ⟨S1x32x128x2x64, b⟩] concatenates_S1x1x128x2x64_S1x32x128x2x64_S1x33x128x2x64_d1)

/-- The joining of the pieces that `main_v71` holds. -/
def fn_main_v71 : (⟨S1x1x128x2x64, .f32⟩ : BufTy).Contents (Elt F) → (⟨S1x32x128x2x64, .f32⟩ : BufTy).Contents (Elt F) → (⟨S1x33x128x2x64, .f32⟩ : BufTy).Contents (Elt F) :=
  (fun a b => concatenate S1x33x128x2x64 1 [⟨S1x1x128x2x64, a⟩, ⟨S1x32x128x2x64, b⟩] concatenates_S1x1x128x2x64_S1x32x128x2x64_S1x33x128x2x64_d1)

/-- The joining of the pieces that `main_v73` holds. -/
def fn_main_v73 : (⟨S1x33x128x2x64, .f32⟩ : BufTy).Contents (Elt F) → (⟨S1x33x128x2x64, .f32⟩ : BufTy).Contents (Elt F) → (⟨S1x33x256x2x64, .f32⟩ : BufTy).Contents (Elt F) :=
  (fun a b => concatenate S1x33x256x2x64 2 [⟨S1x33x128x2x64, a⟩, ⟨S1x33x128x2x64, b⟩] concatenates_S1x33x128x2x64_S1x33x128x2x64_S1x33x256x2x64_d2)

/-- The joining of the pieces that `main_v74` holds. -/
def fn_main_v74 : (⟨S1x33x128x2x64, .f32⟩ : BufTy).Contents (Elt F) → (⟨S1x33x128x2x64, .f32⟩ : BufTy).Contents (Elt F) → (⟨S1x33x256x2x64, .f32⟩ : BufTy).Contents (Elt F) :=
  (fun a b => concatenate S1x33x256x2x64 2 [⟨S1x33x128x2x64, a⟩, ⟨S1x33x128x2x64, b⟩] concatenates_S1x33x128x2x64_S1x33x128x2x64_S1x33x256x2x64_d2)

/-- The joining of the pieces that `main_v81` holds. -/
def fn_main_v81 : (⟨S33x128, .i32⟩ : BufTy).Contents (Elt F) → (⟨S33x128, .i32⟩ : BufTy).Contents (Elt F) → (⟨S33x256, .i32⟩ : BufTy).Contents (Elt F) :=
  (fun a b => concatenate S33x256 1 [⟨S33x128, a⟩, ⟨S33x128, b⟩] concatenates_S33x128_S33x128_S33x256_d1)

/-- The joining of the pieces that `main_v118` holds. -/
def fn_main_v118 : (main_v112 : Ref sig .tc).ty.Contents (Elt F) → (main_v114 : Ref sig .tc).ty.Contents (Elt F) → (main_v117 : Ref sig .tc).ty.Contents (Elt F) → (main_v118 : Ref sig .tc).ty.Contents (Elt F) :=
  (fun u0 u1 u2 => (concatenate S1x33x2x4x128x273 5 [⟨S1x33x2x4x128x256, (u0 : (⟨S1x33x2x4x128x256, .f32⟩ : BufTy).Contents (Elt F))⟩, ⟨S1x33x2x4x128x16, (u1 : (⟨S1x33x2x4x128x16, .f32⟩ : BufTy).Contents (Elt F))⟩, ⟨S1x33x2x4x128x1, (u2 : (⟨S1x33x2x4x128x1, .f32⟩ : BufTy).Contents (Elt F))⟩] concatenates_S1x33x2x4x128x256_S1x33x2x4x128x16_S1x33x2x4x128x1_S1x33x2x4x128x273_d5 : (⟨S1x33x2x4x128x273, .f32⟩ : BufTy).Contents (Elt F)))

/-- The operations 1 to 10. -/
abbrev ops0 : List (HloOp τ sig (Elt F)) :=
  [ unary main_arg2 main_v0 ((extractStridedSlice S16x128 ![0, 0] · slices_S4112x128_S16x128_0_0) : (⟨S4112x128, .f32⟩ : BufTy).Contents (Elt F) → (⟨S16x128, .f32⟩ : BufTy).Contents (Elt F)),
    nullary main_v1 (sitofp .f32 (iotaInDim S4112 32 0)),
    nullary main_v2 (sitofp .f32 (iotaInDim S8 32 0)),
    nullary main_cst (constant S_ .f32 0x40000000#32),
    unary main_cst main_v3 (broadcastInDim S8 ![] bcast_S_S8 : (⟨S_, .f32⟩ : BufTy).Contents (Elt F) → (⟨S8, .f32⟩ : BufTy).Contents (Elt F)),
    binary main_v3 main_v2 main_v4 (mulf : (⟨S8, .f32⟩ : BufTy).Contents (Elt F) → (⟨S8, .f32⟩ : BufTy).Contents (Elt F) → (⟨S8, .f32⟩ : BufTy).Contents (Elt F)),
    nullary main_cst_0 (constant S_ .f32 0x00000000#32),
    unary main_cst_0 main_v5 (broadcastInDim S8 ![] bcast_S_S8 : (⟨S_, .f32⟩ : BufTy).Contents (Elt F) → (⟨S8, .f32⟩ : BufTy).Contents (Elt F)),
    binary main_v5 main_v4 main_v6 (addf : (⟨S8, .f32⟩ : BufTy).Contents (Elt F) → (⟨S8, .f32⟩ : BufTy).Contents (Elt F) → (⟨S8, .f32⟩ : BufTy).Contents (Elt F)),
    unary main_v6 main_v7 (Host.negf : (⟨S8, .f32⟩ : BufTy).Contents (Elt F) → (⟨S8, .f32⟩ : BufTy).Contents (Elt F)) ]

/-- The operations 11 to 20. -/
abbrev ops1 : List (HloOp τ sig (Elt F)) :=
  [ nullary main_cst_1 (constant S_ .f32 0x41800000#32),
    unary main_cst_1 main_v8 (broadcastInDim S8 ![] bcast_S_S8 : (⟨S_, .f32⟩ : BufTy).Contents (Elt F) → (⟨S8, .f32⟩ : BufTy).Contents (Elt F)),
    binary main_v7 main_v8 main_v9 (Host.divf : (⟨S8, .f32⟩ : BufTy).Contents (Elt F) → (⟨S8, .f32⟩ : BufTy).Contents (Elt F) → (⟨S8, .f32⟩ : BufTy).Contents (Elt F)),
    nullary main_cst_2 (constant S_ .f32 0x48F42400#32),
    unary main_cst_2 main_v10 (broadcastInDim S8 ![] bcast_S_S8 : (⟨S_, .f32⟩ : BufTy).Contents (Elt F) → (⟨S8, .f32⟩ : BufTy).Contents (Elt F)),
    binary main_v10 main_v9 main_v11 (Host.powf : (⟨S8, .f32⟩ : BufTy).Contents (Elt F) → (⟨S8, .f32⟩ : BufTy).Contents (Elt F) → (⟨S8, .f32⟩ : BufTy).Contents (Elt F)),
    unary main_v1 main_v12 (broadcastInDim S4112x1 ![0] bcast_S4112_S4112x1_0 : (⟨S4112, .f32⟩ : BufTy).Contents (Elt F) → (⟨S4112x1, .f32⟩ : BufTy).Contents (Elt F)),
    unary main_v11 main_v13 (broadcastInDim S1x8 ![1] bcast_S8_S1x8_1 : (⟨S8, .f32⟩ : BufTy).Contents (Elt F) → (⟨S1x8, .f32⟩ : BufTy).Contents (Elt F)),
    unary main_v12 main_v14 (broadcastInDim S4112x8 ![0, 1] bcast_S4112x1_S4112x8_0_1 : (⟨S4112x1, .f32⟩ : BufTy).Contents (Elt F) → (⟨S4112x8, .f32⟩ : BufTy).Contents (Elt F)),
    unary main_v13 main_v15 (broadcastInDim S4112x8 ![0, 1] bcast_S1x8_S4112x8_0_1 : (⟨S1x8, .f32⟩ : BufTy).Contents (Elt F) → (⟨S4112x8, .f32⟩ : BufTy).Contents (Elt F)) ]

/-- The operations 21 to 30. -/
abbrev ops2 : List (HloOp τ sig (Elt F)) :=
  [ binary main_v14 main_v15 main_v16 (mulf : (⟨S4112x8, .f32⟩ : BufTy).Contents (Elt F) → (⟨S4112x8, .f32⟩ : BufTy).Contents (Elt F) → (⟨S4112x8, .f32⟩ : BufTy).Contents (Elt F)),
    unary main_v16 main_v17 (Host.cos : (⟨S4112x8, .f32⟩ : BufTy).Contents (Elt F) → (⟨S4112x8, .f32⟩ : BufTy).Contents (Elt F)),
    unary main_v17 main_v18 (broadcastInDim S1x4112x1x8 ![1, 3] bcast_S4112x8_S1x4112x1x8_1_3 : (⟨S4112x8, .f32⟩ : BufTy).Contents (Elt F) → (⟨S1x4112x1x8, .f32⟩ : BufTy).Contents (Elt F)),
    unary main_v16 main_v19 (Host.sin : (⟨S4112x8, .f32⟩ : BufTy).Contents (Elt F) → (⟨S4112x8, .f32⟩ : BufTy).Contents (Elt F)),
    unary main_v19 main_v20 (broadcastInDim S1x4112x1x8 ![1, 3] bcast_S4112x8_S1x4112x1x8_1_3 : (⟨S4112x8, .f32⟩ : BufTy).Contents (Elt F) → (⟨S1x4112x1x8, .f32⟩ : BufTy).Contents (Elt F)),
    reshape main_arg0 main_v21 (rfl : (.f32 : EltTy) = .f32) shapeCasts_S4112x512_S1x4112x8x64,
    unary main_v21 main_v22 ((extractStridedSlice S1x4112x8x8 ![0, 0, 0, 0] · slices_S1x4112x8x64_S1x4112x8x8_0_0_0_0) : (⟨S1x4112x8x64, .f32⟩ : BufTy).Contents (Elt F) → (⟨S1x4112x8x8, .f32⟩ : BufTy).Contents (Elt F)),
    unary main_v21 main_v23 ((extractStridedSlice S1x4112x8x8 ![0, 0, 0, 8] · slices_S1x4112x8x64_S1x4112x8x8_0_0_0_8) : (⟨S1x4112x8x64, .f32⟩ : BufTy).Contents (Elt F) → (⟨S1x4112x8x8, .f32⟩ : BufTy).Contents (Elt F)),
    unary main_v21 main_v24 ((extractStridedSlice S1x4112x8x48 ![0, 0, 0, 16] · slices_S1x4112x8x64_S1x4112x8x48_0_0_0_16) : (⟨S1x4112x8x64, .f32⟩ : BufTy).Contents (Elt F) → (⟨S1x4112x8x48, .f32⟩ : BufTy).Contents (Elt F)),
    unary main_v18 main_v25 (broadcastInDim S1x4112x8x8 ![0, 1, 2, 3] bcast_S1x4112x1x8_S1x4112x8x8_0_1_2_3 : (⟨S1x4112x1x8, .f32⟩ : BufTy).Contents (Elt F) → (⟨S1x4112x8x8, .f32⟩ : BufTy).Contents (Elt F)) ]

/-- The operations 31 to 40. -/
abbrev ops3 : List (HloOp τ sig (Elt F)) :=
  [ binary main_v22 main_v25 main_v26 (mulf : (⟨S1x4112x8x8, .f32⟩ : BufTy).Contents (Elt F) → (⟨S1x4112x8x8, .f32⟩ : BufTy).Contents (Elt F) → (⟨S1x4112x8x8, .f32⟩ : BufTy).Contents (Elt F)),
    unary main_v20 main_v27 (broadcastInDim S1x4112x8x8 ![0, 1, 2, 3] bcast_S1x4112x1x8_S1x4112x8x8_0_1_2_3 : (⟨S1x4112x1x8, .f32⟩ : BufTy).Contents (Elt F) → (⟨S1x4112x8x8, .f32⟩ : BufTy).Contents (Elt F)),
    binary main_v23 main_v27 main_v28 (mulf : (⟨S1x4112x8x8, .f32⟩ : BufTy).Contents (Elt F) → (⟨S1x4112x8x8, .f32⟩ : BufTy).Contents (Elt F) → (⟨S1x4112x8x8, .f32⟩ : BufTy).Contents (Elt F)),
    binary main_v26 main_v28 main_v29 (subf : (⟨S1x4112x8x8, .f32⟩ : BufTy).Contents (Elt F) → (⟨S1x4112x8x8, .f32⟩ : BufTy).Contents (Elt F) → (⟨S1x4112x8x8, .f32⟩ : BufTy).Contents (Elt F)),
    unary main_v18 main_v30 (broadcastInDim S1x4112x8x8 ![0, 1, 2, 3] bcast_S1x4112x1x8_S1x4112x8x8_0_1_2_3 : (⟨S1x4112x1x8, .f32⟩ : BufTy).Contents (Elt F) → (⟨S1x4112x8x8, .f32⟩ : BufTy).Contents (Elt F)),
    binary main_v23 main_v30 main_v31 (mulf : (⟨S1x4112x8x8, .f32⟩ : BufTy).Contents (Elt F) → (⟨S1x4112x8x8, .f32⟩ : BufTy).Contents (Elt F) → (⟨S1x4112x8x8, .f32⟩ : BufTy).Contents (Elt F)),
    unary main_v20 main_v32 (broadcastInDim S1x4112x8x8 ![0, 1, 2, 3] bcast_S1x4112x1x8_S1x4112x8x8_0_1_2_3 : (⟨S1x4112x1x8, .f32⟩ : BufTy).Contents (Elt F) → (⟨S1x4112x8x8, .f32⟩ : BufTy).Contents (Elt F)),
    binary main_v22 main_v32 main_v33 (mulf : (⟨S1x4112x8x8, .f32⟩ : BufTy).Contents (Elt F) → (⟨S1x4112x8x8, .f32⟩ : BufTy).Contents (Elt F) → (⟨S1x4112x8x8, .f32⟩ : BufTy).Contents (Elt F)),
    binary main_v31 main_v33 main_v34 (addf : (⟨S1x4112x8x8, .f32⟩ : BufTy).Contents (Elt F) → (⟨S1x4112x8x8, .f32⟩ : BufTy).Contents (Elt F) → (⟨S1x4112x8x8, .f32⟩ : BufTy).Contents (Elt F)),
    nary ![main_v29, main_v34, main_v24] main_v35 (fun u => fn_main_v35 (F := F) (u 0) (u 1) (u 2)) ]

/-- The operations 41 to 50. -/
abbrev ops4 : List (HloOp τ sig (Elt F)) :=
  [ reshape main_arg1 main_v36 (rfl : (.f32 : EltTy) = .f32) shapeCasts_S4112x128_S1x4112x2x64,
    unary main_v36 main_v37 ((extractStridedSlice S1x4112x2x8 ![0, 0, 0, 0] · slices_S1x4112x2x64_S1x4112x2x8_0_0_0_0) : (⟨S1x4112x2x64, .f32⟩ : BufTy).Contents (Elt F) → (⟨S1x4112x2x8, .f32⟩ : BufTy).Contents (Elt F)),
    unary main_v36 main_v38 ((extractStridedSlice S1x4112x2x8 ![0, 0, 0, 8] · slices_S1x4112x2x64_S1x4112x2x8_0_0_0_8) : (⟨S1x4112x2x64, .f32⟩ : BufTy).Contents (Elt F) → (⟨S1x4112x2x8, .f32⟩ : BufTy).Contents (Elt F)),
    unary main_v36 main_v39 ((extractStridedSlice S1x4112x2x48 ![0, 0, 0, 16] · slices_S1x4112x2x64_S1x4112x2x48_0_0_0_16) : (⟨S1x4112x2x64, .f32⟩ : BufTy).Contents (Elt F) → (⟨S1x4112x2x48, .f32⟩ : BufTy).Contents (Elt F)),
    unary main_v18 main_v40 (broadcastInDim S1x4112x2x8 ![0, 1, 2, 3] bcast_S1x4112x1x8_S1x4112x2x8_0_1_2_3 : (⟨S1x4112x1x8, .f32⟩ : BufTy).Contents (Elt F) → (⟨S1x4112x2x8, .f32⟩ : BufTy).Contents (Elt F)),
    binary main_v37 main_v40 main_v41 (mulf : (⟨S1x4112x2x8, .f32⟩ : BufTy).Contents (Elt F) → (⟨S1x4112x2x8, .f32⟩ : BufTy).Contents (Elt F) → (⟨S1x4112x2x8, .f32⟩ : BufTy).Contents (Elt F)),
    unary main_v20 main_v42 (broadcastInDim S1x4112x2x8 ![0, 1, 2, 3] bcast_S1x4112x1x8_S1x4112x2x8_0_1_2_3 : (⟨S1x4112x1x8, .f32⟩ : BufTy).Contents (Elt F) → (⟨S1x4112x2x8, .f32⟩ : BufTy).Contents (Elt F)),
    binary main_v38 main_v42 main_v43 (mulf : (⟨S1x4112x2x8, .f32⟩ : BufTy).Contents (Elt F) → (⟨S1x4112x2x8, .f32⟩ : BufTy).Contents (Elt F) → (⟨S1x4112x2x8, .f32⟩ : BufTy).Contents (Elt F)),
    binary main_v41 main_v43 main_v44 (subf : (⟨S1x4112x2x8, .f32⟩ : BufTy).Contents (Elt F) → (⟨S1x4112x2x8, .f32⟩ : BufTy).Contents (Elt F) → (⟨S1x4112x2x8, .f32⟩ : BufTy).Contents (Elt F)),
    unary main_v18 main_v45 (broadcastInDim S1x4112x2x8 ![0, 1, 2, 3] bcast_S1x4112x1x8_S1x4112x2x8_0_1_2_3 : (⟨S1x4112x1x8, .f32⟩ : BufTy).Contents (Elt F) → (⟨S1x4112x2x8, .f32⟩ : BufTy).Contents (Elt F)) ]

/-- The operations 51 to 60. -/
abbrev ops5 : List (HloOp τ sig (Elt F)) :=
  [ binary main_v38 main_v45 main_v46 (mulf : (⟨S1x4112x2x8, .f32⟩ : BufTy).Contents (Elt F) → (⟨S1x4112x2x8, .f32⟩ : BufTy).Contents (Elt F) → (⟨S1x4112x2x8, .f32⟩ : BufTy).Contents (Elt F)),
    unary main_v20 main_v47 (broadcastInDim S1x4112x2x8 ![0, 1, 2, 3] bcast_S1x4112x1x8_S1x4112x2x8_0_1_2_3 : (⟨S1x4112x1x8, .f32⟩ : BufTy).Contents (Elt F) → (⟨S1x4112x2x8, .f32⟩ : BufTy).Contents (Elt F)),
    binary main_v37 main_v47 main_v48 (mulf : (⟨S1x4112x2x8, .f32⟩ : BufTy).Contents (Elt F) → (⟨S1x4112x2x8, .f32⟩ : BufTy).Contents (Elt F) → (⟨S1x4112x2x8, .f32⟩ : BufTy).Contents (Elt F)),
    binary main_v46 main_v48 main_v49 (addf : (⟨S1x4112x2x8, .f32⟩ : BufTy).Contents (Elt F) → (⟨S1x4112x2x8, .f32⟩ : BufTy).Contents (Elt F) → (⟨S1x4112x2x8, .f32⟩ : BufTy).Contents (Elt F)),
    nary ![main_v44, main_v49, main_v39] main_v50 (fun u => fn_main_v50 (F := F) (u 0) (u 1) (u 2)),
    reshape main_arg2 main_v51 (rfl : (.f32 : EltTy) = .f32) shapeCasts_S4112x128_S1x4112x2x64,
    reshape main_v0 main_v52 (rfl : (.f32 : EltTy) = .f32) shapeCasts_S16x128_S1x16x2x64,
    unary main_v50 main_v53 ((extractStridedSlice S1x16x2x64 ![0, 0, 0, 0] · slices_S1x4112x2x64_S1x16x2x64_0_0_0_0) : (⟨S1x4112x2x64, .f32⟩ : BufTy).Contents (Elt F) → (⟨S1x16x2x64, .f32⟩ : BufTy).Contents (Elt F)),
    nullary main_cst_3 (constant S_ .f32 0x00000000#32),
    unary main_cst_3 main_v54 (broadcastInDim S1x112x8x64 ![] bcast_S_S1x112x8x64 : (⟨S_, .f32⟩ : BufTy).Contents (Elt F) → (⟨S1x112x8x64, .f32⟩ : BufTy).Contents (Elt F)) ]

/-- The operations 61 to 70. -/
abbrev ops6 : List (HloOp τ sig (Elt F)) :=
  [ binary main_v54 main_v35 main_v55 (fn_main_v55 (F := F)),
    reshape main_v55 main_v56 (rfl : (.f32 : EltTy) = .f32) shapeCasts_S1x4224x8x64_S1x33x128x2x4x64,
    nullary main_cst_4 (constant S_ .f32 0x00000000#32),
    unary main_cst_4 main_v57 (broadcastInDim S1x112x2x64 ![] bcast_S_S1x112x2x64 : (⟨S_, .f32⟩ : BufTy).Contents (Elt F) → (⟨S1x112x2x64, .f32⟩ : BufTy).Contents (Elt F)),
    binary main_v57 main_v50 main_v58 (fn_main_v58 (F := F)),
    reshape main_v58 main_v59 (rfl : (.f32 : EltTy) = .f32) shapeCasts_S1x4224x2x64_S1x33x128x2x64,
    nullary main_cst_5 (constant S_ .f32 0x00000000#32),
    unary main_cst_5 main_v60 (broadcastInDim S1x112x2x64 ![] bcast_S_S1x112x2x64 : (⟨S_, .f32⟩ : BufTy).Contents (Elt F) → (⟨S1x112x2x64, .f32⟩ : BufTy).Contents (Elt F)),
    binary main_v60 main_v51 main_v61 (fn_main_v61 (F := F)),
    nullary main_cst_6 (constant S_ .f32 0x00000000#32) ]

/-- The operations 71 to 80. -/
abbrev ops7 : List (HloOp τ sig (Elt F)) :=
  [ unary main_cst_6 main_v62 (broadcastInDim S1x112x2x64 ![] bcast_S_S1x112x2x64 : (⟨S_, .f32⟩ : BufTy).Contents (Elt F) → (⟨S1x112x2x64, .f32⟩ : BufTy).Contents (Elt F)),
    reshape main_v61 main_v63 (rfl : (.f32 : EltTy) = .f32) shapeCasts_S1x4224x2x64_S1x33x128x2x64,
    unary main_v59 main_v64 ((extractStridedSlice S1x1x128x2x64 ![0, 0, 0, 0, 0] · slices_S1x33x128x2x64_S1x1x128x2x64_0_0_0_0_0) : (⟨S1x33x128x2x64, .f32⟩ : BufTy).Contents (Elt F) → (⟨S1x1x128x2x64, .f32⟩ : BufTy).Contents (Elt F)),
    nullary main_cst_7 (constant S_ .f32 0x00000000#32),
    unary main_cst_7 main_v65 (broadcastInDim S1x1x128x2x64 ![] bcast_S_S1x1x128x2x64 : (⟨S_, .f32⟩ : BufTy).Contents (Elt F) → (⟨S1x1x128x2x64, .f32⟩ : BufTy).Contents (Elt F)),
    unary main_v59 main_v66 ((extractStridedSlice S1x32x128x2x64 ![0, 0, 0, 0, 0] · slices_S1x33x128x2x64_S1x32x128x2x64_0_0_0_0_0) : (⟨S1x33x128x2x64, .f32⟩ : BufTy).Contents (Elt F) → (⟨S1x32x128x2x64, .f32⟩ : BufTy).Contents (Elt F)),
    binary main_v65 main_v66 main_v67 (fn_main_v67 (F := F)),
    unary main_v63 main_v68 ((extractStridedSlice S1x1x128x2x64 ![0, 0, 0, 0, 0] · slices_S1x33x128x2x64_S1x1x128x2x64_0_0_0_0_0) : (⟨S1x33x128x2x64, .f32⟩ : BufTy).Contents (Elt F) → (⟨S1x1x128x2x64, .f32⟩ : BufTy).Contents (Elt F)),
    nullary main_cst_8 (constant S_ .f32 0x00000000#32),
    unary main_cst_8 main_v69 (broadcastInDim S1x1x128x2x64 ![] bcast_S_S1x1x128x2x64 : (⟨S_, .f32⟩ : BufTy).Contents (Elt F) → (⟨S1x1x128x2x64, .f32⟩ : BufTy).Contents (Elt F)) ]

/-- The operations 81 to 90. -/
abbrev ops8 : List (HloOp τ sig (Elt F)) :=
  [ unary main_v63 main_v70 ((extractStridedSlice S1x32x128x2x64 ![0, 0, 0, 0, 0] · slices_S1x33x128x2x64_S1x32x128x2x64_0_0_0_0_0) : (⟨S1x33x128x2x64, .f32⟩ : BufTy).Contents (Elt F) → (⟨S1x32x128x2x64, .f32⟩ : BufTy).Contents (Elt F)),
    binary main_v69 main_v70 main_v71 (fn_main_v71 (F := F)),
    nullary main_cst_9 (constant S_ .f32 0x00000000#32),
    unary main_cst_9 main_v72 (broadcastInDim S1x1x128x2x64 ![] bcast_S_S1x1x128x2x64 : (⟨S_, .f32⟩ : BufTy).Contents (Elt F) → (⟨S1x1x128x2x64, .f32⟩ : BufTy).Contents (Elt F)),
    binary main_v67 main_v59 main_v73 (fn_main_v73 (F := F)),
    binary main_v71 main_v63 main_v74 (fn_main_v74 (F := F)),
    nullary main_v75 (iotaInDim S4224 32 0),
    nullary main_c (constantI S_ 32 112#32),
    unary main_c main_v76 (broadcastInDim S4224 ![] bcast_S_S4224 : (⟨S_, .i32⟩ : BufTy).Contents (Elt F) → (⟨S4224, .i32⟩ : BufTy).Contents (Elt F)),
    binary main_v75 main_v76 main_v77 (subi : (⟨S4224, .i32⟩ : BufTy).Contents (Elt F) → (⟨S4224, .i32⟩ : BufTy).Contents (Elt F) → (⟨S4224, .i32⟩ : BufTy).Contents (Elt F)) ]

/-- The operations 91 to 100. -/
abbrev ops9 : List (HloOp τ sig (Elt F)) :=
  [ reshape main_v77 main_v78 (rfl : (.i32 : EltTy) = .i32) shapeCasts_S4224_S33x128,
    nullary main_c_10 (constantI S_ 32 128#32),
    unary main_c_10 main_v79 (broadcastInDim S33x128 ![] bcast_S_S33x128 : (⟨S_, .i32⟩ : BufTy).Contents (Elt F) → (⟨S33x128, .i32⟩ : BufTy).Contents (Elt F)),
    binary main_v78 main_v79 main_v80 (subi : (⟨S33x128, .i32⟩ : BufTy).Contents (Elt F) → (⟨S33x128, .i32⟩ : BufTy).Contents (Elt F) → (⟨S33x128, .i32⟩ : BufTy).Contents (Elt F)),
    binary main_v80 main_v78 main_v81 (fn_main_v81 (F := F)),
    unary main_v78 main_v82 (broadcastInDim S33x128x1 ![0, 1] bcast_S33x128_S33x128x1_0_1 : (⟨S33x128, .i32⟩ : BufTy).Contents (Elt F) → (⟨S33x128x1, .i32⟩ : BufTy).Contents (Elt F)),
    unary main_v81 main_v83 (broadcastInDim S33x1x256 ![0, 2] bcast_S33x256_S33x1x256_0_2 : (⟨S33x256, .i32⟩ : BufTy).Contents (Elt F) → (⟨S33x1x256, .i32⟩ : BufTy).Contents (Elt F)),
    unary main_v82 main_v84 (broadcastInDim S33x128x256 ![0, 1, 2] bcast_S33x128x1_S33x128x256_0_1_2 : (⟨S33x128x1, .i32⟩ : BufTy).Contents (Elt F) → (⟨S33x128x256, .i32⟩ : BufTy).Contents (Elt F)),
    unary main_v83 main_v85 (broadcastInDim S33x128x256 ![0, 1, 2] bcast_S33x1x256_S33x128x256_0_1_2 : (⟨S33x1x256, .i32⟩ : BufTy).Contents (Elt F) → (⟨S33x128x256, .i32⟩ : BufTy).Contents (Elt F)),
    binary main_v84 main_v85 main_v86 (subi : (⟨S33x128x256, .i32⟩ : BufTy).Contents (Elt F) → (⟨S33x128x256, .i32⟩ : BufTy).Contents (Elt F) → (⟨S33x128x256, .i32⟩ : BufTy).Contents (Elt F)) ]

/-- The operations 101 to 110. -/
abbrev ops10 : List (HloOp τ sig (Elt F)) :=
  [ unary main_v81 main_v87 (broadcastInDim S33x1x256 ![0, 2] bcast_S33x256_S33x1x256_0_2 : (⟨S33x256, .i32⟩ : BufTy).Contents (Elt F) → (⟨S33x1x256, .i32⟩ : BufTy).Contents (Elt F)),
    nullary main_c_11 (constantI S_ 32 16#32),
    unary main_c_11 main_v88 (broadcastInDim S33x1x256 ![] bcast_S_S33x1x256 : (⟨S_, .i32⟩ : BufTy).Contents (Elt F) → (⟨S33x1x256, .i32⟩ : BufTy).Contents (Elt F)),
    binary main_v87 main_v88 main_v89 (cmpi .sge : (⟨S33x1x256, .i32⟩ : BufTy).Contents (Elt F) → (⟨S33x1x256, .i32⟩ : BufTy).Contents (Elt F) → (⟨S33x1x256, .i1⟩ : BufTy).Contents (Elt F)),
    nullary main_c_12 (constantI S_ 32 0#32),
    unary main_c_12 main_v90 (broadcastInDim S33x128x256 ![] bcast_S_S33x128x256 : (⟨S_, .i32⟩ : BufTy).Contents (Elt F) → (⟨S33x128x256, .i32⟩ : BufTy).Contents (Elt F)),
    binary main_v86 main_v90 main_v91 (cmpi .sge : (⟨S33x128x256, .i32⟩ : BufTy).Contents (Elt F) → (⟨S33x128x256, .i32⟩ : BufTy).Contents (Elt F) → (⟨S33x128x256, .i1⟩ : BufTy).Contents (Elt F)),
    unary main_v89 main_v92 (broadcastInDim S33x128x256 ![0, 1, 2] bcast_S33x1x256_S33x128x256_0_1_2 : (⟨S33x1x256, .i1⟩ : BufTy).Contents (Elt F) → (⟨S33x128x256, .i1⟩ : BufTy).Contents (Elt F)),
    binary main_v92 main_v91 main_v93 (andi : (⟨S33x128x256, .i1⟩ : BufTy).Contents (Elt F) → (⟨S33x128x256, .i1⟩ : BufTy).Contents (Elt F) → (⟨S33x128x256, .i1⟩ : BufTy).Contents (Elt F)),
    nullary main_c_13 (constantI S_ 32 128#32) ]

/-- The operations 111 to 120. -/
abbrev ops11 : List (HloOp τ sig (Elt F)) :=
  [ unary main_c_13 main_v94 (broadcastInDim S33x128x256 ![] bcast_S_S33x128x256 : (⟨S_, .i32⟩ : BufTy).Contents (Elt F) → (⟨S33x128x256, .i32⟩ : BufTy).Contents (Elt F)),
    binary main_v86 main_v94 main_v95 (cmpi .slt : (⟨S33x128x256, .i32⟩ : BufTy).Contents (Elt F) → (⟨S33x128x256, .i32⟩ : BufTy).Contents (Elt F) → (⟨S33x128x256, .i1⟩ : BufTy).Contents (Elt F)),
    binary main_v93 main_v95 main_v96 (andi : (⟨S33x128x256, .i1⟩ : BufTy).Contents (Elt F) → (⟨S33x128x256, .i1⟩ : BufTy).Contents (Elt F) → (⟨S33x128x256, .i1⟩ : BufTy).Contents (Elt F)),
    nullary main_v97 (iotaInDim S16 32 0),
    unary main_v97 main_v98 (broadcastInDim S1x1x16 ![2] bcast_S16_S1x1x16_2 : (⟨S16, .i32⟩ : BufTy).Contents (Elt F) → (⟨S1x1x16, .i32⟩ : BufTy).Contents (Elt F)),
    unary main_v78 main_v99 (broadcastInDim S33x128x1 ![0, 1] bcast_S33x128_S33x128x1_0_1 : (⟨S33x128, .i32⟩ : BufTy).Contents (Elt F) → (⟨S33x128x1, .i32⟩ : BufTy).Contents (Elt F)),
    unary main_v98 main_v100 (broadcastInDim S33x128x16 ![0, 1, 2] bcast_S1x1x16_S33x128x16_0_1_2 : (⟨S1x1x16, .i32⟩ : BufTy).Contents (Elt F) → (⟨S33x128x16, .i32⟩ : BufTy).Contents (Elt F)),
    unary main_v99 main_v101 (broadcastInDim S33x128x16 ![0, 1, 2] bcast_S33x128x1_S33x128x16_0_1_2 : (⟨S33x128x1, .i32⟩ : BufTy).Contents (Elt F) → (⟨S33x128x16, .i32⟩ : BufTy).Contents (Elt F)),
    binary main_v100 main_v101 main_v102 (cmpi .sle : (⟨S33x128x16, .i32⟩ : BufTy).Contents (Elt F) → (⟨S33x128x16, .i32⟩ : BufTy).Contents (Elt F) → (⟨S33x128x16, .i1⟩ : BufTy).Contents (Elt F)),
    binary main_v73 main_v56 main_v103 ((fun l r => Host.dotGeneral dot_S1x33x256x2x64_S1x33x128x2x4x64_S1x33x2x256x128x4_4_5_2_24_013_013 none l r) : (⟨S1x33x256x2x64, .f32⟩ : BufTy).Contents (Elt F) → (⟨S1x33x128x2x4x64, .f32⟩ : BufTy).Contents (Elt F) → (⟨S1x33x2x256x128x4, .f32⟩ : BufTy).Contents (Elt F)) ]

/-- The operations 121 to 130. -/
abbrev ops12 : List (HloOp τ sig (Elt F)) :=
  [ unary main_v103 main_v104 ((transpose S1x33x2x4x128x256 [0, 1, 2, 5, 4, 3] · transposes_S1x33x2x256x128x4_S1x33x2x4x128x256_0_1_2_5_4_3) : (⟨S1x33x2x256x128x4, .f32⟩ : BufTy).Contents (Elt F) → (⟨S1x33x2x4x128x256, .f32⟩ : BufTy).Contents (Elt F)),
    nullary main_cst_14 (constant S_ .f32 0x3E000000#32),
    unary main_cst_14 main_v105 (broadcastInDim S1x33x2x4x128x256 ![] bcast_S_S1x33x2x4x128x256 : (⟨S_, .f32⟩ : BufTy).Contents (Elt F) → (⟨S1x33x2x4x128x256, .f32⟩ : BufTy).Contents (Elt F)),
    binary main_v104 main_v105 main_v106 (mulf : (⟨S1x33x2x4x128x256, .f32⟩ : BufTy).Contents (Elt F) → (⟨S1x33x2x4x128x256, .f32⟩ : BufTy).Contents (Elt F) → (⟨S1x33x2x4x128x256, .f32⟩ : BufTy).Contents (Elt F)),
    binary main_v53 main_v56 main_v107 ((fun l r => Host.dotGeneral dot_S1x16x2x64_S1x33x128x2x4x64_S1x2x16x33x128x4_3_5_1_124_02_03 none l r) : (⟨S1x16x2x64, .f32⟩ : BufTy).Contents (Elt F) → (⟨S1x33x128x2x4x64, .f32⟩ : BufTy).Contents (Elt F) → (⟨S1x2x16x33x128x4, .f32⟩ : BufTy).Contents (Elt F)),
    unary main_v107 main_v108 ((transpose S1x33x2x4x128x16 [0, 3, 1, 5, 4, 2] · transposes_S1x2x16x33x128x4_S1x33x2x4x128x16_0_3_1_5_4_2) : (⟨S1x2x16x33x128x4, .f32⟩ : BufTy).Contents (Elt F) → (⟨S1x33x2x4x128x16, .f32⟩ : BufTy).Contents (Elt F)),
    nullary main_cst_15 (constant S_ .f32 0x3E000000#32),
    unary main_cst_15 main_v109 (broadcastInDim S1x33x2x4x128x16 ![] bcast_S_S1x33x2x4x128x16 : (⟨S_, .f32⟩ : BufTy).Contents (Elt F) → (⟨S1x33x2x4x128x16, .f32⟩ : BufTy).Contents (Elt F)),
    binary main_v108 main_v109 main_v110 (mulf : (⟨S1x33x2x4x128x16, .f32⟩ : BufTy).Contents (Elt F) → (⟨S1x33x2x4x128x16, .f32⟩ : BufTy).Contents (Elt F) → (⟨S1x33x2x4x128x16, .f32⟩ : BufTy).Contents (Elt F)),
    unary main_v96 main_v111 (broadcastInDim S1x33x1x1x128x256 ![1, 4, 5] bcast_S33x128x256_S1x33x1x1x128x256_1_4_5 : (⟨S33x128x256, .i1⟩ : BufTy).Contents (Elt F) → (⟨S1x33x1x1x128x256, .i1⟩ : BufTy).Contents (Elt F)) ]

/-- The operations 131 to 140. -/
abbrev ops13 : List (HloOp τ sig (Elt F)) :=
  [ nullary main_cst_16 (constant S_ .f32 0xFF800000#32),
    TRef.unary (TRef.of (T := ⟨S_, .f32⟩) main_cst_16) (TRef.of (T := ⟨S_, .f32⟩) main_call0_v0) id,
    TRef.unary (TRef.of (T := ⟨S1x33x1x1x128x256, .i1⟩) main_v111) (TRef.of (T := ⟨S1x33x2x4x128x256, .i1⟩) main_call0_v1) (broadcastInDim S1x33x2x4x128x256 ![0, 1, 2, 3, 4, 5] bcast_S1x33x1x1x128x256_S1x33x2x4x128x256_0_1_2_3_4_5),
    TRef.unary (TRef.of (T := ⟨S_, .f32⟩) main_call0_v0) (TRef.of (T := ⟨S1x33x2x4x128x256, .f32⟩) main_call0_v2) (broadcastInDim S1x33x2x4x128x256 ![] bcast_S_S1x33x2x4x128x256),
    TRef.ternary (TRef.of (T := ⟨S1x33x2x4x128x256, .i1⟩) main_call0_v1) (TRef.of (T := ⟨S1x33x2x4x128x256, .f32⟩) main_v106) (TRef.of (T := ⟨S1x33x2x4x128x256, .f32⟩) main_call0_v2) (TRef.of (T := ⟨S1x33x2x4x128x256, .f32⟩) main_v112) select,
    unary main_v102 main_v113 (broadcastInDim S1x33x1x1x128x16 ![1, 4, 5] bcast_S33x128x16_S1x33x1x1x128x16_1_4_5 : (⟨S33x128x16, .i1⟩ : BufTy).Contents (Elt F) → (⟨S1x33x1x1x128x16, .i1⟩ : BufTy).Contents (Elt F)),
    nullary main_cst_17 (constant S_ .f32 0xFF800000#32),
    TRef.unary (TRef.of (T := ⟨S_, .f32⟩) main_cst_17) (TRef.of (T := ⟨S_, .f32⟩) main_call1_v0) id,
    TRef.unary (TRef.of (T := ⟨S1x33x1x1x128x16, .i1⟩) main_v113) (TRef.of (T := ⟨S1x33x2x4x128x16, .i1⟩) main_call1_v1) (broadcastInDim S1x33x2x4x128x16 ![0, 1, 2, 3, 4, 5] bcast_S1x33x1x1x128x16_S1x33x2x4x128x16_0_1_2_3_4_5),
    TRef.unary (TRef.of (T := ⟨S_, .f32⟩) main_call1_v0) (TRef.of (T := ⟨S1x33x2x4x128x16, .f32⟩) main_call1_v2) (broadcastInDim S1x33x2x4x128x16 ![] bcast_S_S1x33x2x4x128x16) ]

/-- The operations 141 to 150. -/
abbrev ops14 : List (HloOp τ sig (Elt F)) :=
  [ TRef.ternary (TRef.of (T := ⟨S1x33x2x4x128x16, .i1⟩) main_call1_v1) (TRef.of (T := ⟨S1x33x2x4x128x16, .f32⟩) main_v110) (TRef.of (T := ⟨S1x33x2x4x128x16, .f32⟩) main_call1_v2) (TRef.of (T := ⟨S1x33x2x4x128x16, .f32⟩) main_v114) select,
    reshape main_arg4 main_v115 (rfl : (.f32 : EltTy) = .f32) shapeCasts_S8_S2x4,
    unary main_v115 main_v116 (broadcastInDim S1x1x2x4x1x1 ![2, 3] bcast_S2x4_S1x1x2x4x1x1_2_3 : (⟨S2x4, .f32⟩ : BufTy).Contents (Elt F) → (⟨S1x1x2x4x1x1, .f32⟩ : BufTy).Contents (Elt F)),
    unary main_v116 main_v117 (broadcastInDim S1x33x2x4x128x1 ![0, 1, 2, 3, 4, 5] bcast_S1x1x2x4x1x1_S1x33x2x4x128x1_0_1_2_3_4_5 : (⟨S1x1x2x4x1x1, .f32⟩ : BufTy).Contents (Elt F) → (⟨S1x33x2x4x128x1, .f32⟩ : BufTy).Contents (Elt F)),
    nary ![main_v112, main_v114, main_v117] main_v118 (fun u => fn_main_v118 (F := F) (u 0) (u 1) (u 2)),
    nullary main_cst_18 (constant S_ .f32 0xFF800000#32),
    binary main_v118 main_cst_18 main_v119 ((fun x v => Host.reduce FloatOps.maximumf x v reducesTo_S1x33x2x4x128x273_S1x33x2x4x128_d5 h_S_) : (⟨S1x33x2x4x128x273, .f32⟩ : BufTy).Contents (Elt F) → (⟨S_, .f32⟩ : BufTy).Contents (Elt F) → (⟨S1x33x2x4x128, .f32⟩ : BufTy).Contents (Elt F)),
    nullary main_cst_19 (constant S_ .f32 0xFF800000#32),
    unary main_cst_19 main_v120 (broadcastInDim S1x33x2x4x128 ![] bcast_S_S1x33x2x4x128 : (⟨S_, .f32⟩ : BufTy).Contents (Elt F) → (⟨S1x33x2x4x128, .f32⟩ : BufTy).Contents (Elt F)),
    binary main_v120 main_v119 main_v121 (maximumf : (⟨S1x33x2x4x128, .f32⟩ : BufTy).Contents (Elt F) → (⟨S1x33x2x4x128, .f32⟩ : BufTy).Contents (Elt F) → (⟨S1x33x2x4x128, .f32⟩ : BufTy).Contents (Elt F)) ]

/-- The operations 151 to 160. -/
abbrev ops15 : List (HloOp τ sig (Elt F)) :=
  [ unary main_v121 main_v122 (broadcastInDim S1x33x2x4x128x1 ![0, 1, 2, 3, 4] bcast_S1x33x2x4x128_S1x33x2x4x128x1_0_1_2_3_4 : (⟨S1x33x2x4x128, .f32⟩ : BufTy).Contents (Elt F) → (⟨S1x33x2x4x128x1, .f32⟩ : BufTy).Contents (Elt F)),
    unary main_v122 main_v123 (broadcastInDim S1x33x2x4x128x273 ![0, 1, 2, 3, 4, 5] bcast_S1x33x2x4x128x1_S1x33x2x4x128x273_0_1_2_3_4_5 : (⟨S1x33x2x4x128x1, .f32⟩ : BufTy).Contents (Elt F) → (⟨S1x33x2x4x128x273, .f32⟩ : BufTy).Contents (Elt F)),
    binary main_v118 main_v123 main_v124 (subf : (⟨S1x33x2x4x128x273, .f32⟩ : BufTy).Contents (Elt F) → (⟨S1x33x2x4x128x273, .f32⟩ : BufTy).Contents (Elt F) → (⟨S1x33x2x4x128x273, .f32⟩ : BufTy).Contents (Elt F)),
    unary main_v124 main_v125 (Host.exp : (⟨S1x33x2x4x128x273, .f32⟩ : BufTy).Contents (Elt F) → (⟨S1x33x2x4x128x273, .f32⟩ : BufTy).Contents (Elt F)),
    nullary main_cst_20 (constant S_ .f32 0x00000000#32),
    binary main_v125 main_cst_20 main_v126 ((fun x v => Host.reduceAdd x v reducesTo_S1x33x2x4x128x273_S1x33x2x4x128_d5 h_S_) : (⟨S1x33x2x4x128x273, .f32⟩ : BufTy).Contents (Elt F) → (⟨S_, .f32⟩ : BufTy).Contents (Elt F) → (⟨S1x33x2x4x128, .f32⟩ : BufTy).Contents (Elt F)),
    unary main_v126 main_v127 (broadcastInDim S1x33x2x4x128x1 ![0, 1, 2, 3, 4] bcast_S1x33x2x4x128_S1x33x2x4x128x1_0_1_2_3_4 : (⟨S1x33x2x4x128, .f32⟩ : BufTy).Contents (Elt F) → (⟨S1x33x2x4x128x1, .f32⟩ : BufTy).Contents (Elt F)),
    unary main_v127 main_v128 (broadcastInDim S1x33x2x4x128x273 ![0, 1, 2, 3, 4, 5] bcast_S1x33x2x4x128x1_S1x33x2x4x128x273_0_1_2_3_4_5 : (⟨S1x33x2x4x128x1, .f32⟩ : BufTy).Contents (Elt F) → (⟨S1x33x2x4x128x273, .f32⟩ : BufTy).Contents (Elt F)),
    binary main_v125 main_v128 main_v129 (Host.divf : (⟨S1x33x2x4x128x273, .f32⟩ : BufTy).Contents (Elt F) → (⟨S1x33x2x4x128x273, .f32⟩ : BufTy).Contents (Elt F) → (⟨S1x33x2x4x128x273, .f32⟩ : BufTy).Contents (Elt F)),
    unary main_v129 main_v130 ((extractStridedSlice S1x33x2x4x128x256 ![0, 0, 0, 0, 0, 0] · slices_S1x33x2x4x128x273_S1x33x2x4x128x256_0_0_0_0_0_0) : (⟨S1x33x2x4x128x273, .f32⟩ : BufTy).Contents (Elt F) → (⟨S1x33x2x4x128x256, .f32⟩ : BufTy).Contents (Elt F)) ]

/-- The operations 161 to 170. -/
abbrev ops16 : List (HloOp τ sig (Elt F)) :=
  [ unary main_v129 main_v131 ((extractStridedSlice S1x33x2x4x128x16 ![0, 0, 0, 0, 0, 256] · slices_S1x33x2x4x128x273_S1x33x2x4x128x16_0_0_0_0_0_256) : (⟨S1x33x2x4x128x273, .f32⟩ : BufTy).Contents (Elt F) → (⟨S1x33x2x4x128x16, .f32⟩ : BufTy).Contents (Elt F)),
    binary main_v74 main_v130 main_v132 ((fun l r => Host.dotGeneral dot_S1x33x256x2x64_S1x33x2x4x128x256_S1x33x2x64x4x128_2_5_4_34_013_012 none l r) : (⟨S1x33x256x2x64, .f32⟩ : BufTy).Contents (Elt F) → (⟨S1x33x2x4x128x256, .f32⟩ : BufTy).Contents (Elt F) → (⟨S1x33x2x64x4x128, .f32⟩ : BufTy).Contents (Elt F)),
    unary main_v132 main_v133 ((transpose S1x33x128x2x4x64 [0, 1, 5, 2, 4, 3] · transposes_S1x33x2x64x4x128_S1x33x128x2x4x64_0_1_5_2_4_3) : (⟨S1x33x2x64x4x128, .f32⟩ : BufTy).Contents (Elt F) → (⟨S1x33x128x2x4x64, .f32⟩ : BufTy).Contents (Elt F)),
    binary main_v52 main_v131 main_v134 ((fun l r => Host.dotGeneral dot_S1x16x2x64_S1x33x2x4x128x16_S1x2x64x33x4x128_1_5_3_134_02_02 none l r) : (⟨S1x16x2x64, .f32⟩ : BufTy).Contents (Elt F) → (⟨S1x33x2x4x128x16, .f32⟩ : BufTy).Contents (Elt F) → (⟨S1x2x64x33x4x128, .f32⟩ : BufTy).Contents (Elt F)),
    unary main_v134 main_v135 ((transpose S1x33x128x2x4x64 [0, 3, 5, 1, 4, 2] · transposes_S1x2x64x33x4x128_S1x33x128x2x4x64_0_3_5_1_4_2) : (⟨S1x2x64x33x4x128, .f32⟩ : BufTy).Contents (Elt F) → (⟨S1x33x128x2x4x64, .f32⟩ : BufTy).Contents (Elt F)),
    binary main_v133 main_v135 main_v136 (addf : (⟨S1x33x128x2x4x64, .f32⟩ : BufTy).Contents (Elt F) → (⟨S1x33x128x2x4x64, .f32⟩ : BufTy).Contents (Elt F) → (⟨S1x33x128x2x4x64, .f32⟩ : BufTy).Contents (Elt F)),
    reshape main_v136 main_v137 (rfl : (.f32 : EltTy) = .f32) shapeCasts_S1x33x128x2x4x64_S1x4224x512,
    unary main_v137 main_v138 ((extractStridedSlice S1x4112x512 ![0, 112, 0] · slices_S1x4224x512_S1x4112x512_0_112_0) : (⟨S1x4224x512, .f32⟩ : BufTy).Contents (Elt F) → (⟨S1x4112x512, .f32⟩ : BufTy).Contents (Elt F)),
    reshape main_v138 main_v139 (rfl : (.f32 : EltTy) = .f32) shapeCasts_S1x4112x512_S4112x512,
    unary main_arg3 main_v140 (broadcastInDim S1x4112x512 ![1, 2] bcast_S4112x512_S1x4112x512_1_2 : (⟨S4112x512, .f32⟩ : BufTy).Contents (Elt F) → (⟨S1x4112x512, .f32⟩ : BufTy).Contents (Elt F)) ]

/-- The operations 171 to 180. -/
abbrev ops17 : List (HloOp τ sig (Elt F)) :=
  [ nullary main_cst_21 (constant S_ .f32 0x00000000#32),
    binary main_v140 main_cst_21 main_v141 ((fun x v => pad S1x4224x512 ![0, 112, 0] ![0, 0, 0] ![0, 0, 0] x v pads_S1x4112x512_S1x4224x512_000_11200_000 h_S_) : (⟨S1x4112x512, .f32⟩ : BufTy).Contents (Elt F) → (⟨S_, .f32⟩ : BufTy).Contents (Elt F) → (⟨S1x4224x512, .f32⟩ : BufTy).Contents (Elt F)),
    reshape main_v141 main_v142 (rfl : (.f32 : EltTy) = .f32) shapeCasts_S1x4224x512_S1x33x128x2x4x64,
    unary main_v142 main_v143 ((transpose S1x2x64x33x4x128 [0, 3, 5, 1, 4, 2] · transposes_S1x33x128x2x4x64_S1x2x64x33x4x128_0_3_5_1_4_2) : (⟨S1x33x128x2x4x64, .f32⟩ : BufTy).Contents (Elt F) → (⟨S1x2x64x33x4x128, .f32⟩ : BufTy).Contents (Elt F)),
    binary main_v143 main_v131 main_v144 ((fun l r => Host.dotGeneral dot_S1x2x64x33x4x128_S1x33x2x4x128x16_S1x2x64x16_345_134_2_5_01_02 none l r) : (⟨S1x2x64x33x4x128, .f32⟩ : BufTy).Contents (Elt F) → (⟨S1x33x2x4x128x16, .f32⟩ : BufTy).Contents (Elt F) → (⟨S1x2x64x16, .f32⟩ : BufTy).Contents (Elt F)),
    unary main_v144 main_v145 ((transpose S1x16x2x64 [0, 3, 1, 2] · transposes_S1x2x64x16_S1x16x2x64_0_3_1_2) : (⟨S1x2x64x16, .f32⟩ : BufTy).Contents (Elt F) → (⟨S1x16x2x64, .f32⟩ : BufTy).Contents (Elt F)),
    unary main_v142 main_v146 ((transpose S1x33x2x64x4x128 [0, 1, 3, 5, 4, 2] · transposes_S1x33x128x2x4x64_S1x33x2x64x4x128_0_1_3_5_4_2) : (⟨S1x33x128x2x4x64, .f32⟩ : BufTy).Contents (Elt F) → (⟨S1x33x2x64x4x128, .f32⟩ : BufTy).Contents (Elt F)),
    binary main_v146 main_v130 main_v147 ((fun l r => Host.dotGeneral dot_S1x33x2x64x4x128_S1x33x2x4x128x256_S1x33x2x64x256_45_34_3_5_012_012 none l r) : (⟨S1x33x2x64x4x128, .f32⟩ : BufTy).Contents (Elt F) → (⟨S1x33x2x4x128x256, .f32⟩ : BufTy).Contents (Elt F) → (⟨S1x33x2x64x256, .f32⟩ : BufTy).Contents (Elt F)),
    unary main_v147 main_v148 ((transpose S1x33x256x2x64 [0, 1, 4, 2, 3] · transposes_S1x33x2x64x256_S1x33x256x2x64_0_1_4_2_3) : (⟨S1x33x2x64x256, .f32⟩ : BufTy).Contents (Elt F) → (⟨S1x33x256x2x64, .f32⟩ : BufTy).Contents (Elt F)),
    unary main_v148 main_v149 ((extractStridedSlice S1x33x128x2x64 ![0, 0, 0, 0, 0] · slices_S1x33x256x2x64_S1x33x128x2x64_0_0_0_0_0) : (⟨S1x33x256x2x64, .f32⟩ : BufTy).Contents (Elt F) → (⟨S1x33x128x2x64, .f32⟩ : BufTy).Contents (Elt F)) ]

/-- The operations 181 to 186. -/
abbrev ops18 : List (HloOp τ sig (Elt F)) :=
  [ unary main_v148 main_v150 ((extractStridedSlice S1x33x128x2x64 ![0, 0, 128, 0, 0] · slices_S1x33x256x2x64_S1x33x128x2x64_0_0_128_0_0) : (⟨S1x33x256x2x64, .f32⟩ : BufTy).Contents (Elt F) → (⟨S1x33x128x2x64, .f32⟩ : BufTy).Contents (Elt F)),
    unary main_v149 main_v151 ((extractStridedSlice S1x1x128x2x64 ![0, 0, 0, 0, 0] · slices_S1x33x128x2x64_S1x1x128x2x64_0_0_0_0_0) : (⟨S1x33x128x2x64, .f32⟩ : BufTy).Contents (Elt F) → (⟨S1x1x128x2x64, .f32⟩ : BufTy).Contents (Elt F)),
    unary main_v149 main_v152 ((extractStridedSlice S1x32x128x2x64 ![0, 1, 0, 0, 0] · slices_S1x33x128x2x64_S1x32x128x2x64_0_1_0_0_0) : (⟨S1x33x128x2x64, .f32⟩ : BufTy).Contents (Elt F) → (⟨S1x32x128x2x64, .f32⟩ : BufTy).Contents (Elt F)),
    nullary main_cst_22 (constant S_ .f32 0x00000000#32),
    binary main_v152 main_cst_22 main_v153 ((fun x v => pad S1x33x128x2x64 ![0, 0, 0, 0, 0] ![0, 1, 0, 0, 0] ![0, 0, 0, 0, 0] x v pads_S1x32x128x2x64_S1x33x128x2x64_000_010_000_000_000 h_S_) : (⟨S1x32x128x2x64, .f32⟩ : BufTy).Contents (Elt F) → (⟨S_, .f32⟩ : BufTy).Contents (Elt F) → (⟨S1x33x128x2x64, .f32⟩ : BufTy).Contents (Elt F)),
    binary main_v150 main_v153 main_v154 (addf : (⟨S1x33x128x2x64, .f32⟩ : BufTy).Contents (Elt F) → (⟨S1x33x128x2x64, .f32⟩ : BufTy).Contents (Elt F) → (⟨S1x33x128x2x64, .f32⟩ : BufTy).Contents (Elt F)) ]

/-- The operations 187 to 196. -/
abbrev ops19 : List (HloOp τ sig (Elt F)) :=
  [ reshape main_v154 main_v155 (rfl : (.f32 : EltTy) = .f32) shapeCasts_S1x33x128x2x64_S1x4224x2x64,
    unary main_v155 main_v156 ((extractStridedSlice S1x112x2x64 ![0, 0, 0, 0] · slices_S1x4224x2x64_S1x112x2x64_0_0_0_0) : (⟨S1x4224x2x64, .f32⟩ : BufTy).Contents (Elt F) → (⟨S1x112x2x64, .f32⟩ : BufTy).Contents (Elt F)),
    unary main_v155 main_v157 ((extractStridedSlice S1x4112x2x64 ![0, 112, 0, 0] · slices_S1x4224x2x64_S1x4112x2x64_0_112_0_0) : (⟨S1x4224x2x64, .f32⟩ : BufTy).Contents (Elt F) → (⟨S1x4112x2x64, .f32⟩ : BufTy).Contents (Elt F)),
    reshape main_v145 main_v158 (rfl : (.f32 : EltTy) = .f32) shapeCasts_S1x16x2x64_S16x128,
    reshape main_v157 main_v159 (rfl : (.f32 : EltTy) = .f32) shapeCasts_S1x4112x2x64_S4112x128,
    nullary main_c_23 (constantI S_ 32 0#32),
    TRef.unary (TRef.of (T := ⟨S_, .i32⟩) main_c_23) (TRef.of (T := ⟨S_, .f32⟩) main_call2_v0) (sitofp .f32),
    TRef.binary (TRef.of (T := ⟨S4112x128, .f32⟩) main_v159) (TRef.of (T := ⟨S_, .f32⟩) main_call2_v0) (TRef.of (T := ⟨S4224x128, .f32⟩) main_v160) (fun x v => pad S4224x128 ![112, 0] ![0, 0] ![0, 0] x v pads_S4112x128_S4224x128_11200_000 h_S_),
    nullary main_c_24 (constantI S_ 32 0#32),
    TRef.unary (TRef.of (T := ⟨S_, .i32⟩) main_c_24) (TRef.of (T := ⟨S_, .f32⟩) main_call3_v0) (sitofp .f32) ]

/-- The operations 197 to 197. -/
abbrev ops20 : List (HloOp τ sig (Elt F)) :=
  [ TRef.binary (TRef.of (T := ⟨S16x128, .f32⟩) main_v158) (TRef.of (T := ⟨S_, .f32⟩) main_call3_v0) (TRef.of (T := ⟨S128x128, .f32⟩) main_v161) (fun x v => pad S128x128 ![112, 0] ![0, 0] ![0, 0] x v pads_S16x128_S128x128_11200_000 h_S_) ]

/-- The operations of the first stretch. -/
abbrev line0 : List (HloOp τ sig (Elt F)) :=
  ops0 ++ (ops1 ++ (ops2 ++ (ops3 ++ (ops4 ++ (ops5)))))

/-- The operations of the second stretch. -/
abbrev line1 : List (HloOp τ sig (Elt F)) :=
  ops6 ++ (ops7 ++ (ops8 ++ (ops9 ++ (ops10 ++ (ops11)))))

/-- The operations of the third stretch. -/
abbrev line2 : List (HloOp τ sig (Elt F)) :=
  ops12 ++ (ops13 ++ (ops14 ++ (ops15 ++ (ops16 ++ (ops17 ++ (ops18))))))

/-- The operations of the fourth stretch. -/
abbrev line3 : List (HloOp τ sig (Elt F)) :=
  ops19 ++ (ops20)

/-- All the operations, in order. -/
abbrev ops : List (HloOp τ sig (Elt F)) :=
  line0 ++ (line1 ++ (line2 ++ line3))

set_option maxHeartbeats 4000000 in
theorem main_part0_eq (c : Dev nD) : main_part0 (F := F) c = seq line0 := rfl
set_option maxHeartbeats 4000000 in
theorem main_part1_eq (c : Dev nD) : main_part1 (F := F) c = seq line1 := rfl
set_option maxHeartbeats 4000000 in
theorem main_part2_eq (c : Dev nD) : main_part2 (F := F) c = seq line2 := rfl
set_option maxHeartbeats 4000000 in
theorem main_part3_eq (c : Dev nD) : main_part3 (F := F) c = seq line3 := rfl
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

/-- What holds along each of two lines holds along the two joined. -/
theorem forall_app {α : Type*} {p : α → Prop} {a b : List α} (ha : a.Forall p) (hb : b.Forall p) : (a ++ b).Forall p := by
  rw [List.forall_iff_forall_mem] at *
  exact fun x hx => (List.mem_append.mp hx).elim (ha x) (hb x)
theorem ops0_sub : (ops0 : List (HloOp τ sig (Elt F))).Forall fun op => op.bufs ⊆ tcRefs τ sig :=
  ⟨unary_bufs_sub .., nullary_bufs_sub .., nullary_bufs_sub .., nullary_bufs_sub .., unary_bufs_sub .., binary_bufs_sub .., nullary_bufs_sub .., unary_bufs_sub .., binary_bufs_sub .., unary_bufs_sub ..⟩
theorem ops0_fresh : (ops0 : List (HloOp τ sig (Elt F))).Forall fun op => op.fresh = ∅ :=
  forall_fresh_of_map rfl
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., unary_bufs_sub ..⟩
theorem ops1_fresh : (ops1 : List (HloOp τ sig (Elt F))).Forall fun op => op.fresh = ∅ :=
  forall_fresh_of_map rfl
theorem ops2_sub : (ops2 : List (HloOp τ sig (Elt F))).Forall fun op => op.bufs ⊆ tcRefs τ sig :=
  ⟨binary_bufs_sub .., unary_bufs_sub .., unary_bufs_sub .., unary_bufs_sub .., unary_bufs_sub .., reshape_bufs_sub .., unary_bufs_sub .., unary_bufs_sub .., unary_bufs_sub .., unary_bufs_sub ..⟩
theorem ops2_fresh : (ops2 : List (HloOp τ sig (Elt F))).Forall fun op => op.fresh = ∅ :=
  forall_fresh_of_map rfl
theorem ops3_sub : (ops3 : List (HloOp τ sig (Elt F))).Forall fun op => op.bufs ⊆ tcRefs τ sig :=
  ⟨binary_bufs_sub .., unary_bufs_sub .., binary_bufs_sub .., binary_bufs_sub .., unary_bufs_sub .., binary_bufs_sub .., unary_bufs_sub .., binary_bufs_sub .., binary_bufs_sub .., nary_bufs_sub ..⟩
theorem ops3_fresh : (ops3 : List (HloOp τ sig (Elt F))).Forall fun op => op.fresh = ∅ :=
  forall_fresh_of_map rfl
theorem ops4_sub : (ops4 : List (HloOp τ sig (Elt F))).Forall fun op => op.bufs ⊆ tcRefs τ sig :=
  ⟨reshape_bufs_sub .., unary_bufs_sub .., unary_bufs_sub .., unary_bufs_sub .., unary_bufs_sub .., binary_bufs_sub .., unary_bufs_sub .., binary_bufs_sub .., binary_bufs_sub .., unary_bufs_sub ..⟩
theorem ops4_fresh : (ops4 : List (HloOp τ sig (Elt F))).Forall fun op => op.fresh = ∅ :=
  forall_fresh_of_map rfl
theorem ops5_sub : (ops5 : List (HloOp τ sig (Elt F))).Forall fun op => op.bufs ⊆ tcRefs τ sig :=
  ⟨binary_bufs_sub .., unary_bufs_sub .., binary_bufs_sub .., binary_bufs_sub .., nary_bufs_sub .., reshape_bufs_sub .., reshape_bufs_sub .., unary_bufs_sub .., nullary_bufs_sub .., unary_bufs_sub ..⟩
theorem ops5_fresh : (ops5 : List (HloOp τ sig (Elt F))).Forall fun op => op.fresh = ∅ :=
  forall_fresh_of_map rfl
theorem ops6_sub : (ops6 : List (HloOp τ sig (Elt F))).Forall fun op => op.bufs ⊆ tcRefs τ sig :=
  ⟨binary_bufs_sub .., reshape_bufs_sub .., nullary_bufs_sub .., unary_bufs_sub .., binary_bufs_sub .., reshape_bufs_sub .., nullary_bufs_sub .., unary_bufs_sub .., binary_bufs_sub .., nullary_bufs_sub ..⟩
theorem ops6_fresh : (ops6 : List (HloOp τ sig (Elt F))).Forall fun op => op.fresh = ∅ :=
  forall_fresh_of_map rfl
theorem ops7_sub : (ops7 : List (HloOp τ sig (Elt F))).Forall fun op => op.bufs ⊆ tcRefs τ sig :=
  ⟨unary_bufs_sub .., reshape_bufs_sub .., unary_bufs_sub .., nullary_bufs_sub .., unary_bufs_sub .., unary_bufs_sub .., binary_bufs_sub .., unary_bufs_sub .., nullary_bufs_sub .., unary_bufs_sub ..⟩
theorem ops7_fresh : (ops7 : List (HloOp τ sig (Elt F))).Forall fun op => op.fresh = ∅ :=
  forall_fresh_of_map rfl
theorem ops8_sub : (ops8 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., nullary_bufs_sub .., unary_bufs_sub .., binary_bufs_sub ..⟩
theorem ops8_fresh : (ops8 : List (HloOp τ sig (Elt F))).Forall fun op => op.fresh = ∅ :=
  forall_fresh_of_map rfl
theorem ops9_sub : (ops9 : List (HloOp τ sig (Elt F))).Forall fun op => op.bufs ⊆ tcRefs τ sig :=
  ⟨reshape_bufs_sub .., nullary_bufs_sub .., unary_bufs_sub .., binary_bufs_sub .., binary_bufs_sub .., unary_bufs_sub .., unary_bufs_sub .., unary_bufs_sub .., unary_bufs_sub .., binary_bufs_sub ..⟩
theorem ops9_fresh : (ops9 : List (HloOp τ sig (Elt F))).Forall fun op => op.fresh = ∅ :=
  forall_fresh_of_map rfl
theorem ops10_sub : (ops10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., nullary_bufs_sub ..⟩
theorem ops10_fresh : (ops10 : List (HloOp τ sig (Elt F))).Forall fun op => op.fresh = ∅ :=
  forall_fresh_of_map rfl
theorem ops11_sub : (ops11 : List (HloOp τ sig (Elt F))).Forall fun op => op.bufs ⊆ tcRefs τ sig :=
  ⟨unary_bufs_sub .., binary_bufs_sub .., binary_bufs_sub .., nullary_bufs_sub .., unary_bufs_sub .., unary_bufs_sub .., unary_bufs_sub .., unary_bufs_sub .., binary_bufs_sub .., binary_bufs_sub ..⟩
theorem ops11_fresh : (ops11 : List (HloOp τ sig (Elt F))).Forall fun op => op.fresh = ∅ :=
  forall_fresh_of_map rfl
theorem ops12_sub : (ops12 : List (HloOp τ sig (Elt F))).Forall fun op => op.bufs ⊆ tcRefs τ sig :=
  ⟨unary_bufs_sub .., nullary_bufs_sub .., unary_bufs_sub .., binary_bufs_sub .., binary_bufs_sub .., unary_bufs_sub .., nullary_bufs_sub .., unary_bufs_sub .., binary_bufs_sub .., unary_bufs_sub ..⟩
theorem ops12_fresh : (ops12 : List (HloOp τ sig (Elt F))).Forall fun op => op.fresh = ∅ :=
  forall_fresh_of_map rfl
theorem ops13_sub : (ops13 : List (HloOp τ sig (Elt F))).Forall fun op => op.bufs ⊆ tcRefs τ sig :=
  ⟨nullary_bufs_sub .., unary_bufs_sub .., unary_bufs_sub .., unary_bufs_sub .., ternary_bufs_sub .., unary_bufs_sub .., nullary_bufs_sub .., unary_bufs_sub .., unary_bufs_sub .., unary_bufs_sub ..⟩
theorem ops13_fresh : (ops13 : List (HloOp τ sig (Elt F))).Forall fun op => op.fresh = ∅ :=
  forall_fresh_of_map rfl
theorem ops14_sub : (ops14 : List (HloOp τ sig (Elt F))).Forall fun op => op.bufs ⊆ tcRefs τ sig :=
  ⟨ternary_bufs_sub .., reshape_bufs_sub .., unary_bufs_sub .., unary_bufs_sub .., nary_bufs_sub .., nullary_bufs_sub .., binary_bufs_sub .., nullary_bufs_sub .., unary_bufs_sub .., binary_bufs_sub ..⟩
theorem ops14_fresh : (ops14 : List (HloOp τ sig (Elt F))).Forall fun op => op.fresh = ∅ :=
  forall_fresh_of_map rfl
theorem ops15_sub : (ops15 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., unary_bufs_sub .., binary_bufs_sub .., unary_bufs_sub ..⟩
theorem ops15_fresh : (ops15 : List (HloOp τ sig (Elt F))).Forall fun op => op.fresh = ∅ :=
  forall_fresh_of_map rfl
theorem ops16_sub : (ops16 : List (HloOp τ sig (Elt F))).Forall fun op => op.bufs ⊆ tcRefs τ sig :=
  ⟨unary_bufs_sub .., binary_bufs_sub .., unary_bufs_sub .., binary_bufs_sub .., unary_bufs_sub .., binary_bufs_sub .., reshape_bufs_sub .., unary_bufs_sub .., reshape_bufs_sub .., unary_bufs_sub ..⟩
theorem ops16_fresh : (ops16 : List (HloOp τ sig (Elt F))).Forall fun op => op.fresh = ∅ :=
  forall_fresh_of_map rfl
theorem ops17_sub : (ops17 : List (HloOp τ sig (Elt F))).Forall fun op => op.bufs ⊆ tcRefs τ sig :=
  ⟨nullary_bufs_sub .., binary_bufs_sub .., reshape_bufs_sub .., unary_bufs_sub .., binary_bufs_sub .., unary_bufs_sub .., unary_bufs_sub .., binary_bufs_sub .., unary_bufs_sub .., unary_bufs_sub ..⟩
theorem ops17_fresh : (ops17 : List (HloOp τ sig (Elt F))).Forall fun op => op.fresh = ∅ :=
  forall_fresh_of_map rfl
theorem ops18_sub : (ops18 : List (HloOp τ sig (Elt F))).Forall fun op => op.bufs ⊆ tcRefs τ sig :=
  ⟨unary_bufs_sub .., unary_bufs_sub .., unary_bufs_sub .., nullary_bufs_sub .., binary_bufs_sub .., binary_bufs_sub ..⟩
theorem ops18_fresh : (ops18 : List (HloOp τ sig (Elt F))).Forall fun op => op.fresh = ∅ :=
  forall_fresh_of_map rfl
theorem ops19_sub : (ops19 : List (HloOp τ sig (Elt F))).Forall fun op => op.bufs ⊆ tcRefs τ sig :=
  ⟨reshape_bufs_sub .., unary_bufs_sub .., unary_bufs_sub .., reshape_bufs_sub .., reshape_bufs_sub .., nullary_bufs_sub .., unary_bufs_sub .., binary_bufs_sub .., nullary_bufs_sub .., unary_bufs_sub ..⟩
theorem ops19_fresh : (ops19 : List (HloOp τ sig (Elt F))).Forall fun op => op.fresh = ∅ :=
  forall_fresh_of_map rfl
theorem ops20_sub : (ops20 : List (HloOp τ sig (Elt F))).Forall fun op => op.bufs ⊆ tcRefs τ sig :=
  binary_bufs_sub ..
theorem ops20_fresh : (ops20 : List (HloOp τ sig (Elt F))).Forall fun op => op.fresh = ∅ :=
  forall_fresh_of_map rfl
theorem line0_sub : (line0 : List (HloOp τ sig (Elt F))).Forall fun op => op.bufs ⊆ tcRefs τ sig :=
  forall_app ops0_sub (forall_app ops1_sub (forall_app ops2_sub (forall_app ops3_sub (forall_app ops4_sub (ops5_sub)))))
theorem line1_sub : (line1 : List (HloOp τ sig (Elt F))).Forall fun op => op.bufs ⊆ tcRefs τ sig :=
  forall_app ops6_sub (forall_app ops7_sub (forall_app ops8_sub (forall_app ops9_sub (forall_app ops10_sub (ops11_sub)))))
theorem line2_sub : (line2 : List (HloOp τ sig (Elt F))).Forall fun op => op.bufs ⊆ tcRefs τ sig :=
  forall_app ops12_sub (forall_app ops13_sub (forall_app ops14_sub (forall_app ops15_sub (forall_app ops16_sub (forall_app ops17_sub (ops18_sub))))))
theorem line3_sub : (line3 : List (HloOp τ sig (Elt F))).Forall fun op => op.bufs ⊆ tcRefs τ sig :=
  forall_app ops19_sub (ops20_sub)
theorem ops_sub : (ops : List (HloOp τ sig (Elt F))).Forall fun op => op.bufs ⊆ tcRefs τ sig :=
  forall_app line0_sub (forall_app line1_sub (forall_app line2_sub line3_sub))

theorem line0_fresh : (line0 : List (HloOp τ sig (Elt F))).Forall fun op => op.fresh = ∅ :=
  forall_app ops0_fresh (forall_app ops1_fresh (forall_app ops2_fresh (forall_app ops3_fresh (forall_app ops4_fresh (ops5_fresh)))))
theorem line1_fresh : (line1 : List (HloOp τ sig (Elt F))).Forall fun op => op.fresh = ∅ :=
  forall_app ops6_fresh (forall_app ops7_fresh (forall_app ops8_fresh (forall_app ops9_fresh (forall_app ops10_fresh (ops11_fresh)))))
theorem line2_fresh : (line2 : List (HloOp τ sig (Elt F))).Forall fun op => op.fresh = ∅ :=
  forall_app ops12_fresh (forall_app ops13_fresh (forall_app ops14_fresh (forall_app ops15_fresh (forall_app ops16_fresh (forall_app ops17_fresh (ops18_fresh))))))
theorem line3_fresh : (line3 : List (HloOp τ sig (Elt F))).Forall fun op => op.fresh = ∅ :=
  forall_app ops19_fresh (ops20_fresh)
theorem ops_fresh : (ops : List (HloOp τ sig (Elt F))).Forall fun op => op.fresh = ∅ :=
  forall_app line0_fresh (forall_app line1_fresh (forall_app line2_fresh line3_fresh))

/-- The contents before the first operation. -/
def st0 (V0 : Valuation τ sig (Elt F)) : Valuation τ sig (Elt F) := V0
theorem st0_main_arg0 (V0 : Valuation τ sig (Elt F)) : st0 V0 (no_index (Proc.devRef .tc main_arg0)) = V0 (Proc.devRef .tc main_arg0) := rfl
theorem st0_main_arg1 (V0 : Valuation τ sig (Elt F)) : st0 V0 (no_index (Proc.devRef .tc main_arg1)) = V0 (Proc.devRef .tc main_arg1) := rfl
theorem st0_main_arg2 (V0 : Valuation τ sig (Elt F)) : st0 V0 (no_index (Proc.devRef .tc main_arg2)) = V0 (Proc.devRef .tc main_arg2) := rfl
theorem st0_main_arg3 (V0 : Valuation τ sig (Elt F)) : st0 V0 (no_index (Proc.devRef .tc main_arg3)) = V0 (Proc.devRef .tc main_arg3) := rfl
theorem st0_main_arg4 (V0 : Valuation τ sig (Elt F)) : st0 V0 (no_index (Proc.devRef .tc main_arg4)) = V0 (Proc.devRef .tc main_arg4) := rfl

/-- The contents after the operation 10. -/
def st1 (V0 : Valuation τ sig (Elt F)) : Valuation τ sig (Elt F) := after ops0 (st0 V0)
theorem st1_keep (V0 : Valuation τ sig (Elt F)) (r : Ref sig .tc) (h : r ∉ [main_v0, main_v1, main_v2, main_cst, main_v3, main_v4, main_cst_0, main_v5, main_v6, main_v7]) :
    st1 V0 (Proc.devRef .tc r) = st0 V0 (Proc.devRef .tc r) :=
  after_of_writes_sub ops0 _ (forall_writes_sub_of_map rfl) h
theorem st1_main_arg3 (V0 : Valuation τ sig (Elt F)) : st1 V0 (no_index (Proc.devRef .tc main_arg3)) = V0 (Proc.devRef .tc main_arg3) :=
  (st1_keep V0 main_arg3 (by decide)).trans (st0_main_arg3 V0)
theorem st1_main_arg0 (V0 : Valuation τ sig (Elt F)) : st1 V0 (no_index (Proc.devRef .tc main_arg0)) = V0 (Proc.devRef .tc main_arg0) :=
  (st1_keep V0 main_arg0 (by decide)).trans (st0_main_arg0 V0)
theorem st1_main_arg4 (V0 : Valuation τ sig (Elt F)) : st1 V0 (no_index (Proc.devRef .tc main_arg4)) = V0 (Proc.devRef .tc main_arg4) :=
  (st1_keep V0 main_arg4 (by decide)).trans (st0_main_arg4 V0)
theorem st1_main_arg2 (V0 : Valuation τ sig (Elt F)) : st1 V0 (no_index (Proc.devRef .tc main_arg2)) = V0 (Proc.devRef .tc main_arg2) :=
  (st1_keep V0 main_arg2 (by decide)).trans (st0_main_arg2 V0)
theorem st1_main_arg1 (V0 : Valuation τ sig (Elt F)) : st1 V0 (no_index (Proc.devRef .tc main_arg1)) = V0 (Proc.devRef .tc main_arg1) :=
  (st1_keep V0 main_arg1 (by decide)).trans (st0_main_arg1 V0)
theorem st1_main_v1 (V0 : Valuation τ sig (Elt F)) : st1 V0 (no_index (Proc.devRef .tc main_v1)) = val_main_v1 (F := F) := by
  unfold st1
  simp only [ops0]
  after_results_simp
  all_goals rfl
theorem st1_main_v7 (V0 : Valuation τ sig (Elt F)) : st1 V0 (no_index (Proc.devRef .tc main_v7)) = val_main_v7 (F := F) := by
  unfold st1
  simp only [ops0]
  after_results_simp
  all_goals rfl

/-- The contents after the operation 20. -/
def st2 (V0 : Valuation τ sig (Elt F)) : Valuation τ sig (Elt F) := after ops1 (st1 V0)
theorem st2_keep (V0 : Valuation τ sig (Elt F)) (r : Ref sig .tc) (h : r ∉ [main_cst_1, main_v8, main_v9, main_cst_2, main_v10, main_v11, main_v12, main_v13, main_v14, main_v15]) :
    st2 V0 (Proc.devRef .tc r) = st1 V0 (Proc.devRef .tc r) :=
  after_of_writes_sub ops1 _ (forall_writes_sub_of_map rfl) h
theorem st2_main_arg3 (V0 : Valuation τ sig (Elt F)) : st2 V0 (no_index (Proc.devRef .tc main_arg3)) = V0 (Proc.devRef .tc main_arg3) :=
  (st2_keep V0 main_arg3 (by decide)).trans (st1_main_arg3 V0)
theorem st2_main_arg0 (V0 : Valuation τ sig (Elt F)) : st2 V0 (no_index (Proc.devRef .tc main_arg0)) = V0 (Proc.devRef .tc main_arg0) :=
  (st2_keep V0 main_arg0 (by decide)).trans (st1_main_arg0 V0)
theorem st2_main_arg4 (V0 : Valuation τ sig (Elt F)) : st2 V0 (no_index (Proc.devRef .tc main_arg4)) = V0 (Proc.devRef .tc main_arg4) :=
  (st2_keep V0 main_arg4 (by decide)).trans (st1_main_arg4 V0)
theorem st2_main_arg2 (V0 : Valuation τ sig (Elt F)) : st2 V0 (no_index (Proc.devRef .tc main_arg2)) = V0 (Proc.devRef .tc main_arg2) :=
  (st2_keep V0 main_arg2 (by decide)).trans (st1_main_arg2 V0)
theorem st2_main_arg1 (V0 : Valuation τ sig (Elt F)) : st2 V0 (no_index (Proc.devRef .tc main_arg1)) = V0 (Proc.devRef .tc main_arg1) :=
  (st2_keep V0 main_arg1 (by decide)).trans (st1_main_arg1 V0)
theorem st2_main_v14 (V0 : Valuation τ sig (Elt F)) : st2 V0 (no_index (Proc.devRef .tc main_v14)) = val_main_v14 (F := F) := by
  unfold st2
  simp only [ops1]
  after_results_simp
  simp only [st1_main_v1] <;> rfl
theorem st2_main_v15 (V0 : Valuation τ sig (Elt F)) : st2 V0 (no_index (Proc.devRef .tc main_v15)) = val_main_v15 (F := F) := by
  unfold st2
  simp only [ops1]
  after_results_simp
  simp only [st1_main_v7] <;> rfl

/-- The contents after the operation 30. -/
def st3 (V0 : Valuation τ sig (Elt F)) : Valuation τ sig (Elt F) := after ops2 (st2 V0)
theorem st3_keep (V0 : Valuation τ sig (Elt F)) (r : Ref sig .tc) (h : r ∉ [main_v16, main_v17, main_v18, main_v19, main_v20, main_v21, main_v22, main_v23, main_v24, main_v25]) :
    st3 V0 (Proc.devRef .tc r) = st2 V0 (Proc.devRef .tc r) :=
  after_of_writes_sub ops2 _ (forall_writes_sub_of_map rfl) h
theorem st3_main_arg3 (V0 : Valuation τ sig (Elt F)) : st3 V0 (no_index (Proc.devRef .tc main_arg3)) = V0 (Proc.devRef .tc main_arg3) :=
  (st3_keep V0 main_arg3 (by decide)).trans (st2_main_arg3 V0)
theorem st3_main_arg0 (V0 : Valuation τ sig (Elt F)) : st3 V0 (no_index (Proc.devRef .tc main_arg0)) = V0 (Proc.devRef .tc main_arg0) :=
  (st3_keep V0 main_arg0 (by decide)).trans (st2_main_arg0 V0)
theorem st3_main_arg4 (V0 : Valuation τ sig (Elt F)) : st3 V0 (no_index (Proc.devRef .tc main_arg4)) = V0 (Proc.devRef .tc main_arg4) :=
  (st3_keep V0 main_arg4 (by decide)).trans (st2_main_arg4 V0)
theorem st3_main_arg2 (V0 : Valuation τ sig (Elt F)) : st3 V0 (no_index (Proc.devRef .tc main_arg2)) = V0 (Proc.devRef .tc main_arg2) :=
  (st3_keep V0 main_arg2 (by decide)).trans (st2_main_arg2 V0)
theorem st3_main_arg1 (V0 : Valuation τ sig (Elt F)) : st3 V0 (no_index (Proc.devRef .tc main_arg1)) = V0 (Proc.devRef .tc main_arg1) :=
  (st3_keep V0 main_arg1 (by decide)).trans (st2_main_arg1 V0)
theorem st3_main_v18 (V0 : Valuation τ sig (Elt F)) : st3 V0 (no_index (Proc.devRef .tc main_v18)) = val_main_v18 (F := F) := by
  unfold st3
  simp only [ops2]
  after_results_simp
  simp only [st2_main_v15, st2_main_v14] <;> rfl
theorem st3_main_v20 (V0 : Valuation τ sig (Elt F)) : st3 V0 (no_index (Proc.devRef .tc main_v20)) = val_main_v20 (F := F) := by
  unfold st3
  simp only [ops2]
  after_results_simp
  simp only [st2_main_v15, st2_main_v14] <;> rfl
theorem st3_main_v22 (V0 : Valuation τ sig (Elt F)) : st3 V0 (no_index (Proc.devRef .tc main_v22)) = val_main_v22 (F := F) (V0 (Proc.devRef .tc main_arg0)) := by
  unfold st3
  simp only [ops2]
  after_results_simp
  simp only [st2_main_arg0] <;> rfl
theorem st3_main_v23 (V0 : Valuation τ sig (Elt F)) : st3 V0 (no_index (Proc.devRef .tc main_v23)) = val_main_v23 (F := F) (V0 (Proc.devRef .tc main_arg0)) := by
  unfold st3
  simp only [ops2]
  after_results_simp
  simp only [st2_main_arg0] <;> rfl
theorem st3_main_v24 (V0 : Valuation τ sig (Elt F)) : st3 V0 (no_index (Proc.devRef .tc main_v24)) = val_main_v24 (F := F) (V0 (Proc.devRef .tc main_arg0)) := by
  unfold st3
  simp only [ops2]
  after_results_simp
  simp only [st2_main_arg0] <;> rfl
theorem st3_main_v25 (V0 : Valuation τ sig (Elt F)) : st3 V0 (no_index (Proc.devRef .tc main_v25)) = val_main_v25 (F := F) := by
  unfold st3
  simp only [ops2]
  after_results_simp
  simp only [st2_main_v15, st2_main_v14] <;> rfl

/-- The contents after the operation 40. -/
def st4 (V0 : Valuation τ sig (Elt F)) : Valuation τ sig (Elt F) := after ops3 (st3 V0)
theorem st4_keep (V0 : Valuation τ sig (Elt F)) (r : Ref sig .tc) (h : r ∉ [main_v26, main_v27, main_v28, main_v29, main_v30, main_v31, main_v32, main_v33, main_v34, main_v35]) :
    st4 V0 (Proc.devRef .tc r) = st3 V0 (Proc.devRef .tc r) :=
  after_of_writes_sub ops3 _ (forall_writes_sub_of_map rfl) h
theorem st4_main_arg3 (V0 : Valuation τ sig (Elt F)) : st4 V0 (no_index (Proc.devRef .tc main_arg3)) = V0 (Proc.devRef .tc main_arg3) :=
  (st4_keep V0 main_arg3 (by decide)).trans (st3_main_arg3 V0)
theorem st4_main_arg0 (V0 : Valuation τ sig (Elt F)) : st4 V0 (no_index (Proc.devRef .tc main_arg0)) = V0 (Proc.devRef .tc main_arg0) :=
  (st4_keep V0 main_arg0 (by decide)).trans (st3_main_arg0 V0)
theorem st4_main_arg4 (V0 : Valuation τ sig (Elt F)) : st4 V0 (no_index (Proc.devRef .tc main_arg4)) = V0 (Proc.devRef .tc main_arg4) :=
  (st4_keep V0 main_arg4 (by decide)).trans (st3_main_arg4 V0)
theorem st4_main_arg2 (V0 : Valuation τ sig (Elt F)) : st4 V0 (no_index (Proc.devRef .tc main_arg2)) = V0 (Proc.devRef .tc main_arg2) :=
  (st4_keep V0 main_arg2 (by decide)).trans (st3_main_arg2 V0)
theorem st4_main_arg1 (V0 : Valuation τ sig (Elt F)) : st4 V0 (no_index (Proc.devRef .tc main_arg1)) = V0 (Proc.devRef .tc main_arg1) :=
  (st4_keep V0 main_arg1 (by decide)).trans (st3_main_arg1 V0)
theorem st4_main_v18 (V0 : Valuation τ sig (Elt F)) : st4 V0 (no_index (Proc.devRef .tc main_v18)) = val_main_v18 (F := F) :=
  (st4_keep V0 main_v18 (by decide)).trans (st3_main_v18 V0)
theorem st4_main_v20 (V0 : Valuation τ sig (Elt F)) : st4 V0 (no_index (Proc.devRef .tc main_v20)) = val_main_v20 (F := F) :=
  (st4_keep V0 main_v20 (by decide)).trans (st3_main_v20 V0)
theorem st4_main_v35 (V0 : Valuation τ sig (Elt F)) : st4 V0 (no_index (Proc.devRef .tc main_v35)) = val_main_v35 (F := F) (V0 (Proc.devRef .tc main_arg0)) := by
  unfold st4
  simp only [ops3]
  after_results_simp
  try dsimp only [Matrix.cons_val]
  try after_results_simp
  simp only [st3_main_v24, st3_main_v20, st3_main_v22, st3_main_v18, st3_main_v23, st3_main_v25] <;> rfl

/-- The contents after the operation 50. -/
def st5 (V0 : Valuation τ sig (Elt F)) : Valuation τ sig (Elt F) := after ops4 (st4 V0)
theorem st5_keep (V0 : Valuation τ sig (Elt F)) (r : Ref sig .tc) (h : r ∉ [main_v36, main_v37, main_v38, main_v39, main_v40, main_v41, main_v42, main_v43, main_v44, main_v45]) :
    st5 V0 (Proc.devRef .tc r) = st4 V0 (Proc.devRef .tc r) :=
  after_of_writes_sub ops4 _ (forall_writes_sub_of_map rfl) h
theorem st5_main_arg3 (V0 : Valuation τ sig (Elt F)) : st5 V0 (no_index (Proc.devRef .tc main_arg3)) = V0 (Proc.devRef .tc main_arg3) :=
  (st5_keep V0 main_arg3 (by decide)).trans (st4_main_arg3 V0)
theorem st5_main_arg0 (V0 : Valuation τ sig (Elt F)) : st5 V0 (no_index (Proc.devRef .tc main_arg0)) = V0 (Proc.devRef .tc main_arg0) :=
  (st5_keep V0 main_arg0 (by decide)).trans (st4_main_arg0 V0)
theorem st5_main_arg4 (V0 : Valuation τ sig (Elt F)) : st5 V0 (no_index (Proc.devRef .tc main_arg4)) = V0 (Proc.devRef .tc main_arg4) :=
  (st5_keep V0 main_arg4 (by decide)).trans (st4_main_arg4 V0)
theorem st5_main_arg2 (V0 : Valuation τ sig (Elt F)) : st5 V0 (no_index (Proc.devRef .tc main_arg2)) = V0 (Proc.devRef .tc main_arg2) :=
  (st5_keep V0 main_arg2 (by decide)).trans (st4_main_arg2 V0)
theorem st5_main_arg1 (V0 : Valuation τ sig (Elt F)) : st5 V0 (no_index (Proc.devRef .tc main_arg1)) = V0 (Proc.devRef .tc main_arg1) :=
  (st5_keep V0 main_arg1 (by decide)).trans (st4_main_arg1 V0)
theorem st5_main_v20 (V0 : Valuation τ sig (Elt F)) : st5 V0 (no_index (Proc.devRef .tc main_v20)) = val_main_v20 (F := F) :=
  (st5_keep V0 main_v20 (by decide)).trans (st4_main_v20 V0)
theorem st5_main_v35 (V0 : Valuation τ sig (Elt F)) : st5 V0 (no_index (Proc.devRef .tc main_v35)) = val_main_v35 (F := F) (V0 (Proc.devRef .tc main_arg0)) :=
  (st5_keep V0 main_v35 (by decide)).trans (st4_main_v35 V0)
theorem st5_main_v37 (V0 : Valuation τ sig (Elt F)) : st5 V0 (no_index (Proc.devRef .tc main_v37)) = val_main_v37 (F := F) (V0 (Proc.devRef .tc main_arg1)) := by
  unfold st5
  simp only [ops4]
  after_results_simp
  simp only [st4_main_arg1] <;> rfl
theorem st5_main_v38 (V0 : Valuation τ sig (Elt F)) : st5 V0 (no_index (Proc.devRef .tc main_v38)) = val_main_v38 (F := F) (V0 (Proc.devRef .tc main_arg1)) := by
  unfold st5
  simp only [ops4]
  after_results_simp
  simp only [st4_main_arg1] <;> rfl
theorem st5_main_v39 (V0 : Valuation τ sig (Elt F)) : st5 V0 (no_index (Proc.devRef .tc main_v39)) = val_main_v39 (F := F) (V0 (Proc.devRef .tc main_arg1)) := by
  unfold st5
  simp only [ops4]
  after_results_simp
  simp only [st4_main_arg1] <;> rfl
theorem st5_main_v44 (V0 : Valuation τ sig (Elt F)) : st5 V0 (no_index (Proc.devRef .tc main_v44)) = val_main_v44 (F := F) (V0 (Proc.devRef .tc main_arg1)) := by
  unfold st5
  simp only [ops4]
  after_results_simp
  simp only [st4_main_v20, st4_main_arg1, st4_main_v18] <;> rfl
theorem st5_main_v45 (V0 : Valuation τ sig (Elt F)) : st5 V0 (no_index (Proc.devRef .tc main_v45)) = val_main_v45 (F := F) := by
  unfold st5
  simp only [ops4]
  after_results_simp
  simp only [st4_main_v18] <;> rfl

/-- The contents after the operation 60. -/
def st6 (V0 : Valuation τ sig (Elt F)) : Valuation τ sig (Elt F) := after ops5 (st5 V0)
theorem st6_keep (V0 : Valuation τ sig (Elt F)) (r : Ref sig .tc) (h : r ∉ [main_v46, main_v47, main_v48, main_v49, main_v50, main_v51, main_v52, main_v53, main_cst_3, main_v54]) :
    st6 V0 (Proc.devRef .tc r) = st5 V0 (Proc.devRef .tc r) :=
  after_of_writes_sub ops5 _ (forall_writes_sub_of_map rfl) h
theorem st6_main_arg3 (V0 : Valuation τ sig (Elt F)) : st6 V0 (no_index (Proc.devRef .tc main_arg3)) = V0 (Proc.devRef .tc main_arg3) :=
  (st6_keep V0 main_arg3 (by decide)).trans (st5_main_arg3 V0)
theorem st6_main_arg0 (V0 : Valuation τ sig (Elt F)) : st6 V0 (no_index (Proc.devRef .tc main_arg0)) = V0 (Proc.devRef .tc main_arg0) :=
  (st6_keep V0 main_arg0 (by decide)).trans (st5_main_arg0 V0)
theorem st6_main_arg4 (V0 : Valuation τ sig (Elt F)) : st6 V0 (no_index (Proc.devRef .tc main_arg4)) = V0 (Proc.devRef .tc main_arg4) :=
  (st6_keep V0 main_arg4 (by decide)).trans (st5_main_arg4 V0)
theorem st6_main_arg2 (V0 : Valuation τ sig (Elt F)) : st6 V0 (no_index (Proc.devRef .tc main_arg2)) = V0 (Proc.devRef .tc main_arg2) :=
  (st6_keep V0 main_arg2 (by decide)).trans (st5_main_arg2 V0)
theorem st6_main_arg1 (V0 : Valuation τ sig (Elt F)) : st6 V0 (no_index (Proc.devRef .tc main_arg1)) = V0 (Proc.devRef .tc main_arg1) :=
  (st6_keep V0 main_arg1 (by decide)).trans (st5_main_arg1 V0)
theorem st6_main_v35 (V0 : Valuation τ sig (Elt F)) : st6 V0 (no_index (Proc.devRef .tc main_v35)) = val_main_v35 (F := F) (V0 (Proc.devRef .tc main_arg0)) :=
  (st6_keep V0 main_v35 (by decide)).trans (st5_main_v35 V0)
theorem st6_main_v50 (V0 : Valuation τ sig (Elt F)) : st6 V0 (no_index (Proc.devRef .tc main_v50)) = val_main_v50 (F := F) (V0 (Proc.devRef .tc main_arg1)) := by
  unfold st6
  simp only [ops5]
  after_results_simp
  try dsimp only [Matrix.cons_val]
  try after_results_simp
  simp only [st5_main_v39, st5_main_v20, st5_main_v37, st5_main_v45, st5_main_v38, st5_main_v44] <;> rfl
theorem st6_main_v53 (V0 : Valuation τ sig (Elt F)) : st6 V0 (no_index (Proc.devRef .tc main_v53)) = val_main_v53 (F := F) (V0 (Proc.devRef .tc main_arg1)) := by
  unfold st6
  simp only [ops5]
  after_results_simp
  try dsimp only [Matrix.cons_val]
  try after_results_simp
  simp only [st5_main_v39, st5_main_v20, st5_main_v37, st5_main_v45, st5_main_v38, st5_main_v44] <;> rfl
theorem st6_main_v54 (V0 : Valuation τ sig (Elt F)) : st6 V0 (no_index (Proc.devRef .tc main_v54)) = val_main_v54 (F := F) := by
  unfold st6
  simp only [ops5]
  after_results_simp
  try dsimp only [Matrix.cons_val]
  try after_results_simp
  all_goals rfl

/-- The contents after the operation 70. -/
def st7 (V0 : Valuation τ sig (Elt F)) : Valuation τ sig (Elt F) := after ops6 (st6 V0)
theorem st7_keep (V0 : Valuation τ sig (Elt F)) (r : Ref sig .tc) (h : r ∉ [main_v55, main_v56, main_cst_4, main_v57, main_v58, main_v59, main_cst_5, main_v60, main_v61, main_cst_6]) :
    st7 V0 (Proc.devRef .tc r) = st6 V0 (Proc.devRef .tc r) :=
  after_of_writes_sub ops6 _ (forall_writes_sub_of_map rfl) h
theorem st7_main_arg3 (V0 : Valuation τ sig (Elt F)) : st7 V0 (no_index (Proc.devRef .tc main_arg3)) = V0 (Proc.devRef .tc main_arg3) :=
  (st7_keep V0 main_arg3 (by decide)).trans (st6_main_arg3 V0)
theorem st7_main_arg0 (V0 : Valuation τ sig (Elt F)) : st7 V0 (no_index (Proc.devRef .tc main_arg0)) = V0 (Proc.devRef .tc main_arg0) :=
  (st7_keep V0 main_arg0 (by decide)).trans (st6_main_arg0 V0)
theorem st7_main_arg4 (V0 : Valuation τ sig (Elt F)) : st7 V0 (no_index (Proc.devRef .tc main_arg4)) = V0 (Proc.devRef .tc main_arg4) :=
  (st7_keep V0 main_arg4 (by decide)).trans (st6_main_arg4 V0)
theorem st7_main_arg2 (V0 : Valuation τ sig (Elt F)) : st7 V0 (no_index (Proc.devRef .tc main_arg2)) = V0 (Proc.devRef .tc main_arg2) :=
  (st7_keep V0 main_arg2 (by decide)).trans (st6_main_arg2 V0)
theorem st7_main_arg1 (V0 : Valuation τ sig (Elt F)) : st7 V0 (no_index (Proc.devRef .tc main_arg1)) = V0 (Proc.devRef .tc main_arg1) :=
  (st7_keep V0 main_arg1 (by decide)).trans (st6_main_arg1 V0)
theorem st7_main_v53 (V0 : Valuation τ sig (Elt F)) : st7 V0 (no_index (Proc.devRef .tc main_v53)) = val_main_v53 (F := F) (V0 (Proc.devRef .tc main_arg1)) :=
  (st7_keep V0 main_v53 (by decide)).trans (st6_main_v53 V0)
theorem st7_main_v56 (V0 : Valuation τ sig (Elt F)) : st7 V0 (no_index (Proc.devRef .tc main_v56)) = val_main_v56 (F := F) (V0 (Proc.devRef .tc main_arg0)) := by
  unfold st7
  simp only [ops6]
  after_results_simp
  simp only [st6_main_v35, st6_main_v54] <;> rfl
theorem st7_main_v59 (V0 : Valuation τ sig (Elt F)) : st7 V0 (no_index (Proc.devRef .tc main_v59)) = val_main_v59 (F := F) (V0 (Proc.devRef .tc main_arg1)) := by
  unfold st7
  simp only [ops6]
  after_results_simp
  simp only [st6_main_v50] <;> rfl

/-- The contents after the operation 80. -/
def st8 (V0 : Valuation τ sig (Elt F)) : Valuation τ sig (Elt F) := after ops7 (st7 V0)
theorem st8_keep (V0 : Valuation τ sig (Elt F)) (r : Ref sig .tc) (h : r ∉ [main_v62, main_v63, main_v64, main_cst_7, main_v65, main_v66, main_v67, main_v68, main_cst_8, main_v69]) :
    st8 V0 (Proc.devRef .tc r) = st7 V0 (Proc.devRef .tc r) :=
  after_of_writes_sub ops7 _ (forall_writes_sub_of_map rfl) h
theorem st8_main_arg3 (V0 : Valuation τ sig (Elt F)) : st8 V0 (no_index (Proc.devRef .tc main_arg3)) = V0 (Proc.devRef .tc main_arg3) :=
  (st8_keep V0 main_arg3 (by decide)).trans (st7_main_arg3 V0)
theorem st8_main_arg0 (V0 : Valuation τ sig (Elt F)) : st8 V0 (no_index (Proc.devRef .tc main_arg0)) = V0 (Proc.devRef .tc main_arg0) :=
  (st8_keep V0 main_arg0 (by decide)).trans (st7_main_arg0 V0)
theorem st8_main_arg4 (V0 : Valuation τ sig (Elt F)) : st8 V0 (no_index (Proc.devRef .tc main_arg4)) = V0 (Proc.devRef .tc main_arg4) :=
  (st8_keep V0 main_arg4 (by decide)).trans (st7_main_arg4 V0)
theorem st8_main_arg2 (V0 : Valuation τ sig (Elt F)) : st8 V0 (no_index (Proc.devRef .tc main_arg2)) = V0 (Proc.devRef .tc main_arg2) :=
  (st8_keep V0 main_arg2 (by decide)).trans (st7_main_arg2 V0)
theorem st8_main_arg1 (V0 : Valuation τ sig (Elt F)) : st8 V0 (no_index (Proc.devRef .tc main_arg1)) = V0 (Proc.devRef .tc main_arg1) :=
  (st8_keep V0 main_arg1 (by decide)).trans (st7_main_arg1 V0)
theorem st8_main_v53 (V0 : Valuation τ sig (Elt F)) : st8 V0 (no_index (Proc.devRef .tc main_v53)) = val_main_v53 (F := F) (V0 (Proc.devRef .tc main_arg1)) :=
  (st8_keep V0 main_v53 (by decide)).trans (st7_main_v53 V0)
theorem st8_main_v56 (V0 : Valuation τ sig (Elt F)) : st8 V0 (no_index (Proc.devRef .tc main_v56)) = val_main_v56 (F := F) (V0 (Proc.devRef .tc main_arg0)) :=
  (st8_keep V0 main_v56 (by decide)).trans (st7_main_v56 V0)
theorem st8_main_v59 (V0 : Valuation τ sig (Elt F)) : st8 V0 (no_index (Proc.devRef .tc main_v59)) = val_main_v59 (F := F) (V0 (Proc.devRef .tc main_arg1)) :=
  (st8_keep V0 main_v59 (by decide)).trans (st7_main_v59 V0)
theorem st8_main_v67 (V0 : Valuation τ sig (Elt F)) : st8 V0 (no_index (Proc.devRef .tc main_v67)) = val_main_v67 (F := F) (V0 (Proc.devRef .tc main_arg1)) := by
  unfold st8
  simp only [ops7]
  after_results_simp
  simp only [st7_main_v59] <;> rfl

/-- The contents after the operation 90. -/
def st9 (V0 : Valuation τ sig (Elt F)) : Valuation τ sig (Elt F) := after ops8 (st8 V0)
theorem st9_keep (V0 : Valuation τ sig (Elt F)) (r : Ref sig .tc) (h : r ∉ [main_v70, main_v71, main_cst_9, main_v72, main_v73, main_v74, main_v75, main_c, main_v76, main_v77]) :
    st9 V0 (Proc.devRef .tc r) = st8 V0 (Proc.devRef .tc r) :=
  after_of_writes_sub ops8 _ (forall_writes_sub_of_map rfl) h
theorem st9_main_arg3 (V0 : Valuation τ sig (Elt F)) : st9 V0 (no_index (Proc.devRef .tc main_arg3)) = V0 (Proc.devRef .tc main_arg3) :=
  (st9_keep V0 main_arg3 (by decide)).trans (st8_main_arg3 V0)
theorem st9_main_arg0 (V0 : Valuation τ sig (Elt F)) : st9 V0 (no_index (Proc.devRef .tc main_arg0)) = V0 (Proc.devRef .tc main_arg0) :=
  (st9_keep V0 main_arg0 (by decide)).trans (st8_main_arg0 V0)
theorem st9_main_arg4 (V0 : Valuation τ sig (Elt F)) : st9 V0 (no_index (Proc.devRef .tc main_arg4)) = V0 (Proc.devRef .tc main_arg4) :=
  (st9_keep V0 main_arg4 (by decide)).trans (st8_main_arg4 V0)
theorem st9_main_arg2 (V0 : Valuation τ sig (Elt F)) : st9 V0 (no_index (Proc.devRef .tc main_arg2)) = V0 (Proc.devRef .tc main_arg2) :=
  (st9_keep V0 main_arg2 (by decide)).trans (st8_main_arg2 V0)
theorem st9_main_arg1 (V0 : Valuation τ sig (Elt F)) : st9 V0 (no_index (Proc.devRef .tc main_arg1)) = V0 (Proc.devRef .tc main_arg1) :=
  (st9_keep V0 main_arg1 (by decide)).trans (st8_main_arg1 V0)
theorem st9_main_v53 (V0 : Valuation τ sig (Elt F)) : st9 V0 (no_index (Proc.devRef .tc main_v53)) = val_main_v53 (F := F) (V0 (Proc.devRef .tc main_arg1)) :=
  (st9_keep V0 main_v53 (by decide)).trans (st8_main_v53 V0)
theorem st9_main_v56 (V0 : Valuation τ sig (Elt F)) : st9 V0 (no_index (Proc.devRef .tc main_v56)) = val_main_v56 (F := F) (V0 (Proc.devRef .tc main_arg0)) :=
  (st9_keep V0 main_v56 (by decide)).trans (st8_main_v56 V0)
theorem st9_main_v73 (V0 : Valuation τ sig (Elt F)) : st9 V0 (no_index (Proc.devRef .tc main_v73)) = val_main_v73 (F := F) (V0 (Proc.devRef .tc main_arg1)) := by
  unfold st9
  simp only [ops8]
  after_results_simp
  simp only [st8_main_v59, st8_main_v67] <;> rfl
theorem st9_main_v77 (V0 : Valuation τ sig (Elt F)) : st9 V0 (no_index (Proc.devRef .tc main_v77)) = val_main_v77 (F := F) := by
  unfold st9
  simp only [ops8]
  after_results_simp
  all_goals rfl

/-- The contents after the operation 100. -/
def st10 (V0 : Valuation τ sig (Elt F)) : Valuation τ sig (Elt F) := after ops9 (st9 V0)
theorem st10_keep (V0 : Valuation τ sig (Elt F)) (r : Ref sig .tc) (h : r ∉ [main_v78, main_c_10, main_v79, main_v80, main_v81, main_v82, main_v83, main_v84, main_v85, main_v86]) :
    st10 V0 (Proc.devRef .tc r) = st9 V0 (Proc.devRef .tc r) :=
  after_of_writes_sub ops9 _ (forall_writes_sub_of_map rfl) h
theorem st10_main_arg3 (V0 : Valuation τ sig (Elt F)) : st10 V0 (no_index (Proc.devRef .tc main_arg3)) = V0 (Proc.devRef .tc main_arg3) :=
  (st10_keep V0 main_arg3 (by decide)).trans (st9_main_arg3 V0)
theorem st10_main_arg0 (V0 : Valuation τ sig (Elt F)) : st10 V0 (no_index (Proc.devRef .tc main_arg0)) = V0 (Proc.devRef .tc main_arg0) :=
  (st10_keep V0 main_arg0 (by decide)).trans (st9_main_arg0 V0)
theorem st10_main_arg4 (V0 : Valuation τ sig (Elt F)) : st10 V0 (no_index (Proc.devRef .tc main_arg4)) = V0 (Proc.devRef .tc main_arg4) :=
  (st10_keep V0 main_arg4 (by decide)).trans (st9_main_arg4 V0)
theorem st10_main_arg2 (V0 : Valuation τ sig (Elt F)) : st10 V0 (no_index (Proc.devRef .tc main_arg2)) = V0 (Proc.devRef .tc main_arg2) :=
  (st10_keep V0 main_arg2 (by decide)).trans (st9_main_arg2 V0)
theorem st10_main_arg1 (V0 : Valuation τ sig (Elt F)) : st10 V0 (no_index (Proc.devRef .tc main_arg1)) = V0 (Proc.devRef .tc main_arg1) :=
  (st10_keep V0 main_arg1 (by decide)).trans (st9_main_arg1 V0)
theorem st10_main_v53 (V0 : Valuation τ sig (Elt F)) : st10 V0 (no_index (Proc.devRef .tc main_v53)) = val_main_v53 (F := F) (V0 (Proc.devRef .tc main_arg1)) :=
  (st10_keep V0 main_v53 (by decide)).trans (st9_main_v53 V0)
theorem st10_main_v56 (V0 : Valuation τ sig (Elt F)) : st10 V0 (no_index (Proc.devRef .tc main_v56)) = val_main_v56 (F := F) (V0 (Proc.devRef .tc main_arg0)) :=
  (st10_keep V0 main_v56 (by decide)).trans (st9_main_v56 V0)
theorem st10_main_v73 (V0 : Valuation τ sig (Elt F)) : st10 V0 (no_index (Proc.devRef .tc main_v73)) = val_main_v73 (F := F) (V0 (Proc.devRef .tc main_arg1)) :=
  (st10_keep V0 main_v73 (by decide)).trans (st9_main_v73 V0)
theorem st10_main_v78 (V0 : Valuation τ sig (Elt F)) : st10 V0 (no_index (Proc.devRef .tc main_v78)) = val_main_v78 (F := F) := by
  unfold st10
  simp only [ops9]
  after_results_simp
  simp only [st9_main_v77] <;> rfl
theorem st10_main_v81 (V0 : Valuation τ sig (Elt F)) : st10 V0 (no_index (Proc.devRef .tc main_v81)) = val_main_v81 (F := F) := by
  unfold st10
  simp only [ops9]
  after_results_simp
  simp only [st9_main_v77] <;> rfl
theorem st10_main_v86 (V0 : Valuation τ sig (Elt F)) : st10 V0 (no_index (Proc.devRef .tc main_v86)) = val_main_v86 (F := F) := by
  unfold st10
  simp only [ops9]
  after_results_simp
  simp only [st9_main_v77] <;> rfl

/-- The contents after the operation 110. -/
def st11 (V0 : Valuation τ sig (Elt F)) : Valuation τ sig (Elt F) := after ops10 (st10 V0)
theorem st11_keep (V0 : Valuation τ sig (Elt F)) (r : Ref sig .tc) (h : r ∉ [main_v87, main_c_11, main_v88, main_v89, main_c_12, main_v90, main_v91, main_v92, main_v93, main_c_13]) :
    st11 V0 (Proc.devRef .tc r) = st10 V0 (Proc.devRef .tc r) :=
  after_of_writes_sub ops10 _ (forall_writes_sub_of_map rfl) h
theorem st11_main_arg3 (V0 : Valuation τ sig (Elt F)) : st11 V0 (no_index (Proc.devRef .tc main_arg3)) = V0 (Proc.devRef .tc main_arg3) :=
  (st11_keep V0 main_arg3 (by decide)).trans (st10_main_arg3 V0)
theorem st11_main_arg0 (V0 : Valuation τ sig (Elt F)) : st11 V0 (no_index (Proc.devRef .tc main_arg0)) = V0 (Proc.devRef .tc main_arg0) :=
  (st11_keep V0 main_arg0 (by decide)).trans (st10_main_arg0 V0)
theorem st11_main_arg4 (V0 : Valuation τ sig (Elt F)) : st11 V0 (no_index (Proc.devRef .tc main_arg4)) = V0 (Proc.devRef .tc main_arg4) :=
  (st11_keep V0 main_arg4 (by decide)).trans (st10_main_arg4 V0)
theorem st11_main_arg2 (V0 : Valuation τ sig (Elt F)) : st11 V0 (no_index (Proc.devRef .tc main_arg2)) = V0 (Proc.devRef .tc main_arg2) :=
  (st11_keep V0 main_arg2 (by decide)).trans (st10_main_arg2 V0)
theorem st11_main_arg1 (V0 : Valuation τ sig (Elt F)) : st11 V0 (no_index (Proc.devRef .tc main_arg1)) = V0 (Proc.devRef .tc main_arg1) :=
  (st11_keep V0 main_arg1 (by decide)).trans (st10_main_arg1 V0)
theorem st11_main_v53 (V0 : Valuation τ sig (Elt F)) : st11 V0 (no_index (Proc.devRef .tc main_v53)) = val_main_v53 (F := F) (V0 (Proc.devRef .tc main_arg1)) :=
  (st11_keep V0 main_v53 (by decide)).trans (st10_main_v53 V0)
theorem st11_main_v56 (V0 : Valuation τ sig (Elt F)) : st11 V0 (no_index (Proc.devRef .tc main_v56)) = val_main_v56 (F := F) (V0 (Proc.devRef .tc main_arg0)) :=
  (st11_keep V0 main_v56 (by decide)).trans (st10_main_v56 V0)
theorem st11_main_v73 (V0 : Valuation τ sig (Elt F)) : st11 V0 (no_index (Proc.devRef .tc main_v73)) = val_main_v73 (F := F) (V0 (Proc.devRef .tc main_arg1)) :=
  (st11_keep V0 main_v73 (by decide)).trans (st10_main_v73 V0)
theorem st11_main_v78 (V0 : Valuation τ sig (Elt F)) : st11 V0 (no_index (Proc.devRef .tc main_v78)) = val_main_v78 (F := F) :=
  (st11_keep V0 main_v78 (by decide)).trans (st10_main_v78 V0)
theorem st11_main_v86 (V0 : Valuation τ sig (Elt F)) : st11 V0 (no_index (Proc.devRef .tc main_v86)) = val_main_v86 (F := F) :=
  (st11_keep V0 main_v86 (by decide)).trans (st10_main_v86 V0)
theorem st11_main_v93 (V0 : Valuation τ sig (Elt F)) : st11 V0 (no_index (Proc.devRef .tc main_v93)) = val_main_v93 (F := F) := by
  unfold st11
  simp only [ops10]
  after_results_simp
  simp only [st10_main_v86, st10_main_v81] <;> rfl
theorem st11_main_c_13 (V0 : Valuation τ sig (Elt F)) : st11 V0 (no_index (Proc.devRef .tc main_c_13)) = val_main_c_13 (F := F) := by
  unfold st11
  simp only [ops10]
  after_results_simp
  all_goals rfl

/-- The contents after the operation 120. -/
def st12 (V0 : Valuation τ sig (Elt F)) : Valuation τ sig (Elt F) := after ops11 (st11 V0)
theorem st12_keep (V0 : Valuation τ sig (Elt F)) (r : Ref sig .tc) (h : r ∉ [main_v94, main_v95, main_v96, main_v97, main_v98, main_v99, main_v100, main_v101, main_v102, main_v103]) :
    st12 V0 (Proc.devRef .tc r) = st11 V0 (Proc.devRef .tc r) :=
  after_of_writes_sub ops11 _ (forall_writes_sub_of_map rfl) h
theorem st12_main_arg3 (V0 : Valuation τ sig (Elt F)) : st12 V0 (no_index (Proc.devRef .tc main_arg3)) = V0 (Proc.devRef .tc main_arg3) :=
  (st12_keep V0 main_arg3 (by decide)).trans (st11_main_arg3 V0)
theorem st12_main_arg0 (V0 : Valuation τ sig (Elt F)) : st12 V0 (no_index (Proc.devRef .tc main_arg0)) = V0 (Proc.devRef .tc main_arg0) :=
  (st12_keep V0 main_arg0 (by decide)).trans (st11_main_arg0 V0)
theorem st12_main_arg4 (V0 : Valuation τ sig (Elt F)) : st12 V0 (no_index (Proc.devRef .tc main_arg4)) = V0 (Proc.devRef .tc main_arg4) :=
  (st12_keep V0 main_arg4 (by decide)).trans (st11_main_arg4 V0)
theorem st12_main_arg2 (V0 : Valuation τ sig (Elt F)) : st12 V0 (no_index (Proc.devRef .tc main_arg2)) = V0 (Proc.devRef .tc main_arg2) :=
  (st12_keep V0 main_arg2 (by decide)).trans (st11_main_arg2 V0)
theorem st12_main_arg1 (V0 : Valuation τ sig (Elt F)) : st12 V0 (no_index (Proc.devRef .tc main_arg1)) = V0 (Proc.devRef .tc main_arg1) :=
  (st12_keep V0 main_arg1 (by decide)).trans (st11_main_arg1 V0)
theorem st12_main_v53 (V0 : Valuation τ sig (Elt F)) : st12 V0 (no_index (Proc.devRef .tc main_v53)) = val_main_v53 (F := F) (V0 (Proc.devRef .tc main_arg1)) :=
  (st12_keep V0 main_v53 (by decide)).trans (st11_main_v53 V0)
theorem st12_main_v56 (V0 : Valuation τ sig (Elt F)) : st12 V0 (no_index (Proc.devRef .tc main_v56)) = val_main_v56 (F := F) (V0 (Proc.devRef .tc main_arg0)) :=
  (st12_keep V0 main_v56 (by decide)).trans (st11_main_v56 V0)
theorem st12_main_v96 (V0 : Valuation τ sig (Elt F)) : st12 V0 (no_index (Proc.devRef .tc main_v96)) = val_main_v96 (F := F) := by
  unfold st12
  simp only [ops11]
  after_results_simp
  simp only [st11_main_c_13, st11_main_v86, st11_main_v93] <;> rfl
theorem st12_main_v102 (V0 : Valuation τ sig (Elt F)) : st12 V0 (no_index (Proc.devRef .tc main_v102)) = val_main_v102 (F := F) := by
  unfold st12
  simp only [ops11]
  after_results_simp
  simp only [st11_main_v78] <;> rfl
theorem st12_main_v103 (V0 : Valuation τ sig (Elt F)) : st12 V0 (no_index (Proc.devRef .tc main_v103)) = val_main_v103 (F := F) (V0 (Proc.devRef .tc main_arg0)) (V0 (Proc.devRef .tc main_arg1)) := by
  unfold st12
  simp only [ops11]
  after_results_simp
  simp only [st11_main_v56, st11_main_v73] <;> rfl

/-- The contents after the operation 130. -/
def st13 (V0 : Valuation τ sig (Elt F)) : Valuation τ sig (Elt F) := after ops12 (st12 V0)
theorem st13_keep (V0 : Valuation τ sig (Elt F)) (r : Ref sig .tc) (h : r ∉ [main_v104, main_cst_14, main_v105, main_v106, main_v107, main_v108, main_cst_15, main_v109, main_v110, main_v111]) :
    st13 V0 (Proc.devRef .tc r) = st12 V0 (Proc.devRef .tc r) :=
  after_of_writes_sub ops12 _ (forall_writes_sub_of_map rfl) h
theorem st13_main_arg3 (V0 : Valuation τ sig (Elt F)) : st13 V0 (no_index (Proc.devRef .tc main_arg3)) = V0 (Proc.devRef .tc main_arg3) :=
  (st13_keep V0 main_arg3 (by decide)).trans (st12_main_arg3 V0)
theorem st13_main_arg0 (V0 : Valuation τ sig (Elt F)) : st13 V0 (no_index (Proc.devRef .tc main_arg0)) = V0 (Proc.devRef .tc main_arg0) :=
  (st13_keep V0 main_arg0 (by decide)).trans (st12_main_arg0 V0)
theorem st13_main_arg4 (V0 : Valuation τ sig (Elt F)) : st13 V0 (no_index (Proc.devRef .tc main_arg4)) = V0 (Proc.devRef .tc main_arg4) :=
  (st13_keep V0 main_arg4 (by decide)).trans (st12_main_arg4 V0)
theorem st13_main_arg2 (V0 : Valuation τ sig (Elt F)) : st13 V0 (no_index (Proc.devRef .tc main_arg2)) = V0 (Proc.devRef .tc main_arg2) :=
  (st13_keep V0 main_arg2 (by decide)).trans (st12_main_arg2 V0)
theorem st13_main_arg1 (V0 : Valuation τ sig (Elt F)) : st13 V0 (no_index (Proc.devRef .tc main_arg1)) = V0 (Proc.devRef .tc main_arg1) :=
  (st13_keep V0 main_arg1 (by decide)).trans (st12_main_arg1 V0)
theorem st13_main_v102 (V0 : Valuation τ sig (Elt F)) : st13 V0 (no_index (Proc.devRef .tc main_v102)) = val_main_v102 (F := F) :=
  (st13_keep V0 main_v102 (by decide)).trans (st12_main_v102 V0)
theorem st13_main_v106 (V0 : Valuation τ sig (Elt F)) : st13 V0 (no_index (Proc.devRef .tc main_v106)) = val_main_v106 (F := F) (V0 (Proc.devRef .tc main_arg0)) (V0 (Proc.devRef .tc main_arg1)) := by
  unfold st13
  simp only [ops12]
  after_results_simp
  simp only [st12_main_v103] <;> rfl
theorem st13_main_v110 (V0 : Valuation τ sig (Elt F)) : st13 V0 (no_index (Proc.devRef .tc main_v110)) = val_main_v110 (F := F) (V0 (Proc.devRef .tc main_arg0)) (V0 (Proc.devRef .tc main_arg1)) := by
  unfold st13
  simp only [ops12]
  after_results_simp
  simp only [st12_main_v56, st12_main_v53] <;> rfl
theorem st13_main_v111 (V0 : Valuation τ sig (Elt F)) : st13 V0 (no_index (Proc.devRef .tc main_v111)) = val_main_v111 (F := F) := by
  unfold st13
  simp only [ops12]
  after_results_simp
  simp only [st12_main_v96] <;> rfl

/-- The contents after the operation 140. -/
def st14 (V0 : Valuation τ sig (Elt F)) : Valuation τ sig (Elt F) := after ops13 (st13 V0)
theorem st14_keep (V0 : Valuation τ sig (Elt F)) (r : Ref sig .tc) (h : r ∉ [main_cst_16, main_call0_v0, main_call0_v1, main_call0_v2, main_v112, main_v113, main_cst_17, main_call1_v0, main_call1_v1, main_call1_v2]) :
    st14 V0 (Proc.devRef .tc r) = st13 V0 (Proc.devRef .tc r) :=
  after_of_writes_sub ops13 _ (forall_writes_sub_of_map rfl) h
theorem st14_main_arg3 (V0 : Valuation τ sig (Elt F)) : st14 V0 (no_index (Proc.devRef .tc main_arg3)) = V0 (Proc.devRef .tc main_arg3) :=
  (st14_keep V0 main_arg3 (by decide)).trans (st13_main_arg3 V0)
theorem st14_main_arg0 (V0 : Valuation τ sig (Elt F)) : st14 V0 (no_index (Proc.devRef .tc main_arg0)) = V0 (Proc.devRef .tc main_arg0) :=
  (st14_keep V0 main_arg0 (by decide)).trans (st13_main_arg0 V0)
theorem st14_main_arg4 (V0 : Valuation τ sig (Elt F)) : st14 V0 (no_index (Proc.devRef .tc main_arg4)) = V0 (Proc.devRef .tc main_arg4) :=
  (st14_keep V0 main_arg4 (by decide)).trans (st13_main_arg4 V0)
theorem st14_main_arg2 (V0 : Valuation τ sig (Elt F)) : st14 V0 (no_index (Proc.devRef .tc main_arg2)) = V0 (Proc.devRef .tc main_arg2) :=
  (st14_keep V0 main_arg2 (by decide)).trans (st13_main_arg2 V0)
theorem st14_main_arg1 (V0 : Valuation τ sig (Elt F)) : st14 V0 (no_index (Proc.devRef .tc main_arg1)) = V0 (Proc.devRef .tc main_arg1) :=
  (st14_keep V0 main_arg1 (by decide)).trans (st13_main_arg1 V0)
theorem st14_main_v110 (V0 : Valuation τ sig (Elt F)) : st14 V0 (no_index (Proc.devRef .tc main_v110)) = val_main_v110 (F := F) (V0 (Proc.devRef .tc main_arg0)) (V0 (Proc.devRef .tc main_arg1)) :=
  (st14_keep V0 main_v110 (by decide)).trans (st13_main_v110 V0)
theorem st14_main_v112 (V0 : Valuation τ sig (Elt F)) : st14 V0 (no_index (Proc.devRef .tc main_v112)) = val_main_v112 (F := F) (V0 (Proc.devRef .tc main_arg0)) (V0 (Proc.devRef .tc main_arg1)) := by
  unfold st14
  simp only [ops13, TRef.unary, TRef.binary, TRef.ternary, TRef.toBuf, TRef.ofBuf, cast_eq]
  after_results_simp
  simp only [st13_main_v106, st13_main_v111] <;> rfl
theorem st14_main_call1_v1 (V0 : Valuation τ sig (Elt F)) : st14 V0 (no_index (Proc.devRef .tc main_call1_v1)) = val_main_call1_v1 (F := F) := by
  unfold st14
  simp only [ops13, TRef.unary, TRef.binary, TRef.ternary, TRef.toBuf, TRef.ofBuf, cast_eq]
  after_results_simp
  simp only [st13_main_v102] <;> rfl
theorem st14_main_call1_v2 (V0 : Valuation τ sig (Elt F)) : st14 V0 (no_index (Proc.devRef .tc main_call1_v2)) = val_main_call1_v2 (F := F) := by
  unfold st14
  simp only [ops13, TRef.unary, TRef.binary, TRef.ternary, TRef.toBuf, TRef.ofBuf, cast_eq]
  after_results_simp
  all_goals rfl

/-- The contents after the operation 150. -/
def st15 (V0 : Valuation τ sig (Elt F)) : Valuation τ sig (Elt F) := after ops14 (st14 V0)
theorem st15_keep (V0 : Valuation τ sig (Elt F)) (r : Ref sig .tc) (h : r ∉ [main_v114, main_v115, main_v116, main_v117, main_v118, main_cst_18, main_v119, main_cst_19, main_v120, main_v121]) :
    st15 V0 (Proc.devRef .tc r) = st14 V0 (Proc.devRef .tc r) :=
  after_of_writes_sub ops14 _ (forall_writes_sub_of_map rfl) h
theorem st15_main_arg3 (V0 : Valuation τ sig (Elt F)) : st15 V0 (no_index (Proc.devRef .tc main_arg3)) = V0 (Proc.devRef .tc main_arg3) :=
  (st15_keep V0 main_arg3 (by decide)).trans (st14_main_arg3 V0)
theorem st15_main_arg0 (V0 : Valuation τ sig (Elt F)) : st15 V0 (no_index (Proc.devRef .tc main_arg0)) = V0 (Proc.devRef .tc main_arg0) :=
  (st15_keep V0 main_arg0 (by decide)).trans (st14_main_arg0 V0)
theorem st15_main_arg4 (V0 : Valuation τ sig (Elt F)) : st15 V0 (no_index (Proc.devRef .tc main_arg4)) = V0 (Proc.devRef .tc main_arg4) :=
  (st15_keep V0 main_arg4 (by decide)).trans (st14_main_arg4 V0)
theorem st15_main_arg2 (V0 : Valuation τ sig (Elt F)) : st15 V0 (no_index (Proc.devRef .tc main_arg2)) = V0 (Proc.devRef .tc main_arg2) :=
  (st15_keep V0 main_arg2 (by decide)).trans (st14_main_arg2 V0)
theorem st15_main_arg1 (V0 : Valuation τ sig (Elt F)) : st15 V0 (no_index (Proc.devRef .tc main_arg1)) = V0 (Proc.devRef .tc main_arg1) :=
  (st15_keep V0 main_arg1 (by decide)).trans (st14_main_arg1 V0)
theorem st15_main_v118 (V0 : Valuation τ sig (Elt F)) : st15 V0 (no_index (Proc.devRef .tc main_v118)) = val_main_v118 (F := F) (V0 (Proc.devRef .tc main_arg0)) (V0 (Proc.devRef .tc main_arg1)) (V0 (Proc.devRef .tc main_arg4)) := by
  unfold st15
  simp only [ops14, TRef.unary, TRef.binary, TRef.ternary, TRef.toBuf, TRef.ofBuf, cast_eq]
  after_results_simp
  try dsimp only [Matrix.cons_val]
  try after_results_simp
  simp only [st14_main_arg4, st14_main_call1_v2, st14_main_v110, st14_main_call1_v1, st14_main_v112] <;> rfl
theorem st15_main_v121 (V0 : Valuation τ sig (Elt F)) : st15 V0 (no_index (Proc.devRef .tc main_v121)) = val_main_v121 (F := F) (V0 (Proc.devRef .tc main_arg0)) (V0 (Proc.devRef .tc main_arg1)) (V0 (Proc.devRef .tc main_arg4)) := by
  unfold st15
  simp only [ops14, TRef.unary, TRef.binary, TRef.ternary, TRef.toBuf, TRef.ofBuf, cast_eq]
  after_results_simp
  try dsimp only [Matrix.cons_val]
  try after_results_simp
  simp only [st14_main_arg4, st14_main_call1_v2, st14_main_v110, st14_main_call1_v1, st14_main_v112] <;> rfl

/-- The contents after the operation 160. -/
def st16 (V0 : Valuation τ sig (Elt F)) : Valuation τ sig (Elt F) := after ops15 (st15 V0)
theorem st16_keep (V0 : Valuation τ sig (Elt F)) (r : Ref sig .tc) (h : r ∉ [main_v122, main_v123, main_v124, main_v125, main_cst_20, main_v126, main_v127, main_v128, main_v129, main_v130]) :
    st16 V0 (Proc.devRef .tc r) = st15 V0 (Proc.devRef .tc r) :=
  after_of_writes_sub ops15 _ (forall_writes_sub_of_map rfl) h
theorem st16_main_arg3 (V0 : Valuation τ sig (Elt F)) : st16 V0 (no_index (Proc.devRef .tc main_arg3)) = V0 (Proc.devRef .tc main_arg3) :=
  (st16_keep V0 main_arg3 (by decide)).trans (st15_main_arg3 V0)
theorem st16_main_arg0 (V0 : Valuation τ sig (Elt F)) : st16 V0 (no_index (Proc.devRef .tc main_arg0)) = V0 (Proc.devRef .tc main_arg0) :=
  (st16_keep V0 main_arg0 (by decide)).trans (st15_main_arg0 V0)
theorem st16_main_arg4 (V0 : Valuation τ sig (Elt F)) : st16 V0 (no_index (Proc.devRef .tc main_arg4)) = V0 (Proc.devRef .tc main_arg4) :=
  (st16_keep V0 main_arg4 (by decide)).trans (st15_main_arg4 V0)
theorem st16_main_arg2 (V0 : Valuation τ sig (Elt F)) : st16 V0 (no_index (Proc.devRef .tc main_arg2)) = V0 (Proc.devRef .tc main_arg2) :=
  (st16_keep V0 main_arg2 (by decide)).trans (st15_main_arg2 V0)
theorem st16_main_arg1 (V0 : Valuation τ sig (Elt F)) : st16 V0 (no_index (Proc.devRef .tc main_arg1)) = V0 (Proc.devRef .tc main_arg1) :=
  (st16_keep V0 main_arg1 (by decide)).trans (st15_main_arg1 V0)
theorem st16_main_v129 (V0 : Valuation τ sig (Elt F)) : st16 V0 (no_index (Proc.devRef .tc main_v129)) = val_main_v129 (F := F) (V0 (Proc.devRef .tc main_arg0)) (V0 (Proc.devRef .tc main_arg1)) (V0 (Proc.devRef .tc main_arg4)) := by
  unfold st16
  simp only [ops15]
  after_results_simp
  simp only [st15_main_v121, st15_main_v118] <;> rfl
theorem st16_main_v130 (V0 : Valuation τ sig (Elt F)) : st16 V0 (no_index (Proc.devRef .tc main_v130)) = val_main_v130 (F := F) (V0 (Proc.devRef .tc main_arg0)) (V0 (Proc.devRef .tc main_arg1)) (V0 (Proc.devRef .tc main_arg4)) := by
  unfold st16
  simp only [ops15]
  after_results_simp
  simp only [st15_main_v121, st15_main_v118] <;> rfl

/-- The contents after the operation 170. -/
def st17 (V0 : Valuation τ sig (Elt F)) : Valuation τ sig (Elt F) := after ops16 (st16 V0)
theorem st17_keep (V0 : Valuation τ sig (Elt F)) (r : Ref sig .tc) (h : r ∉ [main_v131, main_v132, main_v133, main_v134, main_v135, main_v136, main_v137, main_v138, main_v139, main_v140]) :
    st17 V0 (Proc.devRef .tc r) = st16 V0 (Proc.devRef .tc r) :=
  after_of_writes_sub ops16 _ (forall_writes_sub_of_map rfl) h
theorem st17_main_arg3 (V0 : Valuation τ sig (Elt F)) : st17 V0 (no_index (Proc.devRef .tc main_arg3)) = V0 (Proc.devRef .tc main_arg3) :=
  (st17_keep V0 main_arg3 (by decide)).trans (st16_main_arg3 V0)
theorem st17_main_arg0 (V0 : Valuation τ sig (Elt F)) : st17 V0 (no_index (Proc.devRef .tc main_arg0)) = V0 (Proc.devRef .tc main_arg0) :=
  (st17_keep V0 main_arg0 (by decide)).trans (st16_main_arg0 V0)
theorem st17_main_arg4 (V0 : Valuation τ sig (Elt F)) : st17 V0 (no_index (Proc.devRef .tc main_arg4)) = V0 (Proc.devRef .tc main_arg4) :=
  (st17_keep V0 main_arg4 (by decide)).trans (st16_main_arg4 V0)
theorem st17_main_arg2 (V0 : Valuation τ sig (Elt F)) : st17 V0 (no_index (Proc.devRef .tc main_arg2)) = V0 (Proc.devRef .tc main_arg2) :=
  (st17_keep V0 main_arg2 (by decide)).trans (st16_main_arg2 V0)
theorem st17_main_arg1 (V0 : Valuation τ sig (Elt F)) : st17 V0 (no_index (Proc.devRef .tc main_arg1)) = V0 (Proc.devRef .tc main_arg1) :=
  (st17_keep V0 main_arg1 (by decide)).trans (st16_main_arg1 V0)
theorem st17_main_v130 (V0 : Valuation τ sig (Elt F)) : st17 V0 (no_index (Proc.devRef .tc main_v130)) = val_main_v130 (F := F) (V0 (Proc.devRef .tc main_arg0)) (V0 (Proc.devRef .tc main_arg1)) (V0 (Proc.devRef .tc main_arg4)) :=
  (st17_keep V0 main_v130 (by decide)).trans (st16_main_v130 V0)
theorem st17_main_v131 (V0 : Valuation τ sig (Elt F)) : st17 V0 (no_index (Proc.devRef .tc main_v131)) = val_main_v131 (F := F) (V0 (Proc.devRef .tc main_arg0)) (V0 (Proc.devRef .tc main_arg1)) (V0 (Proc.devRef .tc main_arg4)) := by
  unfold st17
  simp only [ops16]
  after_results_simp
  simp only [st16_main_v129] <;> rfl
theorem st17_main_v140 (V0 : Valuation τ sig (Elt F)) : st17 V0 (no_index (Proc.devRef .tc main_v140)) = val_main_v140 (F := F) (V0 (Proc.devRef .tc main_arg3)) := by
  unfold st17
  simp only [ops16]
  after_results_simp
  simp only [st16_main_arg3] <;> rfl

/-- The contents after the operation 180. -/
def st18 (V0 : Valuation τ sig (Elt F)) : Valuation τ sig (Elt F) := after ops17 (st17 V0)
theorem st18_keep (V0 : Valuation τ sig (Elt F)) (r : Ref sig .tc) (h : r ∉ [main_cst_21, main_v141, main_v142, main_v143, main_v144, main_v145, main_v146, main_v147, main_v148, main_v149]) :
    st18 V0 (Proc.devRef .tc r) = st17 V0 (Proc.devRef .tc r) :=
  after_of_writes_sub ops17 _ (forall_writes_sub_of_map rfl) h
theorem st18_main_arg3 (V0 : Valuation τ sig (Elt F)) : st18 V0 (no_index (Proc.devRef .tc main_arg3)) = V0 (Proc.devRef .tc main_arg3) :=
  (st18_keep V0 main_arg3 (by decide)).trans (st17_main_arg3 V0)
theorem st18_main_arg0 (V0 : Valuation τ sig (Elt F)) : st18 V0 (no_index (Proc.devRef .tc main_arg0)) = V0 (Proc.devRef .tc main_arg0) :=
  (st18_keep V0 main_arg0 (by decide)).trans (st17_main_arg0 V0)
theorem st18_main_arg4 (V0 : Valuation τ sig (Elt F)) : st18 V0 (no_index (Proc.devRef .tc main_arg4)) = V0 (Proc.devRef .tc main_arg4) :=
  (st18_keep V0 main_arg4 (by decide)).trans (st17_main_arg4 V0)
theorem st18_main_arg2 (V0 : Valuation τ sig (Elt F)) : st18 V0 (no_index (Proc.devRef .tc main_arg2)) = V0 (Proc.devRef .tc main_arg2) :=
  (st18_keep V0 main_arg2 (by decide)).trans (st17_main_arg2 V0)
theorem st18_main_arg1 (V0 : Valuation τ sig (Elt F)) : st18 V0 (no_index (Proc.devRef .tc main_arg1)) = V0 (Proc.devRef .tc main_arg1) :=
  (st18_keep V0 main_arg1 (by decide)).trans (st17_main_arg1 V0)
theorem st18_main_v145 (V0 : Valuation τ sig (Elt F)) : st18 V0 (no_index (Proc.devRef .tc main_v145)) = val_main_v145 (F := F) (V0 (Proc.devRef .tc main_arg0)) (V0 (Proc.devRef .tc main_arg1)) (V0 (Proc.devRef .tc main_arg3)) (V0 (Proc.devRef .tc main_arg4)) := by
  unfold st18
  simp only [ops17]
  after_results_simp
  simp only [st17_main_v131, st17_main_v140] <;> rfl
theorem st18_main_v148 (V0 : Valuation τ sig (Elt F)) : st18 V0 (no_index (Proc.devRef .tc main_v148)) = val_main_v148 (F := F) (V0 (Proc.devRef .tc main_arg0)) (V0 (Proc.devRef .tc main_arg1)) (V0 (Proc.devRef .tc main_arg3)) (V0 (Proc.devRef .tc main_arg4)) := by
  unfold st18
  simp only [ops17]
  after_results_simp
  simp only [st17_main_v130, st17_main_v140] <;> rfl
theorem st18_main_v149 (V0 : Valuation τ sig (Elt F)) : st18 V0 (no_index (Proc.devRef .tc main_v149)) = val_main_v149 (F := F) (V0 (Proc.devRef .tc main_arg0)) (V0 (Proc.devRef .tc main_arg1)) (V0 (Proc.devRef .tc main_arg3)) (V0 (Proc.devRef .tc main_arg4)) := by
  unfold st18
  simp only [ops17]
  after_results_simp
  simp only [st17_main_v130, st17_main_v140] <;> rfl

/-- The contents after the operation 186. -/
def st19 (V0 : Valuation τ sig (Elt F)) : Valuation τ sig (Elt F) := after ops18 (st18 V0)
theorem st19_keep (V0 : Valuation τ sig (Elt F)) (r : Ref sig .tc) (h : r ∉ [main_v150, main_v151, main_v152, main_cst_22, main_v153, main_v154]) :
    st19 V0 (Proc.devRef .tc r) = st18 V0 (Proc.devRef .tc r) :=
  after_of_writes_sub ops18 _ (forall_writes_sub_of_map rfl) h
theorem st19_main_arg3 (V0 : Valuation τ sig (Elt F)) : st19 V0 (no_index (Proc.devRef .tc main_arg3)) = V0 (Proc.devRef .tc main_arg3) :=
  (st19_keep V0 main_arg3 (by decide)).trans (st18_main_arg3 V0)
theorem st19_main_arg0 (V0 : Valuation τ sig (Elt F)) : st19 V0 (no_index (Proc.devRef .tc main_arg0)) = V0 (Proc.devRef .tc main_arg0) :=
  (st19_keep V0 main_arg0 (by decide)).trans (st18_main_arg0 V0)
theorem st19_main_arg4 (V0 : Valuation τ sig (Elt F)) : st19 V0 (no_index (Proc.devRef .tc main_arg4)) = V0 (Proc.devRef .tc main_arg4) :=
  (st19_keep V0 main_arg4 (by decide)).trans (st18_main_arg4 V0)
theorem st19_main_arg2 (V0 : Valuation τ sig (Elt F)) : st19 V0 (no_index (Proc.devRef .tc main_arg2)) = V0 (Proc.devRef .tc main_arg2) :=
  (st19_keep V0 main_arg2 (by decide)).trans (st18_main_arg2 V0)
theorem st19_main_arg1 (V0 : Valuation τ sig (Elt F)) : st19 V0 (no_index (Proc.devRef .tc main_arg1)) = V0 (Proc.devRef .tc main_arg1) :=
  (st19_keep V0 main_arg1 (by decide)).trans (st18_main_arg1 V0)
theorem st19_main_v145 (V0 : Valuation τ sig (Elt F)) : st19 V0 (no_index (Proc.devRef .tc main_v145)) = val_main_v145 (F := F) (V0 (Proc.devRef .tc main_arg0)) (V0 (Proc.devRef .tc main_arg1)) (V0 (Proc.devRef .tc main_arg3)) (V0 (Proc.devRef .tc main_arg4)) :=
  (st19_keep V0 main_v145 (by decide)).trans (st18_main_v145 V0)
theorem st19_main_v154 (V0 : Valuation τ sig (Elt F)) : st19 V0 (no_index (Proc.devRef .tc main_v154)) = val_main_v154 (F := F) (V0 (Proc.devRef .tc main_arg0)) (V0 (Proc.devRef .tc main_arg1)) (V0 (Proc.devRef .tc main_arg3)) (V0 (Proc.devRef .tc main_arg4)) := by
  unfold st19
  simp only [ops18]
  after_results_simp
  simp only [st18_main_v149, st18_main_v148] <;> rfl

/-- The contents after the operation 196. -/
def st20 (V0 : Valuation τ sig (Elt F)) : Valuation τ sig (Elt F) := after ops19 (st19 V0)
theorem st20_keep (V0 : Valuation τ sig (Elt F)) (r : Ref sig .tc) (h : r ∉ [main_v155, main_v156, main_v157, main_v158, main_v159, main_c_23, main_call2_v0, main_v160, main_c_24, main_call3_v0]) :
    st20 V0 (Proc.devRef .tc r) = st19 V0 (Proc.devRef .tc r) :=
  after_of_writes_sub ops19 _ (forall_writes_sub_of_map rfl) h
theorem st20_main_arg3 (V0 : Valuation τ sig (Elt F)) : st20 V0 (no_index (Proc.devRef .tc main_arg3)) = V0 (Proc.devRef .tc main_arg3) :=
  (st20_keep V0 main_arg3 (by decide)).trans (st19_main_arg3 V0)
theorem st20_main_arg0 (V0 : Valuation τ sig (Elt F)) : st20 V0 (no_index (Proc.devRef .tc main_arg0)) = V0 (Proc.devRef .tc main_arg0) :=
  (st20_keep V0 main_arg0 (by decide)).trans (st19_main_arg0 V0)
theorem st20_main_arg4 (V0 : Valuation τ sig (Elt F)) : st20 V0 (no_index (Proc.devRef .tc main_arg4)) = V0 (Proc.devRef .tc main_arg4) :=
  (st20_keep V0 main_arg4 (by decide)).trans (st19_main_arg4 V0)
theorem st20_main_arg2 (V0 : Valuation τ sig (Elt F)) : st20 V0 (no_index (Proc.devRef .tc main_arg2)) = V0 (Proc.devRef .tc main_arg2) :=
  (st20_keep V0 main_arg2 (by decide)).trans (st19_main_arg2 V0)
theorem st20_main_arg1 (V0 : Valuation τ sig (Elt F)) : st20 V0 (no_index (Proc.devRef .tc main_arg1)) = V0 (Proc.devRef .tc main_arg1) :=
  (st20_keep V0 main_arg1 (by decide)).trans (st19_main_arg1 V0)
theorem st20_main_v158 (V0 : Valuation τ sig (Elt F)) : st20 V0 (no_index (Proc.devRef .tc main_v158)) = val_main_v158 (F := F) (V0 (Proc.devRef .tc main_arg0)) (V0 (Proc.devRef .tc main_arg1)) (V0 (Proc.devRef .tc main_arg3)) (V0 (Proc.devRef .tc main_arg4)) := by
  unfold st20
  simp only [ops19, TRef.unary, TRef.binary, TRef.ternary, TRef.toBuf, TRef.ofBuf, cast_eq]
  after_results_simp
  simp only [st19_main_v145] <;> rfl
theorem st20_main_v160 (V0 : Valuation τ sig (Elt F)) : st20 V0 (no_index (Proc.devRef .tc main_v160)) = val_main_v160 (F := F) (V0 (Proc.devRef .tc main_arg0)) (V0 (Proc.devRef .tc main_arg1)) (V0 (Proc.devRef .tc main_arg3)) (V0 (Proc.devRef .tc main_arg4)) := by
  unfold st20
  simp only [ops19, TRef.unary, TRef.binary, TRef.ternary, TRef.toBuf, TRef.ofBuf, cast_eq]
  after_results_simp
  simp only [st19_main_v154] <;> rfl
theorem st20_main_call3_v0 (V0 : Valuation τ sig (Elt F)) : st20 V0 (no_index (Proc.devRef .tc main_call3_v0)) = val_main_call3_v0 (F := F) := by
  unfold st20
  simp only [ops19, TRef.unary, TRef.binary, TRef.ternary, TRef.toBuf, TRef.ofBuf, cast_eq]
  after_results_simp
  all_goals rfl

/-- The contents after the operation 197. -/
def st21 (V0 : Valuation τ sig (Elt F)) : Valuation τ sig (Elt F) := after ops20 (st20 V0)
theorem st21_keep (V0 : Valuation τ sig (Elt F)) (r : Ref sig .tc) (h : r ∉ [main_v161]) :
    st21 V0 (Proc.devRef .tc r) = st20 V0 (Proc.devRef .tc r) :=
  after_of_writes_sub ops20 _ (forall_writes_sub_of_map rfl) h
theorem st21_main_arg3 (V0 : Valuation τ sig (Elt F)) : st21 V0 (no_index (Proc.devRef .tc main_arg3)) = V0 (Proc.devRef .tc main_arg3) :=
  (st21_keep V0 main_arg3 (by decide)).trans (st20_main_arg3 V0)
theorem st21_main_arg0 (V0 : Valuation τ sig (Elt F)) : st21 V0 (no_index (Proc.devRef .tc main_arg0)) = V0 (Proc.devRef .tc main_arg0) :=
  (st21_keep V0 main_arg0 (by decide)).trans (st20_main_arg0 V0)
theorem st21_main_arg4 (V0 : Valuation τ sig (Elt F)) : st21 V0 (no_index (Proc.devRef .tc main_arg4)) = V0 (Proc.devRef .tc main_arg4) :=
  (st21_keep V0 main_arg4 (by decide)).trans (st20_main_arg4 V0)
theorem st21_main_arg2 (V0 : Valuation τ sig (Elt F)) : st21 V0 (no_index (Proc.devRef .tc main_arg2)) = V0 (Proc.devRef .tc main_arg2) :=
  (st21_keep V0 main_arg2 (by decide)).trans (st20_main_arg2 V0)
theorem st21_main_arg1 (V0 : Valuation τ sig (Elt F)) : st21 V0 (no_index (Proc.devRef .tc main_arg1)) = V0 (Proc.devRef .tc main_arg1) :=
  (st21_keep V0 main_arg1 (by decide)).trans (st20_main_arg1 V0)
theorem st21_main_v160 (V0 : Valuation τ sig (Elt F)) : st21 V0 (no_index (Proc.devRef .tc main_v160)) = val_main_v160 (F := F) (V0 (Proc.devRef .tc main_arg0)) (V0 (Proc.devRef .tc main_arg1)) (V0 (Proc.devRef .tc main_arg3)) (V0 (Proc.devRef .tc main_arg4)) :=
  (st21_keep V0 main_v160 (by decide)).trans (st20_main_v160 V0)
theorem st21_main_v161 (V0 : Valuation τ sig (Elt F)) : st21 V0 (no_index (Proc.devRef .tc main_v161)) = val_main_v161 (F := F) (V0 (Proc.devRef .tc main_arg0)) (V0 (Proc.devRef .tc main_arg1)) (V0 (Proc.devRef .tc main_arg3)) (V0 (Proc.devRef .tc main_arg4)) := by
  unfold st21
  simp only [ops20, TRef.unary, TRef.binary, TRef.ternary, TRef.toBuf, TRef.ofBuf, cast_eq]
  after_results_simp
  simp only [st20_main_call3_v0, st20_main_v158] <;> rfl

set_option maxHeartbeats 4000000 in
/-- All the operations together lead to the last contents. -/
theorem after_ops (V0 : Valuation τ sig (Elt F)) : after ops V0 = st21 V0 := by
  simp only [ops, line0, line1, line2, line3, after_append]
  rfl

/-- On every device, for any float values, from any memory with zero counters: every weakly fair execution of the
    reference ends, with each result at its defining value over the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160) = val_main_v160 (F := F) (launchContents m c (Proc.devRef .tc main_arg0)) (launchContents m c (Proc.devRef .tc main_arg1)) (launchContents m c (Proc.devRef .tc main_arg3)) (launchContents m c (Proc.devRef .tc main_arg4))
      ∧ r.2.mem ((c.tc : Thread nD τ).loc main_v161) = val_main_v161 (F := F) (launchContents m c (Proc.devRef .tc main_arg0)) (launchContents m c (Proc.devRef .tc main_arg1)) (launchContents m c (Proc.devRef .tc main_arg3)) (launchContents m c (Proc.devRef .tc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v160).trans ((congrFun (after_ops (launchContents m c)) (Proc.devRef .tc main_v160)).trans (st21_main_v160 (launchContents m c))),
      (h c main_v161).trans ((congrFun (after_ops (launchContents m c)) (Proc.devRef .tc main_v161)).trans (st21_main_v161 (launchContents m c))),
      (h c main_arg0).trans ((congrFun (after_ops (launchContents m c)) (Proc.devRef .tc main_arg0)).trans (st21_main_arg0 (launchContents m c))),
      (h c main_arg1).trans ((congrFun (after_ops (launchContents m c)) (Proc.devRef .tc main_arg1)).trans (st21_main_arg1 (launchContents m c))),
      (h c main_arg2).trans ((congrFun (after_ops (launchContents m c)) (Proc.devRef .tc main_arg2)).trans (st21_main_arg2 (launchContents m c))),
      (h c main_arg3).trans ((congrFun (after_ops (launchContents m c)) (Proc.devRef .tc main_arg3)).trans (st21_main_arg3 (launchContents m c))),
      (h c main_arg4).trans ((congrFun (after_ops (launchContents m c)) (Proc.devRef .tc main_arg4)).trans (st21_main_arg4 (launchContents m c)))⟩)
    (run_seq scopedRefs_eq scopedSems_eq defs main (fun _ => ops) main_eq (fun _ => ops_sub) m ρ
      fun _ => List.forall_iff_forall_mem.mp ops_fresh)

end Cert.ReferenceIdeal.Run

end
-- ==== Proof.RefTile.lean ====
/- The reference's attention at an index: its padded inputs, its masks and its probabilities as reals. -/
module

public import proofs.«01_k».proof.Proof.Inputs
public import proofs.«01_k».proof.Proof.Words
public import Idealize.ShloMosaic.Lib.ValueIdxRank6

@[expose] public section

set_option maxRecDepth 16384

noncomputable section

namespace Cert.ReferenceIdeal.Val

open Idealize.ShloMosaic Idealize.ShloMosaic.TcCoe Cert.ReferenceIdeal Cert.ReferenceIdeal.Read Cert.Attn
open scoped BigOperators

variable {x0 : FVec Ideal S4112x512 .f32} {x1 : FVec Ideal S4112x128 .f32} {x3 : FVec Ideal S4112x512 .f32} {x4 : FVec Ideal S8 .f32}
local notation "𝓘" => inp x0 x1 x3 x4

theorem zero_bits : Ideal.ofBits .f32 0x00000000#32 = ((0 : ℝ) : EReal) := by
  simp [Ideal.ofBits, Ideal.ieee]

theorem krow_lo (b j : ℕ) (h : j < 128) : krow b j = 128 * (b - 1) + j := if_pos h
theorem krow_hi (b j : ℕ) (h : 256 ≤ j) : krow b j = j - 256 := (if_neg (by omega)).trans (if_neg (by omega))
theorem krow_mid (b j : ℕ) (h : ¬j < 128) (h' : j < 256) : krow b j = 128 * b + (j - 128) := (if_neg h).trans (if_pos h')

section Inputs
variable (H : Reals x0 x1 x3 x4)
include H

theorem q_of (i : Fin 4112) (a : Fin 8) (d : Fin 64) (R A : ℕ) (hR : i.val + 112 = R) (hA : a.val = A) :
    val_main_v35 (F := Ideal) x0 (ix4 (0 : Fin 1) i a d) = ((𝓘).q R A d : EReal) := by
  subst hR hA
  unfold inp
  dsimp only
  rw [dif_pos (by omega), H.q]
  simp
theorem k_of (i : Fin 4112) (a : Fin 2) (d : Fin 64) (R A : ℕ) (hR : i.val + 112 = R) (hA : a.val = A) :
    val_main_v50 (F := Ideal) x1 (ix4 (0 : Fin 1) i a d) = ((𝓘).k R A d : EReal) := by
  subst hR hA
  unfold inp
  dsimp only
  rw [dif_pos (by omega), H.k]
  simp
theorem o_of (i : Fin 4112) (e : Fin 512) (R A D : ℕ) (hR : i.val + 112 = R) (hA : A < 8) (hD : D < 64) (he : e.val = 64 * A + D) :
    x3 (ix2 i e) = ((𝓘).o R A D : EReal) := by
  subst hR
  unfold inp
  dsimp only
  rw [dif_pos (by omega), H.o]
  exact congrArg x3 (congrArg₂ ix2 (Fin.ext (by simp)) (Fin.ext he))
theorem x_of (e : Fin 8) (A : ℕ) (he : e.val = A) : x4 (ix1 e) = ((𝓘).x A : EReal) := by
  subst he
  unfold inp
  dsimp only
  rw [dif_pos e.isLt, H.x]
omit H in
theorem q_pad (R A D : ℕ) (h : R < 112) : (𝓘).q R A D = 0 := dif_neg (by omega)
omit H in
theorem k_pad (R A D : ℕ) (h : R < 112) : (𝓘).k R A D = 0 := dif_neg (by omega)
omit H in
theorem o_pad (R A D : ℕ) (h : R < 112) : (𝓘).o R A D = 0 := dif_neg (by omega)

theorem v56_at (b : Fin 33) (r : Fin 128) (h : Fin 2) (g : Fin 4) (d : Fin 64) :
    val_main_v56 (F := Ideal) x0 (ix6 (0 : Fin 1) b r h g d) = ((𝓘).q (128 * b + r) (4 * h + g) d : EReal) := by
  pointwise [val_main_v56, val_main_v55, val_main_v54, val_main_cst_3]
  split
  · rename_i h
    rw [q_pad _ _ _ (by omega)]; rfl
  · exact q_of H _ _ _ _ _ (by show _ - 112 + 112 = _; omega) (by show _ * 4 + _ = _; omega)

theorem v59_at (b : Fin 33) (r : Fin 128) (h : Fin 2) (d : Fin 64) :
    val_main_v59 (F := Ideal) x1 (ix5 (0 : Fin 1) b r h d) = ((𝓘).k (128 * b + r) h d : EReal) := by
  pointwise [val_main_v59, val_main_v58, val_main_v57, val_main_cst_4]
  split
  · rename_i h
    rw [k_pad _ _ _ (by omega)]; rfl
  · exact k_of H _ _ _ _ _ (by show _ - 112 + 112 = _; omega) rfl

theorem v53_at (m : Fin 16) (h : Fin 2) (d : Fin 64) :
    val_main_v53 (F := Ideal) x1 (ix4 (0 : Fin 1) m h d) = ((𝓘).k (112 + m) h d : EReal) := by
  pointwise [val_main_v53]
  exact k_of H _ _ _ _ _ (by show m.val + 112 = _; omega) rfl

theorem v73_at (b : Fin 33) (j : Fin 256) (h : Fin 2) (d : Fin 64) :
    val_main_v73 (F := Ideal) x1 (ix5 (0 : Fin 1) b j h d)
      = ((if 128 ≤ 128 * b.val + j.val then (𝓘).k (krow b j) h d else 0 : ℝ) : EReal) := by
  pointwise [val_main_v73, val_main_v67, val_main_v66, val_main_v65, val_main_cst_7]
  split
  · split
    · exact congrArg (fun z : ℝ => (z : EReal)) (if_neg (by omega)).symm
    · exact (v59_at H _ _ _ _).trans (congrArg (fun z : ℝ => (z : EReal))
        ((congrArg (fun R => (𝓘).k R h d) (krow_lo b j (by assumption)).symm).trans (if_pos (by omega)).symm))
  · exact (v59_at H _ _ _ _).trans (congrArg (fun z : ℝ => (z : EReal))
      ((congrArg (fun R => (𝓘).k R h d) (krow_mid b j (by assumption) j.isLt).symm).trans (if_pos (by omega)).symm))

/-- The cotangent, padded. -/
theorem v142_at (b : Fin 33) (r : Fin 128) (h : Fin 2) (g : Fin 4) (d : Fin 64) :
    val_main_v142 (F := Ideal) x3 (ix6 (0 : Fin 1) b r h g d) = ((𝓘).o (128 * b + r) (4 * h + g) d : EReal) := by
  pointwise [val_main_v142, val_main_v141, val_main_v140, val_main_cst_21]
  split
  · exact o_of H _ _ _ _ _ (by show _ - 112 + 112 = _; omega) (by omega) (by omega) (by simp; omega)
  · rw [o_pad _ _ _ (by omega)]; rfl
end Inputs

theorem v96_at (b : Fin 33) (r : Fin 128) (j : Fin 256) :
    val_main_v96 (F := Ideal) (ix3 b r j) = bit (mask b r j = true) := by
  pointwise [val_main_v75, val_main_v76, val_main_v77, val_main_v78, val_main_v79, val_main_v80, val_main_v81, val_main_v82,
    val_main_v83, val_main_v84, val_main_v85, val_main_v86, val_main_v87, val_main_v88, val_main_v89, val_main_v90,
    val_main_v91, val_main_v92, val_main_v93, val_main_v94, val_main_v95, val_main_v96, val_main_c, val_main_c_10, val_main_c_11,
    val_main_c_12, val_main_c_13]
  unfold mask
  split
  all_goals
    simp only [nat_int, subi_int]
    rw [sge_int, sge_int, slt_int]
    · simp only [andi_bit, decide_eq_true_eq]
      exact bit_congr (by omega)
    all_goals (unfold Fits; omega)

theorem v102_at (b : Fin 33) (r : Fin 128) (j : Fin 16) :
    val_main_v102 (F := Ideal) (ix3 b r j) = bit (mask b r (368 + j.val) = true) := by
  pointwise [val_main_v75, val_main_v76, val_main_v77, val_main_v78, val_main_v79, val_main_v80, val_main_v97, val_main_v98, val_main_v99,
    val_main_v100, val_main_v101, val_main_v102, val_main_c]
  unfold mask
  simp only [nat_int, subi_int]
  rw [sle_int]
  · simp only [decide_eq_true_eq]
    exact bit_congr (by omega)
  all_goals (unfold Fits; omega)

section Scores
variable (H : Reals x0 x1 x3 x4)
include H

/-- The masked scores of the two blocks of keys. -/
theorem v112_at (b : Fin 33) (h : Fin 2) (g : Fin 4) (r : Fin 128) (j : Fin 256) :
    val_main_v112 (F := Ideal) x0 x1 (ix6 (0 : Fin 1) b h g r j)
      = if mask b r j then (((𝓘).tile b (4 * h + g)).s r ⟨j, by omega⟩ : EReal) else ⊥ := by
  pointwise [val_main_v112, val_main_v106, val_main_v105, val_main_v104, val_main_v103, val_main_call0_v0, val_main_call0_v1,
    val_main_call0_v2, val_main_v111, val_main_cst_14, val_main_cst_16]
  rw [v96_at, select_bit]
  by_cases hm : mask b r j = true
  · rw [if_pos hm, if_pos hm]
    have hj : 128 ≤ 128 * b.val + j.val := by
      unfold mask at hm
      simp only [decide_eq_true_eq] at hm
      omega
    refine (congrArg₂ (· * ·) (dot_eq_coe _ _ _ _ (fun x => v73_at H b j h x) fun x => v56_at H b r h g x) ofBits_eighth).trans ?_
    rw [← EReal.coe_mul]
    refine congrArg (fun z : ℝ => (z : EReal)) (congrArg (· * (1 / 8 : ℝ)) (Finset.sum_congr rfl fun x _ => ?_))
    rw [if_pos hj, mul_comm]
    exact congrArg (fun a => (𝓘).q (128 * b + r) (4 * h + g) x * (𝓘).k (krow b j) a x) (by omega)
  · rw [if_neg hm, if_neg hm]
    exact ofBits_neg_inf

/-- The masked scores of the first keys. -/
theorem v114_at (b : Fin 33) (h : Fin 2) (g : Fin 4) (r : Fin 128) (j : Fin 16) :
    val_main_v114 (F := Ideal) x0 x1 (ix6 (0 : Fin 1) b h g r j)
      = if mask b r (368 + j.val) then (((𝓘).tile b (4 * h + g)).s r ⟨368 + j, by omega⟩ : EReal) else ⊥ := by
  pointwise [val_main_v114, val_main_v110, val_main_v109, val_main_v108, val_main_v107, val_main_call1_v0, val_main_call1_v1,
    val_main_call1_v2, val_main_v113, val_main_cst_15, val_main_cst_17]
  rw [v102_at, select_bit]
  by_cases hm : mask b r (368 + j.val) = true
  · rw [if_pos hm, if_pos hm]
    refine (congrArg₂ (· * ·) (dot_eq_coe _ _ _ _ (fun x => v53_at H j h x) fun x => v56_at H b r h g x) ofBits_eighth).trans ?_
    rw [← EReal.coe_mul]
    refine congrArg (fun z : ℝ => (z : EReal)) (congrArg (· * (1 / 8 : ℝ)) (Finset.sum_congr rfl fun x _ => ?_))
    rw [mul_comm]
    exact congrArg₂ (fun R a => (𝓘).q (128 * b + r) (4 * h + g) x * (𝓘).k R a x) ((krow_hi b (368 + j) (by omega)).trans (by omega)).symm (by omega)
  · rw [if_neg hm, if_neg hm]
    exact ofBits_neg_inf

/-- Of the 384 columns of a tile, the 272 that the reference keeps. -/
def col (c : Fin 272) : Fin 384 := ⟨if c.val < 256 then c.val else c.val + 112, by split <;> omega⟩

omit H in
theorem v118_read (b : Fin 33) (h : Fin 2) (g : Fin 4) (r : Fin 128) (e : Fin 273) :
    val_main_v118 (F := Ideal) x0 x1 x4 (ix6 (0 : Fin 1) b h g r e)
      = if h1 : e.val < 256 then val_main_v112 (F := Ideal) x0 x1 (ix6 (0 : Fin 1) b h g r (⟨e, h1⟩ : Fin 256))
        else if h2 : e.val - 256 < 16 then val_main_v114 (F := Ideal) x0 x1 (ix6 (0 : Fin 1) b h g r (⟨e.val - 256, h2⟩ : Fin 16))
        else x4 (ix1 (⟨h * 4 + g, by omega⟩ : Fin 8)) := by
  pointwise [val_main_v118, val_main_v117, val_main_v116, val_main_v115]

/-- A row's logits: the masked scores of the columns kept, and the sink's. -/
theorem v118_at (b : Fin 33) (h : Fin 2) (g : Fin 4) (r : Fin 128) (c : Fin 272) :
    val_main_v118 (F := Ideal) x0 x1 x4 (ix6 (0 : Fin 1) b h g r c.castSucc)
      = if ((𝓘).tile b (4 * h + g)).b r (col c) then (((𝓘).tile b (4 * h + g)).s r (col c) : EReal) else ⊥ := by
  rw [v118_read]
  by_cases h1 : c.val < 256
  · refine (dif_pos h1).trans ((v112_at H _ _ _ _ _).trans ?_)
    have e : col c = ⟨c.val, by omega⟩ := Fin.ext (if_pos h1)
    rw [e]; rfl
  · refine (dif_neg h1).trans ((dif_pos (by show c.val - 256 < 16; omega)).trans ((v114_at H _ _ _ _ _).trans ?_))
    have e : col c = ⟨368 + (c.val - 256), by omega⟩ := Fin.ext ((if_neg h1).trans (by show c.val + 112 = 368 + (c.val - 256); omega))
    rw [e]; rfl
theorem v118_sink (b : Fin 33) (h : Fin 2) (g : Fin 4) (r : Fin 128) :
    val_main_v118 (F := Ideal) x0 x1 x4 (ix6 (0 : Fin 1) b h g r (Fin.last 272)) = ((𝓘).x (4 * h + g) : EReal) := by
  rw [v118_read]
  exact (dif_neg (by decide)).trans ((dif_neg (by decide)).trans (x_of H _ _ (by show _ * 4 + _ = _; omega)))
end Scores

section Softmax
variable (H : Reals x0 x1 x3 x4)

theorem red : S1x33x2x4x128x273.Reduces [5] S1x33x2x4x128 := by decide

theorem lift_at (b : Fin 33) (h : Fin 2) (g : Fin 4) (r : Fin 128) (e : Fin 273) :
    red.lift (ix5 (0 : Fin 1) b h g r) e = ix6 (0 : Fin 1) b h g r e :=
  funext fun a => Fin.ext (by
    match a with | ⟨0, _⟩ => rfl | ⟨1, _⟩ => rfl | ⟨2, _⟩ => rfl | ⟨3, _⟩ => rfl | ⟨4, _⟩ => rfl | ⟨5, _⟩ => rfl)

/-- The greatest of finitely many extended reals is a real if none is `⊤` and one is a real. -/
theorem fold_real {α : Type} (s : Finset α) (f : α → Ideal .f32) (a : Ideal .f32) (ha : a = ⊥) (h : ∀ i, f i ≠ (⊤ : EReal)) (i₀ : α)
    (hi : i₀ ∈ s) (x : ℝ) (hx : f i₀ = (x : EReal)) :
    ∃ μ : ℝ, s.fold (FloatOps.maximumf (F := Ideal) (φ := .f32)) a f = (μ : EReal) := by
  subst ha
  obtain ⟨μ, hμ⟩ := max_fold_real s f h x
  refine ⟨μ, ?_⟩
  have h' : max (s.fold max ⊥ f) (x : EReal) = s.fold max ⊥ f := max_eq_left (by
    rw [← hx]; exact (Finset.le_fold_max _).mpr (Or.inr ⟨i₀, hi, le_rfl⟩))
  exact h'.symm.trans hμ

include H in
theorem v118_ne_top (y : S1x33x2x4x128x273.Idx) : val_main_v118 (F := Ideal) x0 x1 x4 y ≠ (⊤ : EReal) := by
  obtain ⟨o, b, h, g, r, e, rfl⟩ : ∃ (o : Fin 1) (b : Fin 33) (h : Fin 2) (g : Fin 4) (r : Fin 128) (e : Fin 273), y = ix6 o b h g r e :=
    ⟨y 0, y 1, y 2, y 3, y 4, y 5, eq_ix6 y⟩
  rw [Subsingleton.elim o 0]
  refine Fin.lastCases ?_ (fun c => ?_) e
  · rw [v118_sink H]; exact EReal.coe_ne_top _
  · rw [v118_at H]
    split
    · exact EReal.coe_ne_top _
    · exact bot_ne_top

theorem drop_at (b : Fin 33) (h : Fin 2) (g : Fin 4) (r : Fin 128) (e : Fin 273) :
    Gen.reducesTo_S1x33x2x4x128x273_S1x33x2x4x128_d5.drop (ix6 (0 : Fin 1) b h g r e) = ix5 (0 : Fin 1) b h g r :=
  funext fun a => Fin.ext (by
    match a with | ⟨0, _⟩ => rfl | ⟨1, _⟩ => rfl | ⟨2, _⟩ => rfl | ⟨3, _⟩ => rfl | ⟨4, _⟩ => rfl)

include H in
/-- A row's greatest logit is a real number: the sink's logit is. -/
theorem v119_real (b : Fin 33) (h : Fin 2) (g : Fin 4) (r : Fin 128) :
    ∃ μ : ℝ, val_main_v119 (F := Ideal) x0 x1 x4 (ix5 (0 : Fin 1) b h g r) = (μ : EReal) := by
  have h1 := v118_ne_top H
  have h2 := v118_sink H b h g r
  unfold val_main_v119
  generalize val_main_v118 (F := Ideal) x0 x1 x4 = y at h1 h2
  rw [Host.reduce_eq_fold]
  exact fold_real _ y _ ofBits_neg_inf h1 (ix6 (0 : Fin 1) b h g r (Fin.last 272))
    (Finset.mem_filter.mpr ⟨Finset.mem_univ _, drop_at b h g r _⟩) _ h2

theorem max_real {s : Shape} (z y : FVec Ideal s .f32) (i : s.Idx) (hz : z i = (⊥ : EReal)) (μ : ℝ) (hy : y i = (μ : EReal)) :
    maximumf z y i = (μ : EReal) := by
  show max (z i) (y i) = _
  rw [hz, hy]
  exact max_eq_right bot_le

theorem v120_bot (y : S1x33x2x4x128.Idx) : val_main_v120 (F := Ideal) y = (⊥ : EReal) := ofBits_neg_inf

include H in
theorem v121_real (b : Fin 33) (h : Fin 2) (g : Fin 4) (r : Fin 128) :
    ∃ μ : ℝ, val_main_v121 (F := Ideal) x0 x1 x4 (ix5 (0 : Fin 1) b h g r) = (μ : EReal) := by
  obtain ⟨μ, e⟩ := v119_real H b h g r
  refine ⟨μ, ?_⟩
  unfold val_main_v121
  exact max_real _ _ _ (v120_bot _) μ e

theorem v125_read (b : Fin 33) (h : Fin 2) (g : Fin 4) (r : Fin 128) (e : Fin 273) :
    val_main_v125 (F := Ideal) x0 x1 x4 (ix6 (0 : Fin 1) b h g r e)
      = Ideal.exp (val_main_v118 (F := Ideal) x0 x1 x4 (ix6 (0 : Fin 1) b h g r e)
          - val_main_v121 (F := Ideal) x0 x1 x4 (ix5 (0 : Fin 1) b h g r)) := by
  pointwise [val_main_v125, val_main_v124, val_main_v123, val_main_v122]

theorem v126_read (b : Fin 33) (h : Fin 2) (g : Fin 4) (r : Fin 128) :
    val_main_v126 (F := Ideal) x0 x1 x4 (ix5 (0 : Fin 1) b h g r)
      = ∑ e : Fin 273, val_main_v125 (F := Ideal) x0 x1 x4 (ix6 (0 : Fin 1) b h g r e) := by
  unfold val_main_v126
  generalize val_main_v125 (F := Ideal) x0 x1 x4 = y
  simp only [Host.reduceAdd, Ideal.hostReduceAdd_def]
  rw [Ideal.hostReduceAdd_single _ red]
  refine (congrArg₂ (· + ·) zero_bits (Finset.sum_congr rfl fun e _ => congrArg y (lift_at b h g r e))).trans ?_
  exact zero_add _

theorem v129_read (b : Fin 33) (h : Fin 2) (g : Fin 4) (r : Fin 128) (e : Fin 273) :
    val_main_v129 (F := Ideal) x0 x1 x4 (ix6 (0 : Fin 1) b h g r e)
      = Ideal.div (val_main_v125 (F := Ideal) x0 x1 x4 (ix6 (0 : Fin 1) b h g r e))
          (val_main_v126 (F := Ideal) x0 x1 x4 (ix5 (0 : Fin 1) b h g r)) := by
  pointwise [val_main_v129, val_main_v128, val_main_v127]

theorem col_injective : Function.Injective col := fun a b e => Fin.ext (by
  have e' : (if a.val < 256 then a.val else a.val + 112) = if b.val < 256 then b.val else b.val + 112 := congrArg Fin.val e
  split at e' <;> split at e' <;> omega)

/-- The columns left out are masked. -/
theorem col_masked (I : Inp) (b h : ℕ) (r : Fin 128) (j : Fin 384) (hj : j ∉ Set.range col) : (I.tile b h).b r j = false := by
  show mask b r j = false
  by_cases h1 : j.val < 256
  · exact absurd ⟨⟨j, by omega⟩, Fin.ext (if_pos h1)⟩ hj
  · by_cases h2 : 368 ≤ j.val
    · exact absurd ⟨⟨j.val - 112, by omega⟩, Fin.ext ((if_neg (by show ¬(j.val - 112 < 256); omega)).trans
        (by show j.val - 112 + 112 = j.val; omega))⟩ hj
    · unfold mask
      exact decide_eq_false (by omega)

include H in
/-- The reference's probabilities are the tile's. -/
theorem v129_at (b : Fin 33) (h : Fin 2) (g : Fin 4) (r : Fin 128) (c : Fin 272) :
    val_main_v129 (F := Ideal) x0 x1 x4 (ix6 (0 : Fin 1) b h g r c.castSucc)
      = (((𝓘).tile b (4 * h + g)).p r (col c) : EReal) := by
  obtain ⟨μ, hμ⟩ := v121_real H b h g r
  set T := (𝓘).tile b (4 * h + g) with hT
  have hw : ∀ c : Fin 272, val_main_v125 (F := Ideal) x0 x1 x4 (ix6 (0 : Fin 1) b h g r c.castSucc)
      = ((T.w r (col c) * Real.exp (-μ) : ℝ) : EReal) := fun c => by
    rw [v125_read, v118_at H, hμ]
    exact exp_masked _ _ _
  have hz : val_main_v126 (F := Ideal) x0 x1 x4 (ix5 (0 : Fin 1) b h g r) = ((T.z r * Real.exp (-μ) : ℝ) : EReal) := by
    rw [v126_read, Fin.sum_univ_castSucc, v125_read _ _ _ _ (Fin.last 272), v118_sink H, hμ, exp_real,
      sum_eq_coe _ _ hw, ← EReal.coe_add, ← Finset.sum_mul, ← add_mul]
    rw [← T.z_comap col col_injective (col_masked _ _ _)]
    rfl
  have hE : Real.exp (-μ) ≠ 0 := (Real.exp_pos _).ne'
  rw [v129_read, hw, hz, div_real _ _ (mul_ne_zero (T.z_pos r).ne' hE), mul_div_mul_right _ _ hE]
  rfl
end Softmax

end Cert.ReferenceIdeal.Val

end
-- ==== Proof.RefVal.lean ====
/- The reference's gradient of the values, and of the first keys' values, at an index as reals. -/
module

public import proofs.«01_k».proof.Proof.RefTile

@[expose] public section

set_option maxRecDepth 16384

noncomputable section

namespace Cert.ReferenceIdeal.Val

open Idealize.ShloMosaic Idealize.ShloMosaic.TcCoe Cert.ReferenceIdeal Cert.ReferenceIdeal.Read Cert.Attn
open scoped BigOperators

variable {x0 : FVec Ideal S4112x512 .f32} {x1 : FVec Ideal S4112x128 .f32} {x3 : FVec Ideal S4112x512 .f32} {x4 : FVec Ideal S8 .f32}
local notation "𝓘" => inp x0 x1 x3 x4

theorem v148_read (b : Fin 33) (j : Fin 256) (h : Fin 2) (d : Fin 64) :
    val_main_v148 (F := Ideal) x0 x1 x3 x4 (ix5 (0 : Fin 1) b j h d)
      = ∑ g : Fin 4, ∑ r : Fin 128, val_main_v142 (F := Ideal) x3 (ix6 (0 : Fin 1) b r h g d)
          * val_main_v129 (F := Ideal) x0 x1 x4 (ix6 (0 : Fin 1) b h g r (⟨j, by omega⟩ : Fin 273)) := by
  pointwise [val_main_v148, val_main_v147, val_main_v146, val_main_v130]

/-- The three axes the first keys' gradient is summed over: the blocks, the heads of queries of a head of keys, the rows. -/
abbrev D3 := dot_S1x2x64x33x4x128_S1x33x2x4x128x16_S1x2x64x16_345_134_2_5_01_02

/-- An index of them, from its coordinates. -/
def contr3 : Fin 33 × Fin 4 × Fin 128 ≃ D3.contr.Idx where
  toFun k := fun p => match p with
    | ⟨0, _⟩ => k.1
    | ⟨1, _⟩ => k.2.1
    | ⟨2, _⟩ => k.2.2
  invFun kk := (kk ⟨0, by decide⟩, kk ⟨1, by decide⟩, kk ⟨2, by decide⟩)
  left_inv _ := rfl
  right_inv kk := funext fun p => match p with
    | ⟨0, _⟩ => rfl
    | ⟨1, _⟩ => rfl
    | ⟨2, _⟩ => rfl

theorem v144_read (h : Fin 2) (d : Fin 64) (m : Fin 16) :
    val_main_v144 (F := Ideal) x0 x1 x3 x4 (ix4 (0 : Fin 1) h d m)
      = ∑ b : Fin 33, ∑ g : Fin 4, ∑ r : Fin 128, val_main_v143 (F := Ideal) x3 (ix6 (0 : Fin 1) h d b g r)
          * val_main_v131 (F := Ideal) x0 x1 x4 (ix6 (0 : Fin 1) b h g r m) := by
  unfold val_main_v144
  generalize val_main_v143 (F := Ideal) x3 = y
  generalize val_main_v131 (F := Ideal) x0 x1 x4 = z
  simp only [Host.dotGeneral]
  rw [Ideal.dotGeneral_apply, ← contr3.sum_comp]
  simp only [Fintype.sum_prod_type]
  refine Finset.sum_congr rfl fun b _ => Finset.sum_congr rfl fun g _ => Finset.sum_congr rfl fun r _ => ?_
  refine congrArg₂ (· * ·) (congrArg y (funext fun a => Fin.ext ?_)) (congrArg z (funext fun a => Fin.ext ?_))
  · match a with | ⟨0, _⟩ => rfl | ⟨1, _⟩ => rfl | ⟨2, _⟩ => rfl | ⟨3, _⟩ => rfl | ⟨4, _⟩ => rfl | ⟨5, _⟩ => rfl
  · match a with | ⟨0, _⟩ => rfl | ⟨1, _⟩ => rfl | ⟨2, _⟩ => rfl | ⟨3, _⟩ => rfl | ⟨4, _⟩ => rfl | ⟨5, _⟩ => rfl

theorem v143_read (h : Fin 2) (d : Fin 64) (b : Fin 33) (g : Fin 4) (r : Fin 128) :
    val_main_v143 (F := Ideal) x3 (ix6 (0 : Fin 1) h d b g r) = val_main_v142 (F := Ideal) x3 (ix6 (0 : Fin 1) b r h g d) := by
  pointwise [val_main_v143]
theorem v131_read (b : Fin 33) (h : Fin 2) (g : Fin 4) (r : Fin 128) (m : Fin 16) :
    val_main_v131 (F := Ideal) x0 x1 x4 (ix6 (0 : Fin 1) b h g r m)
      = val_main_v129 (F := Ideal) x0 x1 x4 (ix6 (0 : Fin 1) b h g r (⟨256 + m, by omega⟩ : Fin 273)) := by
  pointwise [val_main_v131]

variable (H : Reals x0 x1 x3 x4)
include H

/-- A block's gradient of the values, of the block before it and of itself. -/
theorem v148_at (b : Fin 33) (j : Fin 256) (h : Fin 2) (d : Fin 64) :
    val_main_v148 (F := Ideal) x0 x1 x3 x4 (ix5 (0 : Fin 1) b j h d) = ((𝓘).dv b h ⟨j, by omega⟩ d : EReal) := by
  rw [v148_read]
  refine sum_eq_coe _ _ fun g => ?_
  refine (dot_eq_coe _ _ _ _ (fun r => v142_at H b r h g d) fun r => v129_at H b h g r ⟨j, by omega⟩).trans ?_
  refine congrArg (fun z : ℝ => (z : EReal)) (Finset.sum_congr rfl fun r _ => ?_)
  have e : col ⟨j, by omega⟩ = ⟨j.val, by omega⟩ := Fin.ext (if_pos j.isLt)
  rw [mul_comm, e]
  rfl

/-- The first keys' gradient, from all blocks. -/
theorem v144_at (h : Fin 2) (d : Fin 64) (m : Fin 16) :
    val_main_v144 (F := Ideal) x0 x1 x3 x4 (ix4 (0 : Fin 1) h d m)
      = ((∑ b ∈ Finset.range 33, (𝓘).dv b h ⟨368 + m, by omega⟩ d : ℝ) : EReal) := by
  rw [v144_read, ← Fin.sum_univ_eq_sum_range (fun b => (𝓘).dv b h ⟨368 + m, by omega⟩ d)]
  refine sum_eq_coe _ _ fun b => sum_eq_coe _ _ fun g => ?_
  refine (dot_eq_coe _ _ _ _ (fun r => (v143_read h d b g r).trans (v142_at H b r h g d))
    fun r => (v131_read b h g r m).trans (v129_at H b h g r ⟨256 + m, by omega⟩)).trans ?_
  refine congrArg (fun z : ℝ => (z : EReal)) (Finset.sum_congr rfl fun r _ => ?_)
  have e : col ⟨256 + m, by omega⟩ = ⟨368 + m.val, by omega⟩ :=
    Fin.ext ((if_neg (by show ¬(256 + m.val < 256); omega)).trans (by show 256 + m.val + 112 = 368 + m.val; omega))
  rw [mul_comm, e]
  rfl

theorem v148_dvc (b : Fin 33) (j : Fin 256) (h : Fin 2) (d : Fin 64) (B J C : ℕ) (hb : b.val = B) (hj : j.val = J)
    (hh : h.val = C / 64) (hd : d.val = C % 64) :
    val_main_v148 (F := Ideal) x0 x1 x3 x4 (ix5 (0 : Fin 1) b j h d) = ((𝓘).dvc B J C : EReal) := by
  subst hb hj
  rw [v148_at H]
  have e : d = ⟨C % 64, Nat.mod_lt _ (by decide)⟩ := Fin.ext hd
  rw [hh, e]
  unfold Inp.dvc
  rw [dif_pos (by omega)]

omit H in
theorem dvc_masked (I : Inp) (b j C : ℕ) (h : ∀ r : Fin 128, mask b r j = false) : I.dvc b j C = 0 := by
  unfold Inp.dvc
  split
  · exact I.dv_masked _ _ _ _ h
  · rfl

omit H in
theorem v160_read (i : Fin 4224) (d : Fin 128) :
    val_main_v160 (F := Ideal) x0 x1 x3 x4 (ix2 i d) = if h : 112 ≤ i.val then
      val_main_v154 (F := Ideal) x0 x1 x3 x4 (ix5 (0 : Fin 1) (⟨i / 128, by omega⟩ : Fin 33) (⟨i % 128, by omega⟩ : Fin 128)
        (⟨d / 64, by omega⟩ : Fin 2) (⟨d % 64, by omega⟩ : Fin 64))
      else ((0 : ℝ) : EReal) := by
  pointwise [val_main_v160, val_main_v159, val_main_v157, val_main_v155, val_main_call2_v0, val_main_c_23]
  by_cases h1 : 112 ≤ i.val
  · refine (dif_pos (by omega)).trans ((dif_pos h1).trans ?_).symm
    congr 2 <;> exact Fin.ext (by simp; omega)
  · rw [dif_neg h1]
    exact (dif_neg (by omega)).trans zero_real

omit H in
theorem v154_read (b : Fin 33) (r : Fin 128) (h : Fin 2) (d : Fin 64) :
    val_main_v154 (F := Ideal) x0 x1 x3 x4 (ix5 (0 : Fin 1) b r h d)
      = val_main_v150 (F := Ideal) x0 x1 x3 x4 (ix5 (0 : Fin 1) b r h d) + val_main_v153 (F := Ideal) x0 x1 x3 x4 (ix5 (0 : Fin 1) b r h d) := by
  pointwise [val_main_v154]

theorem v150_dvc (b : Fin 33) (r : Fin 128) (h : Fin 2) (d : Fin 64) (C : ℕ) (hh : h.val = C / 64) (hd : d.val = C % 64) :
    val_main_v150 (F := Ideal) x0 x1 x3 x4 (ix5 (0 : Fin 1) b r h d) = ((𝓘).dvc b (128 + r) C : EReal) := by
  pointwise [val_main_v150]
  exact v148_dvc H _ _ _ _ _ _ _ rfl rfl hh hd

theorem v153_dvc (b : Fin 33) (r : Fin 128) (h : Fin 2) (d : Fin 64) (C : ℕ) (hh : h.val = C / 64) (hd : d.val = C % 64) :
    val_main_v153 (F := Ideal) x0 x1 x3 x4 (ix5 (0 : Fin 1) b r h d)
      = ((if b.val + 1 < 33 then (𝓘).dvc (b + 1) r C else 0 : ℝ) : EReal) := by
  pointwise [val_main_v153, val_main_v152, val_main_v149, val_main_cst_22]
  by_cases h2 : b.val + 1 < 33
  · refine (dif_pos (by omega)).trans ((v148_dvc H _ _ _ _ _ _ _ (by show 1 + b.val = b.val + 1; omega) rfl hh hd).trans ?_)
    rw [if_pos h2]
  · refine (dif_neg (by omega)).trans ?_
    rw [if_neg h2]
    rfl

/-- The values' gradient, padded in front. -/
theorem v160_at (i : Fin 4224) (d : Fin 128) :
    val_main_v160 (F := Ideal) x0 x1 x3 x4 (ix2 i d) = ((𝓘).dvb (i / 128) (i % 128) d : EReal) := by
  rw [v160_read]
  unfold Inp.dvb
  by_cases h1 : 112 ≤ i.val
  · rw [dif_pos h1, v154_read, v150_dvc H _ _ _ _ d.val rfl rfl, v153_dvc H _ _ _ _ d.val rfl rfl]
    exact (EReal.coe_add _ _).symm
  · rw [dif_neg h1, dvc_masked _ _ _ _ fun r => decide_eq_false (by omega), dvc_masked _ _ _ _ fun r => decide_eq_false (by omega)]
    simp

/-- The first keys' values' gradient, padded in front. -/
theorem v161_at (i d : Fin 128) :
    val_main_v161 (F := Ideal) x0 x1 x3 x4 (ix2 i d) = ((𝓘).dvm i d : EReal) := by
  pointwise [val_main_v161, val_main_v158, val_main_v145, val_main_call3_v0, val_main_c_24]
  unfold Inp.dvm
  by_cases h1 : 112 ≤ i.val
  · refine (dif_pos (by omega)).trans ((v144_at H _ _ _).trans ?_)
    refine congrArg (fun z : ℝ => (z : EReal)) (Finset.sum_congr rfl fun b _ => ?_)
    unfold Inp.dvc
    rw [dif_pos (by omega)]
    exact congrArg (fun j => (𝓘).dv b (d / 64) j ⟨d % 64, Nat.mod_lt _ (by decide)⟩) (Fin.ext (by show 368 + (i.val - 112) = 256 + i.val; omega))
  · refine (dif_neg (by omega)).trans ?_
    rw [Finset.sum_eq_zero fun b _ => dvc_masked _ _ _ _ fun r => decide_eq_false (by omega)]
    exact zero_real

end Cert.ReferenceIdeal.Val

end
-- ==== Proof.Finite.lean ====
/- From the stated precondition — every query, key, cotangent and sink is finite — to real numbers: the arguments
   themselves, and the rotated queries and keys computed from them. -/
module

public import proofs.«01_k».proof.Defs
public import proofs.«01_k».proof.Proof.Inputs
public import Idealize.ShloMosaic.Lib.ReduceAll

@[expose] public section

set_option maxRecDepth 16384

noncomputable section

namespace Cert.Attn

open Idealize.ShloMosaic Idealize.ShloMosaic.TcCoe

/-- Every element of the array is a real number. -/
def AllReal {s : Shape} (x : FVec Ideal s .f32) : Prop := ∀ i, ∃ r : ℝ, x i = (r : EReal)

section ops
variable {s t u : Shape} {x y : FVec Ideal s .f32}

theorem AllReal.add (hx : AllReal x) (hy : AllReal y) : AllReal (addf x y) := fun i => by
  obtain ⟨a, ha⟩ := hx i; obtain ⟨b, hb⟩ := hy i
  exact ⟨a + b, (congrArg₂ (fun p q : EReal => p + q) ha hb).trans (EReal.coe_add a b).symm⟩

theorem AllReal.sub (hx : AllReal x) (hy : AllReal y) : AllReal (subf x y) := fun i => by
  obtain ⟨a, ha⟩ := hx i; obtain ⟨b, hb⟩ := hy i
  exact ⟨a - b, (congrArg₂ (fun p q : EReal => p - q) ha hb).trans (EReal.coe_sub a b).symm⟩

theorem AllReal.mul (hx : AllReal x) (hy : AllReal y) : AllReal (mulf x y) := fun i => by
  obtain ⟨a, ha⟩ := hx i; obtain ⟨b, hb⟩ := hy i
  exact ⟨a * b, (congrArg₂ (fun p q : EReal => p * q) ha hb).trans (EReal.coe_mul a b).symm⟩

theorem AllReal.neg (hx : AllReal x) : AllReal (Host.negf x) := fun i => by
  obtain ⟨a, ha⟩ := hx i
  exact ⟨-a, (congrArg (fun p : EReal => -p) ha).trans (EReal.coe_neg a).symm⟩

/-- A quotient by a real number other than zero. -/
theorem AllReal.div (hx : AllReal x) (hy : ∀ i, ∃ r : ℝ, r ≠ 0 ∧ y i = (r : EReal)) : AllReal (Host.divf x y) := fun i => by
  obtain ⟨a, ha⟩ := hx i; obtain ⟨b, hb0, hb⟩ := hy i
  exact ⟨a / b, (congrArg₂ (fun p q : EReal => Ideal.div p q) ha hb).trans (div_real a b hb0)⟩

theorem AllReal.pow (hx : AllReal x) (hy : AllReal y) : AllReal (Host.powf x y) := fun i => by
  obtain ⟨a, ha⟩ := hx i; obtain ⟨b, hb⟩ := hy i
  exact ⟨Real.rpow a b, (congrArg₂ (fun p q : EReal => Ideal.pow p q) ha hb).trans rfl⟩

theorem AllReal.cos (hx : AllReal x) : AllReal (Host.cos x) := fun i => by
  obtain ⟨a, ha⟩ := hx i
  exact ⟨Real.cos a, (congrArg (fun p : EReal => Ideal.cos p) ha).trans rfl⟩

theorem AllReal.sin (hx : AllReal x) : AllReal (Host.sin x) := fun i => by
  obtain ⟨a, ha⟩ := hx i
  exact ⟨Real.sin a, (congrArg (fun p : EReal => Ideal.sin p) ha).trans rfl⟩

theorem AllReal.bcast (hx : AllReal x) (d : Fin s.rank → Fin t.rank) (h : s.BroadcastsInDim t d) :
    AllReal (broadcastInDim t d h x) := fun _ => hx _

theorem AllReal.cast (hx : AllReal x) (h : s.ShapeCasts t) : AllReal (shapeCast t x h) := fun _ => hx _

theorem AllReal.slice (hx : AllReal x) (o : Fin s.rank → Nat) (h : s.Slices o t) :
    AllReal (extractStridedSlice t o x h) := fun _ => hx _

theorem AllReal.concat (a : Fin t.rank) (xs : List ((s : Shape) × (FVec Ideal s .f32)))
    (h : Shape.Concatenates (xs.map (·.1)) t a) (H : ∀ p ∈ xs, AllReal p.2) : AllReal (concatenate t a xs h) :=
  fun _ => H _ (List.getElem_mem _) _

theorem allReal_int {n : Nat} (x : IVec s n) : AllReal (sitofp (F := Ideal) .f32 x) := fun i => ⟨((x i).toInt : ℝ), rfl⟩

theorem allReal_const (b : BitVec 32) (r : ℝ) (h : Ideal.ofBits .f32 b = (r : EReal)) :
    AllReal (constant (F := Ideal) s .f32 b) := fun _ => ⟨r, h⟩

/-- An array every element of whose absolute value is below infinity is real. -/
theorem allReal_of_abs (x : FVec Ideal s .f32) (h : ∀ i, Ideal.cmp .olt (max (x i : EReal) (-(x i : EReal))) ⊤ = 1#1) : AllReal x := fun i => by
  have h1 : max (x i : EReal) (-(x i : EReal)) < ⊤ := by
    by_contra hc
    have h2 := h i
    unfold Ideal.cmp at h2
    simp [hc] at h2
  refine ⟨(x i : EReal).toReal, (EReal.coe_toReal ?_ ?_).symm⟩
  · rintro e
    rw [e] at h1
    simp at h1
  · rintro e
    rw [e] at h1
    simp at h1

theorem AllReal.toReal (hx : AllReal x) (i : s.Idx) : ((x i).toReal : EReal) = x i := by
  obtain ⟨r, hr⟩ := hx i
  rw [hr]; rfl

end ops

theorem two_bits : Ideal.ofBits .f32 0x40000000#32 = ((2 : ℝ) : EReal) := by
  simp [Ideal.ofBits, Ideal.ieee, -EReal.coe_mul]; try norm_num

theorem nought_bits : Ideal.ofBits .f32 0x00000000#32 = ((0 : ℝ) : EReal) := by
  simp [Ideal.ofBits, Ideal.ieee]

theorem sixteen_bits : Ideal.ofBits .f32 0x41800000#32 = ((16 : ℝ) : EReal) := by
  simp [Ideal.ofBits, Ideal.ieee, -EReal.coe_mul]; try norm_num

theorem theta_bits : Ideal.ofBits .f32 0x48F42400#32 = ((500000 : ℝ) : EReal) := by
  simp [Ideal.ofBits, Ideal.ieee, -EReal.coe_mul]; try norm_num

theorem inf_bits : Ideal.ofBits .f32 0x7F800000#32 = ⊤ := by simp [Ideal.ofBits, Ideal.ieee]

end Cert.Attn

namespace Cert.ReferenceIdeal.Val

open Idealize.ShloMosaic Idealize.ShloMosaic.TcCoe Cert.Attn Cert.ReferenceIdeal.Read

/-- The angles of the rotation are real numbers. -/
theorem angles_real : AllReal (val_main_v16 (F := Ideal)) := by
  refine AllReal.mul (AllReal.bcast (AllReal.bcast (allReal_int _) _ _) _ _) ?_
  refine AllReal.bcast (AllReal.bcast ?_ _ _) _ _
  refine AllReal.pow (AllReal.bcast (allReal_const _ _ theta_bits) _ _) ?_
  refine AllReal.div (AllReal.neg ?_) fun _ => ⟨16, by norm_num, sixteen_bits⟩
  refine AllReal.add (AllReal.bcast (allReal_const _ _ nought_bits) _ _) ?_
  exact AllReal.mul (AllReal.bcast (allReal_const _ _ two_bits) _ _) (allReal_int _)

theorem v18_real : AllReal (val_main_v18 (F := Ideal)) := AllReal.bcast (AllReal.cos angles_real) _ _
theorem v20_real : AllReal (val_main_v20 (F := Ideal)) := AllReal.bcast (AllReal.sin angles_real) _ _

/-- The rotated queries are real when the queries are. -/
theorem v35_real (x0 : FVec Ideal S4112x512 .f32) (h : AllReal x0) : AllReal (val_main_v35 (F := Ideal) x0) := by
  have h21 : AllReal (val_main_v21 (F := Ideal) x0) := AllReal.cast h _
  have h22 : AllReal (val_main_v22 (F := Ideal) x0) := AllReal.slice h21 _ _
  have h23 : AllReal (val_main_v23 (F := Ideal) x0) := AllReal.slice h21 _ _
  have h24 : AllReal (val_main_v24 (F := Ideal) x0) := AllReal.slice h21 _ _
  have h29 : AllReal (val_main_v29 (F := Ideal) x0) :=
    AllReal.sub (AllReal.mul h22 (AllReal.bcast v18_real _ _)) (AllReal.mul h23 (AllReal.bcast v20_real _ _))
  have h34 : AllReal (val_main_v34 (F := Ideal) x0) :=
    AllReal.add (AllReal.mul h23 (AllReal.bcast v18_real _ _)) (AllReal.mul h22 (AllReal.bcast v20_real _ _))
  refine AllReal.concat _ _ _ ?_
  simp only [List.mem_cons, List.not_mem_nil, or_false, forall_eq_or_imp, forall_eq]
  exact ⟨h29, h34, h24⟩

/-- The rotated keys are real when the keys are. -/
theorem v50_real (x1 : FVec Ideal S4112x128 .f32) (h : AllReal x1) : AllReal (val_main_v50 (F := Ideal) x1) := by
  have h36 : AllReal (val_main_v36 (F := Ideal) x1) := AllReal.cast h _
  have h37 : AllReal (val_main_v37 (F := Ideal) x1) := AllReal.slice h36 _ _
  have h38 : AllReal (val_main_v38 (F := Ideal) x1) := AllReal.slice h36 _ _
  have h39 : AllReal (val_main_v39 (F := Ideal) x1) := AllReal.slice h36 _ _
  have h44 : AllReal (val_main_v44 (F := Ideal) x1) :=
    AllReal.sub (AllReal.mul h37 (AllReal.bcast v18_real _ _)) (AllReal.mul h38 (AllReal.bcast v20_real _ _))
  have h49 : AllReal (val_main_v49 (F := Ideal) x1) :=
    AllReal.add (AllReal.mul h38 (AllReal.bcast v18_real _ _)) (AllReal.mul h37 (AllReal.bcast v20_real _ _))
  refine AllReal.concat _ _ _ ?_
  simp only [List.mem_cons, List.not_mem_nil, or_false, forall_eq_or_imp, forall_eq]
  exact ⟨h44, h49, h39⟩

end Cert.ReferenceIdeal.Val

namespace Cert.Pre_finite.Own

open Idealize.ShloMosaic Idealize.ShloMosaic.TcCoe Cert.Pre_finite Cert.Attn

/-- The shape relations the precondition states. -/
instance facts : Cert.Pre_finite.Facts where
  bcast_S_S4112x512 := by decide
  reducesTo_S4112x512_S_d0_1 := by decide
  h_S_ := by decide
  bcast_S_S4112x128 := by decide
  reducesTo_S4112x128_S_d0_1 := by decide
  bcast_S_S8 := by decide
  reducesTo_S8_S_d0 := by decide

instance : Subsingleton S_.Idx := ⟨fun a b => funext fun i => i.elim0⟩

/-- The conjunction over an array of `|x| < ∞` says that the array is real. -/
theorem real_of_all {s : Shape} {axes : List (Fin s.rank)} (x y : FVec Ideal s .f32) (hy : ∀ i, (y i : EReal) = ⊤) (v : IVec S_ 1)
    (h : s.ReducesTo axes S_) (hu : 0 < S_.numel) (j : S_.Idx)
    (e : Host.reduce IntOp.andi (cmpf .olt (Host.absf x) y) v h hu j = 1#1) : AllReal x := by
  refine allReal_of_abs x fun i => ?_
  have h1 := Host.reduce_andi_all _ v h hu j e i
  have h2 : cmpf .olt (Host.absf x) y i = Ideal.cmp .olt (max (x i : EReal) (-(x i : EReal))) (y i) := rfl
  rw [h2, hy i] at h1
  exact h1

/-- The precondition: the queries, the keys, the cotangent and the sinks are real numbers. -/
theorem read (x0 : FVec Ideal S4112x512 .f32) (x1 x2 : FVec Ideal S4112x128 .f32) (x3 : FVec Ideal S4112x512 .f32)
    (x4 : FVec Ideal S8 .f32) (h : Cert.Pre_finite.fn (F := Ideal) x0 x1 x2 x3 x4 = fun _ => 1#1) :
    AllReal x0 ∧ AllReal x1 ∧ AllReal x3 ∧ AllReal x4 := by
  have e := congrFun h ix0
  unfold Cert.Pre_finite.fn Cert.Pre_finite.fn_part1 at e
  obtain ⟨e, e4⟩ := IntOp.andi_eq_one.1 e
  obtain ⟨e, e3⟩ := IntOp.andi_eq_one.1 e
  obtain ⟨e0, e1⟩ := IntOp.andi_eq_one.1 e
  exact ⟨real_of_all x0 _ (fun _ => inf_bits) _ _ _ _ e0, real_of_all x1 _ (fun _ => inf_bits) _ _ _ _ e1,
    real_of_all x3 _ (fun _ => inf_bits) _ _ _ _ e3, real_of_all x4 _ (fun _ => inf_bits) _ _ _ _ e4⟩

end Cert.Pre_finite.Own

namespace Cert.Attn
open Idealize.ShloMosaic Idealize.ShloMosaic.TcCoe Cert.ReferenceIdeal.Val

/-- Real arguments make the attention's inputs real. -/
theorem reals (x0 : FVec Ideal Cert.ReferenceIdeal.S4112x512 .f32) (x1 : FVec Ideal Cert.ReferenceIdeal.S4112x128 .f32)
    (x3 : FVec Ideal Cert.ReferenceIdeal.S4112x512 .f32) (x4 : FVec Ideal Cert.ReferenceIdeal.S8 .f32)
    (h : AllReal x0 ∧ AllReal x1 ∧ AllReal x3 ∧ AllReal x4) : Reals x0 x1 x3 x4 where
  q y := (v35_real x0 h.1).toReal y
  k y := (v50_real x1 h.2.1).toReal y
  o y := h.2.2.1.toReal y
  x y := h.2.2.2.toReal y

end Cert.Attn

end
-- ==== Proof.Rows.lean ====
/- Sums over the rows of a call, and half of a sum, over the extended reals. -/
module

public import Idealize.ShloMosaic.Lib.Pointwise
public import Idealize.ShloMosaic.PureOps.Ideal

@[expose] public section

noncomputable section

namespace Cert.Rows

open Idealize.ShloMosaic
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- A sum over all rows, as three sums over a third of the rows each. -/
theorem sum_rows (f : Fin 4224 → EReal) : ∑ k, f k =
    (∑ k : Fin 1408, f ⟨k, by omega⟩) + (∑ k : Fin 1408, f ⟨1408 + k, by omega⟩) + ∑ k : Fin 1408, f ⟨2816 + k, by omega⟩ := by
  show (∑ k : Fin (1408 + 1408 + 1408), f k) = _
  rw [Fin.sum_univ_add, Fin.sum_univ_add]
  rfl

theorem half_bits : Ideal.ofBits .f32 0x3F000000#32 = ((1 / 2 : ℝ) : EReal) := by
  simp [Ideal.ofBits, Ideal.ieee, -EReal.coe_mul]; try norm_num

/-- A sum of real numbers. -/
theorem coe_sum {ι : Type} [Fintype ι] (f : ι → ℝ) : ∑ k, (f k : EReal) = ((∑ k, f k : ℝ) : EReal) := by
  classical
  refine Finset.induction_on (Finset.univ : Finset ι) (by simp) fun a s ha ih => ?_
  rw [Finset.sum_insert ha, Finset.sum_insert ha, ih, EReal.coe_add]

/-- Half a sum is the sum of the halves. -/
theorem half_sum {ι : Type} [Fintype ι] (f : ι → EReal) :
    Ideal.ofBits .f32 0x3F000000#32 * ∑ k, f k = ∑ k, Ideal.ofBits .f32 0x3F000000#32 * f k := by
  classical
  rw [half_bits]
  refine Finset.induction_on (Finset.univ : Finset ι) (by simp) fun a s ha ih => ?_
  rw [Finset.sum_insert ha, Finset.sum_insert ha,
    EReal.left_distrib_of_nonneg_of_ne_top (by exact_mod_cast (by norm_num : (0 : ℝ) ≤ 1 / 2)) (EReal.coe_ne_top _), ih]

end Cert.Rows

end
-- ==== Proof.Ds.lean ====
/- The call that computes the projections' cotangents: each column block of its body is the tile of one formula. -/
module

public import proofs.«01_k».proof.Proof.Gen.Kernel2Ideal.Value
public import proofs.«01_k».proof.Proof.Rows
public import proofs.«01_k».proof.Proof.Gen.Reference2Ideal.Run
public import proofs.«01_k».proof.Proof.Gen.Pre_finite2
public import Idealize.ShloMosaic.Lib.Pipeline.ValueKit
public import Idealize.ShloMosaic.Lib.Pointwise
public import Idealize.ShloMosaic.Lib.ReduceAll
public import Idealize.ShloMosaic.Lib.Claim
public import proofs.«01_k».proof.Defs

@[expose] public section

set_option maxRecDepth 16384

noncomputable section

namespace Cert.Kernel2Ideal.Own

open Idealize.ShloMosaic Idealize.ShloMosaic.TcCoe Cert.Kernel2Ideal Cert.Kernel2Ideal.Gen Cert.Rows
open scoped BigOperators

/-- The logistic function of one number, and the two results' formulas. -/
def sg (a : EReal) : EReal := Ideal.div (Ideal.ofBits .f32 0x3F800000#32) (Ideal.ofBits .f32 0x3F800000#32 + Ideal.exp (Ideal.ofBits .f32 0x00000000#32 - a))
def fa (d a b : EReal) : EReal :=
  d * b * sg a * (Ideal.ofBits .f32 0x3F800000#32 + a * (Ideal.ofBits .f32 0x3F800000#32 - sg a))
def fb (d a : EReal) : EReal := d * a * sg a

section Pays
variable (x0 : Vec Ideal S384x1024 .bf16) (w : Vec Ideal S1x768x1024 .bf16) (a b : Vec Ideal S384x768 .bf16) (d a' : FVec Ideal S384x768 .f32)
  (r : Fin 384) (e : Fin 768)

/-- Half the product of a row of the cotangent and a row of the weights. -/
def half : EReal := Ideal.ofBits .f32 0x3F000000#32 * ∑ k : Fin 1024, (x0 (ix2 r k) : EReal) * w (ix3 (0 : Fin 1) e k)

theorem pay5_at : k0_pay5 x0 w (ix2 r e) = half x0 w r e := by unfold half; pointwise [k0_pay5, k0_pay4]
theorem pay10_at : k0_pay10 (k0_pay4 x0) w (ix2 r e) = half x0 w r e := by unfold half; pointwise [k0_pay10, k0_pay4]
theorem pay15_at : k0_pay15 (k0_pay4 x0) w (ix2 r e) = half x0 w r e := by unfold half; pointwise [k0_pay15, k0_pay4]
theorem pay20_at : k0_pay20 (k0_pay4 x0) w (ix2 r e) = half x0 w r e := by unfold half; pointwise [k0_pay20, k0_pay4]

theorem pay8_at : k0_pay8 x0 w a b (ix2 r e) = fa (half x0 w r e) (a (ix2 r e)) (b (ix2 r e)) := by
  rw [← pay5_at]; unfold fa sg; pointwise [k0_pay8, k0_pay7, k0_pay6]
theorem pay9_at : k0_pay9 x0 w a (ix2 r e) = fb (half x0 w r e) (a (ix2 r e)) := by
  rw [← pay5_at]; unfold fb sg; pointwise [k0_pay9, k0_pay7, k0_pay6]
theorem pay13_at : k0_pay13 (k0_pay4 x0) w a b (ix2 r e) = fa (half x0 w r e) (a (ix2 r e)) (b (ix2 r e)) := by
  rw [← pay10_at]; unfold fa sg; pointwise [k0_pay13, k0_pay12, k0_pay11]
theorem pay14_at : k0_pay14 (k0_pay4 x0) w a (ix2 r e) = fb (half x0 w r e) (a (ix2 r e)) := by
  rw [← pay10_at]; unfold fb sg; pointwise [k0_pay14, k0_pay12, k0_pay11]
theorem pay18_at : k0_pay18 (k0_pay15 (k0_pay4 x0) w) a b (ix2 r e) = fa (half x0 w r e) (a (ix2 r e)) (b (ix2 r e)) := by
  rw [← pay15_at]; unfold fa sg; pointwise [k0_pay18, k0_pay17, k0_pay16]
theorem pay19_at : k0_pay19 (k0_pay15 (k0_pay4 x0) w) a (ix2 r e) = fb (half x0 w r e) (a (ix2 r e)) := by
  rw [← pay15_at]; unfold fb sg; pointwise [k0_pay19, k0_pay17, k0_pay16]
theorem pay2_at : k0_pay2 (k0_pay20 (k0_pay4 x0) w) (k0_pay21 a) (k0_pay22 b) (ix2 r e) = fa (half x0 w r e) (a (ix2 r e)) (b (ix2 r e)) := by
  rw [← pay20_at]; unfold fa sg; pointwise [k0_pay2, k0_pay1, k0_pay21, k0_pay22]
theorem pay3_at : k0_pay3 (k0_pay20 (k0_pay4 x0) w) (k0_pay21 a) (ix2 r e) = fb (half x0 w r e) (a (ix2 r e)) := by
  rw [← pay20_at]; unfold fb sg; pointwise [k0_pay3, k0_pay1, k0_pay21]
end Pays

section Tile
variable (x0 : Vec Ideal S384x1024 .bf16) (x1 : Vec Ideal S4x768x1024 .bf16) (x2 x3 : Vec Ideal S384x3072 .bf16)

/-- Half the product at a row and a column of the whole tile. -/
def prod (r : Fin 384) (q : Fin 3072) : EReal := Ideal.ofBits .f32 0x3F000000#32 * ∑ k : Fin 1024,
  (x0 (ix2 r k) : EReal) * x1 (ix3 (⟨q / 768, by omega⟩ : Fin 4) (⟨q % 768, by omega⟩ : Fin 768) k)

/-- The two formulas over the whole tile. -/
def tile4 : Vec Ideal S384x3072 .bf16 := fun y => fa (prod x0 x1 (y 0) (y 1)) (x2 y) (x3 y)
def tile5 : Vec Ideal S384x3072 .bf16 := fun y => fb (prod x0 x1 (y 0) (y 1)) (x2 y)

theorem half_ld (j : Fin 4) (inb) (r : Fin 384) (e : Fin 768) (q : Fin 3072) (hq : q.val = 768 * j + e) :
    half (View.ld x0 r0_0) (View.ld x1 (Rect.unit (s := S4x768x1024) ![j, 0, 0] S1x768x1024.size inb)) r e = prod x0 x1 r q := by
  unfold half prod
  refine congrArg (Ideal.ofBits .f32 0x3F000000#32 * ·) (Finset.sum_congr rfl fun k _ => ?_)
  refine congrArg₂ (fun a b : EReal => a * b) (congrArg x0 ?_) (congrArg x1 ?_)
  · funext a; apply Fin.ext
    match a with
    | ⟨0, _⟩ => show 0 + 1 * r.val = r.val; omega
    | ⟨1, _⟩ => show 0 + 1 * k.val = k.val; omega
  · funext a; apply Fin.ext
    match a with
    | ⟨0, _⟩ => show j.val + 1 * 0 = q.val / 768; omega
    | ⟨1, _⟩ => show 0 + 1 * e.val = q.val % 768; omega
    | ⟨2, _⟩ => show 0 + 1 * k.val = k.val; omega

/-- A column block of a formula's tile. -/
theorem block_a (j : Fin 4) (inb) (inb') (r : Fin 384) (e : Fin 768) :
    fa (half (View.ld x0 r0_0) (View.ld x1 (Rect.unit (s := S4x768x1024) ![j, 0, 0] S1x768x1024.size inb)) r e)
      (View.ld x2 (Rect.unit (s := S384x3072) ![0, 768 * j] S384x768.size inb') (ix2 r e))
      (View.ld x3 (Rect.unit (s := S384x3072) ![0, 768 * j] S384x768.size inb') (ix2 r e))
    = tile4 x0 x1 x2 x3 ((Rect.unit (s := S384x3072) ![0, 768 * j] S384x768.size inb').emb (ix2 r e)) := by
  have h0 : (Rect.unit (s := S384x3072) ![0, 768 * j] S384x768.size inb').emb (ix2 r e) 0 = r :=
    Fin.ext (by show 0 + 1 * r.val = r.val; omega)
  rw [half_ld x0 x1 j inb r e ((Rect.unit (s := S384x3072) ![0, 768 * j] S384x768.size inb').emb (ix2 r e) 1)
    (by show 768 * j.val + 1 * e.val = _; omega)]
  unfold tile4
  rw [h0]
  rfl
theorem block_b (j : Fin 4) (inb) (inb') (r : Fin 384) (e : Fin 768) :
    fb (half (View.ld x0 r0_0) (View.ld x1 (Rect.unit (s := S4x768x1024) ![j, 0, 0] S1x768x1024.size inb)) r e)
      (View.ld x2 (Rect.unit (s := S384x3072) ![0, 768 * j] S384x768.size inb') (ix2 r e))
    = tile5 x0 x1 x2 ((Rect.unit (s := S384x3072) ![0, 768 * j] S384x768.size inb').emb (ix2 r e)) := by
  have h0 : (Rect.unit (s := S384x3072) ![0, 768 * j] S384x768.size inb').emb (ix2 r e) 0 = r :=
    Fin.ext (by show 0 + 1 * r.val = r.val; omega)
  rw [half_ld x0 x1 j inb r e ((Rect.unit (s := S384x3072) ![0, 768 * j] S384x768.size inb').emb (ix2 r e) 1)
    (by show 768 * j.val + 1 * e.val = _; omega)]
  unfold tile5
  rw [h0]
  rfl

/-- The body's four column blocks together are the formula's tile. -/
theorem out4_eq : out0_4 x0 x1 x2 x3 = tile4 x0 x1 x2 x3 := by
  funext y
  refine View.canon_apply_of_pieces (tile4 x0 x1 x2 x3) _ ?_ y (cover0_4 _ _ _ _ y)
  intro p hp
  simp only [List.mem_cons, List.not_mem_nil, or_false] at hp
  rcases hp with rfl | rfl | rfl | rfl <;> intro x <;> obtain ⟨r, e, rfl⟩ : ∃ (r : Fin 384) (e : Fin 768), x = ix2 r e := ⟨x 0, x 1, eq_ix2 x⟩
  · exact (pay2_at _ _ _ _ r e).trans (block_a x0 x1 x2 x3 3 _ _ r e)
  · exact (pay18_at _ _ _ _ r e).trans (block_a x0 x1 x2 x3 2 _ _ r e)
  · exact (pay13_at _ _ _ _ r e).trans (block_a x0 x1 x2 x3 1 _ _ r e)
  · exact (pay8_at _ _ _ _ r e).trans (block_a x0 x1 x2 x3 0 _ _ r e)
theorem out5_eq : out0_5 x0 x1 x2 x3 = tile5 x0 x1 x2 := by
  funext y
  refine View.canon_apply_of_pieces (tile5 x0 x1 x2) _ ?_ y (cover0_5 _ _ _ _ y)
  intro p hp
  simp only [List.mem_cons, List.not_mem_nil, or_false] at hp
  rcases hp with rfl | rfl | rfl | rfl <;> intro x <;> obtain ⟨r, e, rfl⟩ : ∃ (r : Fin 384) (e : Fin 768), x = ix2 r e := ⟨x 0, x 1, eq_ix2 x⟩
  · exact (pay3_at _ _ _ r e).trans (block_b x0 x1 x2 3 _ _ r e)
  · exact (pay19_at _ _ _ r e).trans (block_b x0 x1 x2 2 _ _ r e)
  · exact (pay14_at _ _ _ r e).trans (block_b x0 x1 x2 1 _ _ r e)
  · exact (pay9_at _ _ _ r e).trans (block_b x0 x1 x2 0 _ _ r e)
end Tile

section Arrays
variable (m : (ℓ : Loc nD τ sig) → Buf (Elt Ideal) ℓ) (c : Dev nD)

/-- The arguments, as arrays. -/
abbrev a0 : FVec Ideal S4224x1024 .f32 := m ((c : Thread nD τ).loc main_arg0)
abbrev a1 : FVec Ideal S4x768x1024 .f32 := m ((c : Thread nD τ).loc main_arg1)
abbrev a2 : FVec Ideal S4224x3072 .f32 := m ((c : Thread nD τ).loc main_arg2)
abbrev a3 : FVec Ideal S4224x3072 .f32 := m ((c : Thread nD τ).loc main_arg3)

/-- Half the product at a row and a column of the arrays. -/
def ds (x0 : FVec Ideal S4224x1024 .f32) (x1 : FVec Ideal S4x768x1024 .f32) (r : Fin 4224) (q : Fin 3072) : EReal :=
  Ideal.ofBits .f32 0x3F000000#32 * ∑ k : Fin 1024,
    (x0 (ix2 r k) : EReal) * x1 (ix3 (⟨q / 768, by omega⟩ : Fin 4) (⟨q % 768, by omega⟩ : Fin 768) k)

/-- The two results, as arrays. -/
def arr4 (x0 : FVec Ideal S4224x1024 .f32) (x1 : FVec Ideal S4x768x1024 .f32) (x2 x3 : FVec Ideal S4224x3072 .f32) : FVec Ideal S4224x3072 .bf16 :=
  fun y => fa (ds x0 x1 (y 0) (y 1)) (x2 y) (x3 y)
def arr5 (x0 : FVec Ideal S4224x1024 .f32) (x1 : FVec Ideal S4x768x1024 .f32) (x2 : FVec Ideal S4224x3072 .f32) : FVec Ideal S4224x3072 .bf16 :=
  fun y => fb (ds x0 x1 (y 0) (y 1)) (x2 y)

theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0] ∧ win0_5.index t = ![t.val, 0] :=
  (by decide +kernel : ∀ t : Fin grid0.N, _)
theorem N_eq : cfg0.N = 11 := N_0
theorem lt_N (t : Fin cfg0.N) : t.val < 11 := lt_of_lt_of_eq t.isLt N_eq

theorem V_0 : V m c main_v0 = (truncf .bf16 (a0 m c) bitsLt_bf16_f32 : FVec Ideal S4224x1024 .bf16) := by entry_read; rfl
theorem V_1 : V m c main_v1 = (truncf .bf16 (a1 m c) bitsLt_bf16_f32 : FVec Ideal S4x768x1024 .bf16) := by entry_read; rfl
theorem V_2 : V m c main_v2 = (truncf .bf16 (a2 m c) bitsLt_bf16_f32 : FVec Ideal S4224x3072 .bf16) := by entry_read; rfl
theorem V_3 : V m c main_v3 = (truncf .bf16 (a3 m c) bitsLt_bf16_f32 : FVec Ideal S4224x3072 .bf16) := by entry_read; rfl

/-- The windows' blocks, read from the arguments. -/
theorem dh_at (t : Fin cfg0.N) (r : Fin 384) (k : Fin 1024) :
    iblk m c 0 t (ix2 r k) = a0 m c (ix2 (⟨384 * t.val + r, by have := lt_N t; omega⟩ : Fin 4224) k) := by
  have h : iblk m c 0 t (ix2 r k) = (V m c main_v0 : FVec Ideal S4224x1024 .bf16) (ix2 (⟨384 * t.val + r, by have := lt_N t; omega⟩ : Fin 4224) k) := by
    blk_simp [iblk]
    blk_ext [idx t]
  rw [h, V_0]; rfl
theorem w_at (t : Fin cfg0.N) (j : Fin 4) (e : Fin 768) (k : Fin 1024) :
    iblk m c 1 t (ix3 j e k) = a1 m c (ix3 j e k) := by
  have h : iblk m c 1 t (ix3 j e k) = (V m c main_v1 : FVec Ideal S4x768x1024 .bf16) (ix3 j e k) := by
    blk_simp [iblk]
    blk_ext [idx t]
  rw [h, V_1]; rfl
theorem a_at (t : Fin cfg0.N) (r : Fin 384) (q : Fin 3072) :
    iblk m c 2 t (ix2 r q) = a2 m c (ix2 (⟨384 * t.val + r, by have := lt_N t; omega⟩ : Fin 4224) q) := by
  have h : iblk m c 2 t (ix2 r q) = (V m c main_v2 : FVec Ideal S4224x3072 .bf16) (ix2 (⟨384 * t.val + r, by have := lt_N t; omega⟩ : Fin 4224) q) := by
    blk_simp [iblk]
    blk_ext [idx t]
  rw [h, V_2]; rfl
theorem b_at (t : Fin cfg0.N) (r : Fin 384) (q : Fin 3072) :
    iblk m c 3 t (ix2 r q) = a3 m c (ix2 (⟨384 * t.val + r, by have := lt_N t; omega⟩ : Fin 4224) q) := by
  have h : iblk m c 3 t (ix2 r q) = (V m c main_v3 : FVec Ideal S4224x3072 .bf16) (ix2 (⟨384 * t.val + r, by have := lt_N t; omega⟩ : Fin 4224) q) := by
    blk_simp [iblk]
    blk_ext [idx t]
  rw [h, V_3]; rfl

theorem prod_at (t : Fin cfg0.N) (r : Fin 384) (q : Fin 3072) :
    prod (iblk m c 0 t) (iblk m c 1 t) r q = ds (a0 m c) (a1 m c) (⟨384 * t.val + r, by have := lt_N t; omega⟩ : Fin 4224) q := by
  unfold prod ds
  refine congrArg (Ideal.ofBits .f32 0x3F000000#32 * ·) (Finset.sum_congr rfl fun k _ => ?_)
  rw [dh_at, w_at]

/-- The kernel's two arrays. -/
theorem final4 : (dats m 0 c).arrAt 4 cfg0.N = arr4 (a0 m c) (a1 m c) (a2 m c) (a3 m c) := by
  refine (dats m 0 c).arrAt_eq_of_covers 4 (arr4 (a0 m c) (a1 m c) (a2 m c) (a3 m c)) (by decide +kernel) fun t hf y => ?_
  blk_simp
  rw [after0_4, out4_eq]
  obtain ⟨r, q, rfl⟩ : ∃ (r : Fin 384) (q : Fin 3072), y = ix2 r q := ⟨y 0, y 1, eq_ix2 y⟩
  have h : tile4 (iblk m c 0 t) (iblk m c 1 t) (iblk m c 2 t) (iblk m c 3 t) (ix2 r q)
      = arr4 (a0 m c) (a1 m c) (a2 m c) (a3 m c) (ix2 (⟨384 * t.val + r, by have := lt_N t; omega⟩ : Fin 4224) q) := by
    show fa (prod _ _ r q) _ _ = fa (ds _ _ _ q) _ _
    rw [prod_at, a_at, b_at]
    rfl
  refine h.trans ?_
  blk_ext [idx t]
theorem final5 : (dats m 0 c).arrAt 5 cfg0.N = arr5 (a0 m c) (a1 m c) (a2 m c) := by
  refine (dats m 0 c).arrAt_eq_of_covers 5 (arr5 (a0 m c) (a1 m c) (a2 m c)) (by decide +kernel) fun t hf y => ?_
  blk_simp
  rw [after0_5, out5_eq]
  obtain ⟨r, q, rfl⟩ : ∃ (r : Fin 384) (q : Fin 3072), y = ix2 r q := ⟨y 0, y 1, eq_ix2 y⟩
  have h : tile5 (iblk m c 0 t) (iblk m c 1 t) (iblk m c 2 t) (ix2 r q)
      = arr5 (a0 m c) (a1 m c) (a2 m c) (ix2 (⟨384 * t.val + r, by have := lt_N t; omega⟩ : Fin 4224) q) := by
    show fb (prod _ _ r q) _ = fb (ds _ _ _ q) _
    rw [prod_at, a_at]
    rfl
  refine h.trans ?_
  blk_ext [idx t]
end Arrays

section Ref
variable (x0 : FVec Ideal Cert.Reference2Ideal.S4224x1024 .f32) (x1 : FVec Ideal Cert.Reference2Ideal.S4x768x1024 .f32)
  (x2 x3 : FVec Ideal Cert.Reference2Ideal.S4224x3072 .f32)
open Cert.Reference2Ideal.Gen

/-- The reference's cotangent of the product, and its logistic function. -/
abbrev refDs : FVec Ideal Cert.Reference2Ideal.S4224x3072 .f32 :=
  Host.dotGeneral (F := Ideal) Cert.Reference2Ideal.dot_S4224x1024_S3072x1024_S4224x3072_1_1_0_0_n_n none (mulf (broadcastInDim Cert.Reference2Ideal.S4224x1024 ![] bcast_S_S4224x1024 (constant Cert.Reference2Ideal.S_ .f32 0x3F000000#32)) x0) (shapeCast _ x1 shapeCasts_S4x768x1024_S3072x1024)
abbrev refSg : FVec Ideal Cert.Reference2Ideal.S4224x3072 .f32 :=
  Host.divf (broadcastInDim Cert.Reference2Ideal.S4224x3072 ![] bcast_S_S4224x3072 (constant Cert.Reference2Ideal.S_ .f32 0x3F800000#32)) (addf (broadcastInDim Cert.Reference2Ideal.S4224x3072 ![] bcast_S_S4224x3072 (constant Cert.Reference2Ideal.S_ .f32 0x3F800000#32)) (Host.exp (Host.negf x2)))
abbrev ref12 : FVec Ideal Cert.Reference2Ideal.S4224x3072 .bf16 :=
  truncf .bf16 (addf (mulf (mulf (refDs x0 x1) x3) (refSg x2)) (mulf (mulf x2 (mulf (refDs x0 x1) x3)) (mulf (refSg x2) (subf (broadcastInDim Cert.Reference2Ideal.S4224x3072 ![] bcast_S_S4224x3072 (constant Cert.Reference2Ideal.S_ .f32 0x3F800000#32)) (refSg x2))))) Cert.Reference2Ideal.Gen.bitsLt_bf16_f32
abbrev ref13 : FVec Ideal Cert.Reference2Ideal.S4224x3072 .bf16 :=
  truncf .bf16 (mulf (mulf x2 (refSg x2)) (refDs x0 x1)) Cert.Reference2Ideal.Gen.bitsLt_bf16_f32

theorem refDs_at (r : Fin 4224) (q : Fin 3072) : refDs x0 x1 (ix2 r q) = ds x0 x1 r q := by
  have h : refDs x0 x1 (ix2 r q) = ∑ k : Fin 1024, (Ideal.ofBits .f32 0x3F000000#32 * x0 (ix2 r k))
      * x1 (ix3 (⟨q / 768, by omega⟩ : Fin 4) (⟨q % 768, by omega⟩ : Fin 768) k) := by
    unfold refDs
    pointwise []
  rw [h]
  unfold ds
  rw [half_sum]
  exact Finset.sum_congr rfl fun k _ => mul_assoc _ _ _
theorem nought_sub (a : EReal) : Ideal.ofBits .f32 0x00000000#32 - a = -a := by
  rw [show Ideal.ofBits .f32 0x00000000#32 = 0 by simp [Ideal.ofBits, Ideal.ieee], zero_sub]
theorem refSg_at (y) : refSg x2 y = sg (x2 y) := by
  unfold sg
  rw [nought_sub]
  rfl

theorem one_bits : Ideal.ofBits .f32 0x3F800000#32 = ((1 : ℝ) : EReal) := by
  simp [Ideal.ofBits, Ideal.ieee, -EReal.coe_mul]; try norm_num

/-- The logistic function is a real number; at minus infinity it is nought, at infinity one. -/
theorem sg_cases (a : EReal) : (a = ⊥ ∧ sg a = 0) ∨ (a = ⊤ ∧ sg a = 1) ∨ ∃ u v : ℝ, a = (u : EReal) ∧ sg a = (v : EReal) := by
  unfold sg
  rw [nought_sub, one_bits]
  induction a with
  | bot => left; rw [EReal.neg_bot, show Ideal.exp ⊤ = ⊤ from rfl, show (((1 : ℝ) : EReal) + ⊤) = ⊤ from rfl]; simp [Ideal.div]
  | top => right; left; rw [EReal.neg_top, show Ideal.exp ⊥ = 0 from rfl]; simp [Ideal.div]
  | coe u =>
    right; right
    refine ⟨u, 1 / (1 + Real.exp (-u)), rfl, ?_⟩
    have h : (1 + Real.exp (-u)) ≠ 0 := by positivity
    rw [← EReal.coe_neg, show Ideal.exp ((-u : ℝ) : EReal) = ((Real.exp (-u) : ℝ) : EReal) from rfl, ← EReal.coe_add]
    unfold Ideal.div
    rw [if_neg (by exact_mod_cast h), ← EReal.coe_inv, ← EReal.coe_mul, one_div, one_mul]

/-- The two ways of writing the gate's cotangent agree where the product of the cotangent and the up projection is real. -/
theorem fa_eq (d a b : EReal) (x : ℝ) (h : d * b = (x : EReal)) :
    d * b * sg a + a * (d * b) * (sg a * (Ideal.ofBits .f32 0x3F800000#32 - sg a)) = fa d a b := by
  unfold fa
  rw [h, one_bits]
  rcases sg_cases a with ⟨rfl, e⟩ | ⟨rfl, e⟩ | ⟨u, v, rfl, e⟩ <;> rw [e]
  · simp
  · have e1 : (((1 : ℝ) : EReal) - 1) = 0 := by norm_cast
    rw [e1]; simp
  · norm_cast; ring

/-- What the precondition says of one array. -/
def AllReal {s : Shape} (x : FVec Ideal s .f32) : Prop := ∀ i, ∃ r : ℝ, x i = (r : EReal)

theorem ds_real (h0 : AllReal x0) (h1 : AllReal x1) (r : Fin 4224) (q : Fin 3072) : ∃ t : ℝ, ds x0 x1 r q = (t : EReal) := by
  choose f0 e0 using h0
  choose f1 e1 using h1
  unfold ds
  rw [half_bits]
  refine ⟨1 / 2 * ∑ k : Fin 1024, f0 (ix2 r k) * f1 (ix3 (⟨q / 768, by omega⟩ : Fin 4) (⟨q % 768, by omega⟩ : Fin 768) k), ?_⟩
  rw [EReal.coe_mul]
  refine congrArg (((1 / 2 : ℝ) : EReal) * ·) ?_
  rw [← coe_sum]
  exact Finset.sum_congr rfl fun k _ => by rw [e0, e1, EReal.coe_mul]

theorem ref12_eq (h0 : AllReal x0) (h1 : AllReal x1) (h3 : AllReal x3) : ref12 x0 x1 x2 x3 = arr4 x0 x1 x2 x3 := by
  funext y
  obtain ⟨r, q, rfl⟩ : ∃ (r : Fin 4224) (q : Fin 3072), y = ix2 r q := ⟨y 0, y 1, eq_ix2 y⟩
  obtain ⟨t, ht⟩ := ds_real x0 x1 h0 h1 r q
  obtain ⟨b, hb⟩ := h3 (ix2 r q)
  show refDs x0 x1 (ix2 r q) * x3 (ix2 r q) * refSg x2 (ix2 r q) + x2 (ix2 r q) * (refDs x0 x1 (ix2 r q) * x3 (ix2 r q))
    * (refSg x2 (ix2 r q) * (Ideal.ofBits .f32 0x3F800000#32 - refSg x2 (ix2 r q))) = fa (ds x0 x1 r q) (x2 (ix2 r q)) (x3 (ix2 r q))
  rw [refDs_at, refSg_at]
  exact fa_eq _ _ _ (t * b) (by rw [ht, hb, EReal.coe_mul])

theorem ref13_eq : ref13 x0 x1 x2 = arr5 x0 x1 x2 := by
  funext y
  obtain ⟨r, q, rfl⟩ : ∃ (r : Fin 4224) (q : Fin 3072), y = ix2 r q := ⟨y 0, y 1, eq_ix2 y⟩
  show x2 (ix2 r q) * refSg x2 (ix2 r q) * refDs x0 x1 (ix2 r q) = fb (ds x0 x1 r q) (x2 (ix2 r q))
  rw [refDs_at, refSg_at]
  unfold fb
  rw [mul_comm (ds x0 x1 r q), mul_assoc, mul_assoc, mul_comm (sg _)]
end Ref

end Cert.Kernel2Ideal.Own

namespace Cert.Pre_finite2.Own

open Idealize.ShloMosaic Idealize.ShloMosaic.TcCoe Cert.Pre_finite2 Cert.Kernel2Ideal.Own

instance : Subsingleton S_.Idx := ⟨fun a b => funext fun i => i.elim0⟩

theorem real_of_all {s : Shape} {axes : List (Fin s.rank)} (x y : FVec Ideal s .f32) (hy : ∀ i, (y i : EReal) = ⊤) (v : IVec S_ 1)
    (h : s.ReducesTo axes S_) (hu : 0 < S_.numel) (j : S_.Idx)
    (e : Host.reduce IntOp.andi (cmpf .olt (Host.absf x) y) v h hu j = 1#1) : AllReal x := fun i => by
  have h1 := Host.reduce_andi_all _ v h hu j e i
  have h2 : cmpf .olt (Host.absf x) y i = Ideal.cmp .olt (max (x i : EReal) (-(x i : EReal))) (y i) := rfl
  rw [h2, hy i] at h1
  have h3 : max (x i : EReal) (-(x i : EReal)) < ⊤ := by
    by_contra hc
    unfold Ideal.cmp at h1
    simp [hc] at h1
  refine ⟨(x i : EReal).toReal, (EReal.coe_toReal ?_ ?_).symm⟩ <;> rintro e <;> rw [e] at h3 <;> simp at h3

/-- The precondition: the cotangent, the weights and the up projection are real numbers. -/
theorem read (x0 : FVec Ideal S4224x1024 .f32) (x1 : FVec Ideal S4x768x1024 .f32) (x2 x3 : FVec Ideal S4224x3072 .f32)
    (h : Cert.Pre_finite2.fn (F := Ideal) x0 x1 x2 x3 = fun _ => 1#1) : AllReal x0 ∧ AllReal x1 ∧ AllReal x3 := by
  have inf_bits : Ideal.ofBits .f32 0x7F800000#32 = ⊤ := by simp [Ideal.ofBits, Ideal.ieee]
  have e := congrFun h ix0
  unfold Cert.Pre_finite2.fn at e
  obtain ⟨e, e3⟩ := IntOp.andi_eq_one.1 e
  obtain ⟨e0, e1⟩ := IntOp.andi_eq_one.1 e
  exact ⟨real_of_all x0 _ (fun _ => inf_bits) _ _ _ _ e0, real_of_all x1 _ (fun _ => inf_bits) _ _ _ _ e1,
    real_of_all x3 _ (fun _ => inf_bits) _ _ _ _ e3⟩

end Cert.Pre_finite2.Own

namespace Cert.Ds

open Idealize.ShloMosaic Idealize.ShloMosaic.TcCoe Idealize.SL.Sem

open Cert.Reference2Ideal in
theorem frame_reference (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems rfl r.2⟩) (Value.run m g)

/-- The kernel and the reference end with equal results. -/
theorem algebraic : Cert.algebraic_Kernel2Ideal_Reference2Ideal_pre_finite2 := by
  intro m g m' g' hpre hagree
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, ?_, ?_⟩
  · exact Cert.Kernel2Ideal.Value.run_blocks m g
  · refine (θ_run _ _ _).mono (fun r h c => ⟨(h c).1.trans ?_, (h c).2.1.trans ?_, (h c).2.2⟩) (Cert.Reference2Ideal.Value.run m' g')
    · obtain ⟨h0, h1, h3⟩ := Cert.Pre_finite2.Own.read _ _ _ _ (hpre c)
      rw [(hagree c).1, (hagree c).2.1, (hagree c).2.2.1, (hagree c).2.2.2]
      exact (Cert.Kernel2Ideal.Own.ref12_eq _ _ _ _ h0 h1 h3).trans (Cert.Kernel2Ideal.Own.final4 m c).symm
    · rw [(hagree c).1, (hagree c).2.1, (hagree c).2.2.1]
      exact (Cert.Kernel2Ideal.Own.ref13_eq _ _ _).trans (Cert.Kernel2Ideal.Own.final5 m c).symm

end Cert.Ds

end
-- ==== Proof.Rms.lean ====
/- The gradient of dividing a row by its root mean square, over the extended reals: two ways of writing it. -/
module

public import proofs.«01_k».proof.Proof.Rows

@[expose] public section

noncomputable section

namespace Cert.Rms

open Idealize.ShloMosaic Cert.Rows
open scoped BigOperators

variable (x c : Fin 1024 → EReal)

/-- The mean of a row's squares with the small constant added, and its reciprocal root. -/
def ms : EReal := Ideal.div (∑ k, x k * x k) (Ideal.ofBits .f32 0x44800000#32) + Ideal.ofBits .f32 0x358637BD#32
def rs : EReal := Ideal.rsqrt (ms x)

/-- The gradient as the kernel writes it, at one place of a row; c is the cotangent times the gain. -/
def back (q : Fin 1024) : EReal :=
  rs x * (c q - x q * rs x * Ideal.div (∑ k, c k * (x k * rs x)) (Ideal.ofBits .f32 0x44800000#32))

/-- The cotangent of a square, as the reference has it. -/
def sqCot : EReal := Ideal.div ((∑ k, x k * c k) * (Ideal.ofBits .f32 0xBF000000#32 * Ideal.div (rs x) (ms x))) (Ideal.ofBits .f32 0x44800000#32)

theorem n_bits : Ideal.ofBits .f32 0x44800000#32 = ((1024 : ℝ) : EReal) := by
  simp [Ideal.ofBits, Ideal.ieee, -EReal.coe_mul]; try norm_num
theorem minus_half_bits : Ideal.ofBits .f32 0xBF000000#32 = ((-(1 / 2) : ℝ) : EReal) := by
  simp [Ideal.ofBits, Ideal.ieee, -EReal.coe_mul]; try norm_num
theorem eps_bits : Ideal.ofBits .f32 0x358637BD#32 = ((8796093 / 2 ^ 43 : ℝ) : EReal) := by
  simp [Ideal.ofBits, Ideal.ieee, -EReal.coe_mul]; try norm_num

/-- Division by 1024 is a product. -/
theorem div_n (y : EReal) : Ideal.div y (Ideal.ofBits .f32 0x44800000#32) = y * ((1 / 1024 : ℝ) : EReal) := by
  rw [n_bits]
  unfold Ideal.div
  rw [if_neg (by exact_mod_cast (by norm_num : (1024 : ℝ) ≠ 0)), ← EReal.coe_inv, one_div]

/-- A factor that is a real number and not negative goes into a sum. -/
theorem scale_add (r : ℝ) (hr : 0 ≤ r) (a b : EReal) : (r : EReal) * (a + b) = r * a + r * b :=
  EReal.left_distrib_of_nonneg_of_ne_top (by exact_mod_cast hr) (EReal.coe_ne_top _) a b
theorem scale_sum {ι : Type} [Fintype ι] (r : ℝ) (hr : 0 ≤ r) (f : ι → EReal) : (r : EReal) * ∑ k, f k = ∑ k, (r : EReal) * f k := by
  classical
  refine Finset.induction_on (Finset.univ : Finset ι) (by simp) fun a s ha ih => ?_
  rw [Finset.sum_insert ha, Finset.sum_insert ha, scale_add r hr, ih]

theorem twice (y : EReal) : y + y = ((2 : ℝ) : EReal) * y := by
  induction y with
  | bot => rw [EReal.coe_mul_bot_of_pos (by norm_num)]; rfl
  | top => rw [EReal.coe_mul_top_of_pos (by norm_num)]; rfl
  | coe u => rw [← EReal.coe_add, ← EReal.coe_mul, two_mul]

theorem square_nonneg (y : EReal) : 0 ≤ y * y := by
  induction y with
  | bot => rw [EReal.bot_mul_bot]; exact le_top
  | top => rw [EReal.top_mul_top]; exact le_top
  | coe u => exact_mod_cast mul_self_nonneg u

/-- A row is of real numbers, or its mean square is infinite. -/
theorem real_or_top : (∃ u : Fin 1024 → ℝ, ∀ k, x k = (u k : EReal)) ∨ ms x = ⊤ := by
  by_cases h : ∀ k, x k ≠ ⊤ ∧ x k ≠ ⊥
  · left
    exact ⟨fun k => (x k).toReal, fun k => (EReal.coe_toReal (h k).1 (h k).2).symm⟩
  · right
    simp only [not_forall, not_and_or, not_not] at h
    obtain ⟨k, hk⟩ := h
    have h1 : x k * x k = ⊤ := by
      rcases hk with e | e <;> rw [e]
      · exact EReal.top_mul_top
      · exact EReal.bot_mul_bot
    have h2 : ∑ k, x k * x k = ⊤ := top_le_iff.1 (h1 ▸ Finset.single_le_sum (f := fun k => x k * x k) (fun i _ => square_nonneg (x i)) (Finset.mem_univ k))
    unfold ms
    rw [div_n, h2, EReal.top_mul_coe_of_pos (by norm_num), eps_bits]
    rfl

/-- The two ways of writing the gradient agree. -/
theorem back_eq (d : EReal) (q : Fin 1024) : d + c q * rs x + x q * sqCot x c + sqCot x c * x q = d + back x c q := by
  rcases real_or_top x with ⟨u, hu⟩ | h
  · have hS : ms x = (((∑ k, u k * u k) * (1 / 1024) + 8796093 / 2 ^ 43 : ℝ) : EReal) := by
      unfold ms
      rw [div_n, eps_bits, EReal.coe_add, EReal.coe_mul, ← coe_sum]
      simp only [hu, EReal.coe_mul]
    have hpos : 0 < (∑ k, u k * u k) * (1 / 1024) + 8796093 / 2 ^ 43 :=
      add_pos_of_nonneg_of_pos (mul_nonneg (Finset.sum_nonneg fun k _ => mul_self_nonneg _) (by norm_num)) (by norm_num)
    generalize (∑ k, u k * u k) * (1 / 1024) + 8796093 / 2 ^ 43 = S at hS hpos
    obtain ⟨r, hr0, hr, hrS⟩ : ∃ r : ℝ, 0 ≤ r ∧ rs x = (r : EReal) ∧ S⁻¹ = r * r := by
      refine ⟨(Real.sqrt S)⁻¹, by positivity, ?_, ?_⟩
      · unfold rs
        rw [hS, Ideal.rsqrt_coe, if_neg hpos.le.not_gt, if_neg hpos.ne']
      · rw [← mul_inv, Real.mul_self_sqrt hpos.le]
    have hq : Ideal.div (rs x) (ms x) = ((r * (r * r) : ℝ) : EReal) := by
      rw [hr, hS]
      unfold Ideal.div
      rw [if_neg (by exact_mod_cast hpos.ne'), ← EReal.coe_inv, hrS, ← EReal.coe_mul]
    have hsum : ∑ k, c k * (x k * rs x) = (r : EReal) * ∑ k, x k * c k := by
      rw [scale_sum r hr0, hr]
      exact Finset.sum_congr rfl fun k _ => by rw [← mul_assoc, mul_comm, mul_comm (c k)]
    have hb : back x c q = c q * r + ((-(r * r * r * u q * (1 / 1024)) : ℝ) : EReal) * ∑ k, x k * c k := by
      unfold back
      rw [hsum, div_n, hr, hu q, sub_eq_add_neg, scale_add r hr0, mul_comm (r : EReal) (c q), mul_neg, EReal.coe_neg, neg_mul]
      congr 2
      simp only [EReal.coe_mul, mul_assoc, mul_comm, mul_left_comm]
    have hk : x q * sqCot x c + sqCot x c * x q = ((-(r * r * r * u q * (1 / 1024)) : ℝ) : EReal) * ∑ k, x k * c k := by
      unfold sqCot
      rw [hq, div_n, minus_half_bits, hu q, mul_comm _ ((u q : ℝ) : EReal), twice]
      generalize ∑ k, x k * c k = T
      have e : (-(r * r * r * u q * (1 / 1024)) : ℝ) = 2 * u q * (-(1 / 2) * (r * (r * r))) * (1 / 1024) := by ring
      rw [e]
      simp only [EReal.coe_mul, mul_assoc, mul_comm, mul_left_comm]
    rw [hb, add_assoc, add_assoc, hk, hr]
  · have h0 : rs x = 0 := by unfold rs; rw [h]; rfl
    have h1 : sqCot x c = 0 := by
      unfold sqCot
      rw [h0, h, div_n, show Ideal.div 0 ⊤ = 0 by unfold Ideal.div; simp]
      simp
    unfold back
    rw [h0, h1]
    simp

end Cert.Rms

end
-- ==== Proof.Dn.lean ====
/- The call that carries the feed-forward block's gradient to its input: what its body leaves at each grid point. -/
module

public import proofs.«01_k».proof.Proof.Gen.Kernel4Ideal.Value
public import proofs.«01_k».proof.Proof.Rms
public import proofs.«01_k».proof.Proof.Gen.Reference4Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.Kernel4Ideal.Own

open Idealize.ShloMosaic Idealize.ShloMosaic.TcCoe Cert.Kernel4Ideal Cert.Kernel4Ideal.Gen Cert.Rows Cert.Rms
open scoped BigOperators

section Body
variable {F : FTy → Type} [FloatOps F] (c : Dev nD) (i : grid0.Coords)
  (arg1 : Memref sig .tc .vmem S384x3072 .bf16) (harg1 : arg1.IsWhole) (arg2 : Memref sig .tc .vmem S3072x1024 .bf16) (harg2 : arg2.IsWhole)
  (arg3 : Memref sig .tc .vmem S384x3072 .bf16) (harg3 : arg3.IsWhole) (arg4 : Memref sig .tc .vmem S3072x1024 .bf16) (harg4 : arg4.IsWhole)
  (arg5 : Memref sig .tc .vmem S384x1024 .f32) (harg5 : arg5.IsWhole) (arg6 : Memref sig .tc .vmem S384x1024 .f32) (harg6 : arg6.IsWhole)
  (arg7 : Memref sig .tc .vmem S1x1024 .f32) (harg7 : arg7.IsWhole) (arg8 : Memref sig .tc .vmem S384x1024 .f32) (harg8 : arg8.IsWhole)
  (arg9 : Memref sig .tc .vmem S1x1024 .f32) (harg9 : arg9.IsWhole) (arg10 : Memref sig .tc .vmem S384x1024 .bf16) (harg10 : arg10.IsWhole)
  (x0 : Vec F S384x3072 .bf16) (x1 : Vec F S3072x1024 .bf16) (x2 : Vec F S384x3072 .bf16) (x3 : Vec F S3072x1024 .bf16)
  (x4 : Vec F S384x1024 .f32) (x5 : Vec F S384x1024 .f32) (x6 : Vec F S1x1024 .f32)

/-- The first row tile leaves in the first result's block the input's gradient. -/
theorem in_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6
      = k0_pay1 (k0_pay8 x0 x1 x2 x3 x5 x6) x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread, harg5.read_unread, harg6.read_unread,
    harg7.read_unread, View.ld_unit_zero (S := S384x3072) hz2, View.ld_unit_zero (S := S3072x1024) hz2, View.ld_unit_zero (S := S384x1024) hz2,
    View.ld_unit_zero (S := S1x1024) hz2]

/-- So does every later one. -/
theorem in_B (hc0 : ¬cond0_0 i) (xo8 : Vec F S1x1024 .f32) :
    out0_B_7 c i arg1 harg1 arg2 harg2 arg3 harg3 arg4 harg4 arg5 harg5 arg6 harg6 arg7 harg7 arg8 harg8 arg9 harg9 arg10 harg10 hc0 x0 x1 x2 x3 x4 x5 x6 xo8
      = k0_pay1 (k0_pay8 x0 x1 x2 x3 x5 x6) x4 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread,
    harg7.read_unread, View.ld_unit_zero (S := S384x3072) hz2, View.ld_unit_zero (S := S3072x1024) hz2, View.ld_unit_zero (S := S384x1024) hz2,
    View.ld_unit_zero (S := S1x1024) hz2]

/-- The first row tile leaves in the second result's block its own part of the gain's gradient. -/
theorem gain_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6
      = k0_pay4 (k0_pay9 x0 x1 x2 x3 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg6.read_unread,
    View.ld_unit_zero (S := S384x3072) hz2, View.ld_unit_zero (S := S3072x1024) hz2, View.ld_unit_zero (S := S384x1024) hz2]

/-- A later one adds its part to what the tile before left. -/
theorem gain_B (hc0 : ¬cond0_0 i) (xo8 : Vec F S1x1024 .f32) :
    out0_B_8 c i arg1 harg1 arg2 harg2 arg3 harg3 arg4 harg4 arg5 harg5 arg6 harg6 arg7 harg7 arg8 harg8 arg9 harg9 arg10 harg10 hc0 x0 x1 x2 x3 x4 x5 x6 xo8
      = k0_pay4 (k0_pay9 x0 x1 x2 x3 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8)]
  unfold kernelRun0_B
  dsimp only
  sl_unfold_words
  rw [View.canon_unit_zero hz2]
  simp only [View.readAt_eq_ld, harg1.read_unread, harg2.read_unread, harg3.read_unread, harg4.read_unread, harg6.read_unread, harg9.read_unread,
    View.ld_unit_zero (S := S384x3072) hz2, View.ld_unit_zero (S := S3072x1024) hz2, View.ld_unit_zero (S := S384x1024) hz2,
    View.ld_unit_zero (S := S1x1024) hz2]
end Body

section Value
variable (x0 : Vec Ideal S384x3072 .bf16) (x1 : Vec Ideal S3072x1024 .bf16) (x2 : Vec Ideal S384x3072 .bf16) (x3 : Vec Ideal S3072x1024 .bf16)
  (x4 : Vec Ideal S384x1024 .f32) (x5 : Vec Ideal S384x1024 .f32) (x6 : Vec Ideal S1x1024 .f32)

theorem pay1_at (v x : FVec Ideal S384x1024 .f32) (y) : k0_pay1 v x y = x y + v y := rfl
theorem pay5_at (r : Fin 384) (e : Fin 1024) : k0_pay5 x0 x1 x2 x3 (ix2 r e)
    = (∑ k : Fin 3072, (x0 (ix2 r k) : EReal) * x1 (ix2 k e)) + ∑ k : Fin 3072, (x2 (ix2 r k) : EReal) * x3 (ix2 k e) := by
  pointwise [k0_pay5]
theorem pay6_at (r : Fin 384) (z : Fin 1) : k0_pay6 x5 (ix2 r z) = rs fun k => x5 (ix2 r k) := by
  unfold rs ms
  pointwise [k0_pay6]
theorem pay7_at (r : Fin 384) (e : Fin 1024) : k0_pay7 x5 (ix2 r e) = x5 (ix2 r e) * rs fun k => x5 (ix2 r k) := by
  have h : k0_pay7 x5 (ix2 r e) = x5 (ix2 r e) * k0_pay6 x5 (ix2 r 0) := by pointwise [k0_pay7]
  rw [h, pay6_at]
theorem pay8_at (r : Fin 384) (e : Fin 1024) : k0_pay8 x0 x1 x2 x3 x5 x6 (ix2 r e)
    = back (fun k => x5 (ix2 r k)) (fun k => k0_pay5 x0 x1 x2 x3 (ix2 r k) * x6 (ix2 0 k)) e := by
  have h : k0_pay8 x0 x1 x2 x3 x5 x6 (ix2 r e) = k0_pay6 x5 (ix2 r 0) * (k0_pay5 x0 x1 x2 x3 (ix2 r e) * x6 (ix2 0 e)
      - k0_pay7 x5 (ix2 r e) * Ideal.div (∑ k : Fin 1024, k0_pay5 x0 x1 x2 x3 (ix2 r k) * x6 (ix2 0 k) * k0_pay7 x5 (ix2 r k)) (Ideal.ofBits .f32 0x44800000#32)) := by
    pointwise [k0_pay8]
  rw [h]
  unfold back
  simp only [pay6_at, pay7_at]
theorem pay9_at (r : Fin 384) (e : Fin 1024) : k0_pay9 x0 x1 x2 x3 x5 (ix2 r e)
    = k0_pay5 x0 x1 x2 x3 (ix2 r e) * (x5 (ix2 r e) * rs fun k => x5 (ix2 r k)) := by
  rw [← pay7_at]
  pointwise [k0_pay9]
theorem pay4_at (v : FVec Ideal S384x1024 .f32) (A : FVec Ideal S1x1024 .f32) (z : Fin 1) (e : Fin 1024) :
    k0_pay4 v A (ix2 z e) = A (ix2 z e) + ∑ r : Fin 384, v (ix2 r e) := by
  pointwise [k0_pay4]
theorem pay3_at (z : Fin 1) (e : Fin 1024) : (k0_pay3 (F := Ideal) (ix2 z e) : EReal) = 0 := by
  pointwise [k0_pay3]
end Value

section Arrays
variable (m : (ℓ : Loc nD τ sig) → Buf (Elt Ideal) ℓ) (c : Dev nD)

/-- The arguments, as arrays. -/
abbrev a0 : FVec Ideal S4224x3072 .f32 := m ((c : Thread nD τ).loc main_arg0)
abbrev a1 : FVec Ideal S4224x3072 .f32 := m ((c : Thread nD τ).loc main_arg1)
abbrev a2 : FVec Ideal S4224x1024 .f32 := m ((c : Thread nD τ).loc main_arg2)
abbrev a3 : FVec Ideal S4224x1024 .f32 := m ((c : Thread nD τ).loc main_arg3)
abbrev a4 : FVec Ideal S1024 .f32 := m ((c : Thread nD τ).loc main_arg4)
abbrev a5 : FVec Ideal S4x768x1024 .f32 := m ((c : Thread nD τ).loc main_arg5)
abbrev a6 : FVec Ideal S4x768x1024 .f32 := m ((c : Thread nD τ).loc main_arg6)

/-- The product of one array with one weight, at a row and a column. -/
def prod (x : FVec Ideal S4224x3072 .f32) (w : FVec Ideal S4x768x1024 .f32) (r : Fin 4224) (e : Fin 1024) : EReal :=
  ∑ k : Fin 3072, x (ix2 r k) * w (ix3 (⟨k / 768, by omega⟩ : Fin 4) (⟨k % 768, by omega⟩ : Fin 768) e)
/-- The cotangent of the norm's result. -/
def acc (x0 x1 : FVec Ideal S4224x3072 .f32) (w0 w1 : FVec Ideal S4x768x1024 .f32) (r : Fin 4224) (e : Fin 1024) : EReal :=
  prod x0 w0 r e + prod x1 w1 r e
/-- The input's gradient, as an array. -/
def arrIn (x0 x1 : FVec Ideal S4224x3072 .f32) (x2 x3 : FVec Ideal S4224x1024 .f32) (x4 : FVec Ideal S1024 .f32) (w0 w1 : FVec Ideal S4x768x1024 .f32) :
    FVec Ideal S4224x1024 .f32 :=
  fun y => x2 y + back (fun k => x3 (ix2 (y 0) k)) (fun k => acc x0 x1 w0 w1 (y 0) k * x4 (ix1 k)) (y 1)
/-- One row's part of the gain's gradient, and the sum over the rows, as an array. -/
def part (x0 x1 : FVec Ideal S4224x3072 .f32) (x3 : FVec Ideal S4224x1024 .f32) (w0 w1 : FVec Ideal S4x768x1024 .f32) (e : Fin 1024) (r : Fin 4224) : EReal :=
  acc x0 x1 w0 w1 r e * (x3 (ix2 r e) * rs fun k => x3 (ix2 r k))
def arrGain (x0 x1 : FVec Ideal S4224x3072 .f32) (x3 : FVec Ideal S4224x1024 .f32) (w0 w1 : FVec Ideal S4x768x1024 .f32) : FVec Ideal S1x1024 .f32 :=
  fun y => ∑ r, part x0 x1 x3 w0 w1 (y 1) r

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ win0_8.index t = ![0, 0] :=
  (by decide +kernel : ∀ t : Fin grid0.N, _)
theorem N_eq : cfg0.N = 11 := N_0
theorem lt_N (t : Fin cfg0.N) : t.val < 11 := lt_of_lt_of_eq t.isLt N_eq

theorem V_0 : V m c main_v0 = (truncf .bf16 (a0 m c) bitsLt_bf16_f32 : FVec Ideal S4224x3072 .bf16) := by entry_read; rfl
theorem V_1 : V m c main_v1 = (truncf .bf16 (a1 m c) bitsLt_bf16_f32 : FVec Ideal S4224x3072 .bf16) := by entry_read; rfl
theorem V_4 : V m c main_v4 = (shapeCast S3072x1024 (truncf .bf16 (a5 m c) bitsLt_bf16_f32 : FVec Ideal S4x768x1024 .bf16) shapeCasts_S4x768x1024_S3072x1024 : FVec Ideal S3072x1024 .bf16) := by entry_read; rfl
theorem V_5 : V m c main_v5 = (shapeCast S3072x1024 (truncf .bf16 (a6 m c) bitsLt_bf16_f32 : FVec Ideal S4x768x1024 .bf16) shapeCasts_S4x768x1024_S3072x1024 : FVec Ideal S3072x1024 .bf16) := by entry_read; rfl
theorem V_6 : V m c main_v6 = (shapeCast S1x1024 (a4 m c) shapeCasts_S1024_S1x1024 : FVec Ideal S1x1024 .f32) := by entry_read; rfl

/-- A weight's reshaped array, at an index. -/
theorem weight_at (w : FVec Ideal S4x768x1024 .f32) (k : Fin 3072) (e : Fin 1024) :
    (shapeCast S3072x1024 (truncf .bf16 w bitsLt_bf16_f32 : FVec Ideal S4x768x1024 .bf16) shapeCasts_S4x768x1024_S3072x1024 : FVec Ideal S3072x1024 .bf16) (ix2 k e)
      = w (ix3 (⟨k / 768, by omega⟩ : Fin 4) (⟨k % 768, by omega⟩ : Fin 768) e) := by
  pointwise []
theorem row_at (x : FVec Ideal S1024 .f32) (z : Fin 1) (e : Fin 1024) :
    (shapeCast S1x1024 x shapeCasts_S1024_S1x1024 : FVec Ideal S1x1024 .f32) (ix2 z e) = x (ix1 e) := by
  pointwise []

/-- The windows' blocks, read from the arguments. -/
theorem da_at (t : Fin cfg0.N) (r : Fin 384) (k : Fin 3072) :
    iblk m c 0 t (ix2 r k) = a0 m c (ix2 (⟨384 * t.val + r, by have := lt_N t; omega⟩ : Fin 4224) k) := by
  have h : iblk m c 0 t (ix2 r k) = (V m c main_v0 : FVec Ideal S4224x3072 .bf16) (ix2 (⟨384 * t.val + r, by have := lt_N t; omega⟩ : Fin 4224) k) := by
    blk_simp [iblk]
    blk_ext [idx t]
  rw [h, V_0]; rfl
theorem db_at (t : Fin cfg0.N) (r : Fin 384) (k : Fin 3072) :
    iblk m c 2 t (ix2 r k) = a1 m c (ix2 (⟨384 * t.val + r, by have := lt_N t; omega⟩ : Fin 4224) k) := by
  have h : iblk m c 2 t (ix2 r k) = (V m c main_v1 : FVec Ideal S4224x3072 .bf16) (ix2 (⟨384 * t.val + r, by have := lt_N t; omega⟩ : Fin 4224) k) := by
    blk_simp [iblk]
    blk_ext [idx t]
  rw [h, V_1]; rfl
theorem wg_at (t : Fin cfg0.N) (k : Fin 3072) (e : Fin 1024) :
    iblk m c 1 t (ix2 k e) = a5 m c (ix3 (⟨k / 768, by omega⟩ : Fin 4) (⟨k % 768, by omega⟩ : Fin 768) e) := by
  have h : iblk m c 1 t (ix2 k e) = (V m c main_v4 : FVec Ideal S3072x1024 .bf16) (ix2 k e) := by
    blk_simp [iblk]
    blk_ext [idx t]
  rw [h, V_4, weight_at]
theorem wu_at (t : Fin cfg0.N) (k : Fin 3072) (e : Fin 1024) :
    iblk m c 3 t (ix2 k e) = a6 m c (ix3 (⟨k / 768, by omega⟩ : Fin 4) (⟨k % 768, by omega⟩ : Fin 768) e) := by
  have h : iblk m c 3 t (ix2 k e) = (V m c main_v5 : FVec Ideal S3072x1024 .bf16) (ix2 k e) := by
    blk_simp [iblk]
    blk_ext [idx t]
  rw [h, V_5, weight_at]
theorem dh_at (t : Fin cfg0.N) (r : Fin 384) (k : Fin 1024) :
    iblk m c 4 t (ix2 r k) = a2 m c (ix2 (⟨384 * t.val + r, by have := lt_N t; omega⟩ : Fin 4224) k) := by
  have h : iblk m c 4 t (ix2 r k) = (V m c main_arg2 : FVec Ideal S4224x1024 .f32) (ix2 (⟨384 * t.val + r, by have := lt_N t; omega⟩ : Fin 4224) k) := by
    blk_simp [iblk]
    blk_ext [idx t]
  rw [h, V_main_arg2]
theorem h_at (t : Fin cfg0.N) (r : Fin 384) (k : Fin 1024) :
    iblk m c 5 t (ix2 r k) = a3 m c (ix2 (⟨384 * t.val + r, by have := lt_N t; omega⟩ : Fin 4224) k) := by
  have h : iblk m c 5 t (ix2 r k) = (V m c main_arg3 : FVec Ideal S4224x1024 .f32) (ix2 (⟨384 * t.val + r, by have := lt_N t; omega⟩ : Fin 4224) k) := by
    blk_simp [iblk]
    blk_ext [idx t]
  rw [h, V_main_arg3]
theorem g_at (t : Fin cfg0.N) (z : Fin 1) (k : Fin 1024) : iblk m c 6 t (ix2 z k) = a4 m c (ix1 k) := by
  have h : iblk m c 6 t (ix2 z k) = (V m c main_v6 : FVec Ideal S1x1024 .f32) (ix2 z k) := by
    blk_simp [iblk]
    blk_ext [idx t]
  rw [h, V_6, row_at]

theorem acc_at (t : Fin cfg0.N) (r : Fin 384) (e : Fin 1024) : k0_pay5 (iblk m c 0 t) (iblk m c 1 t) (iblk m c 2 t) (iblk m c 3 t) (ix2 r e)
    = acc (a0 m c) (a1 m c) (a5 m c) (a6 m c) (⟨384 * t.val + r, by have := lt_N t; omega⟩ : Fin 4224) e := by
  rw [pay5_at]
  unfold acc prod
  refine congrArg₂ (fun a b : EReal => a + b) (Finset.sum_congr rfl fun k _ => ?_) (Finset.sum_congr rfl fun k _ => ?_)
  · rw [da_at, wg_at]
  · rw [db_at, wu_at]

/-- What a point leaves in the first result's block. -/
theorem in_at (t : Fin cfg0.N) : (outsAt0 m c t.val t.isLt).1
    = k0_pay1 (k0_pay8 (iblk m c 0 t) (iblk m c 1 t) (iblk m c 2 t) (iblk m c 3 t) (iblk m c 5 t) (iblk m c 6 t)) (iblk m c 4 t) := by
  by_cases h0 : t.val % 11 = 0
  · rw [outsAt0_A m c t h0]
    dsimp only
    rw [in_A]
  · rw [outsAt0_B m c t h0]
    dsimp only
    rw [in_B]

/-- The kernel's first array. -/
theorem finalIn : (dats m 0 c).arrAt 7 cfg0.N = arrIn (a0 m c) (a1 m c) (a2 m c) (a3 m c) (a4 m c) (a5 m c) (a6 m c) := by
  refine (dats m 0 c).arrAt_eq_of_covers 7 (arrIn (a0 m c) (a1 m c) (a2 m c) (a3 m c) (a4 m c) (a5 m c) (a6 m c)) (by decide +kernel) fun t hf y => ?_
  blk_simp
  rw [after0_7, in_at]
  obtain ⟨r, e, rfl⟩ : ∃ (r : Fin 384) (e : Fin 1024), y = ix2 r e := ⟨y 0, y 1, eq_ix2 y⟩
  have h : k0_pay1 (k0_pay8 (iblk m c 0 t) (iblk m c 1 t) (iblk m c 2 t) (iblk m c 3 t) (iblk m c 5 t) (iblk m c 6 t)) (iblk m c 4 t) (ix2 r e)
      = arrIn (a0 m c) (a1 m c) (a2 m c) (a3 m c) (a4 m c) (a5 m c) (a6 m c) (ix2 (⟨384 * t.val + r, by have := lt_N t; omega⟩ : Fin 4224) e) := by
    rw [pay1_at]
    show _ = a2 m c _ + back (fun k => a3 m c (ix2 _ k)) (fun k => acc _ _ _ _ _ k * a4 m c (ix1 k)) e
    rw [pay8_at, dh_at]
    simp only [acc_at, h_at, g_at]
    rfl
  refine h.trans ?_
  blk_ext [idx t]

/-- A row's part of the gain's gradient, by the row's number. -/
def partN (e : Fin 1024) (n : ℕ) : EReal := if h : n < 4224 then part (a0 m c) (a1 m c) (a3 m c) (a5 m c) (a6 m c) e ⟨n, h⟩ else 0

/-- What one point adds. -/
theorem add_at (t : Fin cfg0.N) (A : FVec Ideal S1x1024 .f32) (z : Fin 1) (e : Fin 1024) :
    k0_pay4 (k0_pay9 (iblk m c 0 t) (iblk m c 1 t) (iblk m c 2 t) (iblk m c 3 t) (iblk m c 5 t)) A (ix2 z e)
      = A (ix2 z e) + ∑ r ∈ Finset.range 384, partN m c e (384 * t.val + r) := by
  rw [pay4_at, Finset.sum_range]
  refine congrArg (A (ix2 z e) + ·) (Finset.sum_congr rfl fun r _ => ?_)
  unfold partN
  rw [pay9_at, acc_at, dif_pos (show 384 * t.val + r.val < 4224 by have := lt_N t; omega)]
  simp only [h_at]
  rfl

/-- The running sum in the second result's block. -/
theorem gain_at (n : ℕ) (hn : n < cfg0.N) (z : Fin 1) (e : Fin 1024) :
    (outsAt0 m c n hn).2.1 (ix2 z e) = ∑ r ∈ Finset.range (384 * (n + 1)), partN m c e r := by
  induction n with
  | zero =>
    rw [outsAt0_A m c ⟨0, hn⟩ (Nat.zero_mod _)]
    dsimp only
    rw [gain_A, add_at, pay3_at, zero_add]
    simp
  | succ n ih =>
    have hN : n + 1 < 11 := lt_of_lt_of_eq hn N_eq
    rw [outsAt0_B m c ⟨n + 1, hn⟩ (by dsimp only; omega)]
    dsimp only
    rw [gain_B, add_at]
    have e1 : (outsAt0 m c (n + 1 - 1) (Nat.lt_of_le_of_lt (Nat.sub_le _ _) hn)).2.1 (ix2 z e) = ∑ r ∈ Finset.range (384 * (n + 1)), partN m c e r := ih (Nat.lt_of_succ_lt hn)
    rw [e1, Nat.mul_add 384 (n + 1) 1, Finset.sum_range_add]

theorem flush8 : ∀ t : Fin cfg0.N, (cfg0.win 8).flush t = true → t.val = 10 :=
  (by decide +kernel : ∀ t : Fin grid0.N, (cfg0.win 8).flush t = true → t.val = 10)

/-- The kernel's second array. -/
theorem finalGain : (dats m 0 c).arrAt 8 cfg0.N = arrGain (a0 m c) (a1 m c) (a3 m c) (a5 m c) (a6 m c) := by
  refine (dats m 0 c).arrAt_eq_of_covers 8 (arrGain (a0 m c) (a1 m c) (a3 m c) (a5 m c) (a6 m c)) (by decide +kernel) fun t hf y => ?_
  blk_simp
  rw [after0_8]
  obtain ⟨z, e, rfl⟩ : ∃ (z : Fin 1) (e : Fin 1024), y = ix2 z e := ⟨y 0, y 1, eq_ix2 y⟩
  have h : (outsAt0 m c t.val t.isLt).2.1 (ix2 z e) = arrGain (a0 m c) (a1 m c) (a3 m c) (a5 m c) (a6 m c) (ix2 z e) := by
    rw [gain_at, flush8 t hf, Finset.sum_range]
    show _ = ∑ r, part _ _ _ _ _ e r
    refine Finset.sum_congr rfl fun r _ => ?_
    unfold partN
    rw [dif_pos r.isLt]
  refine h.trans ?_
  blk_ext [idx t]
end Arrays

end Cert.Kernel4Ideal.Own

namespace Cert.Reference4Ideal.Own

open Idealize.ShloMosaic Idealize.ShloMosaic.TcCoe Cert.Reference4Ideal Cert.Reference4Ideal.Gen Cert.Kernel4Ideal.Own Cert.Rms
open scoped BigOperators

variable (d0 d1 : FVec Ideal S4224x3072 .f32) (dh h : FVec Ideal S4224x1024 .f32)
  (g : FVec Ideal S1024 .f32) (w0 w1 : FVec Ideal S4x768x1024 .f32)

/-- The reference's cotangent of the norm's result, and that times the gain. -/
abbrev refAcc : FVec Ideal S4224x1024 .f32 :=
  addf (Host.dotGeneral (F := Ideal) dot_S4224x3072_S1024x3072_S4224x1024_1_1_0_0_n_n none d1 (transpose S1024x3072 [1, 0] (shapeCast _ w1 shapeCasts_S4x768x1024_S3072x1024) transposes_S3072x1024_S1024x3072_1_0)) (Host.dotGeneral (F := Ideal) dot_S4224x3072_S1024x3072_S4224x1024_1_1_0_0_n_n none d0 (transpose S1024x3072 [1, 0] (shapeCast _ w0 shapeCasts_S4x768x1024_S3072x1024) transposes_S3072x1024_S1024x3072_1_0))
abbrev refC : FVec Ideal S4224x1024 .f32 :=
  mulf (refAcc d0 d1 w0 w1) (broadcastInDim S4224x1024 ![0, 1] bcast_S1x1024_S4224x1024_0_1 (broadcastInDim S1x1024 ![1] bcast_S1024_S1x1024_1 g))
/-- Its mean of squares, its reciprocal root, and its cotangent of a square, the last for any cotangent. -/
abbrev refMs : FVec Ideal S4224x1 .f32 :=
  addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))
abbrev refRs : FVec Ideal S4224x1024 .f32 :=
  broadcastInDim S4224x1024 ![0, 1] bcast_S4224x1_S4224x1024_0_1 (Host.rsqrt (refMs h))
abbrev refSq (C : FVec Ideal S4224x1024 .f32) : FVec Ideal S4224x1024 .f32 :=
  broadcastInDim S4224x1024 ![0] bcast_S4224_S4224x1024_0 (Host.reduceAdd (Host.divf (mulf (shapeCast _ (Host.reduceAdd (mulf h C) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (refMs h)) (refMs h)))) (broadcastInDim S4224x1 ![] bcast_S_S4224x1 (constant S_ .f32 0x44800000#32))) (constant S_ .f32 0x00000000#32) reducesTo_S4224x1_S4224_d1 h_S_)
/-- Its two results. -/
abbrev refIn : FVec Ideal S4224x1024 .f32 :=
  addf (addf (addf dh (mulf (refC d0 d1 g w0 w1) (refRs h))) (mulf h (refSq h (refC d0 d1 g w0 w1)))) (mulf (refSq h (refC d0 d1 g w0 w1)) h)
abbrev refGain (A : FVec Ideal S4224x1024 .f32) : FVec Ideal S1x1024 .f32 :=
  shapeCast _ (Host.reduceAdd (shapeCast _ (Host.reduceAdd (mulf (mulf h (refRs h)) A) (constant S_ .f32 0x00000000#32) reducesTo_S4224x1024_S1024_d0 h_S_) shapeCasts_S1024_S1x1024) (constant S_ .f32 0x00000000#32) reducesTo_S1x1024_S1024_d0 h_S_) shapeCasts_S1024_S1x1024

theorem refAcc_at (r : Fin 4224) (e : Fin 1024) : refAcc d0 d1 w0 w1 (ix2 r e) = acc d0 d1 w0 w1 r e := by
  have h : refAcc d0 d1 w0 w1 (ix2 r e) = (∑ k : Fin 3072, d1 (ix2 r k) * w1 (ix3 (⟨k / 768, by omega⟩ : Fin 4) (⟨k % 768, by omega⟩ : Fin 768) e))
      + ∑ k : Fin 3072, d0 (ix2 r k) * w0 (ix3 (⟨k / 768, by omega⟩ : Fin 4) (⟨k % 768, by omega⟩ : Fin 768) e) := by
    unfold refAcc
    pointwise []
  rw [h]
  exact add_comm _ _
theorem refC_at (r : Fin 4224) (e : Fin 1024) : refC d0 d1 g w0 w1 (ix2 r e) = acc d0 d1 w0 w1 r e * g (ix1 e) := by
  rw [← refAcc_at]
  show refAcc d0 d1 w0 w1 (ix2 r e) * _ = _
  refine congrArg (refAcc d0 d1 w0 w1 (ix2 r e) * ·) ?_
  pointwise []
theorem refRs_at (r : Fin 4224) (e : Fin 1024) : refRs h (ix2 r e) = rs fun k => h (ix2 r k) := by
  unfold rs ms refRs refMs
  pointwise []
theorem refSq_at (C : FVec Ideal S4224x1024 .f32) (r : Fin 4224) (e : Fin 1024) :
    refSq h C (ix2 r e) = sqCot (fun k => h (ix2 r k)) fun k => C (ix2 r k) := by
  unfold sqCot rs ms refSq refMs
  pointwise []
  simp

theorem refIn_eq : refIn d0 d1 dh h g w0 w1 = arrIn d0 d1 dh h g w0 w1 := by
  funext y
  obtain ⟨r, e, rfl⟩ : ∃ (r : Fin 4224) (e : Fin 1024), y = ix2 r e := ⟨y 0, y 1, eq_ix2 y⟩
  show dh (ix2 r e) + refC d0 d1 g w0 w1 (ix2 r e) * refRs h (ix2 r e) + h (ix2 r e) * refSq h (refC d0 d1 g w0 w1) (ix2 r e)
      + refSq h (refC d0 d1 g w0 w1) (ix2 r e) * h (ix2 r e)
    = dh (ix2 r e) + back (fun k => h (ix2 r k)) (fun k => acc d0 d1 w0 w1 r k * g (ix1 k)) e
  rw [refSq_at, refRs_at]
  simp only [refC_at]
  exact back_eq (fun k => h (ix2 r k)) (fun k => acc d0 d1 w0 w1 r k * g (ix1 k)) _ e

theorem refGain_eq : refGain h (refAcc d0 d1 w0 w1) = arrGain d0 d1 h w0 w1 := by
  funext y
  obtain ⟨z, e, rfl⟩ : ∃ (z : Fin 1) (e : Fin 1024), y = ix2 z e := ⟨y 0, y 1, eq_ix2 y⟩
  have hs (X : FVec Ideal S4224x1024 .f32) : (shapeCast _ (Host.reduceAdd (shapeCast _ (Host.reduceAdd X (constant S_ .f32 0x00000000#32) reducesTo_S4224x1024_S1024_d0 h_S_) shapeCasts_S1024_S1x1024) (constant S_ .f32 0x00000000#32) reducesTo_S1x1024_S1024_d0 h_S_) shapeCasts_S1024_S1x1024 : FVec Ideal S1x1024 .f32) (ix2 z e)
      = ∑ r : Fin 4224, X (ix2 r e) := by
    pointwise []
    simp
  refine (hs _).trans ?_
  show _ = ∑ r, part d0 d1 h w0 w1 e r
  refine Finset.sum_congr rfl fun r _ => ?_
  show h (ix2 r e) * refRs h (ix2 r e) * refAcc d0 d1 w0 w1 (ix2 r e) = _
  unfold part
  rw [refRs_at, refAcc_at, mul_comm]
end Cert.Reference4Ideal.Own

namespace Cert.Dn

open Idealize.ShloMosaic Idealize.ShloMosaic.TcCoe Idealize.SL.Sem

open Cert.Reference4Ideal in
theorem frame_reference (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2.2, sem_eq_zero_of_no_sems rfl r.2⟩) (Value.run m g)

/-- The kernel and the reference end with equal results. -/
theorem algebraic : Cert.algebraic_Kernel4Ideal_Reference4Ideal := by
  intro m g m' g' _ hagree
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N, ?_, ?_⟩
  · exact (θ_run _ _ _).mono (fun r h c => ⟨(h c).1, (h c).2.1, (h c).2.2.2⟩) (Cert.Kernel4Ideal.Value.run_blocks m g)
  · refine (θ_run _ _ _).mono (fun r h c => ⟨(h c).1.trans ?_, (h c).2.1.trans ?_, (h c).2.2⟩) (Cert.Reference4Ideal.Value.run m' g')
    · obtain ⟨e0, e1, e2, e3, e4, e5, e6⟩ := hagree c
      unfold Cert.Reference4Ideal.Value.res_main_v45
      rw [e0, e1, e2, e3, e4, e5, e6]
      exact (Cert.Reference4Ideal.Own.refIn_eq _ _ _ _ _ _ _).trans (Cert.Kernel4Ideal.Own.finalIn m c).symm
    · obtain ⟨e0, e1, e2, e3, e4, e5, e6⟩ := hagree c
      rw [e0, e1, e3, e5, e6]
      exact (Cert.Reference4Ideal.Own.refGain_eq _ _ _ _ _).trans (Cert.Kernel4Ideal.Own.finalGain m c).symm

end Cert.Dn

end
-- ==== Proof.Down.lean ====
/- The call that computes the down projection's gradient: what its body leaves at each grid point. -/
module

public import proofs.«01_k».proof.Proof.Gen.Kernel3Ideal.Value
public import proofs.«01_k».proof.Proof.Rows
public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.Kernel3Ideal.Own

open Idealize.ShloMosaic Idealize.ShloMosaic.TcCoe Cert.Kernel3Ideal Cert.Kernel3Ideal.Gen Cert.Rows
open scoped BigOperators

section Body
variable {F : FTy → Type} [FloatOps F] (c : Dev nD)
  (i : grid0.Coords)
  (arg2 : Memref sig .tc .vmem S1408x768 .bf16)
  (harg2 : arg2.IsWhole) (arg3 : Memref sig .tc .vmem S1408x1024 .bf16) (harg3 : arg3.IsWhole) (arg4 : Memref sig .tc .vmem S1x704x1024 .f32) (harg4 : arg4.IsWhole) (arg5 : Memref sig .tc .vmem S1x352x1024 .bf16) (harg5 : arg5.IsWhole) (arg6 : Memref sig .tc .vmem S768x1024 .f32) (harg6 : arg6.IsWhole)

/-- The first of the three row blocks leaves in the accumulator the running sum of products. -/
theorem sum_A (hc0 : cond0_0 i) (hc1 : ¬cond0_1 i) (x0 : Vec F S1408x768 .bf16) (x1 : Vec F S1408x1024 .bf16) :
    sout0_A_0 c i arg2 harg2 arg3 harg3 arg4 harg4 arg5 harg5 arg6 harg6 hc0 hc1 x0 x1 = k0_pay2 k0_pay1 x0 x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S768x1024) hz2, View.readCov_unit_zero (S := S768x1024) _ hz2]
  simp only [View.readAt_eq_ld, harg2.read_unread, harg3.read_unread, harg6.read_unread, View.ld_unit_zero (S := S1408x768) hz2, View.ld_unit_zero (S := S1408x1024) hz2, View.ld_unit_zero (S := S768x1024) hz2]

/-- The second leaves in the accumulator the running sum of products. -/
theorem sum_B (hc0 : ¬cond0_0 i) (hc1 : ¬cond0_1 i) (x0 : Vec F S1408x768 .bf16) (x1 : Vec F S1408x1024 .bf16) (xs0 : Vec F S768x1024 .f32) :
    sout0_B_0 c i arg2 harg2 arg3 harg3 arg4 harg4 arg5 harg5 arg6 harg6 hc0 hc1 x0 x1 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1408x768) hz2, View.ld_unit_zero (S := S1408x1024) hz2, View.ld_unit_zero (S := S768x1024) hz2]

/-- The third leaves in the result's block half of the accumulator's first rows. -/
theorem out_C (hc0 : ¬cond0_0 i) (hc1 : cond0_1 i) (x0 : Vec F S1408x768 .bf16) (x1 : Vec F S1408x1024 .bf16) (xs0 : Vec F S768x1024 .f32) :
    out0_C_2 c i arg2 harg2 arg3 harg3 arg4 harg4 arg5 harg5 arg6 harg6 hc0 hc1 x0 x1 xs0 = k0_pay4 (k0_pay2 xs0 x0 x1) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S768x1024) _ hz2]
  simp only [View.readAt_eq_ld, harg2.read_unread, harg3.read_unread, harg6.read_unread, View.ld_unit_zero (S := S1408x768) hz2, View.ld_unit_zero (S := S1408x1024) hz2, View.ld_unit_zero (S := S768x1024) hz2]
end Body

section Value
variable (m : (ℓ : Loc nD τ sig) → Buf (Elt Ideal) ℓ) (c : Dev nD)

/-- One product added to an accumulator, at an index. -/
theorem pay2_at (A : FVec Ideal S768x1024 .f32) (x0 : Vec Ideal S1408x768 .bf16) (x1 : Vec Ideal S1408x1024 .bf16)
    (r : Fin 768) (e : Fin 1024) :
    k0_pay2 A x0 x1 (ix2 r e) = A (ix2 r e) + ∑ k : Fin 1408, (x0 (ix2 k r) : EReal) * x1 (ix2 k e) := by
  pointwise [k0_pay2]

theorem pay1_at (r : Fin 768) (e : Fin 1024) : (k0_pay1 (F := Ideal) (ix2 r e) : EReal) = 0 := by
  pointwise [k0_pay1]

theorem pay4_at (A : FVec Ideal S768x1024 .f32) (a : Fin 1) (r : Fin 704) (e : Fin 1024) :
    k0_pay4 A (ix3 a r e) = Ideal.ofBits .f32 0x3F000000#32 * A (ix2 (⟨r, by omega⟩ : Fin 768) e) := by
  pointwise [k0_pay4, k0_pay3]

theorem idx : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem N_eq : cfg0.N = 12 := N_0

/-- The windows' blocks, read from the arguments. -/
theorem s_at (t : Fin cfg0.N) (k : Fin 1408) (r : Fin 768) :
    iblk m c 0 t (ix2 k r) = (V m c main_v0 : FVec Ideal S4224x3072 .bf16)
      (ix2 (⟨1408 * (t.val % 3) + k, by omega⟩ : Fin 4224) (⟨t.val / 3 * 768 + r, by have := lt_of_lt_of_eq t.isLt N_eq; omega⟩ : Fin 3072)) := by
  blk_simp [iblk]
  blk_ext [idx t]
theorem dh_at (t : Fin cfg0.N) (k : Fin 1408) (e : Fin 1024) :
    iblk m c 1 t (ix2 k e) = (V m c main_v1 : FVec Ideal S4224x1024 .bf16)
      (ix2 (⟨1408 * (t.val % 3) + k, by omega⟩ : Fin 4224) e) := by
  blk_simp [iblk]
  blk_ext [idx t]
theorem V_s : V m c main_v0 = (truncf .bf16 (m ((c : Thread nD τ).loc main_arg0) : FVec Ideal S4224x3072 .f32) bitsLt_bf16_f32 : FVec Ideal S4224x3072 .bf16) := by
  entry_read; rfl
theorem V_dh : V m c main_v1 = (truncf .bf16 (m ((c : Thread nD τ).loc main_arg1) : FVec Ideal S4224x1024 .f32) bitsLt_bf16_f32 : FVec Ideal S4224x1024 .bf16) := by
  entry_read; rfl

/-- The arguments, as arrays. -/
abbrev a0 : FVec Ideal S4224x3072 .f32 := m ((c : Thread nD τ).loc main_arg0)
abbrev a1 : FVec Ideal S4224x1024 .f32 := m ((c : Thread nD τ).loc main_arg1)

/-- The product of one row's entries, at a place of the result. -/
def part (x0 : FVec Ideal S4224x3072 .f32) (x1 : FVec Ideal S4224x1024 .f32) (j : Fin 4) (r : Fin 768) (e : Fin 1024) (k : Fin 4224) : EReal :=
  x0 (ix2 k (⟨j * 768 + r, by omega⟩ : Fin 3072)) * x1 (ix2 k e)

/-- What one point adds to the accumulator. -/
theorem add_at (t : Fin cfg0.N) (j : Fin 4) (b : Fin 3) (ht : t.val = 3 * j + b) (A : FVec Ideal S768x1024 .f32) (r : Fin 768) (e : Fin 1024) :
    k0_pay2 A (iblk m c 0 t) (iblk m c 1 t) (ix2 r e)
      = A (ix2 r e) + ∑ k : Fin 1408, part (a0 m c) (a1 m c) j r e ⟨1408 * b + k, by omega⟩ := by
  rw [pay2_at]
  refine congrArg (A (ix2 r e) + ·) (Finset.sum_congr rfl fun k _ => ?_)
  rw [s_at, dh_at, V_s, V_dh]
  have h1 : t.val % 3 = b := by omega
  have h2 : t.val / 3 = j := by omega
  simp only [h1, h2]
  rfl

theorem le_N (j : Fin 4) (b : Fin 3) : 3 * j.val + b.val < cfg0.N := lt_of_lt_of_eq (by omega) N_eq.symm

theorem step_A (t : Fin cfg0.N) (h0 : t.val % 3 = 0) (h1 : ¬t.val % 3 = 2) :
    (outsAt0 m c t.val t.isLt).2.2 = k0_pay2 k0_pay1 (iblk m c 0 t) (iblk m c 1 t) := by
  rw [outsAt0_A m c t h0 h1]
  dsimp only
  rw [sum_A]
theorem step_B (t : Fin cfg0.N) (h0 : ¬t.val % 3 = 0) (h1 : ¬t.val % 3 = 2) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_B m c t h0 h1]
  dsimp only
  rw [sum_B]
theorem step_C (t : Fin cfg0.N) (h0 : ¬t.val % 3 = 0) (h1 : t.val % 3 = 2) :
    (outsAt0 m c t.val t.isLt).1
      = k0_pay4 (k0_pay2 (outsAt0 m c (t.val - 1) (Nat.lt_of_le_of_lt (Nat.sub_le _ _) t.isLt)).2.2 (iblk m c 0 t) (iblk m c 1 t)) := by
  rw [outsAt0_C m c t h0 h1]
  dsimp only
  rw [out_C]

/-- The result's block, once its last point has run. -/
theorem block (j : Fin 4) (a : Fin 1) (r : Fin 704) (e : Fin 1024) :
    (outsAt0 m c (3 * j + 2) (le_N j 2)).1 (ix3 a r e)
      = Ideal.ofBits .f32 0x3F000000#32 * ∑ k, part (a0 m c) (a1 m c) j ⟨r, by omega⟩ e k := by
  have s0 : (outsAt0 m c (3 * j + 0) (le_N j 0)).2.2 = _ := step_A m c ⟨3 * j + 0, le_N j 0⟩ (by dsimp only; omega) (by dsimp only; omega)
  have s1 : (outsAt0 m c (3 * j + 1) (le_N j 1)).2.2 = k0_pay2 (outsAt0 m c (3 * j + 0) (le_N j 0)).2.2 _ _ :=
    step_B m c ⟨3 * j + 1, le_N j 1⟩ (by dsimp only; omega) (by dsimp only; omega)
  have s2 : (outsAt0 m c (3 * j + 2) (le_N j 2)).1 = k0_pay4 (k0_pay2 (outsAt0 m c (3 * j + 1) (le_N j 1)).2.2 _ _) :=
    step_C m c ⟨3 * j + 2, le_N j 2⟩ (by dsimp only; omega) (by dsimp only; omega)
  rw [s2, s1, s0, pay4_at, add_at m c _ j 2 rfl, add_at m c _ j 1 rfl, add_at m c _ j 0 rfl, pay1_at, zero_add, sum_rows]
  rfl

/-- The kernel's array, at an index. -/
theorem kernel_at (j : Fin 4) (r : Fin 704) (e : Fin 1024) :
    Value.G2 m c (ix3 j r e) = Ideal.ofBits .f32 0x3F000000#32 * ∑ k, part (a0 m c) (a1 m c) j ⟨r, by omega⟩ e k := by
  have hp : Value.pt2Of (ix3 j r e) = 3 * j.val + 2 := by
    show 3 * (1 * (j.val / 1 - 0) + 1 * (r.val / 704 - 0) + 1 * (e.val / 1024 - 0)) + 2 = _
    omega
  have hl : Value.loc2Of (ix3 j r e) = ix3 (0 : Fin 1) r e := by
    funext a; apply Fin.ext
    match a with
    | ⟨0, _⟩ => show j.val % 1 = 0; omega
    | ⟨1, _⟩ => show r.val % 704 = r.val; omega
    | ⟨2, _⟩ => show e.val % 1024 = e.val; omega
  unfold Value.G2
  rw [dif_pos (hp ▸ le_N j 2), hl, Value.fold0_congr m c _ _ (3 * j + 2) (by have := le_N j 2; omega) hp,
    ← Value.outsAt0_sweep m c (3 * j + 2) (le_N j 2)]
  exact block m c j 0 r e

/-- The reference's array, at an index. -/
theorem reference_at (x0 : FVec Ideal Cert.Reference3Ideal.S4224x3072 .f32) (x1 : FVec Ideal Cert.Reference3Ideal.S4224x1024 .f32)
    (j : Fin 4) (r : Fin 704) (e : Fin 1024) :
    (extractStridedSlice Cert.Reference3Ideal.S4x704x1024 ![0, 0, 0] (shapeCast Cert.Reference3Ideal.S4x768x1024 (transpose Cert.Reference3Ideal.S3072x1024 [1, 0] (Host.dotGeneral (F := Ideal) Cert.Reference3Ideal.dot_S4224x1024_S4224x3072_S1024x3072_0_0_1_1_n_n none (mulf (broadcastInDim Cert.Reference3Ideal.S4224x1024 ![] Cert.Reference3Ideal.Gen.bcast_S_S4224x1024 (constant Cert.Reference3Ideal.S_ .f32 0x3F000000#32)) x1) x0) Cert.Reference3Ideal.Gen.transposes_S1024x3072_S3072x1024_1_0) Cert.Reference3Ideal.Gen.shapeCasts_S3072x1024_S4x768x1024) Cert.Reference3Ideal.Gen.slices_S4x768x1024_S4x704x1024_0_0_0 : FVec Ideal Cert.Reference3Ideal.S4x704x1024 .f32) (ix3 j r e)
      = ∑ k : Fin 4224, (Ideal.ofBits .f32 0x3F000000#32 * x1 (ix2 k e)) * x0 (ix2 k (⟨j * 768 + r, by omega⟩ : Fin 3072)) := by
  pointwise []

/-- The two arrays are one. -/
theorem arrays_eq (x0 : FVec Ideal S4224x3072 .f32) (x1 : FVec Ideal S4224x1024 .f32) (j : Fin 4) (r : Fin 704) (e : Fin 1024) :
    ∑ k : Fin 4224, (Ideal.ofBits .f32 0x3F000000#32 * x1 (ix2 k e)) * x0 (ix2 k (⟨j * 768 + r, by omega⟩ : Fin 3072))
      = Ideal.ofBits .f32 0x3F000000#32 * ∑ k, part x0 x1 j ⟨r, by omega⟩ e k := by
  rw [half_sum]
  refine Finset.sum_congr rfl fun k _ => ?_
  unfold part
  rw [mul_assoc, mul_comm (x1 _)]
end Value

end Cert.Kernel3Ideal.Own

namespace Cert.Down

open Idealize.ShloMosaic Idealize.ShloMosaic.TcCoe Idealize.SL.Sem

open Cert.Reference3Ideal in
theorem frame_reference (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Value.run m g)

/-- The kernel and the reference end with equal results. -/
theorem algebraic : Cert.algebraic_Kernel3Ideal_Reference3Ideal := by
  intro m g m' g' _ hagree
  refine ⟨fun c => Cert.Kernel3Ideal.Value.G2 m c, ?_, ?_⟩
  · exact (θ_run _ _ _).mono (fun r h c => ⟨(h c).1, (h c).2.2⟩) (Cert.Kernel3Ideal.Value.run m g)
  · refine (θ_run _ _ _).mono (fun r h c => ⟨(h c).1.trans ?_, (h c).2⟩) (Cert.Reference3Ideal.Value.run m' g')
    rw [(hagree c).1, (hagree c).2]
    funext y
    rw [eq_ix3 y]
    exact (Cert.Kernel3Ideal.Own.reference_at _ _ _ _ _).trans ((Cert.Kernel3Ideal.Own.arrays_eq _ _ _ _ _).trans (Cert.Kernel3Ideal.Own.kernel_at m c _ _ _).symm)

end Cert.Down

end
-- ==== Proof.Up.lean ====
/- The call that computes the gradients of the gate's and the up projection's weights: what its body leaves at each grid
   point, its results at an index, and the reference's. -/
module

public import proofs.«01_k».proof.Proof.Gen.Kernel5Ideal.Value
public import proofs.«01_k».proof.Proof.Rows
public import proofs.«01_k».proof.Proof.Gen.Reference5Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.Kernel5Ideal.Own

open Idealize.ShloMosaic Idealize.ShloMosaic.TcCoe Cert.Kernel5Ideal Cert.Kernel5Ideal.Gen Cert.Rows
open scoped BigOperators

section Body
variable {F : FTy → Type} [FloatOps F] (c : Dev nD)
  (i : grid0.Coords)
  (arg2 : Memref sig .tc .vmem S1408x1024 .bf16)
  (harg2 : arg2.IsWhole) (arg3 : Memref sig .tc .vmem S1408x768 .bf16) (harg3 : arg3.IsWhole) (arg4 : Memref sig .tc .vmem S1408x768 .bf16) (harg4 : arg4.IsWhole) (arg5 : Memref sig .tc .vmem S1x704x1024 .f32) (harg5 : arg5.IsWhole) (arg6 : Memref sig .tc .vmem S1x704x1024 .f32) (harg6 : arg6.IsWhole) (arg7 : Memref sig .tc .vmem S1x352x1024 .bf16) (harg7 : arg7.IsWhole) (arg8 : Memref sig .tc .vmem S1x352x1024 .bf16) (harg8 : arg8.IsWhole) (arg9 : Memref sig .tc .vmem S768x1024 .f32) (harg9 : arg9.IsWhole) (arg10 : Memref sig .tc .vmem S768x1024 .f32) (harg10 : arg10.IsWhole)

/-- The first of the three row blocks leaves in the gate's accumulator the running sum of products. -/
theorem sum_A0 (hc0 : cond0_0 i) (hc1 : ¬cond0_1 i) (x0 : Vec F S1408x1024 .bf16) (x1 : Vec F S1408x768 .bf16) (x2 : Vec F S1408x768 .bf16) :
    sout0_A_0 c i arg2 harg2 arg3 harg3 arg4 harg4 arg5 harg5 arg6 harg6 arg7 harg7 arg8 harg8 arg9 harg9 arg10 harg10 hc0 hc1 x0 x1 x2 = k0_pay3 k0_pay1 x1 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S768x1024) hz2, View.readCov_unit_zero (S := S768x1024) _ hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

/-- The second leaves in the gate's accumulator the running sum of products. -/
theorem sum_B0 (hc0 : ¬cond0_0 i) (hc1 : ¬cond0_1 i) (x0 : Vec F S1408x1024 .bf16) (x1 : Vec F S1408x768 .bf16) (x2 : Vec F S1408x768 .bf16) (xs0 : Vec F S768x1024 .f32) (xs1 : Vec F S768x1024 .f32) :
    sout0_B_0 c i arg2 harg2 arg3 harg3 arg4 harg4 arg5 harg5 arg6 harg6 arg7 harg7 arg8 harg8 arg9 harg9 arg10 harg10 hc0 hc1 x0 x1 x2 xs0 xs1 = k0_pay3 xs0 x1 x0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  rw [View.canon_unit_zero hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

/-- The third leaves in the gate's result the accumulator's first rows. -/
theorem out_C0 (hc0 : ¬cond0_0 i) (hc1 : cond0_1 i) (x0 : Vec F S1408x1024 .bf16) (x1 : Vec F S1408x768 .bf16) (x2 : Vec F S1408x768 .bf16) (xs0 : Vec F S768x1024 .f32) (xs1 : Vec F S768x1024 .f32) :
    out0_C_3 c i arg2 harg2 arg3 harg3 arg4 harg4 arg5 harg5 arg6 harg6 arg7 harg7 arg8 harg8 arg9 harg9 arg10 harg10 hc0 hc1 x0 x1 x2 xs0 xs1 = k0_pay5 (k0_pay3 xs0 x1 x0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hz3, View.readCov_unit_zero (S := S768x1024) _ hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

/-- The first of the three row blocks leaves in the up projection's accumulator the running sum of products. -/
theorem sum_A1 (hc0 : cond0_0 i) (hc1 : ¬cond0_1 i) (x0 : Vec F S1408x1024 .bf16) (x1 : Vec F S1408x768 .bf16) (x2 : Vec F S1408x768 .bf16) :
    sout0_A_1 c i arg2 harg2 arg3 harg3 arg4 harg4 arg5 harg5 arg6 harg6 arg7 harg7 arg8 harg8 arg9 harg9 arg10 harg10 hc0 hc1 x0 x1 x2 = k0_pay4 k0_pay2 x2 x0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S768x1024) hz2, View.readCov_unit_zero (S := S768x1024) _ hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

/-- The second leaves in the up projection's accumulator the running sum of products. -/
theorem sum_B1 (hc0 : ¬cond0_0 i) (hc1 : ¬cond0_1 i) (x0 : Vec F S1408x1024 .bf16) (x1 : Vec F S1408x768 .bf16) (x2 : Vec F S1408x768 .bf16) (xs0 : Vec F S768x1024 .f32) (xs1 : Vec F S768x1024 .f32) :
    sout0_B_1 c i arg2 harg2 arg3 harg3 arg4 harg4 arg5 harg5 arg6 harg6 arg7 harg7 arg8 harg8 arg9 harg9 arg10 harg10 hc0 hc1 x0 x1 x2 xs0 xs1 = k0_pay4 xs1 x2 x0 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  rw [View.canon_unit_zero hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

/-- The third leaves in the up projection's result the accumulator's first rows. -/
theorem out_C1 (hc0 : ¬cond0_0 i) (hc1 : cond0_1 i) (x0 : Vec F S1408x1024 .bf16) (x1 : Vec F S1408x768 .bf16) (x2 : Vec F S1408x768 .bf16) (xs0 : Vec F S768x1024 .f32) (xs1 : Vec F S768x1024 .f32) :
    out0_C_4 c i arg2 harg2 arg3 harg3 arg4 harg4 arg5 harg5 arg6 harg6 arg7 harg7 arg8 harg8 arg9 harg9 arg10 harg10 hc0 hc1 x0 x1 x2 xs0 xs1 = k0_pay7 (k0_pay4 xs1 x2 x0) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  rw [View.canon_unit_zero hz3, View.readCov_unit_zero (S := S768x1024) _ hz2]
  simp only [View.readAt_eq_ld, harg2.read_unread, harg3.read_unread, harg4.read_unread, harg9.read_unread, harg10.read_unread,
    View.ld_unit_zero (S := S1408x768) hz2, View.ld_unit_zero (S := S1408x1024) hz2, View.ld_unit_zero (S := S768x1024) hz2]

end Body

section Value
variable (m : (ℓ : Loc nD τ sig) → Buf (Elt Ideal) ℓ) (c : Dev nD)

/-- One product added to an accumulator, at an index. -/
theorem pay3_at (A : FVec Ideal S768x1024 .f32) (x0 : Vec Ideal S1408x768 .bf16) (x1 : Vec Ideal S1408x1024 .bf16)
    (r : Fin 768) (e : Fin 1024) :
    k0_pay3 A x0 x1 (ix2 r e) = A (ix2 r e) + ∑ k : Fin 1408, (x0 (ix2 k r) : EReal) * x1 (ix2 k e) := by
  pointwise [k0_pay3]

theorem pay1_at (r : Fin 768) (e : Fin 1024) : (k0_pay1 (F := Ideal) (ix2 r e) : EReal) = 0 := by
  pointwise [k0_pay1]

theorem pay5_at (A : FVec Ideal S768x1024 .f32) (a : Fin 1) (r : Fin 704) (e : Fin 1024) :
    k0_pay5 A (ix3 a r e) = A (ix2 (⟨r, by omega⟩ : Fin 768) e) := by
  pointwise [k0_pay5]

/-- One product added to an accumulator, at an index. -/
theorem pay4_at (A : FVec Ideal S768x1024 .f32) (x0 : Vec Ideal S1408x768 .bf16) (x1 : Vec Ideal S1408x1024 .bf16)
    (r : Fin 768) (e : Fin 1024) :
    k0_pay4 A x0 x1 (ix2 r e) = A (ix2 r e) + ∑ k : Fin 1408, (x0 (ix2 k r) : EReal) * x1 (ix2 k e) := by
  pointwise [k0_pay4]

theorem pay2_at (r : Fin 768) (e : Fin 1024) : (k0_pay2 (F := Ideal) (ix2 r e) : EReal) = 0 := by
  pointwise [k0_pay2]

theorem pay7_at (A : FVec Ideal S768x1024 .f32) (a : Fin 1) (r : Fin 704) (e : Fin 1024) :
    k0_pay7 A (ix3 a r e) = A (ix2 (⟨r, by omega⟩ : Fin 768) e) := by
  pointwise [k0_pay7]

theorem idx : ∀ t : Fin cfg0.N, win0_0.index t (0 : Fin 2) = t.val % 3 ∧ win0_0.index t (1 : Fin 2) = 0
    ∧ win0_1.index t (0 : Fin 2) = t.val % 3 ∧ win0_1.index t (1 : Fin 2) = t.val / 3
    ∧ win0_2.index t (0 : Fin 2) = t.val % 3 ∧ win0_2.index t (1 : Fin 2) = t.val / 3 :=
  (by decide +kernel : ∀ t : Fin grid0.N, _)

theorem N_eq : cfg0.N = 12 := N_0
theorem le_N (j : Fin 4) (b : Fin 3) : 3 * j.val + b.val < cfg0.N := lt_of_lt_of_eq (by omega) N_eq.symm

/-- The arguments, as arrays. -/
abbrev a0 : FVec Ideal S4224x1024 .f32 := m ((c : Thread nD τ).loc main_arg0)
abbrev a1 : FVec Ideal S4224x3072 .f32 := m ((c : Thread nD τ).loc main_arg1)
abbrev a2 : FVec Ideal S4224x3072 .f32 := m ((c : Thread nD τ).loc main_arg2)

theorem V_n : V m c main_v0 = (truncf .bf16 (a0 m c) bitsLt_bf16_f32 : FVec Ideal S4224x1024 .bf16) := by
  entry_read; rfl
theorem V_da : V m c main_v1 = (truncf .bf16 (a1 m c) bitsLt_bf16_f32 : FVec Ideal S4224x3072 .bf16) := by
  entry_read; rfl
theorem V_db : V m c main_v2 = (truncf .bf16 (a2 m c) bitsLt_bf16_f32 : FVec Ideal S4224x3072 .bf16) := by
  entry_read; rfl

/-- The windows' blocks, read from the arguments. -/
theorem n_at (t : Fin cfg0.N) (k : Fin 1408) (e : Fin 1024) :
    iblk m c 0 t (ix2 k e) = (V m c main_v0 : FVec Ideal S4224x1024 .bf16) (ix2 (⟨1408 * (t.val % 3) + k, by omega⟩ : Fin 4224) e) := by
  blk_simp [iblk]
  blk_ext [idx t]
theorem da_at (t : Fin cfg0.N) (k : Fin 1408) (r : Fin 768) :
    iblk m c 1 t (ix2 k r) = (V m c main_v1 : FVec Ideal S4224x3072 .bf16)
      (ix2 (⟨1408 * (t.val % 3) + k, by omega⟩ : Fin 4224) (⟨t.val / 3 * 768 + r, by have := lt_of_lt_of_eq t.isLt N_eq; omega⟩ : Fin 3072)) := by
  blk_simp [iblk]
  blk_ext [idx t]
theorem db_at (t : Fin cfg0.N) (k : Fin 1408) (r : Fin 768) :
    iblk m c 2 t (ix2 k r) = (V m c main_v2 : FVec Ideal S4224x3072 .bf16)
      (ix2 (⟨1408 * (t.val % 3) + k, by omega⟩ : Fin 4224) (⟨t.val / 3 * 768 + r, by have := lt_of_lt_of_eq t.isLt N_eq; omega⟩ : Fin 3072)) := by
  blk_simp [iblk]
  blk_ext [idx t]

/-- The product of one row's entries, at a place of the result. -/
def part (x : FVec Ideal S4224x3072 .f32) (n : FVec Ideal S4224x1024 .f32) (j : Fin 4) (r : Fin 768) (e : Fin 1024) (k : Fin 4224) : EReal :=
  x (ix2 k (⟨j * 768 + r, by omega⟩ : Fin 3072)) * n (ix2 k e)

/-- What one point adds to the gate's accumulator. -/
theorem add0_at (t : Fin cfg0.N) (j : Fin 4) (b : Fin 3) (ht : t.val = 3 * j + b) (A : FVec Ideal S768x1024 .f32) (r : Fin 768) (e : Fin 1024) :
    k0_pay3 A (iblk m c 1 t) (iblk m c 0 t) (ix2 r e)
      = A (ix2 r e) + ∑ k : Fin 1408, part (a1 m c) (a0 m c) j r e ⟨1408 * b + k, by omega⟩ := by
  rw [pay3_at]
  refine congrArg (A (ix2 r e) + ·) (Finset.sum_congr rfl fun k _ => ?_)
  rw [da_at, n_at, V_da, V_n]
  have h1 : t.val % 3 = b := by omega
  have h2 : t.val / 3 = j := by omega
  simp only [h1, h2]
  rfl

theorem step_A0 (t : Fin cfg0.N) (h0 : t.val % 3 = 0) (h1 : ¬t.val % 3 = 2) :
    (outsAt0 m c t.val t.isLt).2.2.2.2.1 = k0_pay3 k0_pay1 (iblk m c 1 t) (iblk m c 0 t) := by
  rw [outsAt0_A m c t h0 h1]
  dsimp only
  rw [sum_A0]
theorem step_B0 (t : Fin cfg0.N) (h0 : ¬t.val % 3 = 0) (h1 : ¬t.val % 3 = 2) :
    (outsAt0 m c t.val t.isLt).2.2.2.2.1
      = k0_pay3 (outsAt0 m c (t.val - 1) (Nat.lt_of_le_of_lt (Nat.sub_le _ _) t.isLt)).2.2.2.2.1 (iblk m c 1 t) (iblk m c 0 t) := by
  rw [outsAt0_B m c t h0 h1]
  dsimp only
  rw [sum_B0]
theorem step_C0 (t : Fin cfg0.N) (h0 : ¬t.val % 3 = 0) (h1 : t.val % 3 = 2) :
    (outsAt0 m c t.val t.isLt).1
      = k0_pay5 (k0_pay3 (outsAt0 m c (t.val - 1) (Nat.lt_of_le_of_lt (Nat.sub_le _ _) t.isLt)).2.2.2.2.1 (iblk m c 1 t) (iblk m c 0 t)) := by
  rw [outsAt0_C m c t h0 h1]
  dsimp only
  rw [out_C0]

/-- The gate's block, once its last point has run. -/
theorem block0 (j : Fin 4) (a : Fin 1) (r : Fin 704) (e : Fin 1024) :
    (outsAt0 m c (3 * j + 2) (le_N j 2)).1 (ix3 a r e) = ∑ k, part (a1 m c) (a0 m c) j ⟨r, by omega⟩ e k := by
  have s0 : (outsAt0 m c (3 * j + 0) (le_N j 0)).2.2.2.2.1 = _ := step_A0 m c ⟨3 * j + 0, le_N j 0⟩ (by dsimp only; omega) (by dsimp only; omega)
  have s1 : (outsAt0 m c (3 * j + 1) (le_N j 1)).2.2.2.2.1 = k0_pay3 (outsAt0 m c (3 * j + 0) (le_N j 0)).2.2.2.2.1 _ _ :=
    step_B0 m c ⟨3 * j + 1, le_N j 1⟩ (by dsimp only; omega) (by dsimp only; omega)
  have s2 : (outsAt0 m c (3 * j + 2) (le_N j 2)).1 = k0_pay5 (k0_pay3 (outsAt0 m c (3 * j + 1) (le_N j 1)).2.2.2.2.1 _ _) :=
    step_C0 m c ⟨3 * j + 2, le_N j 2⟩ (by dsimp only; omega) (by dsimp only; omega)
  rw [s2, s1, s0, pay5_at, add0_at m c _ j 2 rfl, add0_at m c _ j 1 rfl, add0_at m c _ j 0 rfl, pay1_at, zero_add, sum_rows]
  rfl

/-- The kernel's array of the gate, at an index. -/
theorem kernel0_at (j : Fin 4) (r : Fin 704) (e : Fin 1024) :
    Value.G3 m c (ix3 j r e) = ∑ k, part (a1 m c) (a0 m c) j ⟨r, by omega⟩ e k := by
  have hp : Value.pt3Of (ix3 j r e) = 3 * j.val + 2 := by
    show 3 * (1 * (j.val / 1 - 0) + 1 * (r.val / 704 - 0) + 1 * (e.val / 1024 - 0)) + 2 = _
    omega
  have hl : Value.loc3Of (ix3 j r e) = ix3 (0 : Fin 1) r e := by
    funext a; apply Fin.ext
    match a with
    | ⟨0, _⟩ => show j.val % 1 = 0; omega
    | ⟨1, _⟩ => show r.val % 704 = r.val; omega
    | ⟨2, _⟩ => show e.val % 1024 = e.val; omega
  unfold Value.G3
  rw [dif_pos (hp ▸ le_N j 2), hl, Value.fold0_congr m c _ _ (3 * j + 2) (by have := le_N j 2; omega) hp,
    ← Value.outsAt0_sweep m c (3 * j + 2) (le_N j 2)]
  exact block0 m c j 0 r e

/-- What one point adds to the up projection's accumulator. -/
theorem add1_at (t : Fin cfg0.N) (j : Fin 4) (b : Fin 3) (ht : t.val = 3 * j + b) (A : FVec Ideal S768x1024 .f32) (r : Fin 768) (e : Fin 1024) :
    k0_pay4 A (iblk m c 2 t) (iblk m c 0 t) (ix2 r e)
      = A (ix2 r e) + ∑ k : Fin 1408, part (a2 m c) (a0 m c) j r e ⟨1408 * b + k, by omega⟩ := by
  rw [pay4_at]
  refine congrArg (A (ix2 r e) + ·) (Finset.sum_congr rfl fun k _ => ?_)
  rw [db_at, n_at, V_db, V_n]
  have h1 : t.val % 3 = b := by omega
  have h2 : t.val / 3 = j := by omega
  simp only [h1, h2]
  rfl

theorem step_A1 (t : Fin cfg0.N) (h0 : t.val % 3 = 0) (h1 : ¬t.val % 3 = 2) :
    (outsAt0 m c t.val t.isLt).2.2.2.2.2 = k0_pay4 k0_pay2 (iblk m c 2 t) (iblk m c 0 t) := by
  rw [outsAt0_A m c t h0 h1]
  dsimp only
  rw [sum_A1]
theorem step_B1 (t : Fin cfg0.N) (h0 : ¬t.val % 3 = 0) (h1 : ¬t.val % 3 = 2) :
    (outsAt0 m c t.val t.isLt).2.2.2.2.2
      = k0_pay4 (outsAt0 m c (t.val - 1) (Nat.lt_of_le_of_lt (Nat.sub_le _ _) t.isLt)).2.2.2.2.2 (iblk m c 2 t) (iblk m c 0 t) := by
  rw [outsAt0_B m c t h0 h1]
  dsimp only
  rw [sum_B1]
theorem step_C1 (t : Fin cfg0.N) (h0 : ¬t.val % 3 = 0) (h1 : t.val % 3 = 2) :
    (outsAt0 m c t.val t.isLt).2.1
      = k0_pay7 (k0_pay4 (outsAt0 m c (t.val - 1) (Nat.lt_of_le_of_lt (Nat.sub_le _ _) t.isLt)).2.2.2.2.2 (iblk m c 2 t) (iblk m c 0 t)) := by
  rw [outsAt0_C m c t h0 h1]
  dsimp only
  rw [out_C1]

/-- The up projection's block, once its last point has run. -/
theorem block1 (j : Fin 4) (a : Fin 1) (r : Fin 704) (e : Fin 1024) :
    (outsAt0 m c (3 * j + 2) (le_N j 2)).2.1 (ix3 a r e) = ∑ k, part (a2 m c) (a0 m c) j ⟨r, by omega⟩ e k := by
  have s0 : (outsAt0 m c (3 * j + 0) (le_N j 0)).2.2.2.2.2 = _ := step_A1 m c ⟨3 * j + 0, le_N j 0⟩ (by dsimp only; omega) (by dsimp only; omega)
  have s1 : (outsAt0 m c (3 * j + 1) (le_N j 1)).2.2.2.2.2 = k0_pay4 (outsAt0 m c (3 * j + 0) (le_N j 0)).2.2.2.2.2 _ _ :=
    step_B1 m c ⟨3 * j + 1, le_N j 1⟩ (by dsimp only; omega) (by dsimp only; omega)
  have s2 : (outsAt0 m c (3 * j + 2) (le_N j 2)).2.1 = k0_pay7 (k0_pay4 (outsAt0 m c (3 * j + 1) (le_N j 1)).2.2.2.2.2 _ _) :=
    step_C1 m c ⟨3 * j + 2, le_N j 2⟩ (by dsimp only; omega) (by dsimp only; omega)
  rw [s2, s1, s0, pay7_at, add1_at m c _ j 2 rfl, add1_at m c _ j 1 rfl, add1_at m c _ j 0 rfl, pay2_at, zero_add, sum_rows]
  rfl

/-- The kernel's array of the up projection, at an index. -/
theorem kernel1_at (j : Fin 4) (r : Fin 704) (e : Fin 1024) :
    Value.G4 m c (ix3 j r e) = ∑ k, part (a2 m c) (a0 m c) j ⟨r, by omega⟩ e k := by
  have hp : Value.pt4Of (ix3 j r e) = 3 * j.val + 2 := by
    show 3 * (1 * (j.val / 1 - 0) + 1 * (r.val / 704 - 0) + 1 * (e.val / 1024 - 0)) + 2 = _
    omega
  have hl : Value.loc4Of (ix3 j r e) = ix3 (0 : Fin 1) r e := by
    funext a; apply Fin.ext
    match a with
    | ⟨0, _⟩ => show j.val % 1 = 0; omega
    | ⟨1, _⟩ => show r.val % 704 = r.val; omega
    | ⟨2, _⟩ => show e.val % 1024 = e.val; omega
  unfold Value.G4
  rw [dif_pos (hp ▸ le_N j 2), hl, Value.fold0_congr m c _ _ (3 * j + 2) (by have := le_N j 2; omega) hp,
    ← Value.outsAt0_sweep m c (3 * j + 2) (le_N j 2)]
  exact block1 m c j 0 r e

/-- The reference's arrays, at an index. -/
theorem reference_at (x : FVec Ideal Cert.Reference5Ideal.S4224x3072 .f32) (n : FVec Ideal Cert.Reference5Ideal.S4224x1024 .f32) (j : Fin 4) (r : Fin 704) (e : Fin 1024) :
    (extractStridedSlice Cert.Reference5Ideal.S4x704x1024 ![0, 0, 0] (shapeCast Cert.Reference5Ideal.S4x768x1024 (transpose Cert.Reference5Ideal.S3072x1024 [1, 0] (transpose Cert.Reference5Ideal.S1024x3072 [1, 0] (Host.dotGeneral (F := Ideal) Cert.Reference5Ideal.dot_S4224x3072_S4224x1024_S3072x1024_0_0_1_1_n_n none x n) Cert.Reference5Ideal.Gen.transposes_S3072x1024_S1024x3072_1_0) Cert.Reference5Ideal.Gen.transposes_S1024x3072_S3072x1024_1_0) Cert.Reference5Ideal.Gen.shapeCasts_S3072x1024_S4x768x1024) Cert.Reference5Ideal.Gen.slices_S4x768x1024_S4x704x1024_0_0_0 : FVec Ideal Cert.Reference5Ideal.S4x704x1024 .f32) (ix3 j r e)
      = ∑ k : Fin 4224, x (ix2 k (⟨j * 768 + r, by omega⟩ : Fin 3072)) * n (ix2 k e) := by
  pointwise []
end Value

end Cert.Kernel5Ideal.Own

namespace Cert.Up

open Idealize.ShloMosaic Idealize.ShloMosaic.TcCoe Idealize.SL.Sem

open Cert.Reference5Ideal in
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems rfl r.2⟩) (Value.run m g)

/-- The kernel and the reference end with equal results. -/
theorem algebraic : Cert.algebraic_Kernel5Ideal_Reference5Ideal := by
  intro m g m' g' _ hagree
  refine ⟨fun c => Cert.Kernel5Ideal.Value.G3 m c, fun c => Cert.Kernel5Ideal.Value.G4 m c, ?_, ?_⟩
  · exact (θ_run _ _ _).mono (fun r h c => ⟨(h c).1, (h c).2.1, (h c).2.2.2.2⟩) (Cert.Kernel5Ideal.Value.run m g)
  · refine (θ_run _ _ _).mono (fun r h c => ⟨(h c).1.trans ?_, (h c).2.1.trans ?_, (h c).2.2⟩) (Cert.Reference5Ideal.Value.run m' g')
    · rw [(hagree c).1, (hagree c).2.1]
      funext y
      rw [eq_ix3 y]
      exact (Cert.Kernel5Ideal.Own.reference_at _ _ _ _ _).trans (Cert.Kernel5Ideal.Own.kernel0_at m c _ _ _).symm
    · rw [(hagree c).1, (hagree c).2.2]
      funext y
      rw [eq_ix3 y]
      exact (Cert.Kernel5Ideal.Own.reference_at _ _ _ _ _).trans (Cert.Kernel5Ideal.Own.kernel1_at m c _ _ _).symm

end Cert.Up

end
-- ==== Proof.FwdUp.lean ====
/- The forward call of the feed-forward block's gate and up projections and of its activation. -/
module

public import proofs.«01_k».proof.Proof.Gen.Kernel6Ideal.Value
public import proofs.«01_k».proof.Proof.Ds
public import proofs.«01_k».proof.Proof.Gen.Reference6Ideal.Run

@[expose] public section

set_option maxRecDepth 16384

noncomputable section

namespace Cert.Kernel6Ideal.Own

open Idealize.ShloMosaic Idealize.ShloMosaic.TcCoe Cert.Kernel6Ideal Cert.Kernel6Ideal.Gen
open Cert.Kernel2Ideal.Own (sg nought_sub)
open scoped BigOperators

/-- The activation's formula. -/
def fs (a b : EReal) : EReal := a * sg a * b

section Pays
variable (x0 : Vec Ideal S384x1024 .bf16) (w u : Vec Ideal S1x768x1024 .bf16) (r : Fin 384) (e : Fin 768)

/-- The product of a row of the input and a row of the weights. -/
def pr : EReal := ∑ k : Fin 1024, (x0 (ix2 r k) : EReal) * w (ix3 (0 : Fin 1) e k)

theorem pay8_at : k0_pay8 x0 w (ix2 r e) = pr x0 w r e := by unfold pr; pointwise [k0_pay8, k0_pay7]
theorem pay9_at : k0_pay9 x0 w (ix2 r e) = pr x0 w r e := by unfold pr; pointwise [k0_pay9, k0_pay7]
theorem pay13_at : k0_pay13 x0 w (ix2 r e) = pr x0 w r e := by unfold pr; pointwise [k0_pay13, k0_pay7]
theorem pay14_at : k0_pay14 x0 w (ix2 r e) = pr x0 w r e := by unfold pr; pointwise [k0_pay14, k0_pay7]
theorem pay18_at : k0_pay18 (k0_pay7 x0) w (ix2 r e) = pr x0 w r e := by unfold pr; pointwise [k0_pay18, k0_pay7]
theorem pay19_at : k0_pay19 (k0_pay7 x0) w (ix2 r e) = pr x0 w r e := by unfold pr; pointwise [k0_pay19, k0_pay7]
theorem pay2_at : k0_pay2 (k0_pay7 x0) w (ix2 r e) = pr x0 w r e := by unfold pr; pointwise [k0_pay2, k0_pay7]
theorem pay3_at : k0_pay3 (k0_pay7 x0) w (ix2 r e) = pr x0 w r e := by unfold pr; pointwise [k0_pay3, k0_pay7]

theorem pay12_at : k0_pay12 x0 w u (ix2 r e) = fs (pr x0 w r e) (pr x0 u r e) := by
  rw [← pay8_at x0 w, ← pay9_at x0 u]; unfold fs sg; pointwise [k0_pay12]
theorem pay17_at : k0_pay17 (k0_pay13 x0 w) (k0_pay14 x0 u) (ix2 r e) = fs (pr x0 w r e) (pr x0 u r e) := by
  rw [← pay13_at x0 w, ← pay14_at x0 u]; unfold fs sg; pointwise [k0_pay17]
theorem pay1_at : k0_pay1 (k0_pay18 (k0_pay7 x0) w) (k0_pay19 (k0_pay7 x0) u) (k0_pay22 (k0_pay7 x0) w) (k0_pay23 (F := Ideal)) (ix2 r e)
    = fs (pr x0 w r e) (pr x0 u r e) := by
  rw [← pay18_at x0 w, ← pay19_at x0 u]; unfold fs sg; pointwise [k0_pay1, k0_pay22, k0_pay23]
theorem pay6_at : k0_pay6 (k0_pay7 x0) w u (ix2 r e) = fs (pr x0 w r e) (pr x0 u r e) := by
  rw [← pay2_at x0 w, ← pay3_at x0 u]; unfold fs sg; pointwise [k0_pay6]
end Pays

section Tile
variable (x0 : Vec Ideal S384x1024 .bf16) (x1 x2 : Vec Ideal S4x768x1024 .bf16)

/-- The product at a row and a column of the whole tile. -/
def prod (r : Fin 384) (q : Fin 3072) : EReal := ∑ k : Fin 1024,
  (x0 (ix2 r k) : EReal) * x1 (ix3 (⟨q / 768, by omega⟩ : Fin 4) (⟨q % 768, by omega⟩ : Fin 768) k)

/-- The results over the whole tile: a projection, and the activation. -/
def tileP : Vec Ideal S384x3072 .bf16 := fun y => prod x0 x1 (y 0) (y 1)
def tileS : Vec Ideal S384x3072 .bf16 := fun y => fs (prod x0 x1 (y 0) (y 1)) (prod x0 x2 (y 0) (y 1))

theorem pr_ld (j : Fin 4) (inb) (r : Fin 384) (e : Fin 768) (q : Fin 3072) (hq : q.val = 768 * j + e) :
    pr (View.ld x0 r0_0) (View.ld x1 (Rect.unit (s := S4x768x1024) ![j, 0, 0] S1x768x1024.size inb)) r e = prod x0 x1 r q := by
  unfold pr prod
  refine Finset.sum_congr rfl fun k _ => congrArg₂ (fun a b : EReal => a * b) (congrArg x0 ?_) (congrArg x1 ?_)
  · funext a; apply Fin.ext
    match a with
    | ⟨0, _⟩ => show 0 + 1 * r.val = r.val; omega
    | ⟨1, _⟩ => show 0 + 1 * k.val = k.val; omega
  · funext a; apply Fin.ext
    match a with
    | ⟨0, _⟩ => show j.val + 1 * 0 = q.val / 768; omega
    | ⟨1, _⟩ => show 0 + 1 * e.val = q.val % 768; omega
    | ⟨2, _⟩ => show 0 + 1 * k.val = k.val; omega

/-- A column block of a tile. -/
theorem block_p (j : Fin 4) (inb) (inb') (r : Fin 384) (e : Fin 768) :
    pr (View.ld x0 r0_0) (View.ld x1 (Rect.unit (s := S4x768x1024) ![j, 0, 0] S1x768x1024.size inb)) r e
    = tileP x0 x1 ((Rect.unit (s := S384x3072) ![0, 768 * j] S384x768.size inb').emb (ix2 r e)) := by
  have h0 : (Rect.unit (s := S384x3072) ![0, 768 * j] S384x768.size inb').emb (ix2 r e) 0 = r :=
    Fin.ext (by show 0 + 1 * r.val = r.val; omega)
  rw [pr_ld x0 x1 j inb r e ((Rect.unit (s := S384x3072) ![0, 768 * j] S384x768.size inb').emb (ix2 r e) 1)
    (by show 768 * j.val + 1 * e.val = _; omega)]
  unfold tileP
  rw [h0]
theorem block_s (j : Fin 4) (inb) (inb') (r : Fin 384) (e : Fin 768) :
    fs (pr (View.ld x0 r0_0) (View.ld x1 (Rect.unit (s := S4x768x1024) ![j, 0, 0] S1x768x1024.size inb)) r e)
      (pr (View.ld x0 r0_0) (View.ld x2 (Rect.unit (s := S4x768x1024) ![j, 0, 0] S1x768x1024.size inb)) r e)
    = tileS x0 x1 x2 ((Rect.unit (s := S384x3072) ![0, 768 * j] S384x768.size inb').emb (ix2 r e)) := by
  rw [block_p x0 x1 j inb inb', block_p x0 x2 j inb inb']; rfl

/-- The body's four column blocks together are the tile. -/
theorem out3_eq : out0_3 x0 x1 x2 = tileP x0 x1 := by
  funext y
  refine View.canon_apply_of_pieces (tileP x0 x1) _ ?_ y (cover0_3 _ _ _ _ y)
  intro p hp
  simp only [List.mem_cons, List.not_mem_nil, or_false] at hp
  rcases hp with rfl | rfl | rfl | rfl <;> intro x <;> obtain ⟨r, e, rfl⟩ : ∃ (r : Fin 384) (e : Fin 768), x = ix2 r e := ⟨x 0, x 1, eq_ix2 x⟩
  · exact (pay2_at _ _ r e).trans (block_p x0 x1 3 _ inb_S384x3072_S384x768_0_2304 r e)
  · exact (pay18_at _ _ r e).trans (block_p x0 x1 2 _ inb_S384x3072_S384x768_0_1536 r e)
  · exact (pay13_at _ _ r e).trans (block_p x0 x1 1 _ inb_S384x3072_S384x768_0_768 r e)
  · exact (pay8_at _ _ r e).trans (block_p x0 x1 0 _ inb_S384x3072_S384x768_0_0 r e)
theorem out4_eq : out0_4 x0 x1 x2 = tileP x0 x2 := by
  funext y
  refine View.canon_apply_of_pieces (tileP x0 x2) _ ?_ y (cover0_4 _ _ _ _ y)
  intro p hp
  simp only [List.mem_cons, List.not_mem_nil, or_false] at hp
  rcases hp with rfl | rfl | rfl | rfl <;> intro x <;> obtain ⟨r, e, rfl⟩ : ∃ (r : Fin 384) (e : Fin 768), x = ix2 r e := ⟨x 0, x 1, eq_ix2 x⟩
  · exact (pay3_at _ _ r e).trans (block_p x0 x2 3 _ inb_S384x3072_S384x768_0_2304 r e)
  · exact (pay19_at _ _ r e).trans (block_p x0 x2 2 _ inb_S384x3072_S384x768_0_1536 r e)
  · exact (pay14_at _ _ r e).trans (block_p x0 x2 1 _ inb_S384x3072_S384x768_0_768 r e)
  · exact (pay9_at _ _ r e).trans (block_p x0 x2 0 _ inb_S384x3072_S384x768_0_0 r e)
theorem out5_eq : out0_5 x0 x1 x2 = tileS x0 x1 x2 := by
  funext y
  refine View.canon_apply_of_pieces (tileS x0 x1 x2) _ ?_ y (cover0_5 _ _ _ _ y)
  intro p hp
  simp only [List.mem_cons, List.not_mem_nil, or_false] at hp
  rcases hp with rfl | rfl | rfl | rfl <;> intro x <;> obtain ⟨r, e, rfl⟩ : ∃ (r : Fin 384) (e : Fin 768), x = ix2 r e := ⟨x 0, x 1, eq_ix2 x⟩
  · exact (pay6_at _ _ _ r e).trans (block_s x0 x1 x2 3 _ inb_S384x3072_S384x768_0_2304 r e)
  · exact (pay1_at _ _ _ r e).trans (block_s x0 x1 x2 2 _ inb_S384x3072_S384x768_0_1536 r e)
  · exact (pay17_at _ _ _ r e).trans (block_s x0 x1 x2 1 _ inb_S384x3072_S384x768_0_768 r e)
  · exact (pay12_at _ _ _ r e).trans (block_s x0 x1 x2 0 _ inb_S384x3072_S384x768_0_0 r e)
end Tile

section Arrays
variable (m : (ℓ : Loc nD τ sig) → Buf (Elt Ideal) ℓ) (c : Dev nD)

/-- The arguments, as arrays. -/
abbrev a0 : FVec Ideal S4224x1024 .f32 := m ((c : Thread nD τ).loc main_arg0)
abbrev a1 : FVec Ideal S4x768x1024 .f32 := m ((c : Thread nD τ).loc main_arg1)
abbrev a2 : FVec Ideal S4x768x1024 .f32 := m ((c : Thread nD τ).loc main_arg2)

/-- The product at a row and a column of the arrays. -/
def up (x0 : FVec Ideal S4224x1024 .f32) (x1 : FVec Ideal S4x768x1024 .f32) (r : Fin 4224) (q : Fin 3072) : EReal :=
  ∑ k : Fin 1024, (x0 (ix2 r k) : EReal) * x1 (ix3 (⟨q / 768, by omega⟩ : Fin 4) (⟨q % 768, by omega⟩ : Fin 768) k)

/-- The results, as arrays. -/
def arrP (x0 : FVec Ideal S4224x1024 .f32) (x1 : FVec Ideal S4x768x1024 .f32) : FVec Ideal S4224x3072 .bf16 :=
  fun y => up x0 x1 (y 0) (y 1)
def arrS (x0 : FVec Ideal S4224x1024 .f32) (x1 x2 : FVec Ideal S4x768x1024 .f32) : FVec Ideal S4224x3072 .bf16 :=
  fun y => fs (up x0 x1 (y 0) (y 1)) (up x0 x2 (y 0) (y 1))

theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] :=
  (by decide +kernel : ∀ t : Fin grid0.N, _)
theorem lt_N (t : Fin cfg0.N) : t.val < 11 := lt_of_lt_of_eq t.isLt N_0

theorem V_0 : V m c main_v0 = (truncf .bf16 (a0 m c) bitsLt_bf16_f32 : FVec Ideal S4224x1024 .bf16) := by entry_read; rfl
theorem V_1 : V m c main_v1 = (truncf .bf16 (a1 m c) bitsLt_bf16_f32 : FVec Ideal S4x768x1024 .bf16) := by entry_read; rfl
theorem V_2 : V m c main_v2 = (truncf .bf16 (a2 m c) bitsLt_bf16_f32 : FVec Ideal S4x768x1024 .bf16) := by entry_read; rfl

/-- The windows' blocks, read from the arguments. -/
theorem n_at (t : Fin cfg0.N) (r : Fin 384) (k : Fin 1024) :
    iblk m c 0 t (ix2 r k) = a0 m c (ix2 (⟨384 * t.val + r, by have := lt_N t; omega⟩ : Fin 4224) k) := by
  have h : iblk m c 0 t (ix2 r k) = (V m c main_v0 : FVec Ideal S4224x1024 .bf16) (ix2 (⟨384 * t.val + r, by have := lt_N t; omega⟩ : Fin 4224) k) := by
    blk_simp [iblk]
    blk_ext [idx t]
  rw [h, V_0]; rfl
theorem wg_at (t : Fin cfg0.N) (j : Fin 4) (e : Fin 768) (k : Fin 1024) : iblk m c 1 t (ix3 j e k) = a1 m c (ix3 j e k) := by
  have h : iblk m c 1 t (ix3 j e k) = (V m c main_v1 : FVec Ideal S4x768x1024 .bf16) (ix3 j e k) := by
    blk_simp [iblk]
    blk_ext [idx t]
  rw [h, V_1]; rfl
theorem wu_at (t : Fin cfg0.N) (j : Fin 4) (e : Fin 768) (k : Fin 1024) : iblk m c 2 t (ix3 j e k) = a2 m c (ix3 j e k) := by
  have h : iblk m c 2 t (ix3 j e k) = (V m c main_v2 : FVec Ideal S4x768x1024 .bf16) (ix3 j e k) := by
    blk_simp [iblk]
    blk_ext [idx t]
  rw [h, V_2]; rfl

theorem prod1_at (t : Fin cfg0.N) (r : Fin 384) (q : Fin 3072) :
    prod (iblk m c 0 t) (iblk m c 1 t) r q = up (a0 m c) (a1 m c) (⟨384 * t.val + r, by have := lt_N t; omega⟩ : Fin 4224) q := by
  unfold prod up
  exact Finset.sum_congr rfl fun k _ => by rw [n_at, wg_at]
theorem prod2_at (t : Fin cfg0.N) (r : Fin 384) (q : Fin 3072) :
    prod (iblk m c 0 t) (iblk m c 2 t) r q = up (a0 m c) (a2 m c) (⟨384 * t.val + r, by have := lt_N t; omega⟩ : Fin 4224) q := by
  unfold prod up
  exact Finset.sum_congr rfl fun k _ => by rw [n_at, wu_at]

/-- The kernel's three arrays. -/
theorem final3 : (dats m 0 c).arrAt 3 cfg0.N = arrP (a0 m c) (a1 m c) := by
  refine (dats m 0 c).arrAt_eq_of_covers 3 (arrP (a0 m c) (a1 m c)) (by decide +kernel) fun t hf y => ?_
  blk_simp
  rw [after0_3, out3_eq]
  obtain ⟨r, q, rfl⟩ : ∃ (r : Fin 384) (q : Fin 3072), y = ix2 r q := ⟨y 0, y 1, eq_ix2 y⟩
  have h : tileP (iblk m c 0 t) (iblk m c 1 t) (ix2 r q)
      = arrP (a0 m c) (a1 m c) (ix2 (⟨384 * t.val + r, by have := lt_N t; omega⟩ : Fin 4224) q) := prod1_at m c t r q
  refine h.trans ?_
  blk_ext [idx t]
theorem final4 : (dats m 0 c).arrAt 4 cfg0.N = arrP (a0 m c) (a2 m c) := by
  refine (dats m 0 c).arrAt_eq_of_covers 4 (arrP (a0 m c) (a2 m c)) (by decide +kernel) fun t hf y => ?_
  blk_simp
  rw [after0_4, out4_eq]
  obtain ⟨r, q, rfl⟩ : ∃ (r : Fin 384) (q : Fin 3072), y = ix2 r q := ⟨y 0, y 1, eq_ix2 y⟩
  have h : tileP (iblk m c 0 t) (iblk m c 2 t) (ix2 r q)
      = arrP (a0 m c) (a2 m c) (ix2 (⟨384 * t.val + r, by have := lt_N t; omega⟩ : Fin 4224) q) := prod2_at m c t r q
  refine h.trans ?_
  blk_ext [idx t]
theorem final5 : (dats m 0 c).arrAt 5 cfg0.N = arrS (a0 m c) (a1 m c) (a2 m c) := by
  refine (dats m 0 c).arrAt_eq_of_covers 5 (arrS (a0 m c) (a1 m c) (a2 m c)) (by decide +kernel) fun t hf y => ?_
  blk_simp
  rw [after0_5, out5_eq]
  obtain ⟨r, q, rfl⟩ : ∃ (r : Fin 384) (q : Fin 3072), y = ix2 r q := ⟨y 0, y 1, eq_ix2 y⟩
  have h : tileS (iblk m c 0 t) (iblk m c 1 t) (iblk m c 2 t) (ix2 r q)
      = arrS (a0 m c) (a1 m c) (a2 m c) (ix2 (⟨384 * t.val + r, by have := lt_N t; omega⟩ : Fin 4224) q) :=
    congrArg₂ fs (prod1_at m c t r q) (prod2_at m c t r q)
  refine h.trans ?_
  blk_ext [idx t]
end Arrays

end Cert.Kernel6Ideal.Own

namespace Cert.Reference6Ideal.Own

open Idealize.ShloMosaic Idealize.ShloMosaic.TcCoe Cert.Reference6Ideal Cert.Reference6Ideal.Gen Cert.Kernel6Ideal.Own
open Cert.Kernel2Ideal.Own (sg nought_sub)
open scoped BigOperators

variable (x0 : FVec Ideal S4224x1024 .f32) (x1 x2 : FVec Ideal S4x768x1024 .f32)

/-- The reference's projection. -/
abbrev refP : FVec Ideal S4224x3072 .f32 :=
  Host.dotGeneral (F := Ideal) dot_S4224x1024_S1024x3072_S4224x3072_1_0_0_1_n_n none x0 (transpose S1024x3072 [1, 0] (shapeCast _ x1 shapeCasts_S4x768x1024_S3072x1024) transposes_S3072x1024_S1024x3072_1_0)

theorem refP_at (r : Fin 4224) (q : Fin 3072) : refP x0 x1 (ix2 r q) = up x0 x1 r q := by
  unfold refP up
  pointwise []

theorem refP_eq : (truncf .bf16 (refP x0 x1) bitsLt_bf16_f32 : FVec Ideal S4224x3072 .bf16) = arrP x0 x1 := by
  funext y
  obtain ⟨r, q, rfl⟩ : ∃ (r : Fin 4224) (q : Fin 3072), y = ix2 r q := ⟨y 0, y 1, eq_ix2 y⟩
  exact refP_at x0 x1 r q

/-- The reference's activation. -/
theorem refS_eq : (truncf .bf16 (mulf (mulf (refP x0 x1) (Host.divf (broadcastInDim S4224x3072 ![] bcast_S_S4224x3072 (constant S_ .f32 0x3F800000#32)) (addf (broadcastInDim S4224x3072 ![] bcast_S_S4224x3072 (constant S_ .f32 0x3F800000#32)) (Host.exp (Host.negf (refP x0 x1)))))) (refP x0 x2)) bitsLt_bf16_f32 : FVec Ideal S4224x3072 .bf16)
    = arrS x0 x1 x2 := by
  funext y
  obtain ⟨r, q, rfl⟩ : ∃ (r : Fin 4224) (q : Fin 3072), y = ix2 r q := ⟨y 0, y 1, eq_ix2 y⟩
  show _ = fs (up x0 x1 r q) (up x0 x2 r q)
  rw [← refP_at, ← refP_at]
  unfold fs sg
  rw [nought_sub]
  rfl

end Cert.Reference6Ideal.Own

namespace Cert.FwdUp

open Idealize.ShloMosaic Idealize.ShloMosaic.TcCoe Idealize.SL.Sem

open Cert.Reference6Ideal in
theorem frame_reference (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2, sem_eq_zero_of_no_sems rfl r.2⟩) (Value.run m g)

/-- The kernel and the reference end with equal results. -/
theorem algebraic : Cert.algebraic_Kernel6Ideal_Reference6Ideal := by
  intro m g m' g' _ hagree
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N, ?_, ?_⟩
  · exact Cert.Kernel6Ideal.Value.run_blocks m g
  · refine (θ_run _ _ _).mono (fun r h c => ⟨(h c).1.trans ?_, (h c).2.1.trans ?_, (h c).2.2.1.trans ?_, (h c).2.2.2⟩) (Cert.Reference6Ideal.Value.run m' g')
    · rw [(hagree c).1, (hagree c).2.1]
      exact (Cert.Reference6Ideal.Own.refP_eq _ _).trans (Cert.Kernel6Ideal.Own.final3 m c).symm
    · rw [(hagree c).1, (hagree c).2.2]
      exact (Cert.Reference6Ideal.Own.refP_eq _ _).trans (Cert.Kernel6Ideal.Own.final4 m c).symm
    · rw [(hagree c).1, (hagree c).2.1, (hagree c).2.2]
      exact (Cert.Reference6Ideal.Own.refS_eq _ _ _).trans (Cert.Kernel6Ideal.Own.final5 m c).symm

end Cert.FwdUp

end
-- ==== Proof.FwdDown.lean ====
/- The forward call of the feed-forward block's down projection, its residual sum and the next norm. -/
module

public import proofs.«01_k».proof.Proof.Gen.Kernel7Ideal.Value
public import proofs.«01_k».proof.Proof.Rms
public import proofs.«01_k».proof.Proof.Gen.Reference7Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.Kernel7Ideal.Own

open Idealize.ShloMosaic Idealize.ShloMosaic.TcCoe Cert.Kernel7Ideal Cert.Kernel7Ideal.Gen Cert.Rms Cert.Rows
open scoped BigOperators

section Tile
variable (x0 : Vec Ideal S384x3072 .bf16) (x1 : Vec Ideal S3072x1024 .bf16) (x2 : Vec Ideal S384x1024 .f32) (x3 : Vec Ideal S1x1024 .f32)
  (r : Fin 384) (e : Fin 1024)

theorem pay1_at : k0_pay1 x0 x1 x2 (ix2 r e)
    = x2 (ix2 r e) + Ideal.ofBits .f32 0x3F000000#32 * ∑ k : Fin 3072, (x0 (ix2 r k) : EReal) * x1 (ix2 k e) := by
  pointwise [k0_pay1]
theorem pay2_at : k0_pay2 x0 x1 x2 x3 (ix2 r e)
    = k0_pay1 x0 x1 x2 (ix2 r e) * rs (fun k => k0_pay1 x0 x1 x2 (ix2 r k)) * x3 (ix2 (0 : Fin 1) e) := by
  unfold rs ms
  pointwise [k0_pay2]

theorem out4_eq : out0_4 x0 x1 x2 x3 = k0_pay1 x0 x1 x2 := by
  unfold out0_4
  rw [View.canon_unit_zero hz2]
  simp only [View.ld_unit_zero (S := S384x3072) hz2, View.ld_unit_zero (S := S3072x1024) hz2, View.ld_unit_zero (S := S384x1024) hz2]
theorem out5_eq : out0_5 x0 x1 x2 x3 = k0_pay2 x0 x1 x2 x3 := by
  unfold out0_5
  rw [View.canon_unit_zero hz2]
  simp only [View.ld_unit_zero (S := S384x3072) hz2, View.ld_unit_zero (S := S3072x1024) hz2, View.ld_unit_zero (S := S384x1024) hz2,
    View.ld_unit_zero (S := S1x1024) hz2]
end Tile

section Arrays
variable (m : (ℓ : Loc nD τ sig) → Buf (Elt Ideal) ℓ) (c : Dev nD)

/-- The arguments, as arrays. -/
abbrev a0 : FVec Ideal S4224x3072 .f32 := m ((c : Thread nD τ).loc main_arg0)
abbrev a1 : FVec Ideal S4x768x1024 .f32 := m ((c : Thread nD τ).loc main_arg1)
abbrev a2 : FVec Ideal S4224x1024 .f32 := m ((c : Thread nD τ).loc main_arg2)
abbrev a3 : FVec Ideal S1024 .f32 := m ((c : Thread nD τ).loc main_arg3)

/-- The two results, as arrays: the block's output, and its norm. -/
def out (x0 : FVec Ideal S4224x3072 .f32) (x1 : FVec Ideal S4x768x1024 .f32) (x2 : FVec Ideal S4224x1024 .f32) (r : Fin 4224) (e : Fin 1024) : EReal :=
  x2 (ix2 r e) + Ideal.ofBits .f32 0x3F000000#32 * ∑ k : Fin 3072,
    (x0 (ix2 r k) : EReal) * x1 (ix3 (⟨k / 768, by omega⟩ : Fin 4) (⟨k % 768, by omega⟩ : Fin 768) e)
def arrH (x0 : FVec Ideal S4224x3072 .f32) (x1 : FVec Ideal S4x768x1024 .f32) (x2 : FVec Ideal S4224x1024 .f32) : FVec Ideal S4224x1024 .f32 :=
  fun y => out x0 x1 x2 (y 0) (y 1)
def arrN (x0 : FVec Ideal S4224x3072 .f32) (x1 : FVec Ideal S4x768x1024 .f32) (x2 : FVec Ideal S4224x1024 .f32) (x3 : FVec Ideal S1024 .f32) : FVec Ideal S4224x1024 .bf16 :=
  fun y => out x0 x1 x2 (y 0) (y 1) * rs (fun k => out x0 x1 x2 (y 0) k) * x3 (ix1 (y 1))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)
theorem lt_N (t : Fin cfg0.N) : t.val < 11 := lt_of_lt_of_eq t.isLt N_0

theorem V_0 : V m c main_v0 = (truncf .bf16 (a0 m c) bitsLt_bf16_f32 : FVec Ideal S4224x3072 .bf16) := by entry_read; rfl
theorem V_2 : V m c main_v2 = (shapeCast S1x1024 (a3 m c) shapeCasts_S1024_S1x1024 : FVec Ideal S1x1024 .f32) := by entry_read; rfl
theorem V_3 : V m c main_v3 = (shapeCast S3072x1024 (truncf .bf16 (a1 m c) bitsLt_bf16_f32 : FVec Ideal S4x768x1024 .bf16) shapeCasts_S4x768x1024_S3072x1024 : FVec Ideal S3072x1024 .bf16) := by entry_read; rfl

theorem weight_at (w : FVec Ideal S4x768x1024 .f32) (k : Fin 3072) (e : Fin 1024) :
    (shapeCast S3072x1024 (truncf .bf16 w bitsLt_bf16_f32 : FVec Ideal S4x768x1024 .bf16) shapeCasts_S4x768x1024_S3072x1024 : FVec Ideal S3072x1024 .bf16) (ix2 k e)
      = w (ix3 (⟨k / 768, by omega⟩ : Fin 4) (⟨k % 768, by omega⟩ : Fin 768) e) := by
  pointwise []
theorem row_at (x : FVec Ideal S1024 .f32) (z : Fin 1) (e : Fin 1024) :
    (shapeCast S1x1024 x shapeCasts_S1024_S1x1024 : FVec Ideal S1x1024 .f32) (ix2 z e) = x (ix1 e) := by
  pointwise []

/-- The windows' blocks, read from the arguments. -/
theorem s_at (t : Fin cfg0.N) (r : Fin 384) (k : Fin 3072) :
    iblk m c 0 t (ix2 r k) = a0 m c (ix2 (⟨384 * t.val + r, by have := lt_N t; omega⟩ : Fin 4224) k) := by
  have h : iblk m c 0 t (ix2 r k) = (V m c main_v0 : FVec Ideal S4224x3072 .bf16) (ix2 (⟨384 * t.val + r, by have := lt_N t; omega⟩ : Fin 4224) k) := by
    blk_simp [iblk]
    blk_ext [idx t]
  rw [h, V_0]; rfl
theorem w_at (t : Fin cfg0.N) (k : Fin 3072) (e : Fin 1024) :
    iblk m c 1 t (ix2 k e) = a1 m c (ix3 (⟨k / 768, by omega⟩ : Fin 4) (⟨k % 768, by omega⟩ : Fin 768) e) := by
  have h : iblk m c 1 t (ix2 k e) = (V m c main_v3 : FVec Ideal S3072x1024 .bf16) (ix2 k e) := by
    blk_simp [iblk]
    blk_ext [idx t]
  rw [h, V_3, weight_at]
theorem h_at (t : Fin cfg0.N) (r : Fin 384) (k : Fin 1024) :
    iblk m c 2 t (ix2 r k) = a2 m c (ix2 (⟨384 * t.val + r, by have := lt_N t; omega⟩ : Fin 4224) k) := by
  have h : iblk m c 2 t (ix2 r k) = (V m c main_arg2 : FVec Ideal S4224x1024 .f32) (ix2 (⟨384 * t.val + r, by have := lt_N t; omega⟩ : Fin 4224) k) := by
    blk_simp [iblk]
    blk_ext [idx t]
  rw [h, V_main_arg2]
theorem g_at (t : Fin cfg0.N) (z : Fin 1) (k : Fin 1024) : iblk m c 3 t (ix2 z k) = a3 m c (ix1 k) := by
  have h : iblk m c 3 t (ix2 z k) = (V m c main_v2 : FVec Ideal S1x1024 .f32) (ix2 z k) := by
    blk_simp [iblk]
    blk_ext [idx t]
  rw [h, V_2, row_at]

theorem out_at (t : Fin cfg0.N) (r : Fin 384) (e : Fin 1024) : k0_pay1 (iblk m c 0 t) (iblk m c 1 t) (iblk m c 2 t) (ix2 r e)
    = out (a0 m c) (a1 m c) (a2 m c) (⟨384 * t.val + r, by have := lt_N t; omega⟩ : Fin 4224) e := by
  rw [pay1_at, h_at]
  unfold out
  refine congrArg (fun z : EReal => _ + Ideal.ofBits .f32 0x3F000000#32 * z) (Finset.sum_congr rfl fun k _ => ?_)
  rw [s_at, w_at]

/-- The kernel's two arrays. -/
theorem final4 : (dats m 0 c).arrAt 4 cfg0.N = arrH (a0 m c) (a1 m c) (a2 m c) := by
  refine (dats m 0 c).arrAt_eq_of_covers 4 (arrH (a0 m c) (a1 m c) (a2 m c)) (by decide +kernel) fun t hf y => ?_
  blk_simp
  rw [after0_4, out4_eq]
  obtain ⟨r, e, rfl⟩ : ∃ (r : Fin 384) (e : Fin 1024), y = ix2 r e := ⟨y 0, y 1, eq_ix2 y⟩
  have h : k0_pay1 (iblk m c 0 t) (iblk m c 1 t) (iblk m c 2 t) (ix2 r e)
      = arrH (a0 m c) (a1 m c) (a2 m c) (ix2 (⟨384 * t.val + r, by have := lt_N t; omega⟩ : Fin 4224) e) := out_at m c t r e
  refine h.trans ?_
  blk_ext [idx t]
theorem final5 : (dats m 0 c).arrAt 5 cfg0.N = arrN (a0 m c) (a1 m c) (a2 m c) (a3 m c) := by
  refine (dats m 0 c).arrAt_eq_of_covers 5 (arrN (a0 m c) (a1 m c) (a2 m c) (a3 m c)) (by decide +kernel) fun t hf y => ?_
  blk_simp
  rw [after0_5, out5_eq]
  obtain ⟨r, e, rfl⟩ : ∃ (r : Fin 384) (e : Fin 1024), y = ix2 r e := ⟨y 0, y 1, eq_ix2 y⟩
  have h : k0_pay2 (iblk m c 0 t) (iblk m c 1 t) (iblk m c 2 t) (iblk m c 3 t) (ix2 r e)
      = arrN (a0 m c) (a1 m c) (a2 m c) (a3 m c) (ix2 (⟨384 * t.val + r, by have := lt_N t; omega⟩ : Fin 4224) e) := by
    rw [pay2_at]
    simp only [out_at, g_at]
    rfl
  refine h.trans ?_
  blk_ext [idx t]
end Arrays

end Cert.Kernel7Ideal.Own

namespace Cert.Reference7Ideal.Own

open Idealize.ShloMosaic Idealize.ShloMosaic.TcCoe Cert.Reference7Ideal Cert.Reference7Ideal.Gen Cert.Rms Cert.Kernel7Ideal.Own
open scoped BigOperators

variable (x0 : FVec Ideal S4224x3072 .f32) (x1 : FVec Ideal S4x768x1024 .f32) (x2 : FVec Ideal S4224x1024 .f32) (x3 : FVec Ideal S1024 .f32)

/-- The reference's output of the block. -/
abbrev refH : FVec Ideal S4224x1024 .f32 :=
  addf x2 (mulf (broadcastInDim S4224x1024 ![] bcast_S_S4224x1024 (constant S_ .f32 0x3F000000#32)) (Host.dotGeneral dot_S4224x3072_S3072x1024_S4224x1024_1_0_0_1_n_n none x0 (shapeCast _ x1 shapeCasts_S4x768x1024_S3072x1024)))

/-- The reference's norm of an array. -/
abbrev refN (h : FVec Ideal S4224x1024 .f32) : FVec Ideal S4224x1024 .bf16 :=
  truncf .bf16 (mulf (mulf h (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 x3))) bitsLt_bf16_f32

theorem refH_at (r : Fin 4224) (e : Fin 1024) : refH x0 x1 x2 (ix2 r e) = out x0 x1 x2 r e := by
  unfold refH out
  pointwise []
theorem refN_at (h : FVec Ideal S4224x1024 .f32) (r : Fin 4224) (e : Fin 1024) :
    refN x3 h (ix2 r e) = h (ix2 r e) * rs (fun k => h (ix2 r k)) * x3 (ix1 e) := by
  unfold rs ms refN
  pointwise []

theorem refH_eq : refH x0 x1 x2 = arrH x0 x1 x2 := by
  funext y
  obtain ⟨r, e, rfl⟩ : ∃ (r : Fin 4224) (e : Fin 1024), y = ix2 r e := ⟨y 0, y 1, eq_ix2 y⟩
  exact refH_at x0 x1 x2 r e
theorem refN_eq : refN x3 (refH x0 x1 x2) = arrN x0 x1 x2 x3 := by
  funext y
  obtain ⟨r, e, rfl⟩ : ∃ (r : Fin 4224) (e : Fin 1024), y = ix2 r e := ⟨y 0, y 1, eq_ix2 y⟩
  rw [refN_at]
  simp only [refH_at]
  rfl

end Cert.Reference7Ideal.Own

namespace Cert.FwdDown

open Idealize.ShloMosaic Idealize.ShloMosaic.TcCoe Idealize.SL.Sem

open Cert.Reference7Ideal in
theorem frame_reference (m : (ℓ : Loc nD τ sig) → Buf (Elt Ideal) ℓ)
    (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems rfl r.2⟩) (Value.run m g)

/-- The kernel and the reference end with equal results. -/
theorem algebraic : Cert.algebraic_Kernel7Ideal_Reference7Ideal := by
  intro m g m' g' _ hagree
  refine ⟨fun c => (Cert.Kernel7Ideal.Gen.dats m 0 c).arrAt 4 Cert.Kernel7Ideal.cfg0.N,
    fun c => (Cert.Kernel7Ideal.Gen.dats m 0 c).arrAt 5 Cert.Kernel7Ideal.cfg0.N, ?_, ?_⟩
  · exact Cert.Kernel7Ideal.Value.run_blocks m g
  · refine (θ_run _ _ _).mono (fun r h c => ⟨(h c).1.trans ?_, (h c).2.1.trans ?_, (h c).2.2⟩) (Cert.Reference7Ideal.Value.run m' g')
    · rw [(hagree c).1, (hagree c).2.1, (hagree c).2.2.1]
      exact (Cert.Reference7Ideal.Own.refH_eq _ _ _).trans (Cert.Kernel7Ideal.Own.final4 m c).symm
    · rw [(hagree c).1, (hagree c).2.1, (hagree c).2.2.1, (hagree c).2.2.2]
      exact (Cert.Reference7Ideal.Own.refN_eq _ _ _ _).trans (Cert.Kernel7Ideal.Own.final5 m c).symm

end Cert.FwdDown

end
-- ==== Proof.lean ====
module

public import proofs.«01_k».proof.Defs
public import proofs.«01_k».proof.Proof.BitsBody
public import proofs.«01_k».proof.Proof.Entry
public import proofs.«01_k».proof.Proof.Arr
public import proofs.«01_k».proof.Proof.RefRun
public import proofs.«01_k».proof.Proof.RefVal
public import proofs.«01_k».proof.Proof.Finite
public import proofs.«01_k».proof.Proof.Ds
public import proofs.«01_k».proof.Proof.Dn
public import proofs.«01_k».proof.Proof.Down
public import proofs.«01_k».proof.Proof.Up
public import proofs.«01_k».proof.Proof.FwdUp
public import proofs.«01_k».proof.Proof.FwdDown
public import proofs.«01_k».proof.Proof.Gen.Kernel2.Frame
public import proofs.«01_k».proof.Proof.Gen.Kernel4.Frame
public import proofs.«01_k».proof.Proof.Gen.Kernel3.Frame
public import proofs.«01_k».proof.Proof.Gen.Kernel5.Frame
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel3Ideal.Value
public import proofs.«01_k».proof.Proof.Gen.Reference3Ideal.Run
public import proofs.«01_k».proof.Proof.Gen.Kernel5Ideal.Value
public import proofs.«01_k».proof.Proof.Gen.Reference5Ideal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem Cert.Attn

/-- The reference runs, leaves its arguments unchanged and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2, sem_eq_zero_of_no_sems rfl r.2⟩) (Cert.ReferenceIdeal.Run.run m g)

/-- The values' gradient, as the kernel leaves it and as the reference computes it. -/
theorem dv_eq {x0 : FVec Ideal Cert.ReferenceIdeal.S4112x512 .f32} {x1 : FVec Ideal Cert.ReferenceIdeal.S4112x128 .f32}
    {x3 : FVec Ideal Cert.ReferenceIdeal.S4112x512 .f32} {x4 : FVec Ideal Cert.ReferenceIdeal.S8 .f32} (H : Reals x0 x1 x3 x4) :
    Cert.ReferenceIdeal.Read.val_main_v160 (F := Ideal) x0 x1 x3 x4 = Cert.KernelIdeal.Val.outDv (inp x0 x1 x3 x4) := by
  funext y
  rw [eq_ix2 y]
  exact Cert.ReferenceIdeal.Val.v160_at H _ _

/-- The gradient of the first values, as the kernel leaves it and as the reference computes it. -/
theorem dvm_eq {x0 : FVec Ideal Cert.ReferenceIdeal.S4112x512 .f32} {x1 : FVec Ideal Cert.ReferenceIdeal.S4112x128 .f32}
    {x3 : FVec Ideal Cert.ReferenceIdeal.S4112x512 .f32} {x4 : FVec Ideal Cert.ReferenceIdeal.S8 .f32} (H : Reals x0 x1 x3 x4) :
    Cert.ReferenceIdeal.Read.val_main_v161 (F := Ideal) x0 x1 x3 x4 = Cert.KernelIdeal.Val.outDvm (inp x0 x1 x3 x4) := by
  funext y
  rw [eq_ix2 y]
  exact Cert.ReferenceIdeal.Val.v161_at H _ _

/-- Under the precondition the attention's inputs, computed from the kernel's arguments, are real. -/
theorem reals_of_pre {m : (ℓ : Loc Cert.KernelIdeal.nD Cert.KernelIdeal.τ Cert.KernelIdeal.sig) → Buf (Elt Ideal) ℓ}
    (h : Cert.Pre_KernelIdeal_finite m) (c : Dev Cert.KernelIdeal.nD) :
    Reals (Cert.KernelIdeal.Val.a0 m c) (Cert.KernelIdeal.Val.a1 m c) (Cert.KernelIdeal.Val.a3 m c) (Cert.KernelIdeal.Val.a4 m c) :=
  reals _ _ _ _ (Cert.Pre_finite.Own.read _ _ _ _ _ (h c))

/-- The kernel and the reference end with equal results. -/
theorem algebraic : Cert.algebraic_KernelIdeal_ReferenceIdeal_pre_finite := by
  intro m g m' g' hpre hagree
  refine ⟨fun c => Cert.KernelIdeal.Val.outDv (inp (Cert.KernelIdeal.Val.a0 m c) (Cert.KernelIdeal.Val.a1 m c) (Cert.KernelIdeal.Val.a3 m c) (Cert.KernelIdeal.Val.a4 m c)),
    fun c => Cert.KernelIdeal.Val.outDvm (inp (Cert.KernelIdeal.Val.a0 m c) (Cert.KernelIdeal.Val.a1 m c) (Cert.KernelIdeal.Val.a3 m c) (Cert.KernelIdeal.Val.a4 m c)), ?_, ?_⟩
  · refine (θ_run _ _ _).mono (fun r h c => ⟨((h.1 c).1 14).trans (Cert.KernelIdeal.Val.final14 (Cert.KernelIdeal.Val.points m c (reals_of_pre hpre c))),
      ((h.1 c).1 16).trans (Cert.KernelIdeal.Val.final16 (Cert.KernelIdeal.Val.points m c (reals_of_pre hpre c))), h.2 c⟩)
      (θ_run_and (Cert.KernelIdeal.Gen.run_main m g) (Cert.KernelIdeal.Gen.unchanged m g))
  · refine (θ_run _ _ _).mono (fun r h c => ⟨(h c).1.trans ?_, (h c).2.1.trans ?_, (h c).2.2⟩) (Cert.ReferenceIdeal.Run.run m' g')
    · refine (congr (congr (congr (congrArg (Cert.ReferenceIdeal.Read.val_main_v160 (F := Ideal)) (hagree c).1) (hagree c).2.1) (hagree c).2.2.2.1) (hagree c).2.2.2.2).trans ?_
      exact dv_eq (reals_of_pre hpre c)
    · refine (congr (congr (congr (congrArg (Cert.ReferenceIdeal.Read.val_main_v161 (F := Ideal)) (hagree c).1) (hagree c).2.1) (hagree c).2.2.2.1) (hagree c).2.2.2.2).trans ?_
      exact dvm_eq (reals_of_pre hpre c)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Own.facts, Cert.Pre_finite2.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    fun m g _ => Cert.Kernel2Ideal.Gen.frame m g,
    fun m g _ => Ds.frame_reference m g,
    fun m g _ => Ds.frame_reference m g,
    fun m g _ => Cert.Kernel3.Gen.frame m g,
    fun m g _ => Cert.Kernel3Ideal.Gen.frame m g,
    fun m g _ => Down.frame_reference m g,
    fun m g _ => Cert.Kernel4.Gen.frame m g,
    fun m g _ => Cert.Kernel4Ideal.Gen.frame m g,
    fun m g _ => Dn.frame_reference m g,
    fun m g _ => Cert.Kernel5.Gen.frame m g,
    fun m g _ => Cert.Kernel5Ideal.Gen.frame m g,
    fun m g _ => Up.frame_reference m g,
    fun m g _ => Cert.Kernel6.Gen.frame m g,
    fun m g _ => Cert.Kernel6Ideal.Gen.frame m g,
    fun m g _ => FwdUp.frame_reference m g,
    fun m g _ => Cert.Kernel7.Gen.frame m g,
    fun m g _ => Cert.Kernel7Ideal.Gen.frame m g,
    fun m g _ => FwdDown.frame_reference m g,
    IdealRules.named_const.statement Cert.KernelIdeal.κ "mask" .f32 0xF149F2CA#32 ⊥ rfl,
    algebraic,
    trivial, Ds.algebraic,
    trivial, Down.algebraic,
    trivial, Dn.algebraic,
    trivial, Up.algebraic,
    trivial, FwdUp.algebraic,
    trivial, FwdDown.algebraic⟩

end Cert.Proof

end
